-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v282) = v0 c
          ∧ r.2.mem ((c.tc : Thread Cert.ReferenceIdeal.nD Cert.ReferenceIdeal.τ).loc Cert.ReferenceIdeal.main_v285) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x8x2048 : Shape := ⟨3, ![6, 8, 2048]⟩
abbrev S2x48x2048 : Shape := ⟨3, ![2, 48, 2048]⟩
abbrev S2x2048 : Shape := ⟨2, ![2, 2048]⟩
abbrev S2x1024x2048 : Shape := ⟨3, ![2, 1024, 2048]⟩
abbrev S2x64x2048 : Shape := ⟨3, ![2, 64, 2048]⟩
abbrev S2x1024x11264 : Shape := ⟨3, ![2, 1024, 11264]⟩
abbrev S2x64x11264 : Shape := ⟨3, ![2, 64, 11264]⟩
abbrev S2x2816x2048 : Shape := ⟨3, ![2, 2816, 2048]⟩
abbrev S2x176x2048 : Shape := ⟨3, ![2, 176, 2048]⟩
abbrev S1x2816x2048 : Shape := ⟨3, ![1, 2816, 2048]⟩
abbrev S1x176x2048 : Shape := ⟨3, ![1, 176, 2048]⟩
abbrev S48x2048 : Shape := ⟨2, ![48, 2048]⟩
abbrev S48x5632 : Shape := ⟨2, ![48, 5632]⟩
abbrev S5x2 : Shape := ⟨2, ![5, 2]⟩
abbrev S1x1 : Shape := ⟨2, ![1, 1]⟩
abbrev S_ : Shape := ⟨0, ![]⟩
abbrev S1x1024x2048 : Shape := ⟨3, ![1, 1024, 2048]⟩
abbrev S1024x2048 : Shape := ⟨2, ![1024, 2048]⟩
abbrev S1x64x2048 : Shape := ⟨3, ![1, 64, 2048]⟩
abbrev S64x2048 : Shape := ⟨2, ![64, 2048]⟩
abbrev S1x1024x11264 : Shape := ⟨3, ![1, 1024, 11264]⟩
abbrev S1024x11264 : Shape := ⟨2, ![1024, 11264]⟩
abbrev S1x64x11264 : Shape := ⟨3, ![1, 64, 11264]⟩
abbrev S64x11264 : Shape := ⟨2, ![64, 11264]⟩
abbrev S2816x2048 : Shape := ⟨2, ![2816, 2048]⟩
abbrev S176x2048 : Shape := ⟨2, ![176, 2048]⟩
abbrev S1x48x128 : Shape := ⟨3, ![1, 48, 128]⟩
abbrev S48x128 : Shape := ⟨2, ![48, 128]⟩
abbrev S48x128x1 : Shape := ⟨3, ![48, 128, 1]⟩
abbrev S48x256 : Shape := ⟨2, ![48, 256]⟩
abbrev S1x128x256 : Shape := ⟨3, ![1, 128, 256]⟩
abbrev S128x256 : Shape := ⟨2, ![128, 256]⟩
abbrev S32x256 : Shape := ⟨2, ![32, 256]⟩
abbrev S32x8x256 : Shape := ⟨3, ![32, 8, 256]⟩
abbrev S32x1x256 : Shape := ⟨3, ![32, 1, 256]⟩
abbrev S256x256 : Shape := ⟨2, ![256, 256]⟩
abbrev S1x8x256 : Shape := ⟨3, ![1, 8, 256]⟩
abbrev S8x256 : Shape := ⟨2, ![8, 256]⟩
abbrev S8x1x256 : Shape := ⟨3, ![8, 1, 256]⟩
abbrev S8x32x256 : Shape := ⟨3, ![8, 32, 256]⟩
abbrev S1x48x256 : Shape := ⟨3, ![1, 48, 256]⟩
abbrev S48 : Shape := ⟨1, ![48]⟩
abbrev S48x1 : Shape := ⟨2, ![48, 1]⟩
abbrev S1x2048 : Shape := ⟨2, ![1, 2048]⟩
abbrev S1x128 : Shape := ⟨2, ![1, 128]⟩

abbrev nBuf : Space → Nat
  | .hbm => 11
  | .vmem => 14
  | .smem => 0
  | _ => 0

abbrev bufTy : (tb : Table) → Fin (tcTables nBuf tb) → BufTy
  | .hbm, ⟨0, _⟩ => ⟨S6x8x2048, .bf16⟩
  | .hbm, ⟨1, _⟩ => ⟨S2x48x2048, .bf16⟩
  | .hbm, ⟨2, _⟩ => ⟨S2x2048, .f32⟩
  | .hbm, ⟨3, _⟩ => ⟨S2x1024x2048, .i8⟩
  | .hbm, ⟨4, _⟩ => ⟨S2x64x2048, .bf16⟩
  | .hbm, ⟨5, _⟩ => ⟨S2x1024x11264, .i8⟩
  | .hbm, ⟨6, _⟩ => ⟨S2x64x11264, .bf16⟩
  | .hbm, ⟨7, _⟩ => ⟨S2x2816x2048, .i8⟩
  | .hbm, ⟨8, _⟩ => ⟨S2x176x2048, .bf16⟩
  | .hbm, ⟨9, _⟩ => ⟨S2x48x2048, .f32⟩
  | .hbm, ⟨10, _⟩ => ⟨S2x48x2048, .f32⟩
  | .local _ .vmem, ⟨0, _⟩ => ⟨S6x8x2048, .bf16⟩
  | .local _ .vmem, ⟨1, _⟩ => ⟨S2x48x2048, .bf16⟩
  | .local _ .vmem, ⟨2, _⟩ => ⟨S2x2048, .f32⟩
  | .local _ .vmem, ⟨3, _⟩ => ⟨S2x48x2048, .f32⟩
  | .local _ .vmem, ⟨4, _⟩ => ⟨S2x48x2048, .f32⟩
  | .local _ .vmem, ⟨5, _⟩ => ⟨S2x1024x2048, .i8⟩
  | .local _ .vmem, ⟨6, _⟩ => ⟨S2x64x2048, .bf16⟩
  | .local _ .vmem, ⟨7, _⟩ => ⟨S2x1024x11264, .i8⟩
  | .local _ .vmem, ⟨8, _⟩ => ⟨S2x64x11264, .bf16⟩
  | .local _ .vmem, ⟨9, _⟩ => ⟨S1x2816x2048, .i8⟩
  | .local _ .vmem, ⟨10, _⟩ => ⟨S1x176x2048, .bf16⟩
  | .local _ .vmem, ⟨11, _⟩ => ⟨S48x2048, .f32⟩
  | .local _ .vmem, ⟨12, _⟩ => ⟨S48x2048, .bf16⟩
  | .local _ .vmem, ⟨13, _⟩ => ⟨S48x5632, .bf16⟩
  | _, _ => ⟨S6x8x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_48 : BitVec 32 := 0#32
  let c2_i32_49 : BitVec 32 := 2#32
  let v42 : BitVec 32 := Scalar.addi c0_i32_48 c2_i32_49
  let c1_i32 : BitVec 32 := 1#32
  ⟨c0_i32_48, v42, c1_i32⟩
def k0_off1 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v45 : Index := Scalar.indexCast v44
  let c0_53 : Index := 0#32
  let c0_54 : Index := 0#32
  ![v45.toNat, 0, 0]
def k0_off2 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v74 : Index := Scalar.indexCast v44
  let c0_61 : Index := 0#32
  let c128 : Index := 128#32
  ![v74.toNat, 0, 128]
def k0_off3 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v103 : Index := Scalar.indexCast v44
  let c0_71 : Index := 0#32
  let c256 : Index := 256#32
  ![v103.toNat, 0, 256]
def k0_off4 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v132 : Index := Scalar.indexCast v44
  let c0_81 : Index := 0#32
  let c384 : Index := 384#32
  ![v132.toNat, 0, 384]
def k0_off5 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v161 : Index := Scalar.indexCast v44
  let c0_91 : Index := 0#32
  let c512 : Index := 512#32
  ![v161.toNat, 0, 512]
def k0_off6 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v190 : Index := Scalar.indexCast v44
  let c0_101 : Index := 0#32
  let c640 : Index := 640#32
  ![v190.toNat, 0, 640]
def k0_off7 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v219 : Index := Scalar.indexCast v44
  let c0_111 : Index := 0#32
  let c768 : Index := 768#32
  ![v219.toNat, 0, 768]
def k0_off8 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v248 : Index := Scalar.indexCast v44
  let c0_121 : Index := 0#32
  let c896 : Index := 896#32
  ![v248.toNat, 0, 896]
def k0_off9 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v277 : Index := Scalar.indexCast v44
  let c0_131 : Index := 0#32
  let c1024 : Index := 1024#32
  ![v277.toNat, 0, 1024]
def k0_off10 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v306 : Index := Scalar.indexCast v44
  let c0_141 : Index := 0#32
  let c1152 : Index := 1152#32
  ![v306.toNat, 0, 1152]
def k0_off11 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v335 : Index := Scalar.indexCast v44
  let c0_151 : Index := 0#32
  let c1280 : Index := 1280#32
  ![v335.toNat, 0, 1280]
def k0_off12 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v364 : Index := Scalar.indexCast v44
  let c0_161 : Index := 0#32
  let c1408 : Index := 1408#32
  ![v364.toNat, 0, 1408]
def k0_off13 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v393 : Index := Scalar.indexCast v44
  let c0_171 : Index := 0#32
  let c1536 : Index := 1536#32
  ![v393.toNat, 0, 1536]
def k0_off14 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v422 : Index := Scalar.indexCast v44
  let c0_181 : Index := 0#32
  let c1664 : Index := 1664#32
  ![v422.toNat, 0, 1664]
def k0_off15 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v451 : Index := Scalar.indexCast v44
  let c0_191 : Index := 0#32
  let c1792 : Index := 1792#32
  ![v451.toNat, 0, 1792]
def k0_off16 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v480 : Index := Scalar.indexCast v44
  let c0_201 : Index := 0#32
  let c1920 : Index := 1920#32
  ![v480.toNat, 0, 1920]
def k0_off17 (k0_t1 : Fin k0_t1_loop.trips) : Fin 2 → Nat :=
  let c2_i32_213 : BitVec 32 := 2#32
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  ![2, v44.toNat]
def k0_off18 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let c0_i32_214 : BitVec 32 := 0#32
  let c0_i32_215 : BitVec 32 := 0#32
  ![v44.toNat, 0, 0]
def k0_off19 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let c0_i32_219 : BitVec 32 := 0#32
  let c0_i32_220 : BitVec 32 := 0#32
  ![v44.toNat, 0, 0]
def k0_off20 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v525 : Index := Scalar.indexCast v44
  let c0_225 : Index := 0#32
  let c0_226 : Index := 0#32
  ![v525.toNat, 0, 0]
def k0_off21 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v543 : Index := Scalar.indexCast v44
  let c0_229 : Index := 0#32
  let c0_230 : Index := 0#32
  ![v543.toNat, 0, 0]
def k0_off22 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v552 : Index := Scalar.indexCast v44
  let c0_231 : Index := 0#32
  let c256_232 : Index := 256#32
  ![v552.toNat, 0, 256]
def k0_off23 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v570 : Index := Scalar.indexCast v44
  let c0_237 : Index := 0#32
  let c256_238 : Index := 256#32
  ![v570.toNat, 0, 256]
def k0_off24 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v580 : Index := Scalar.indexCast v44
  let c128_242 : Index := 128#32
  let c0_243 : Index := 0#32
  ![v580.toNat, 128, 0]
def k0_off25 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v598 : Index := Scalar.indexCast v44
  let c8 : Index := 8#32
  let c0_248 : Index := 0#32
  ![v598.toNat, 8, 0]
def k0_off26 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v608 : Index := Scalar.indexCast v44
  let c128_250 : Index := 128#32
  let c256_251 : Index := 256#32
  ![v608.toNat, 128, 256]
def k0_off27 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v626 : Index := Scalar.indexCast v44
  let c8_256 : Index := 8#32
  let c256_257 : Index := 256#32
  ![v626.toNat, 8, 256]
def k0_off28 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v637 : Index := Scalar.indexCast v44
  let c256_261 : Index := 256#32
  let c0_262 : Index := 0#32
  ![v637.toNat, 256, 0]
def k0_off29 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v655 : Index := Scalar.indexCast v44
  let c16 : Index := 16#32
  let c0_267 : Index := 0#32
  ![v655.toNat, 16, 0]
def k0_off30 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v665 : Index := Scalar.indexCast v44
  let c256_269 : Index := 256#32
  let c256_270 : Index := 256#32
  ![v665.toNat, 256, 256]
def k0_off31 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v683 : Index := Scalar.indexCast v44
  let c16_275 : Index := 16#32
  let c256_276 : Index := 256#32
  ![v683.toNat, 16, 256]
def k0_off32 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v694 : Index := Scalar.indexCast v44
  let c384_280 : Index := 384#32
  let c0_281 : Index := 0#32
  ![v694.toNat, 384, 0]
def k0_off33 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v712 : Index := Scalar.indexCast v44
  let c24 : Index := 24#32
  let c0_286 : Index := 0#32
  ![v712.toNat, 24, 0]
def k0_off34 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v722 : Index := Scalar.indexCast v44
  let c384_288 : Index := 384#32
  let c256_289 : Index := 256#32
  ![v722.toNat, 384, 256]
def k0_off35 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v740 : Index := Scalar.indexCast v44
  let c24_294 : Index := 24#32
  let c256_295 : Index := 256#32
  ![v740.toNat, 24, 256]
def k0_off36 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v751 : Index := Scalar.indexCast v44
  let c512_299 : Index := 512#32
  let c0_300 : Index := 0#32
  ![v751.toNat, 512, 0]
def k0_off37 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v769 : Index := Scalar.indexCast v44
  let c32 : Index := 32#32
  let c0_305 : Index := 0#32
  ![v769.toNat, 32, 0]
def k0_off38 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v779 : Index := Scalar.indexCast v44
  let c512_307 : Index := 512#32
  let c256_308 : Index := 256#32
  ![v779.toNat, 512, 256]
def k0_off39 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v797 : Index := Scalar.indexCast v44
  let c32_313 : Index := 32#32
  let c256_314 : Index := 256#32
  ![v797.toNat, 32, 256]
def k0_off40 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v808 : Index := Scalar.indexCast v44
  let c640_318 : Index := 640#32
  let c0_319 : Index := 0#32
  ![v808.toNat, 640, 0]
def k0_off41 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v826 : Index := Scalar.indexCast v44
  let c40 : Index := 40#32
  let c0_324 : Index := 0#32
  ![v826.toNat, 40, 0]
def k0_off42 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v836 : Index := Scalar.indexCast v44
  let c640_326 : Index := 640#32
  let c256_327 : Index := 256#32
  ![v836.toNat, 640, 256]
def k0_off43 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v854 : Index := Scalar.indexCast v44
  let c40_332 : Index := 40#32
  let c256_333 : Index := 256#32
  ![v854.toNat, 40, 256]
def k0_off44 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v865 : Index := Scalar.indexCast v44
  let c768_337 : Index := 768#32
  let c0_338 : Index := 0#32
  ![v865.toNat, 768, 0]
def k0_off45 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v883 : Index := Scalar.indexCast v44
  let c48 : Index := 48#32
  let c0_343 : Index := 0#32
  ![v883.toNat, 48, 0]
def k0_off46 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v893 : Index := Scalar.indexCast v44
  let c768_345 : Index := 768#32
  let c256_346 : Index := 256#32
  ![v893.toNat, 768, 256]
def k0_off47 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v911 : Index := Scalar.indexCast v44
  let c48_351 : Index := 48#32
  let c256_352 : Index := 256#32
  ![v911.toNat, 48, 256]
def k0_off48 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v922 : Index := Scalar.indexCast v44
  let c896_356 : Index := 896#32
  let c0_357 : Index := 0#32
  ![v922.toNat, 896, 0]
def k0_off49 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v940 : Index := Scalar.indexCast v44
  let c56 : Index := 56#32
  let c0_362 : Index := 0#32
  ![v940.toNat, 56, 0]
def k0_off50 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v950 : Index := Scalar.indexCast v44
  let c896_364 : Index := 896#32
  let c256_365 : Index := 256#32
  ![v950.toNat, 896, 256]
def k0_off51 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v968 : Index := Scalar.indexCast v44
  let c56_370 : Index := 56#32
  let c256_371 : Index := 256#32
  ![v968.toNat, 56, 256]
def k0_off52 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v983 : Index := Scalar.indexCast v44
  let c0_377 : Index := 0#32
  let c0_378 : Index := 0#32
  ![v983.toNat, 0, 0]
def k0_off53 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v992 : Index := Scalar.indexCast v44
  let c0_383 : Index := 0#32
  let c256_384 : Index := 256#32
  ![v992.toNat, 0, 256]
def k0_off54 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v997 : Index := Scalar.indexCast v44
  let c0_387 : Index := 0#32
  let c512_388 : Index := 512#32
  ![v997.toNat, 0, 512]
def k0_off55 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1015 : Index := Scalar.indexCast v44
  let c0_393 : Index := 0#32
  let c512_394 : Index := 512#32
  ![v1015.toNat, 0, 512]
def k0_off56 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1024 : Index := Scalar.indexCast v44
  let c0_396 : Index := 0#32
  let c768_397 : Index := 768#32
  ![v1024.toNat, 0, 768]
def k0_off57 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1042 : Index := Scalar.indexCast v44
  let c0_402 : Index := 0#32
  let c768_403 : Index := 768#32
  ![v1042.toNat, 0, 768]
def k0_off58 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1052 : Index := Scalar.indexCast v44
  let c128_407 : Index := 128#32
  let c512_408 : Index := 512#32
  ![v1052.toNat, 128, 512]
def k0_off59 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1070 : Index := Scalar.indexCast v44
  let c8_413 : Index := 8#32
  let c512_414 : Index := 512#32
  ![v1070.toNat, 8, 512]
def k0_off60 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1080 : Index := Scalar.indexCast v44
  let c128_416 : Index := 128#32
  let c768_417 : Index := 768#32
  ![v1080.toNat, 128, 768]
def k0_off61 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1098 : Index := Scalar.indexCast v44
  let c8_422 : Index := 8#32
  let c768_423 : Index := 768#32
  ![v1098.toNat, 8, 768]
def k0_off62 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1109 : Index := Scalar.indexCast v44
  let c256_427 : Index := 256#32
  let c512_428 : Index := 512#32
  ![v1109.toNat, 256, 512]
def k0_off63 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1127 : Index := Scalar.indexCast v44
  let c16_433 : Index := 16#32
  let c512_434 : Index := 512#32
  ![v1127.toNat, 16, 512]
def k0_off64 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1137 : Index := Scalar.indexCast v44
  let c256_436 : Index := 256#32
  let c768_437 : Index := 768#32
  ![v1137.toNat, 256, 768]
def k0_off65 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1155 : Index := Scalar.indexCast v44
  let c16_442 : Index := 16#32
  let c768_443 : Index := 768#32
  ![v1155.toNat, 16, 768]
def k0_off66 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1166 : Index := Scalar.indexCast v44
  let c384_447 : Index := 384#32
  let c512_448 : Index := 512#32
  ![v1166.toNat, 384, 512]
def k0_off67 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1184 : Index := Scalar.indexCast v44
  let c24_453 : Index := 24#32
  let c512_454 : Index := 512#32
  ![v1184.toNat, 24, 512]
def k0_off68 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1194 : Index := Scalar.indexCast v44
  let c384_456 : Index := 384#32
  let c768_457 : Index := 768#32
  ![v1194.toNat, 384, 768]
def k0_off69 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1212 : Index := Scalar.indexCast v44
  let c24_462 : Index := 24#32
  let c768_463 : Index := 768#32
  ![v1212.toNat, 24, 768]
def k0_off70 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1223 : Index := Scalar.indexCast v44
  let c512_467 : Index := 512#32
  let c512_468 : Index := 512#32
  ![v1223.toNat, 512, 512]
def k0_off71 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1241 : Index := Scalar.indexCast v44
  let c32_473 : Index := 32#32
  let c512_474 : Index := 512#32
  ![v1241.toNat, 32, 512]
def k0_off72 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1251 : Index := Scalar.indexCast v44
  let c512_476 : Index := 512#32
  let c768_477 : Index := 768#32
  ![v1251.toNat, 512, 768]
def k0_off73 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1269 : Index := Scalar.indexCast v44
  let c32_482 : Index := 32#32
  let c768_483 : Index := 768#32
  ![v1269.toNat, 32, 768]
def k0_off74 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1280 : Index := Scalar.indexCast v44
  let c640_487 : Index := 640#32
  let c512_488 : Index := 512#32
  ![v1280.toNat, 640, 512]
def k0_off75 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1298 : Index := Scalar.indexCast v44
  let c40_493 : Index := 40#32
  let c512_494 : Index := 512#32
  ![v1298.toNat, 40, 512]
def k0_off76 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1308 : Index := Scalar.indexCast v44
  let c640_496 : Index := 640#32
  let c768_497 : Index := 768#32
  ![v1308.toNat, 640, 768]
def k0_off77 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1326 : Index := Scalar.indexCast v44
  let c40_502 : Index := 40#32
  let c768_503 : Index := 768#32
  ![v1326.toNat, 40, 768]
def k0_off78 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1337 : Index := Scalar.indexCast v44
  let c768_507 : Index := 768#32
  let c512_508 : Index := 512#32
  ![v1337.toNat, 768, 512]
def k0_off79 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1355 : Index := Scalar.indexCast v44
  let c48_513 : Index := 48#32
  let c512_514 : Index := 512#32
  ![v1355.toNat, 48, 512]
def k0_off80 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1365 : Index := Scalar.indexCast v44
  let c768_516 : Index := 768#32
  let c768_517 : Index := 768#32
  ![v1365.toNat, 768, 768]
def k0_off81 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1383 : Index := Scalar.indexCast v44
  let c48_522 : Index := 48#32
  let c768_523 : Index := 768#32
  ![v1383.toNat, 48, 768]
def k0_off82 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1394 : Index := Scalar.indexCast v44
  let c896_527 : Index := 896#32
  let c512_528 : Index := 512#32
  ![v1394.toNat, 896, 512]
def k0_off83 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1412 : Index := Scalar.indexCast v44
  let c56_533 : Index := 56#32
  let c512_534 : Index := 512#32
  ![v1412.toNat, 56, 512]
def k0_off84 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1422 : Index := Scalar.indexCast v44
  let c896_536 : Index := 896#32
  let c768_537 : Index := 768#32
  ![v1422.toNat, 896, 768]
def k0_off85 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1440 : Index := Scalar.indexCast v44
  let c56_542 : Index := 56#32
  let c768_543 : Index := 768#32
  ![v1440.toNat, 56, 768]
def k0_off86 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1455 : Index := Scalar.indexCast v44
  let c0_549 : Index := 0#32
  let c512_550 : Index := 512#32
  ![v1455.toNat, 0, 512]
def k0_off87 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1464 : Index := Scalar.indexCast v44
  let c0_555 : Index := 0#32
  let c768_556 : Index := 768#32
  ![v1464.toNat, 0, 768]
def k0_off88 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1469 : Index := Scalar.indexCast v44
  let c0_559 : Index := 0#32
  let c1024_560 : Index := 1024#32
  ![v1469.toNat, 0, 1024]
def k0_off89 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1487 : Index := Scalar.indexCast v44
  let c0_565 : Index := 0#32
  let c1024_566 : Index := 1024#32
  ![v1487.toNat, 0, 1024]
def k0_off90 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1496 : Index := Scalar.indexCast v44
  let c0_568 : Index := 0#32
  let c1280_569 : Index := 1280#32
  ![v1496.toNat, 0, 1280]
def k0_off91 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1514 : Index := Scalar.indexCast v44
  let c0_574 : Index := 0#32
  let c1280_575 : Index := 1280#32
  ![v1514.toNat, 0, 1280]
def k0_off92 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1524 : Index := Scalar.indexCast v44
  let c128_579 : Index := 128#32
  let c1024_580 : Index := 1024#32
  ![v1524.toNat, 128, 1024]
def k0_off93 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1542 : Index := Scalar.indexCast v44
  let c8_585 : Index := 8#32
  let c1024_586 : Index := 1024#32
  ![v1542.toNat, 8, 1024]
def k0_off94 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1552 : Index := Scalar.indexCast v44
  let c128_588 : Index := 128#32
  let c1280_589 : Index := 1280#32
  ![v1552.toNat, 128, 1280]
def k0_off95 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1570 : Index := Scalar.indexCast v44
  let c8_594 : Index := 8#32
  let c1280_595 : Index := 1280#32
  ![v1570.toNat, 8, 1280]
def k0_off96 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1581 : Index := Scalar.indexCast v44
  let c256_599 : Index := 256#32
  let c1024_600 : Index := 1024#32
  ![v1581.toNat, 256, 1024]
def k0_off97 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1599 : Index := Scalar.indexCast v44
  let c16_605 : Index := 16#32
  let c1024_606 : Index := 1024#32
  ![v1599.toNat, 16, 1024]
def k0_off98 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1609 : Index := Scalar.indexCast v44
  let c256_608 : Index := 256#32
  let c1280_609 : Index := 1280#32
  ![v1609.toNat, 256, 1280]
def k0_off99 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1627 : Index := Scalar.indexCast v44
  let c16_614 : Index := 16#32
  let c1280_615 : Index := 1280#32
  ![v1627.toNat, 16, 1280]
def k0_off100 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1638 : Index := Scalar.indexCast v44
  let c384_619 : Index := 384#32
  let c1024_620 : Index := 1024#32
  ![v1638.toNat, 384, 1024]
def k0_off101 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1656 : Index := Scalar.indexCast v44
  let c24_625 : Index := 24#32
  let c1024_626 : Index := 1024#32
  ![v1656.toNat, 24, 1024]
def k0_off102 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1666 : Index := Scalar.indexCast v44
  let c384_628 : Index := 384#32
  let c1280_629 : Index := 1280#32
  ![v1666.toNat, 384, 1280]
def k0_off103 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1684 : Index := Scalar.indexCast v44
  let c24_634 : Index := 24#32
  let c1280_635 : Index := 1280#32
  ![v1684.toNat, 24, 1280]
def k0_off104 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1695 : Index := Scalar.indexCast v44
  let c512_639 : Index := 512#32
  let c1024_640 : Index := 1024#32
  ![v1695.toNat, 512, 1024]
def k0_off105 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1713 : Index := Scalar.indexCast v44
  let c32_645 : Index := 32#32
  let c1024_646 : Index := 1024#32
  ![v1713.toNat, 32, 1024]
def k0_off106 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1723 : Index := Scalar.indexCast v44
  let c512_648 : Index := 512#32
  let c1280_649 : Index := 1280#32
  ![v1723.toNat, 512, 1280]
def k0_off107 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1741 : Index := Scalar.indexCast v44
  let c32_654 : Index := 32#32
  let c1280_655 : Index := 1280#32
  ![v1741.toNat, 32, 1280]
def k0_off108 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1752 : Index := Scalar.indexCast v44
  let c640_659 : Index := 640#32
  let c1024_660 : Index := 1024#32
  ![v1752.toNat, 640, 1024]
def k0_off109 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1770 : Index := Scalar.indexCast v44
  let c40_665 : Index := 40#32
  let c1024_666 : Index := 1024#32
  ![v1770.toNat, 40, 1024]
def k0_off110 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1780 : Index := Scalar.indexCast v44
  let c640_668 : Index := 640#32
  let c1280_669 : Index := 1280#32
  ![v1780.toNat, 640, 1280]
def k0_off111 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1798 : Index := Scalar.indexCast v44
  let c40_674 : Index := 40#32
  let c1280_675 : Index := 1280#32
  ![v1798.toNat, 40, 1280]
def k0_off112 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1809 : Index := Scalar.indexCast v44
  let c768_679 : Index := 768#32
  let c1024_680 : Index := 1024#32
  ![v1809.toNat, 768, 1024]
def k0_off113 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1827 : Index := Scalar.indexCast v44
  let c48_685 : Index := 48#32
  let c1024_686 : Index := 1024#32
  ![v1827.toNat, 48, 1024]
def k0_off114 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1837 : Index := Scalar.indexCast v44
  let c768_688 : Index := 768#32
  let c1280_689 : Index := 1280#32
  ![v1837.toNat, 768, 1280]
def k0_off115 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1855 : Index := Scalar.indexCast v44
  let c48_694 : Index := 48#32
  let c1280_695 : Index := 1280#32
  ![v1855.toNat, 48, 1280]
def k0_off116 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1866 : Index := Scalar.indexCast v44
  let c896_699 : Index := 896#32
  let c1024_700 : Index := 1024#32
  ![v1866.toNat, 896, 1024]
def k0_off117 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1884 : Index := Scalar.indexCast v44
  let c56_705 : Index := 56#32
  let c1024_706 : Index := 1024#32
  ![v1884.toNat, 56, 1024]
def k0_off118 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1894 : Index := Scalar.indexCast v44
  let c896_708 : Index := 896#32
  let c1280_709 : Index := 1280#32
  ![v1894.toNat, 896, 1280]
def k0_off119 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1912 : Index := Scalar.indexCast v44
  let c56_714 : Index := 56#32
  let c1280_715 : Index := 1280#32
  ![v1912.toNat, 56, 1280]
def k0_off120 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1927 : Index := Scalar.indexCast v44
  let c0_721 : Index := 0#32
  let c1024_722 : Index := 1024#32
  ![v1927.toNat, 0, 1024]
def k0_off121 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1936 : Index := Scalar.indexCast v44
  let c0_727 : Index := 0#32
  let c1280_728 : Index := 1280#32
  ![v1936.toNat, 0, 1280]
def k0_off122 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1941 : Index := Scalar.indexCast v44
  let c0_731 : Index := 0#32
  let c1536_732 : Index := 1536#32
  ![v1941.toNat, 0, 1536]
def k0_off123 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1959 : Index := Scalar.indexCast v44
  let c0_737 : Index := 0#32
  let c1536_738 : Index := 1536#32
  ![v1959.toNat, 0, 1536]
def k0_off124 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1968 : Index := Scalar.indexCast v44
  let c0_740 : Index := 0#32
  let c1792_741 : Index := 1792#32
  ![v1968.toNat, 0, 1792]
def k0_off125 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1986 : Index := Scalar.indexCast v44
  let c0_746 : Index := 0#32
  let c1792_747 : Index := 1792#32
  ![v1986.toNat, 0, 1792]
def k0_off126 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v1996 : Index := Scalar.indexCast v44
  let c128_751 : Index := 128#32
  let c1536_752 : Index := 1536#32
  ![v1996.toNat, 128, 1536]
def k0_off127 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2014 : Index := Scalar.indexCast v44
  let c8_757 : Index := 8#32
  let c1536_758 : Index := 1536#32
  ![v2014.toNat, 8, 1536]
def k0_off128 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2024 : Index := Scalar.indexCast v44
  let c128_760 : Index := 128#32
  let c1792_761 : Index := 1792#32
  ![v2024.toNat, 128, 1792]
def k0_off129 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2042 : Index := Scalar.indexCast v44
  let c8_766 : Index := 8#32
  let c1792_767 : Index := 1792#32
  ![v2042.toNat, 8, 1792]
def k0_off130 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2053 : Index := Scalar.indexCast v44
  let c256_771 : Index := 256#32
  let c1536_772 : Index := 1536#32
  ![v2053.toNat, 256, 1536]
def k0_off131 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2071 : Index := Scalar.indexCast v44
  let c16_777 : Index := 16#32
  let c1536_778 : Index := 1536#32
  ![v2071.toNat, 16, 1536]
def k0_off132 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2081 : Index := Scalar.indexCast v44
  let c256_780 : Index := 256#32
  let c1792_781 : Index := 1792#32
  ![v2081.toNat, 256, 1792]
def k0_off133 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2099 : Index := Scalar.indexCast v44
  let c16_786 : Index := 16#32
  let c1792_787 : Index := 1792#32
  ![v2099.toNat, 16, 1792]
def k0_off134 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2110 : Index := Scalar.indexCast v44
  let c384_791 : Index := 384#32
  let c1536_792 : Index := 1536#32
  ![v2110.toNat, 384, 1536]
def k0_off135 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2128 : Index := Scalar.indexCast v44
  let c24_797 : Index := 24#32
  let c1536_798 : Index := 1536#32
  ![v2128.toNat, 24, 1536]
def k0_off136 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2138 : Index := Scalar.indexCast v44
  let c384_800 : Index := 384#32
  let c1792_801 : Index := 1792#32
  ![v2138.toNat, 384, 1792]
def k0_off137 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2156 : Index := Scalar.indexCast v44
  let c24_806 : Index := 24#32
  let c1792_807 : Index := 1792#32
  ![v2156.toNat, 24, 1792]
def k0_off138 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2167 : Index := Scalar.indexCast v44
  let c512_811 : Index := 512#32
  let c1536_812 : Index := 1536#32
  ![v2167.toNat, 512, 1536]
def k0_off139 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2185 : Index := Scalar.indexCast v44
  let c32_817 : Index := 32#32
  let c1536_818 : Index := 1536#32
  ![v2185.toNat, 32, 1536]
def k0_off140 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2195 : Index := Scalar.indexCast v44
  let c512_820 : Index := 512#32
  let c1792_821 : Index := 1792#32
  ![v2195.toNat, 512, 1792]
def k0_off141 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2213 : Index := Scalar.indexCast v44
  let c32_826 : Index := 32#32
  let c1792_827 : Index := 1792#32
  ![v2213.toNat, 32, 1792]
def k0_off142 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2224 : Index := Scalar.indexCast v44
  let c640_831 : Index := 640#32
  let c1536_832 : Index := 1536#32
  ![v2224.toNat, 640, 1536]
def k0_off143 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2242 : Index := Scalar.indexCast v44
  let c40_837 : Index := 40#32
  let c1536_838 : Index := 1536#32
  ![v2242.toNat, 40, 1536]
def k0_off144 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2252 : Index := Scalar.indexCast v44
  let c640_840 : Index := 640#32
  let c1792_841 : Index := 1792#32
  ![v2252.toNat, 640, 1792]
def k0_off145 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2270 : Index := Scalar.indexCast v44
  let c40_846 : Index := 40#32
  let c1792_847 : Index := 1792#32
  ![v2270.toNat, 40, 1792]
def k0_off146 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2281 : Index := Scalar.indexCast v44
  let c768_851 : Index := 768#32
  let c1536_852 : Index := 1536#32
  ![v2281.toNat, 768, 1536]
def k0_off147 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2299 : Index := Scalar.indexCast v44
  let c48_857 : Index := 48#32
  let c1536_858 : Index := 1536#32
  ![v2299.toNat, 48, 1536]
def k0_off148 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2309 : Index := Scalar.indexCast v44
  let c768_860 : Index := 768#32
  let c1792_861 : Index := 1792#32
  ![v2309.toNat, 768, 1792]
def k0_off149 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2327 : Index := Scalar.indexCast v44
  let c48_866 : Index := 48#32
  let c1792_867 : Index := 1792#32
  ![v2327.toNat, 48, 1792]
def k0_off150 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2338 : Index := Scalar.indexCast v44
  let c896_871 : Index := 896#32
  let c1536_872 : Index := 1536#32
  ![v2338.toNat, 896, 1536]
def k0_off151 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2356 : Index := Scalar.indexCast v44
  let c56_877 : Index := 56#32
  let c1536_878 : Index := 1536#32
  ![v2356.toNat, 56, 1536]
def k0_off152 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2366 : Index := Scalar.indexCast v44
  let c896_880 : Index := 896#32
  let c1792_881 : Index := 1792#32
  ![v2366.toNat, 896, 1792]
def k0_off153 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2384 : Index := Scalar.indexCast v44
  let c56_886 : Index := 56#32
  let c1792_887 : Index := 1792#32
  ![v2384.toNat, 56, 1792]
def k0_off154 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2399 : Index := Scalar.indexCast v44
  let c0_893 : Index := 0#32
  let c1536_894 : Index := 1536#32
  ![v2399.toNat, 0, 1536]
def k0_off155 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2408 : Index := Scalar.indexCast v44
  let c0_899 : Index := 0#32
  let c1792_900 : Index := 1792#32
  ![v2408.toNat, 0, 1792]
def k0_off156 (k0_t1 : Fin k0_t1_loop.trips) : Fin 2 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2423 : Index := Scalar.indexCast v44
  let c0_907 : Index := 0#32
  ![v2423.toNat, 0]
def k0_off157 (k0_t1 : Fin k0_t1_loop.trips) : Fin 2 → Nat :=
  let c3_i32_1052 : BitVec 32 := 3#32
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  ![3, v44.toNat]
def k0_off158 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let c0_i32_1053 : BitVec 32 := 0#32
  let c0_i32_1054 : BitVec 32 := 0#32
  ![v44.toNat, 0, 0]
def k0_off159 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let c0_i32_1058 : BitVec 32 := 0#32
  let c0_i32_1059 : BitVec 32 := 0#32
  ![v44.toNat, 0, 0]
def k0_off160 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2966 : Index := Scalar.indexCast v44
  let c0_1064 : Index := 0#32
  let c0_1065 : Index := 0#32
  ![v2966.toNat, 0, 0]
def k0_off161 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2984 : Index := Scalar.indexCast v44
  let c0_1070 : Index := 0#32
  let c0_1071 : Index := 0#32
  ![v2984.toNat, 0, 0]
def k0_off162 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v2993 : Index := Scalar.indexCast v44
  let c0_1073 : Index := 0#32
  let c5632 : Index := 5632#32
  ![v2993.toNat, 0, 5632]
def k0_off163 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3011 : Index := Scalar.indexCast v44
  let c0_1078 : Index := 0#32
  let c5632_1079 : Index := 5632#32
  ![v3011.toNat, 0, 5632]
def k0_off164 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3021 : Index := Scalar.indexCast v44
  let c128_1083 : Index := 128#32
  let c0_1084 : Index := 0#32
  ![v3021.toNat, 128, 0]
def k0_off165 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3039 : Index := Scalar.indexCast v44
  let c8_1089 : Index := 8#32
  let c0_1090 : Index := 0#32
  ![v3039.toNat, 8, 0]
def k0_off166 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3049 : Index := Scalar.indexCast v44
  let c128_1092 : Index := 128#32
  let c5632_1093 : Index := 5632#32
  ![v3049.toNat, 128, 5632]
def k0_off167 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3067 : Index := Scalar.indexCast v44
  let c8_1098 : Index := 8#32
  let c5632_1099 : Index := 5632#32
  ![v3067.toNat, 8, 5632]
def k0_off168 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3078 : Index := Scalar.indexCast v44
  let c256_1103 : Index := 256#32
  let c0_1104 : Index := 0#32
  ![v3078.toNat, 256, 0]
def k0_off169 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3096 : Index := Scalar.indexCast v44
  let c16_1109 : Index := 16#32
  let c0_1110 : Index := 0#32
  ![v3096.toNat, 16, 0]
def k0_off170 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3106 : Index := Scalar.indexCast v44
  let c256_1112 : Index := 256#32
  let c5632_1113 : Index := 5632#32
  ![v3106.toNat, 256, 5632]
def k0_off171 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3124 : Index := Scalar.indexCast v44
  let c16_1118 : Index := 16#32
  let c5632_1119 : Index := 5632#32
  ![v3124.toNat, 16, 5632]
def k0_off172 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3135 : Index := Scalar.indexCast v44
  let c384_1123 : Index := 384#32
  let c0_1124 : Index := 0#32
  ![v3135.toNat, 384, 0]
def k0_off173 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3153 : Index := Scalar.indexCast v44
  let c24_1129 : Index := 24#32
  let c0_1130 : Index := 0#32
  ![v3153.toNat, 24, 0]
def k0_off174 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3163 : Index := Scalar.indexCast v44
  let c384_1132 : Index := 384#32
  let c5632_1133 : Index := 5632#32
  ![v3163.toNat, 384, 5632]
def k0_off175 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3181 : Index := Scalar.indexCast v44
  let c24_1138 : Index := 24#32
  let c5632_1139 : Index := 5632#32
  ![v3181.toNat, 24, 5632]
def k0_off176 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3192 : Index := Scalar.indexCast v44
  let c512_1143 : Index := 512#32
  let c0_1144 : Index := 0#32
  ![v3192.toNat, 512, 0]
def k0_off177 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3210 : Index := Scalar.indexCast v44
  let c32_1149 : Index := 32#32
  let c0_1150 : Index := 0#32
  ![v3210.toNat, 32, 0]
def k0_off178 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3220 : Index := Scalar.indexCast v44
  let c512_1152 : Index := 512#32
  let c5632_1153 : Index := 5632#32
  ![v3220.toNat, 512, 5632]
def k0_off179 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3238 : Index := Scalar.indexCast v44
  let c32_1158 : Index := 32#32
  let c5632_1159 : Index := 5632#32
  ![v3238.toNat, 32, 5632]
def k0_off180 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3249 : Index := Scalar.indexCast v44
  let c640_1163 : Index := 640#32
  let c0_1164 : Index := 0#32
  ![v3249.toNat, 640, 0]
def k0_off181 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3267 : Index := Scalar.indexCast v44
  let c40_1169 : Index := 40#32
  let c0_1170 : Index := 0#32
  ![v3267.toNat, 40, 0]
def k0_off182 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3277 : Index := Scalar.indexCast v44
  let c640_1172 : Index := 640#32
  let c5632_1173 : Index := 5632#32
  ![v3277.toNat, 640, 5632]
def k0_off183 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3295 : Index := Scalar.indexCast v44
  let c40_1178 : Index := 40#32
  let c5632_1179 : Index := 5632#32
  ![v3295.toNat, 40, 5632]
def k0_off184 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3306 : Index := Scalar.indexCast v44
  let c768_1183 : Index := 768#32
  let c0_1184 : Index := 0#32
  ![v3306.toNat, 768, 0]
def k0_off185 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3324 : Index := Scalar.indexCast v44
  let c48_1189 : Index := 48#32
  let c0_1190 : Index := 0#32
  ![v3324.toNat, 48, 0]
def k0_off186 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3334 : Index := Scalar.indexCast v44
  let c768_1192 : Index := 768#32
  let c5632_1193 : Index := 5632#32
  ![v3334.toNat, 768, 5632]
def k0_off187 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3352 : Index := Scalar.indexCast v44
  let c48_1198 : Index := 48#32
  let c5632_1199 : Index := 5632#32
  ![v3352.toNat, 48, 5632]
def k0_off188 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3363 : Index := Scalar.indexCast v44
  let c896_1203 : Index := 896#32
  let c0_1204 : Index := 0#32
  ![v3363.toNat, 896, 0]
def k0_off189 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3381 : Index := Scalar.indexCast v44
  let c56_1209 : Index := 56#32
  let c0_1210 : Index := 0#32
  ![v3381.toNat, 56, 0]
def k0_off190 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3391 : Index := Scalar.indexCast v44
  let c896_1212 : Index := 896#32
  let c5632_1213 : Index := 5632#32
  ![v3391.toNat, 896, 5632]
def k0_off191 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3409 : Index := Scalar.indexCast v44
  let c56_1218 : Index := 56#32
  let c5632_1219 : Index := 5632#32
  ![v3409.toNat, 56, 5632]
def k0_off192 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3478 : Index := Scalar.indexCast v44
  let c0_1241 : Index := 0#32
  let c256_1242 : Index := 256#32
  ![v3478.toNat, 0, 256]
def k0_off193 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3496 : Index := Scalar.indexCast v44
  let c0_1247 : Index := 0#32
  let c256_1248 : Index := 256#32
  ![v3496.toNat, 0, 256]
def k0_off194 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3505 : Index := Scalar.indexCast v44
  let c0_1250 : Index := 0#32
  let c5888 : Index := 5888#32
  ![v3505.toNat, 0, 5888]
def k0_off195 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3523 : Index := Scalar.indexCast v44
  let c0_1255 : Index := 0#32
  let c5888_1256 : Index := 5888#32
  ![v3523.toNat, 0, 5888]
def k0_off196 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3533 : Index := Scalar.indexCast v44
  let c128_1260 : Index := 128#32
  let c256_1261 : Index := 256#32
  ![v3533.toNat, 128, 256]
def k0_off197 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3551 : Index := Scalar.indexCast v44
  let c8_1266 : Index := 8#32
  let c256_1267 : Index := 256#32
  ![v3551.toNat, 8, 256]
def k0_off198 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3561 : Index := Scalar.indexCast v44
  let c128_1269 : Index := 128#32
  let c5888_1270 : Index := 5888#32
  ![v3561.toNat, 128, 5888]
def k0_off199 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3579 : Index := Scalar.indexCast v44
  let c8_1275 : Index := 8#32
  let c5888_1276 : Index := 5888#32
  ![v3579.toNat, 8, 5888]
def k0_off200 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3590 : Index := Scalar.indexCast v44
  let c256_1280 : Index := 256#32
  let c256_1281 : Index := 256#32
  ![v3590.toNat, 256, 256]
def k0_off201 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3608 : Index := Scalar.indexCast v44
  let c16_1286 : Index := 16#32
  let c256_1287 : Index := 256#32
  ![v3608.toNat, 16, 256]
def k0_off202 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3618 : Index := Scalar.indexCast v44
  let c256_1289 : Index := 256#32
  let c5888_1290 : Index := 5888#32
  ![v3618.toNat, 256, 5888]
def k0_off203 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3636 : Index := Scalar.indexCast v44
  let c16_1295 : Index := 16#32
  let c5888_1296 : Index := 5888#32
  ![v3636.toNat, 16, 5888]
def k0_off204 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3647 : Index := Scalar.indexCast v44
  let c384_1300 : Index := 384#32
  let c256_1301 : Index := 256#32
  ![v3647.toNat, 384, 256]
def k0_off205 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3665 : Index := Scalar.indexCast v44
  let c24_1306 : Index := 24#32
  let c256_1307 : Index := 256#32
  ![v3665.toNat, 24, 256]
def k0_off206 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3675 : Index := Scalar.indexCast v44
  let c384_1309 : Index := 384#32
  let c5888_1310 : Index := 5888#32
  ![v3675.toNat, 384, 5888]
def k0_off207 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3693 : Index := Scalar.indexCast v44
  let c24_1315 : Index := 24#32
  let c5888_1316 : Index := 5888#32
  ![v3693.toNat, 24, 5888]
def k0_off208 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3704 : Index := Scalar.indexCast v44
  let c512_1320 : Index := 512#32
  let c256_1321 : Index := 256#32
  ![v3704.toNat, 512, 256]
def k0_off209 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3722 : Index := Scalar.indexCast v44
  let c32_1326 : Index := 32#32
  let c256_1327 : Index := 256#32
  ![v3722.toNat, 32, 256]
def k0_off210 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3732 : Index := Scalar.indexCast v44
  let c512_1329 : Index := 512#32
  let c5888_1330 : Index := 5888#32
  ![v3732.toNat, 512, 5888]
def k0_off211 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3750 : Index := Scalar.indexCast v44
  let c32_1335 : Index := 32#32
  let c5888_1336 : Index := 5888#32
  ![v3750.toNat, 32, 5888]
def k0_off212 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3761 : Index := Scalar.indexCast v44
  let c640_1340 : Index := 640#32
  let c256_1341 : Index := 256#32
  ![v3761.toNat, 640, 256]
def k0_off213 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3779 : Index := Scalar.indexCast v44
  let c40_1346 : Index := 40#32
  let c256_1347 : Index := 256#32
  ![v3779.toNat, 40, 256]
def k0_off214 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3789 : Index := Scalar.indexCast v44
  let c640_1349 : Index := 640#32
  let c5888_1350 : Index := 5888#32
  ![v3789.toNat, 640, 5888]
def k0_off215 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3807 : Index := Scalar.indexCast v44
  let c40_1355 : Index := 40#32
  let c5888_1356 : Index := 5888#32
  ![v3807.toNat, 40, 5888]
def k0_off216 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3818 : Index := Scalar.indexCast v44
  let c768_1360 : Index := 768#32
  let c256_1361 : Index := 256#32
  ![v3818.toNat, 768, 256]
def k0_off217 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3836 : Index := Scalar.indexCast v44
  let c48_1366 : Index := 48#32
  let c256_1367 : Index := 256#32
  ![v3836.toNat, 48, 256]
def k0_off218 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3846 : Index := Scalar.indexCast v44
  let c768_1369 : Index := 768#32
  let c5888_1370 : Index := 5888#32
  ![v3846.toNat, 768, 5888]
def k0_off219 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3864 : Index := Scalar.indexCast v44
  let c48_1375 : Index := 48#32
  let c5888_1376 : Index := 5888#32
  ![v3864.toNat, 48, 5888]
def k0_off220 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3875 : Index := Scalar.indexCast v44
  let c896_1380 : Index := 896#32
  let c256_1381 : Index := 256#32
  ![v3875.toNat, 896, 256]
def k0_off221 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3893 : Index := Scalar.indexCast v44
  let c56_1386 : Index := 56#32
  let c256_1387 : Index := 256#32
  ![v3893.toNat, 56, 256]
def k0_off222 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3903 : Index := Scalar.indexCast v44
  let c896_1389 : Index := 896#32
  let c5888_1390 : Index := 5888#32
  ![v3903.toNat, 896, 5888]
def k0_off223 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3921 : Index := Scalar.indexCast v44
  let c56_1395 : Index := 56#32
  let c5888_1396 : Index := 5888#32
  ![v3921.toNat, 56, 5888]
def k0_off224 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v3990 : Index := Scalar.indexCast v44
  let c0_1418 : Index := 0#32
  let c512_1419 : Index := 512#32
  ![v3990.toNat, 0, 512]
def k0_off225 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4008 : Index := Scalar.indexCast v44
  let c0_1424 : Index := 0#32
  let c512_1425 : Index := 512#32
  ![v4008.toNat, 0, 512]
def k0_off226 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4017 : Index := Scalar.indexCast v44
  let c0_1427 : Index := 0#32
  let c6144 : Index := 6144#32
  ![v4017.toNat, 0, 6144]
def k0_off227 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4035 : Index := Scalar.indexCast v44
  let c0_1432 : Index := 0#32
  let c6144_1433 : Index := 6144#32
  ![v4035.toNat, 0, 6144]
def k0_off228 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4045 : Index := Scalar.indexCast v44
  let c128_1437 : Index := 128#32
  let c512_1438 : Index := 512#32
  ![v4045.toNat, 128, 512]
def k0_off229 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4063 : Index := Scalar.indexCast v44
  let c8_1443 : Index := 8#32
  let c512_1444 : Index := 512#32
  ![v4063.toNat, 8, 512]
def k0_off230 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4073 : Index := Scalar.indexCast v44
  let c128_1446 : Index := 128#32
  let c6144_1447 : Index := 6144#32
  ![v4073.toNat, 128, 6144]
def k0_off231 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4091 : Index := Scalar.indexCast v44
  let c8_1452 : Index := 8#32
  let c6144_1453 : Index := 6144#32
  ![v4091.toNat, 8, 6144]
def k0_off232 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4102 : Index := Scalar.indexCast v44
  let c256_1457 : Index := 256#32
  let c512_1458 : Index := 512#32
  ![v4102.toNat, 256, 512]
def k0_off233 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4120 : Index := Scalar.indexCast v44
  let c16_1463 : Index := 16#32
  let c512_1464 : Index := 512#32
  ![v4120.toNat, 16, 512]
def k0_off234 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4130 : Index := Scalar.indexCast v44
  let c256_1466 : Index := 256#32
  let c6144_1467 : Index := 6144#32
  ![v4130.toNat, 256, 6144]
def k0_off235 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4148 : Index := Scalar.indexCast v44
  let c16_1472 : Index := 16#32
  let c6144_1473 : Index := 6144#32
  ![v4148.toNat, 16, 6144]
def k0_off236 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4159 : Index := Scalar.indexCast v44
  let c384_1477 : Index := 384#32
  let c512_1478 : Index := 512#32
  ![v4159.toNat, 384, 512]
def k0_off237 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4177 : Index := Scalar.indexCast v44
  let c24_1483 : Index := 24#32
  let c512_1484 : Index := 512#32
  ![v4177.toNat, 24, 512]
def k0_off238 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4187 : Index := Scalar.indexCast v44
  let c384_1486 : Index := 384#32
  let c6144_1487 : Index := 6144#32
  ![v4187.toNat, 384, 6144]
def k0_off239 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4205 : Index := Scalar.indexCast v44
  let c24_1492 : Index := 24#32
  let c6144_1493 : Index := 6144#32
  ![v4205.toNat, 24, 6144]
def k0_off240 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4216 : Index := Scalar.indexCast v44
  let c512_1497 : Index := 512#32
  let c512_1498 : Index := 512#32
  ![v4216.toNat, 512, 512]
def k0_off241 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4234 : Index := Scalar.indexCast v44
  let c32_1503 : Index := 32#32
  let c512_1504 : Index := 512#32
  ![v4234.toNat, 32, 512]
def k0_off242 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4244 : Index := Scalar.indexCast v44
  let c512_1506 : Index := 512#32
  let c6144_1507 : Index := 6144#32
  ![v4244.toNat, 512, 6144]
def k0_off243 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4262 : Index := Scalar.indexCast v44
  let c32_1512 : Index := 32#32
  let c6144_1513 : Index := 6144#32
  ![v4262.toNat, 32, 6144]
def k0_off244 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4273 : Index := Scalar.indexCast v44
  let c640_1517 : Index := 640#32
  let c512_1518 : Index := 512#32
  ![v4273.toNat, 640, 512]
def k0_off245 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4291 : Index := Scalar.indexCast v44
  let c40_1523 : Index := 40#32
  let c512_1524 : Index := 512#32
  ![v4291.toNat, 40, 512]
def k0_off246 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4301 : Index := Scalar.indexCast v44
  let c640_1526 : Index := 640#32
  let c6144_1527 : Index := 6144#32
  ![v4301.toNat, 640, 6144]
def k0_off247 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4319 : Index := Scalar.indexCast v44
  let c40_1532 : Index := 40#32
  let c6144_1533 : Index := 6144#32
  ![v4319.toNat, 40, 6144]
def k0_off248 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4330 : Index := Scalar.indexCast v44
  let c768_1537 : Index := 768#32
  let c512_1538 : Index := 512#32
  ![v4330.toNat, 768, 512]
def k0_off249 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4348 : Index := Scalar.indexCast v44
  let c48_1543 : Index := 48#32
  let c512_1544 : Index := 512#32
  ![v4348.toNat, 48, 512]
def k0_off250 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4358 : Index := Scalar.indexCast v44
  let c768_1546 : Index := 768#32
  let c6144_1547 : Index := 6144#32
  ![v4358.toNat, 768, 6144]
def k0_off251 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4376 : Index := Scalar.indexCast v44
  let c48_1552 : Index := 48#32
  let c6144_1553 : Index := 6144#32
  ![v4376.toNat, 48, 6144]
def k0_off252 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4387 : Index := Scalar.indexCast v44
  let c896_1557 : Index := 896#32
  let c512_1558 : Index := 512#32
  ![v4387.toNat, 896, 512]
def k0_off253 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4405 : Index := Scalar.indexCast v44
  let c56_1563 : Index := 56#32
  let c512_1564 : Index := 512#32
  ![v4405.toNat, 56, 512]
def k0_off254 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4415 : Index := Scalar.indexCast v44
  let c896_1566 : Index := 896#32
  let c6144_1567 : Index := 6144#32
  ![v4415.toNat, 896, 6144]
def k0_off255 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4433 : Index := Scalar.indexCast v44
  let c56_1572 : Index := 56#32
  let c6144_1573 : Index := 6144#32
  ![v4433.toNat, 56, 6144]
def k0_off256 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4502 : Index := Scalar.indexCast v44
  let c0_1595 : Index := 0#32
  let c768_1596 : Index := 768#32
  ![v4502.toNat, 0, 768]
def k0_off257 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4520 : Index := Scalar.indexCast v44
  let c0_1601 : Index := 0#32
  let c768_1602 : Index := 768#32
  ![v4520.toNat, 0, 768]
def k0_off258 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4529 : Index := Scalar.indexCast v44
  let c0_1604 : Index := 0#32
  let c6400 : Index := 6400#32
  ![v4529.toNat, 0, 6400]
def k0_off259 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4547 : Index := Scalar.indexCast v44
  let c0_1609 : Index := 0#32
  let c6400_1610 : Index := 6400#32
  ![v4547.toNat, 0, 6400]
def k0_off260 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4557 : Index := Scalar.indexCast v44
  let c128_1614 : Index := 128#32
  let c768_1615 : Index := 768#32
  ![v4557.toNat, 128, 768]
def k0_off261 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4575 : Index := Scalar.indexCast v44
  let c8_1620 : Index := 8#32
  let c768_1621 : Index := 768#32
  ![v4575.toNat, 8, 768]
def k0_off262 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4585 : Index := Scalar.indexCast v44
  let c128_1623 : Index := 128#32
  let c6400_1624 : Index := 6400#32
  ![v4585.toNat, 128, 6400]
def k0_off263 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4603 : Index := Scalar.indexCast v44
  let c8_1629 : Index := 8#32
  let c6400_1630 : Index := 6400#32
  ![v4603.toNat, 8, 6400]
def k0_off264 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4614 : Index := Scalar.indexCast v44
  let c256_1634 : Index := 256#32
  let c768_1635 : Index := 768#32
  ![v4614.toNat, 256, 768]
def k0_off265 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4632 : Index := Scalar.indexCast v44
  let c16_1640 : Index := 16#32
  let c768_1641 : Index := 768#32
  ![v4632.toNat, 16, 768]
def k0_off266 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4642 : Index := Scalar.indexCast v44
  let c256_1643 : Index := 256#32
  let c6400_1644 : Index := 6400#32
  ![v4642.toNat, 256, 6400]
def k0_off267 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4660 : Index := Scalar.indexCast v44
  let c16_1649 : Index := 16#32
  let c6400_1650 : Index := 6400#32
  ![v4660.toNat, 16, 6400]
def k0_off268 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4671 : Index := Scalar.indexCast v44
  let c384_1654 : Index := 384#32
  let c768_1655 : Index := 768#32
  ![v4671.toNat, 384, 768]
def k0_off269 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4689 : Index := Scalar.indexCast v44
  let c24_1660 : Index := 24#32
  let c768_1661 : Index := 768#32
  ![v4689.toNat, 24, 768]
def k0_off270 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4699 : Index := Scalar.indexCast v44
  let c384_1663 : Index := 384#32
  let c6400_1664 : Index := 6400#32
  ![v4699.toNat, 384, 6400]
def k0_off271 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4717 : Index := Scalar.indexCast v44
  let c24_1669 : Index := 24#32
  let c6400_1670 : Index := 6400#32
  ![v4717.toNat, 24, 6400]
def k0_off272 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4728 : Index := Scalar.indexCast v44
  let c512_1674 : Index := 512#32
  let c768_1675 : Index := 768#32
  ![v4728.toNat, 512, 768]
def k0_off273 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4746 : Index := Scalar.indexCast v44
  let c32_1680 : Index := 32#32
  let c768_1681 : Index := 768#32
  ![v4746.toNat, 32, 768]
def k0_off274 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4756 : Index := Scalar.indexCast v44
  let c512_1683 : Index := 512#32
  let c6400_1684 : Index := 6400#32
  ![v4756.toNat, 512, 6400]
def k0_off275 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4774 : Index := Scalar.indexCast v44
  let c32_1689 : Index := 32#32
  let c6400_1690 : Index := 6400#32
  ![v4774.toNat, 32, 6400]
def k0_off276 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4785 : Index := Scalar.indexCast v44
  let c640_1694 : Index := 640#32
  let c768_1695 : Index := 768#32
  ![v4785.toNat, 640, 768]
def k0_off277 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4803 : Index := Scalar.indexCast v44
  let c40_1700 : Index := 40#32
  let c768_1701 : Index := 768#32
  ![v4803.toNat, 40, 768]
def k0_off278 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4813 : Index := Scalar.indexCast v44
  let c640_1703 : Index := 640#32
  let c6400_1704 : Index := 6400#32
  ![v4813.toNat, 640, 6400]
def k0_off279 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4831 : Index := Scalar.indexCast v44
  let c40_1709 : Index := 40#32
  let c6400_1710 : Index := 6400#32
  ![v4831.toNat, 40, 6400]
def k0_off280 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4842 : Index := Scalar.indexCast v44
  let c768_1714 : Index := 768#32
  let c768_1715 : Index := 768#32
  ![v4842.toNat, 768, 768]
def k0_off281 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4860 : Index := Scalar.indexCast v44
  let c48_1720 : Index := 48#32
  let c768_1721 : Index := 768#32
  ![v4860.toNat, 48, 768]
def k0_off282 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4870 : Index := Scalar.indexCast v44
  let c768_1723 : Index := 768#32
  let c6400_1724 : Index := 6400#32
  ![v4870.toNat, 768, 6400]
def k0_off283 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4888 : Index := Scalar.indexCast v44
  let c48_1729 : Index := 48#32
  let c6400_1730 : Index := 6400#32
  ![v4888.toNat, 48, 6400]
def k0_off284 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4899 : Index := Scalar.indexCast v44
  let c896_1734 : Index := 896#32
  let c768_1735 : Index := 768#32
  ![v4899.toNat, 896, 768]
def k0_off285 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4917 : Index := Scalar.indexCast v44
  let c56_1740 : Index := 56#32
  let c768_1741 : Index := 768#32
  ![v4917.toNat, 56, 768]
def k0_off286 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4927 : Index := Scalar.indexCast v44
  let c896_1743 : Index := 896#32
  let c6400_1744 : Index := 6400#32
  ![v4927.toNat, 896, 6400]
def k0_off287 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v4945 : Index := Scalar.indexCast v44
  let c56_1749 : Index := 56#32
  let c6400_1750 : Index := 6400#32
  ![v4945.toNat, 56, 6400]
def k0_off288 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5014 : Index := Scalar.indexCast v44
  let c0_1772 : Index := 0#32
  let c1024_1773 : Index := 1024#32
  ![v5014.toNat, 0, 1024]
def k0_off289 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5032 : Index := Scalar.indexCast v44
  let c0_1778 : Index := 0#32
  let c1024_1779 : Index := 1024#32
  ![v5032.toNat, 0, 1024]
def k0_off290 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5041 : Index := Scalar.indexCast v44
  let c0_1781 : Index := 0#32
  let c6656 : Index := 6656#32
  ![v5041.toNat, 0, 6656]
def k0_off291 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5059 : Index := Scalar.indexCast v44
  let c0_1786 : Index := 0#32
  let c6656_1787 : Index := 6656#32
  ![v5059.toNat, 0, 6656]
def k0_off292 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5069 : Index := Scalar.indexCast v44
  let c128_1791 : Index := 128#32
  let c1024_1792 : Index := 1024#32
  ![v5069.toNat, 128, 1024]
def k0_off293 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5087 : Index := Scalar.indexCast v44
  let c8_1797 : Index := 8#32
  let c1024_1798 : Index := 1024#32
  ![v5087.toNat, 8, 1024]
def k0_off294 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5097 : Index := Scalar.indexCast v44
  let c128_1800 : Index := 128#32
  let c6656_1801 : Index := 6656#32
  ![v5097.toNat, 128, 6656]
def k0_off295 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5115 : Index := Scalar.indexCast v44
  let c8_1806 : Index := 8#32
  let c6656_1807 : Index := 6656#32
  ![v5115.toNat, 8, 6656]
def k0_off296 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5126 : Index := Scalar.indexCast v44
  let c256_1811 : Index := 256#32
  let c1024_1812 : Index := 1024#32
  ![v5126.toNat, 256, 1024]
def k0_off297 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5144 : Index := Scalar.indexCast v44
  let c16_1817 : Index := 16#32
  let c1024_1818 : Index := 1024#32
  ![v5144.toNat, 16, 1024]
def k0_off298 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5154 : Index := Scalar.indexCast v44
  let c256_1820 : Index := 256#32
  let c6656_1821 : Index := 6656#32
  ![v5154.toNat, 256, 6656]
def k0_off299 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5172 : Index := Scalar.indexCast v44
  let c16_1826 : Index := 16#32
  let c6656_1827 : Index := 6656#32
  ![v5172.toNat, 16, 6656]
def k0_off300 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5183 : Index := Scalar.indexCast v44
  let c384_1831 : Index := 384#32
  let c1024_1832 : Index := 1024#32
  ![v5183.toNat, 384, 1024]
def k0_off301 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5201 : Index := Scalar.indexCast v44
  let c24_1837 : Index := 24#32
  let c1024_1838 : Index := 1024#32
  ![v5201.toNat, 24, 1024]
def k0_off302 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5211 : Index := Scalar.indexCast v44
  let c384_1840 : Index := 384#32
  let c6656_1841 : Index := 6656#32
  ![v5211.toNat, 384, 6656]
def k0_off303 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5229 : Index := Scalar.indexCast v44
  let c24_1846 : Index := 24#32
  let c6656_1847 : Index := 6656#32
  ![v5229.toNat, 24, 6656]
def k0_off304 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5240 : Index := Scalar.indexCast v44
  let c512_1851 : Index := 512#32
  let c1024_1852 : Index := 1024#32
  ![v5240.toNat, 512, 1024]
def k0_off305 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5258 : Index := Scalar.indexCast v44
  let c32_1857 : Index := 32#32
  let c1024_1858 : Index := 1024#32
  ![v5258.toNat, 32, 1024]
def k0_off306 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5268 : Index := Scalar.indexCast v44
  let c512_1860 : Index := 512#32
  let c6656_1861 : Index := 6656#32
  ![v5268.toNat, 512, 6656]
def k0_off307 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5286 : Index := Scalar.indexCast v44
  let c32_1866 : Index := 32#32
  let c6656_1867 : Index := 6656#32
  ![v5286.toNat, 32, 6656]
def k0_off308 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5297 : Index := Scalar.indexCast v44
  let c640_1871 : Index := 640#32
  let c1024_1872 : Index := 1024#32
  ![v5297.toNat, 640, 1024]
def k0_off309 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5315 : Index := Scalar.indexCast v44
  let c40_1877 : Index := 40#32
  let c1024_1878 : Index := 1024#32
  ![v5315.toNat, 40, 1024]
def k0_off310 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5325 : Index := Scalar.indexCast v44
  let c640_1880 : Index := 640#32
  let c6656_1881 : Index := 6656#32
  ![v5325.toNat, 640, 6656]
def k0_off311 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5343 : Index := Scalar.indexCast v44
  let c40_1886 : Index := 40#32
  let c6656_1887 : Index := 6656#32
  ![v5343.toNat, 40, 6656]
def k0_off312 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5354 : Index := Scalar.indexCast v44
  let c768_1891 : Index := 768#32
  let c1024_1892 : Index := 1024#32
  ![v5354.toNat, 768, 1024]
def k0_off313 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5372 : Index := Scalar.indexCast v44
  let c48_1897 : Index := 48#32
  let c1024_1898 : Index := 1024#32
  ![v5372.toNat, 48, 1024]
def k0_off314 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5382 : Index := Scalar.indexCast v44
  let c768_1900 : Index := 768#32
  let c6656_1901 : Index := 6656#32
  ![v5382.toNat, 768, 6656]
def k0_off315 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5400 : Index := Scalar.indexCast v44
  let c48_1906 : Index := 48#32
  let c6656_1907 : Index := 6656#32
  ![v5400.toNat, 48, 6656]
def k0_off316 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5411 : Index := Scalar.indexCast v44
  let c896_1911 : Index := 896#32
  let c1024_1912 : Index := 1024#32
  ![v5411.toNat, 896, 1024]
def k0_off317 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5429 : Index := Scalar.indexCast v44
  let c56_1917 : Index := 56#32
  let c1024_1918 : Index := 1024#32
  ![v5429.toNat, 56, 1024]
def k0_off318 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5439 : Index := Scalar.indexCast v44
  let c896_1920 : Index := 896#32
  let c6656_1921 : Index := 6656#32
  ![v5439.toNat, 896, 6656]
def k0_off319 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5457 : Index := Scalar.indexCast v44
  let c56_1926 : Index := 56#32
  let c6656_1927 : Index := 6656#32
  ![v5457.toNat, 56, 6656]
def k0_off320 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5526 : Index := Scalar.indexCast v44
  let c0_1949 : Index := 0#32
  let c1280_1950 : Index := 1280#32
  ![v5526.toNat, 0, 1280]
def k0_off321 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5544 : Index := Scalar.indexCast v44
  let c0_1955 : Index := 0#32
  let c1280_1956 : Index := 1280#32
  ![v5544.toNat, 0, 1280]
def k0_off322 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5553 : Index := Scalar.indexCast v44
  let c0_1958 : Index := 0#32
  let c6912 : Index := 6912#32
  ![v5553.toNat, 0, 6912]
def k0_off323 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5571 : Index := Scalar.indexCast v44
  let c0_1963 : Index := 0#32
  let c6912_1964 : Index := 6912#32
  ![v5571.toNat, 0, 6912]
def k0_off324 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5581 : Index := Scalar.indexCast v44
  let c128_1968 : Index := 128#32
  let c1280_1969 : Index := 1280#32
  ![v5581.toNat, 128, 1280]
def k0_off325 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5599 : Index := Scalar.indexCast v44
  let c8_1974 : Index := 8#32
  let c1280_1975 : Index := 1280#32
  ![v5599.toNat, 8, 1280]
def k0_off326 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5609 : Index := Scalar.indexCast v44
  let c128_1977 : Index := 128#32
  let c6912_1978 : Index := 6912#32
  ![v5609.toNat, 128, 6912]
def k0_off327 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5627 : Index := Scalar.indexCast v44
  let c8_1983 : Index := 8#32
  let c6912_1984 : Index := 6912#32
  ![v5627.toNat, 8, 6912]
def k0_off328 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5638 : Index := Scalar.indexCast v44
  let c256_1988 : Index := 256#32
  let c1280_1989 : Index := 1280#32
  ![v5638.toNat, 256, 1280]
def k0_off329 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5656 : Index := Scalar.indexCast v44
  let c16_1994 : Index := 16#32
  let c1280_1995 : Index := 1280#32
  ![v5656.toNat, 16, 1280]
def k0_off330 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5666 : Index := Scalar.indexCast v44
  let c256_1997 : Index := 256#32
  let c6912_1998 : Index := 6912#32
  ![v5666.toNat, 256, 6912]
def k0_off331 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5684 : Index := Scalar.indexCast v44
  let c16_2003 : Index := 16#32
  let c6912_2004 : Index := 6912#32
  ![v5684.toNat, 16, 6912]
def k0_off332 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5695 : Index := Scalar.indexCast v44
  let c384_2008 : Index := 384#32
  let c1280_2009 : Index := 1280#32
  ![v5695.toNat, 384, 1280]
def k0_off333 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5713 : Index := Scalar.indexCast v44
  let c24_2014 : Index := 24#32
  let c1280_2015 : Index := 1280#32
  ![v5713.toNat, 24, 1280]
def k0_off334 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5723 : Index := Scalar.indexCast v44
  let c384_2017 : Index := 384#32
  let c6912_2018 : Index := 6912#32
  ![v5723.toNat, 384, 6912]
def k0_off335 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5741 : Index := Scalar.indexCast v44
  let c24_2023 : Index := 24#32
  let c6912_2024 : Index := 6912#32
  ![v5741.toNat, 24, 6912]
def k0_off336 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5752 : Index := Scalar.indexCast v44
  let c512_2028 : Index := 512#32
  let c1280_2029 : Index := 1280#32
  ![v5752.toNat, 512, 1280]
def k0_off337 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5770 : Index := Scalar.indexCast v44
  let c32_2034 : Index := 32#32
  let c1280_2035 : Index := 1280#32
  ![v5770.toNat, 32, 1280]
def k0_off338 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5780 : Index := Scalar.indexCast v44
  let c512_2037 : Index := 512#32
  let c6912_2038 : Index := 6912#32
  ![v5780.toNat, 512, 6912]
def k0_off339 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5798 : Index := Scalar.indexCast v44
  let c32_2043 : Index := 32#32
  let c6912_2044 : Index := 6912#32
  ![v5798.toNat, 32, 6912]
def k0_off340 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5809 : Index := Scalar.indexCast v44
  let c640_2048 : Index := 640#32
  let c1280_2049 : Index := 1280#32
  ![v5809.toNat, 640, 1280]
def k0_off341 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5827 : Index := Scalar.indexCast v44
  let c40_2054 : Index := 40#32
  let c1280_2055 : Index := 1280#32
  ![v5827.toNat, 40, 1280]
def k0_off342 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5837 : Index := Scalar.indexCast v44
  let c640_2057 : Index := 640#32
  let c6912_2058 : Index := 6912#32
  ![v5837.toNat, 640, 6912]
def k0_off343 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5855 : Index := Scalar.indexCast v44
  let c40_2063 : Index := 40#32
  let c6912_2064 : Index := 6912#32
  ![v5855.toNat, 40, 6912]
def k0_off344 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5866 : Index := Scalar.indexCast v44
  let c768_2068 : Index := 768#32
  let c1280_2069 : Index := 1280#32
  ![v5866.toNat, 768, 1280]
def k0_off345 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5884 : Index := Scalar.indexCast v44
  let c48_2074 : Index := 48#32
  let c1280_2075 : Index := 1280#32
  ![v5884.toNat, 48, 1280]
def k0_off346 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5894 : Index := Scalar.indexCast v44
  let c768_2077 : Index := 768#32
  let c6912_2078 : Index := 6912#32
  ![v5894.toNat, 768, 6912]
def k0_off347 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5912 : Index := Scalar.indexCast v44
  let c48_2083 : Index := 48#32
  let c6912_2084 : Index := 6912#32
  ![v5912.toNat, 48, 6912]
def k0_off348 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5923 : Index := Scalar.indexCast v44
  let c896_2088 : Index := 896#32
  let c1280_2089 : Index := 1280#32
  ![v5923.toNat, 896, 1280]
def k0_off349 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5941 : Index := Scalar.indexCast v44
  let c56_2094 : Index := 56#32
  let c1280_2095 : Index := 1280#32
  ![v5941.toNat, 56, 1280]
def k0_off350 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5951 : Index := Scalar.indexCast v44
  let c896_2097 : Index := 896#32
  let c6912_2098 : Index := 6912#32
  ![v5951.toNat, 896, 6912]
def k0_off351 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v5969 : Index := Scalar.indexCast v44
  let c56_2103 : Index := 56#32
  let c6912_2104 : Index := 6912#32
  ![v5969.toNat, 56, 6912]
def k0_off352 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6038 : Index := Scalar.indexCast v44
  let c0_2126 : Index := 0#32
  let c1536_2127 : Index := 1536#32
  ![v6038.toNat, 0, 1536]
def k0_off353 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6056 : Index := Scalar.indexCast v44
  let c0_2132 : Index := 0#32
  let c1536_2133 : Index := 1536#32
  ![v6056.toNat, 0, 1536]
def k0_off354 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6065 : Index := Scalar.indexCast v44
  let c0_2135 : Index := 0#32
  let c7168 : Index := 7168#32
  ![v6065.toNat, 0, 7168]
def k0_off355 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6083 : Index := Scalar.indexCast v44
  let c0_2140 : Index := 0#32
  let c7168_2141 : Index := 7168#32
  ![v6083.toNat, 0, 7168]
def k0_off356 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6093 : Index := Scalar.indexCast v44
  let c128_2145 : Index := 128#32
  let c1536_2146 : Index := 1536#32
  ![v6093.toNat, 128, 1536]
def k0_off357 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6111 : Index := Scalar.indexCast v44
  let c8_2151 : Index := 8#32
  let c1536_2152 : Index := 1536#32
  ![v6111.toNat, 8, 1536]
def k0_off358 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6121 : Index := Scalar.indexCast v44
  let c128_2154 : Index := 128#32
  let c7168_2155 : Index := 7168#32
  ![v6121.toNat, 128, 7168]
def k0_off359 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6139 : Index := Scalar.indexCast v44
  let c8_2160 : Index := 8#32
  let c7168_2161 : Index := 7168#32
  ![v6139.toNat, 8, 7168]
def k0_off360 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6150 : Index := Scalar.indexCast v44
  let c256_2165 : Index := 256#32
  let c1536_2166 : Index := 1536#32
  ![v6150.toNat, 256, 1536]
def k0_off361 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6168 : Index := Scalar.indexCast v44
  let c16_2171 : Index := 16#32
  let c1536_2172 : Index := 1536#32
  ![v6168.toNat, 16, 1536]
def k0_off362 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6178 : Index := Scalar.indexCast v44
  let c256_2174 : Index := 256#32
  let c7168_2175 : Index := 7168#32
  ![v6178.toNat, 256, 7168]
def k0_off363 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6196 : Index := Scalar.indexCast v44
  let c16_2180 : Index := 16#32
  let c7168_2181 : Index := 7168#32
  ![v6196.toNat, 16, 7168]
def k0_off364 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6207 : Index := Scalar.indexCast v44
  let c384_2185 : Index := 384#32
  let c1536_2186 : Index := 1536#32
  ![v6207.toNat, 384, 1536]
def k0_off365 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6225 : Index := Scalar.indexCast v44
  let c24_2191 : Index := 24#32
  let c1536_2192 : Index := 1536#32
  ![v6225.toNat, 24, 1536]
def k0_off366 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6235 : Index := Scalar.indexCast v44
  let c384_2194 : Index := 384#32
  let c7168_2195 : Index := 7168#32
  ![v6235.toNat, 384, 7168]
def k0_off367 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6253 : Index := Scalar.indexCast v44
  let c24_2200 : Index := 24#32
  let c7168_2201 : Index := 7168#32
  ![v6253.toNat, 24, 7168]
def k0_off368 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6264 : Index := Scalar.indexCast v44
  let c512_2205 : Index := 512#32
  let c1536_2206 : Index := 1536#32
  ![v6264.toNat, 512, 1536]
def k0_off369 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6282 : Index := Scalar.indexCast v44
  let c32_2211 : Index := 32#32
  let c1536_2212 : Index := 1536#32
  ![v6282.toNat, 32, 1536]
def k0_off370 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6292 : Index := Scalar.indexCast v44
  let c512_2214 : Index := 512#32
  let c7168_2215 : Index := 7168#32
  ![v6292.toNat, 512, 7168]
def k0_off371 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6310 : Index := Scalar.indexCast v44
  let c32_2220 : Index := 32#32
  let c7168_2221 : Index := 7168#32
  ![v6310.toNat, 32, 7168]
def k0_off372 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6321 : Index := Scalar.indexCast v44
  let c640_2225 : Index := 640#32
  let c1536_2226 : Index := 1536#32
  ![v6321.toNat, 640, 1536]
def k0_off373 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6339 : Index := Scalar.indexCast v44
  let c40_2231 : Index := 40#32
  let c1536_2232 : Index := 1536#32
  ![v6339.toNat, 40, 1536]
def k0_off374 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6349 : Index := Scalar.indexCast v44
  let c640_2234 : Index := 640#32
  let c7168_2235 : Index := 7168#32
  ![v6349.toNat, 640, 7168]
def k0_off375 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6367 : Index := Scalar.indexCast v44
  let c40_2240 : Index := 40#32
  let c7168_2241 : Index := 7168#32
  ![v6367.toNat, 40, 7168]
def k0_off376 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6378 : Index := Scalar.indexCast v44
  let c768_2245 : Index := 768#32
  let c1536_2246 : Index := 1536#32
  ![v6378.toNat, 768, 1536]
def k0_off377 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6396 : Index := Scalar.indexCast v44
  let c48_2251 : Index := 48#32
  let c1536_2252 : Index := 1536#32
  ![v6396.toNat, 48, 1536]
def k0_off378 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6406 : Index := Scalar.indexCast v44
  let c768_2254 : Index := 768#32
  let c7168_2255 : Index := 7168#32
  ![v6406.toNat, 768, 7168]
def k0_off379 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6424 : Index := Scalar.indexCast v44
  let c48_2260 : Index := 48#32
  let c7168_2261 : Index := 7168#32
  ![v6424.toNat, 48, 7168]
def k0_off380 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6435 : Index := Scalar.indexCast v44
  let c896_2265 : Index := 896#32
  let c1536_2266 : Index := 1536#32
  ![v6435.toNat, 896, 1536]
def k0_off381 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6453 : Index := Scalar.indexCast v44
  let c56_2271 : Index := 56#32
  let c1536_2272 : Index := 1536#32
  ![v6453.toNat, 56, 1536]
def k0_off382 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6463 : Index := Scalar.indexCast v44
  let c896_2274 : Index := 896#32
  let c7168_2275 : Index := 7168#32
  ![v6463.toNat, 896, 7168]
def k0_off383 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6481 : Index := Scalar.indexCast v44
  let c56_2280 : Index := 56#32
  let c7168_2281 : Index := 7168#32
  ![v6481.toNat, 56, 7168]
def k0_off384 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6550 : Index := Scalar.indexCast v44
  let c0_2303 : Index := 0#32
  let c1792_2304 : Index := 1792#32
  ![v6550.toNat, 0, 1792]
def k0_off385 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6568 : Index := Scalar.indexCast v44
  let c0_2309 : Index := 0#32
  let c1792_2310 : Index := 1792#32
  ![v6568.toNat, 0, 1792]
def k0_off386 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6577 : Index := Scalar.indexCast v44
  let c0_2312 : Index := 0#32
  let c7424 : Index := 7424#32
  ![v6577.toNat, 0, 7424]
def k0_off387 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6595 : Index := Scalar.indexCast v44
  let c0_2317 : Index := 0#32
  let c7424_2318 : Index := 7424#32
  ![v6595.toNat, 0, 7424]
def k0_off388 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6605 : Index := Scalar.indexCast v44
  let c128_2322 : Index := 128#32
  let c1792_2323 : Index := 1792#32
  ![v6605.toNat, 128, 1792]
def k0_off389 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6623 : Index := Scalar.indexCast v44
  let c8_2328 : Index := 8#32
  let c1792_2329 : Index := 1792#32
  ![v6623.toNat, 8, 1792]
def k0_off390 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6633 : Index := Scalar.indexCast v44
  let c128_2331 : Index := 128#32
  let c7424_2332 : Index := 7424#32
  ![v6633.toNat, 128, 7424]
def k0_off391 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6651 : Index := Scalar.indexCast v44
  let c8_2337 : Index := 8#32
  let c7424_2338 : Index := 7424#32
  ![v6651.toNat, 8, 7424]
def k0_off392 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6662 : Index := Scalar.indexCast v44
  let c256_2342 : Index := 256#32
  let c1792_2343 : Index := 1792#32
  ![v6662.toNat, 256, 1792]
def k0_off393 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6680 : Index := Scalar.indexCast v44
  let c16_2348 : Index := 16#32
  let c1792_2349 : Index := 1792#32
  ![v6680.toNat, 16, 1792]
def k0_off394 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6690 : Index := Scalar.indexCast v44
  let c256_2351 : Index := 256#32
  let c7424_2352 : Index := 7424#32
  ![v6690.toNat, 256, 7424]
def k0_off395 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6708 : Index := Scalar.indexCast v44
  let c16_2357 : Index := 16#32
  let c7424_2358 : Index := 7424#32
  ![v6708.toNat, 16, 7424]
def k0_off396 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6719 : Index := Scalar.indexCast v44
  let c384_2362 : Index := 384#32
  let c1792_2363 : Index := 1792#32
  ![v6719.toNat, 384, 1792]
def k0_off397 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6737 : Index := Scalar.indexCast v44
  let c24_2368 : Index := 24#32
  let c1792_2369 : Index := 1792#32
  ![v6737.toNat, 24, 1792]
def k0_off398 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6747 : Index := Scalar.indexCast v44
  let c384_2371 : Index := 384#32
  let c7424_2372 : Index := 7424#32
  ![v6747.toNat, 384, 7424]
def k0_off399 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6765 : Index := Scalar.indexCast v44
  let c24_2377 : Index := 24#32
  let c7424_2378 : Index := 7424#32
  ![v6765.toNat, 24, 7424]
def k0_off400 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6776 : Index := Scalar.indexCast v44
  let c512_2382 : Index := 512#32
  let c1792_2383 : Index := 1792#32
  ![v6776.toNat, 512, 1792]
def k0_off401 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6794 : Index := Scalar.indexCast v44
  let c32_2388 : Index := 32#32
  let c1792_2389 : Index := 1792#32
  ![v6794.toNat, 32, 1792]
def k0_off402 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6804 : Index := Scalar.indexCast v44
  let c512_2391 : Index := 512#32
  let c7424_2392 : Index := 7424#32
  ![v6804.toNat, 512, 7424]
def k0_off403 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6822 : Index := Scalar.indexCast v44
  let c32_2397 : Index := 32#32
  let c7424_2398 : Index := 7424#32
  ![v6822.toNat, 32, 7424]
def k0_off404 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6833 : Index := Scalar.indexCast v44
  let c640_2402 : Index := 640#32
  let c1792_2403 : Index := 1792#32
  ![v6833.toNat, 640, 1792]
def k0_off405 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6851 : Index := Scalar.indexCast v44
  let c40_2408 : Index := 40#32
  let c1792_2409 : Index := 1792#32
  ![v6851.toNat, 40, 1792]
def k0_off406 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6861 : Index := Scalar.indexCast v44
  let c640_2411 : Index := 640#32
  let c7424_2412 : Index := 7424#32
  ![v6861.toNat, 640, 7424]
def k0_off407 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6879 : Index := Scalar.indexCast v44
  let c40_2417 : Index := 40#32
  let c7424_2418 : Index := 7424#32
  ![v6879.toNat, 40, 7424]
def k0_off408 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6890 : Index := Scalar.indexCast v44
  let c768_2422 : Index := 768#32
  let c1792_2423 : Index := 1792#32
  ![v6890.toNat, 768, 1792]
def k0_off409 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6908 : Index := Scalar.indexCast v44
  let c48_2428 : Index := 48#32
  let c1792_2429 : Index := 1792#32
  ![v6908.toNat, 48, 1792]
def k0_off410 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6918 : Index := Scalar.indexCast v44
  let c768_2431 : Index := 768#32
  let c7424_2432 : Index := 7424#32
  ![v6918.toNat, 768, 7424]
def k0_off411 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6936 : Index := Scalar.indexCast v44
  let c48_2437 : Index := 48#32
  let c7424_2438 : Index := 7424#32
  ![v6936.toNat, 48, 7424]
def k0_off412 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6947 : Index := Scalar.indexCast v44
  let c896_2442 : Index := 896#32
  let c1792_2443 : Index := 1792#32
  ![v6947.toNat, 896, 1792]
def k0_off413 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6965 : Index := Scalar.indexCast v44
  let c56_2448 : Index := 56#32
  let c1792_2449 : Index := 1792#32
  ![v6965.toNat, 56, 1792]
def k0_off414 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6975 : Index := Scalar.indexCast v44
  let c896_2451 : Index := 896#32
  let c7424_2452 : Index := 7424#32
  ![v6975.toNat, 896, 7424]
def k0_off415 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v6993 : Index := Scalar.indexCast v44
  let c56_2457 : Index := 56#32
  let c7424_2458 : Index := 7424#32
  ![v6993.toNat, 56, 7424]
def k0_off416 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7062 : Index := Scalar.indexCast v44
  let c0_2480 : Index := 0#32
  let c2048 : Index := 2048#32
  ![v7062.toNat, 0, 2048]
def k0_off417 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7080 : Index := Scalar.indexCast v44
  let c0_2485 : Index := 0#32
  let c2048_2486 : Index := 2048#32
  ![v7080.toNat, 0, 2048]
def k0_off418 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7089 : Index := Scalar.indexCast v44
  let c0_2488 : Index := 0#32
  let c7680 : Index := 7680#32
  ![v7089.toNat, 0, 7680]
def k0_off419 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7107 : Index := Scalar.indexCast v44
  let c0_2493 : Index := 0#32
  let c7680_2494 : Index := 7680#32
  ![v7107.toNat, 0, 7680]
def k0_off420 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7117 : Index := Scalar.indexCast v44
  let c128_2498 : Index := 128#32
  let c2048_2499 : Index := 2048#32
  ![v7117.toNat, 128, 2048]
def k0_off421 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7135 : Index := Scalar.indexCast v44
  let c8_2504 : Index := 8#32
  let c2048_2505 : Index := 2048#32
  ![v7135.toNat, 8, 2048]
def k0_off422 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7145 : Index := Scalar.indexCast v44
  let c128_2507 : Index := 128#32
  let c7680_2508 : Index := 7680#32
  ![v7145.toNat, 128, 7680]
def k0_off423 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7163 : Index := Scalar.indexCast v44
  let c8_2513 : Index := 8#32
  let c7680_2514 : Index := 7680#32
  ![v7163.toNat, 8, 7680]
def k0_off424 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7174 : Index := Scalar.indexCast v44
  let c256_2518 : Index := 256#32
  let c2048_2519 : Index := 2048#32
  ![v7174.toNat, 256, 2048]
def k0_off425 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7192 : Index := Scalar.indexCast v44
  let c16_2524 : Index := 16#32
  let c2048_2525 : Index := 2048#32
  ![v7192.toNat, 16, 2048]
def k0_off426 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7202 : Index := Scalar.indexCast v44
  let c256_2527 : Index := 256#32
  let c7680_2528 : Index := 7680#32
  ![v7202.toNat, 256, 7680]
def k0_off427 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7220 : Index := Scalar.indexCast v44
  let c16_2533 : Index := 16#32
  let c7680_2534 : Index := 7680#32
  ![v7220.toNat, 16, 7680]
def k0_off428 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7231 : Index := Scalar.indexCast v44
  let c384_2538 : Index := 384#32
  let c2048_2539 : Index := 2048#32
  ![v7231.toNat, 384, 2048]
def k0_off429 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7249 : Index := Scalar.indexCast v44
  let c24_2544 : Index := 24#32
  let c2048_2545 : Index := 2048#32
  ![v7249.toNat, 24, 2048]
def k0_off430 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7259 : Index := Scalar.indexCast v44
  let c384_2547 : Index := 384#32
  let c7680_2548 : Index := 7680#32
  ![v7259.toNat, 384, 7680]
def k0_off431 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7277 : Index := Scalar.indexCast v44
  let c24_2553 : Index := 24#32
  let c7680_2554 : Index := 7680#32
  ![v7277.toNat, 24, 7680]
def k0_off432 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7288 : Index := Scalar.indexCast v44
  let c512_2558 : Index := 512#32
  let c2048_2559 : Index := 2048#32
  ![v7288.toNat, 512, 2048]
def k0_off433 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7306 : Index := Scalar.indexCast v44
  let c32_2564 : Index := 32#32
  let c2048_2565 : Index := 2048#32
  ![v7306.toNat, 32, 2048]
def k0_off434 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7316 : Index := Scalar.indexCast v44
  let c512_2567 : Index := 512#32
  let c7680_2568 : Index := 7680#32
  ![v7316.toNat, 512, 7680]
def k0_off435 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7334 : Index := Scalar.indexCast v44
  let c32_2573 : Index := 32#32
  let c7680_2574 : Index := 7680#32
  ![v7334.toNat, 32, 7680]
def k0_off436 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7345 : Index := Scalar.indexCast v44
  let c640_2578 : Index := 640#32
  let c2048_2579 : Index := 2048#32
  ![v7345.toNat, 640, 2048]
def k0_off437 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7363 : Index := Scalar.indexCast v44
  let c40_2584 : Index := 40#32
  let c2048_2585 : Index := 2048#32
  ![v7363.toNat, 40, 2048]
def k0_off438 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7373 : Index := Scalar.indexCast v44
  let c640_2587 : Index := 640#32
  let c7680_2588 : Index := 7680#32
  ![v7373.toNat, 640, 7680]
def k0_off439 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7391 : Index := Scalar.indexCast v44
  let c40_2593 : Index := 40#32
  let c7680_2594 : Index := 7680#32
  ![v7391.toNat, 40, 7680]
def k0_off440 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7402 : Index := Scalar.indexCast v44
  let c768_2598 : Index := 768#32
  let c2048_2599 : Index := 2048#32
  ![v7402.toNat, 768, 2048]
def k0_off441 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7420 : Index := Scalar.indexCast v44
  let c48_2604 : Index := 48#32
  let c2048_2605 : Index := 2048#32
  ![v7420.toNat, 48, 2048]
def k0_off442 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7430 : Index := Scalar.indexCast v44
  let c768_2607 : Index := 768#32
  let c7680_2608 : Index := 7680#32
  ![v7430.toNat, 768, 7680]
def k0_off443 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7448 : Index := Scalar.indexCast v44
  let c48_2613 : Index := 48#32
  let c7680_2614 : Index := 7680#32
  ![v7448.toNat, 48, 7680]
def k0_off444 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7459 : Index := Scalar.indexCast v44
  let c896_2618 : Index := 896#32
  let c2048_2619 : Index := 2048#32
  ![v7459.toNat, 896, 2048]
def k0_off445 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7477 : Index := Scalar.indexCast v44
  let c56_2624 : Index := 56#32
  let c2048_2625 : Index := 2048#32
  ![v7477.toNat, 56, 2048]
def k0_off446 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7487 : Index := Scalar.indexCast v44
  let c896_2627 : Index := 896#32
  let c7680_2628 : Index := 7680#32
  ![v7487.toNat, 896, 7680]
def k0_off447 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7505 : Index := Scalar.indexCast v44
  let c56_2633 : Index := 56#32
  let c7680_2634 : Index := 7680#32
  ![v7505.toNat, 56, 7680]
def k0_off448 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7574 : Index := Scalar.indexCast v44
  let c0_2655 : Index := 0#32
  let c2304 : Index := 2304#32
  ![v7574.toNat, 0, 2304]
def k0_off449 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7592 : Index := Scalar.indexCast v44
  let c0_2660 : Index := 0#32
  let c2304_2661 : Index := 2304#32
  ![v7592.toNat, 0, 2304]
def k0_off450 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7601 : Index := Scalar.indexCast v44
  let c0_2663 : Index := 0#32
  let c7936 : Index := 7936#32
  ![v7601.toNat, 0, 7936]
def k0_off451 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7619 : Index := Scalar.indexCast v44
  let c0_2668 : Index := 0#32
  let c7936_2669 : Index := 7936#32
  ![v7619.toNat, 0, 7936]
def k0_off452 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7629 : Index := Scalar.indexCast v44
  let c128_2673 : Index := 128#32
  let c2304_2674 : Index := 2304#32
  ![v7629.toNat, 128, 2304]
def k0_off453 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7647 : Index := Scalar.indexCast v44
  let c8_2679 : Index := 8#32
  let c2304_2680 : Index := 2304#32
  ![v7647.toNat, 8, 2304]
def k0_off454 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7657 : Index := Scalar.indexCast v44
  let c128_2682 : Index := 128#32
  let c7936_2683 : Index := 7936#32
  ![v7657.toNat, 128, 7936]
def k0_off455 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7675 : Index := Scalar.indexCast v44
  let c8_2688 : Index := 8#32
  let c7936_2689 : Index := 7936#32
  ![v7675.toNat, 8, 7936]
def k0_off456 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7686 : Index := Scalar.indexCast v44
  let c256_2693 : Index := 256#32
  let c2304_2694 : Index := 2304#32
  ![v7686.toNat, 256, 2304]
def k0_off457 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7704 : Index := Scalar.indexCast v44
  let c16_2699 : Index := 16#32
  let c2304_2700 : Index := 2304#32
  ![v7704.toNat, 16, 2304]
def k0_off458 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7714 : Index := Scalar.indexCast v44
  let c256_2702 : Index := 256#32
  let c7936_2703 : Index := 7936#32
  ![v7714.toNat, 256, 7936]
def k0_off459 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7732 : Index := Scalar.indexCast v44
  let c16_2708 : Index := 16#32
  let c7936_2709 : Index := 7936#32
  ![v7732.toNat, 16, 7936]
def k0_off460 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7743 : Index := Scalar.indexCast v44
  let c384_2713 : Index := 384#32
  let c2304_2714 : Index := 2304#32
  ![v7743.toNat, 384, 2304]
def k0_off461 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7761 : Index := Scalar.indexCast v44
  let c24_2719 : Index := 24#32
  let c2304_2720 : Index := 2304#32
  ![v7761.toNat, 24, 2304]
def k0_off462 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7771 : Index := Scalar.indexCast v44
  let c384_2722 : Index := 384#32
  let c7936_2723 : Index := 7936#32
  ![v7771.toNat, 384, 7936]
def k0_off463 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7789 : Index := Scalar.indexCast v44
  let c24_2728 : Index := 24#32
  let c7936_2729 : Index := 7936#32
  ![v7789.toNat, 24, 7936]
def k0_off464 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7800 : Index := Scalar.indexCast v44
  let c512_2733 : Index := 512#32
  let c2304_2734 : Index := 2304#32
  ![v7800.toNat, 512, 2304]
def k0_off465 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7818 : Index := Scalar.indexCast v44
  let c32_2739 : Index := 32#32
  let c2304_2740 : Index := 2304#32
  ![v7818.toNat, 32, 2304]
def k0_off466 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7828 : Index := Scalar.indexCast v44
  let c512_2742 : Index := 512#32
  let c7936_2743 : Index := 7936#32
  ![v7828.toNat, 512, 7936]
def k0_off467 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7846 : Index := Scalar.indexCast v44
  let c32_2748 : Index := 32#32
  let c7936_2749 : Index := 7936#32
  ![v7846.toNat, 32, 7936]
def k0_off468 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7857 : Index := Scalar.indexCast v44
  let c640_2753 : Index := 640#32
  let c2304_2754 : Index := 2304#32
  ![v7857.toNat, 640, 2304]
def k0_off469 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7875 : Index := Scalar.indexCast v44
  let c40_2759 : Index := 40#32
  let c2304_2760 : Index := 2304#32
  ![v7875.toNat, 40, 2304]
def k0_off470 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7885 : Index := Scalar.indexCast v44
  let c640_2762 : Index := 640#32
  let c7936_2763 : Index := 7936#32
  ![v7885.toNat, 640, 7936]
def k0_off471 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7903 : Index := Scalar.indexCast v44
  let c40_2768 : Index := 40#32
  let c7936_2769 : Index := 7936#32
  ![v7903.toNat, 40, 7936]
def k0_off472 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7914 : Index := Scalar.indexCast v44
  let c768_2773 : Index := 768#32
  let c2304_2774 : Index := 2304#32
  ![v7914.toNat, 768, 2304]
def k0_off473 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7932 : Index := Scalar.indexCast v44
  let c48_2779 : Index := 48#32
  let c2304_2780 : Index := 2304#32
  ![v7932.toNat, 48, 2304]
def k0_off474 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7942 : Index := Scalar.indexCast v44
  let c768_2782 : Index := 768#32
  let c7936_2783 : Index := 7936#32
  ![v7942.toNat, 768, 7936]
def k0_off475 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7960 : Index := Scalar.indexCast v44
  let c48_2788 : Index := 48#32
  let c7936_2789 : Index := 7936#32
  ![v7960.toNat, 48, 7936]
def k0_off476 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7971 : Index := Scalar.indexCast v44
  let c896_2793 : Index := 896#32
  let c2304_2794 : Index := 2304#32
  ![v7971.toNat, 896, 2304]
def k0_off477 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7989 : Index := Scalar.indexCast v44
  let c56_2799 : Index := 56#32
  let c2304_2800 : Index := 2304#32
  ![v7989.toNat, 56, 2304]
def k0_off478 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v7999 : Index := Scalar.indexCast v44
  let c896_2802 : Index := 896#32
  let c7936_2803 : Index := 7936#32
  ![v7999.toNat, 896, 7936]
def k0_off479 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8017 : Index := Scalar.indexCast v44
  let c56_2808 : Index := 56#32
  let c7936_2809 : Index := 7936#32
  ![v8017.toNat, 56, 7936]
def k0_off480 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8086 : Index := Scalar.indexCast v44
  let c0_2830 : Index := 0#32
  let c2560 : Index := 2560#32
  ![v8086.toNat, 0, 2560]
def k0_off481 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8104 : Index := Scalar.indexCast v44
  let c0_2835 : Index := 0#32
  let c2560_2836 : Index := 2560#32
  ![v8104.toNat, 0, 2560]
def k0_off482 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8113 : Index := Scalar.indexCast v44
  let c0_2838 : Index := 0#32
  let c8192 : Index := 8192#32
  ![v8113.toNat, 0, 8192]
def k0_off483 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8131 : Index := Scalar.indexCast v44
  let c0_2843 : Index := 0#32
  let c8192_2844 : Index := 8192#32
  ![v8131.toNat, 0, 8192]
def k0_off484 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8141 : Index := Scalar.indexCast v44
  let c128_2848 : Index := 128#32
  let c2560_2849 : Index := 2560#32
  ![v8141.toNat, 128, 2560]
def k0_off485 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8159 : Index := Scalar.indexCast v44
  let c8_2854 : Index := 8#32
  let c2560_2855 : Index := 2560#32
  ![v8159.toNat, 8, 2560]
def k0_off486 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8169 : Index := Scalar.indexCast v44
  let c128_2857 : Index := 128#32
  let c8192_2858 : Index := 8192#32
  ![v8169.toNat, 128, 8192]
def k0_off487 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8187 : Index := Scalar.indexCast v44
  let c8_2863 : Index := 8#32
  let c8192_2864 : Index := 8192#32
  ![v8187.toNat, 8, 8192]
def k0_off488 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8198 : Index := Scalar.indexCast v44
  let c256_2868 : Index := 256#32
  let c2560_2869 : Index := 2560#32
  ![v8198.toNat, 256, 2560]
def k0_off489 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8216 : Index := Scalar.indexCast v44
  let c16_2874 : Index := 16#32
  let c2560_2875 : Index := 2560#32
  ![v8216.toNat, 16, 2560]
def k0_off490 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8226 : Index := Scalar.indexCast v44
  let c256_2877 : Index := 256#32
  let c8192_2878 : Index := 8192#32
  ![v8226.toNat, 256, 8192]
def k0_off491 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8244 : Index := Scalar.indexCast v44
  let c16_2883 : Index := 16#32
  let c8192_2884 : Index := 8192#32
  ![v8244.toNat, 16, 8192]
def k0_off492 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8255 : Index := Scalar.indexCast v44
  let c384_2888 : Index := 384#32
  let c2560_2889 : Index := 2560#32
  ![v8255.toNat, 384, 2560]
def k0_off493 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8273 : Index := Scalar.indexCast v44
  let c24_2894 : Index := 24#32
  let c2560_2895 : Index := 2560#32
  ![v8273.toNat, 24, 2560]
def k0_off494 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8283 : Index := Scalar.indexCast v44
  let c384_2897 : Index := 384#32
  let c8192_2898 : Index := 8192#32
  ![v8283.toNat, 384, 8192]
def k0_off495 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8301 : Index := Scalar.indexCast v44
  let c24_2903 : Index := 24#32
  let c8192_2904 : Index := 8192#32
  ![v8301.toNat, 24, 8192]
def k0_off496 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8312 : Index := Scalar.indexCast v44
  let c512_2908 : Index := 512#32
  let c2560_2909 : Index := 2560#32
  ![v8312.toNat, 512, 2560]
def k0_off497 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8330 : Index := Scalar.indexCast v44
  let c32_2914 : Index := 32#32
  let c2560_2915 : Index := 2560#32
  ![v8330.toNat, 32, 2560]
def k0_off498 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8340 : Index := Scalar.indexCast v44
  let c512_2917 : Index := 512#32
  let c8192_2918 : Index := 8192#32
  ![v8340.toNat, 512, 8192]
def k0_off499 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8358 : Index := Scalar.indexCast v44
  let c32_2923 : Index := 32#32
  let c8192_2924 : Index := 8192#32
  ![v8358.toNat, 32, 8192]
def k0_off500 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8369 : Index := Scalar.indexCast v44
  let c640_2928 : Index := 640#32
  let c2560_2929 : Index := 2560#32
  ![v8369.toNat, 640, 2560]
def k0_off501 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8387 : Index := Scalar.indexCast v44
  let c40_2934 : Index := 40#32
  let c2560_2935 : Index := 2560#32
  ![v8387.toNat, 40, 2560]
def k0_off502 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8397 : Index := Scalar.indexCast v44
  let c640_2937 : Index := 640#32
  let c8192_2938 : Index := 8192#32
  ![v8397.toNat, 640, 8192]
def k0_off503 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8415 : Index := Scalar.indexCast v44
  let c40_2943 : Index := 40#32
  let c8192_2944 : Index := 8192#32
  ![v8415.toNat, 40, 8192]
def k0_off504 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8426 : Index := Scalar.indexCast v44
  let c768_2948 : Index := 768#32
  let c2560_2949 : Index := 2560#32
  ![v8426.toNat, 768, 2560]
def k0_off505 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8444 : Index := Scalar.indexCast v44
  let c48_2954 : Index := 48#32
  let c2560_2955 : Index := 2560#32
  ![v8444.toNat, 48, 2560]
def k0_off506 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8454 : Index := Scalar.indexCast v44
  let c768_2957 : Index := 768#32
  let c8192_2958 : Index := 8192#32
  ![v8454.toNat, 768, 8192]
def k0_off507 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8472 : Index := Scalar.indexCast v44
  let c48_2963 : Index := 48#32
  let c8192_2964 : Index := 8192#32
  ![v8472.toNat, 48, 8192]
def k0_off508 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8483 : Index := Scalar.indexCast v44
  let c896_2968 : Index := 896#32
  let c2560_2969 : Index := 2560#32
  ![v8483.toNat, 896, 2560]
def k0_off509 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8501 : Index := Scalar.indexCast v44
  let c56_2974 : Index := 56#32
  let c2560_2975 : Index := 2560#32
  ![v8501.toNat, 56, 2560]
def k0_off510 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8511 : Index := Scalar.indexCast v44
  let c896_2977 : Index := 896#32
  let c8192_2978 : Index := 8192#32
  ![v8511.toNat, 896, 8192]
def k0_off511 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8529 : Index := Scalar.indexCast v44
  let c56_2983 : Index := 56#32
  let c8192_2984 : Index := 8192#32
  ![v8529.toNat, 56, 8192]
def k0_off512 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8598 : Index := Scalar.indexCast v44
  let c0_3005 : Index := 0#32
  let c2816 : Index := 2816#32
  ![v8598.toNat, 0, 2816]
def k0_off513 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8616 : Index := Scalar.indexCast v44
  let c0_3010 : Index := 0#32
  let c2816_3011 : Index := 2816#32
  ![v8616.toNat, 0, 2816]
def k0_off514 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8625 : Index := Scalar.indexCast v44
  let c0_3013 : Index := 0#32
  let c8448 : Index := 8448#32
  ![v8625.toNat, 0, 8448]
def k0_off515 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8643 : Index := Scalar.indexCast v44
  let c0_3018 : Index := 0#32
  let c8448_3019 : Index := 8448#32
  ![v8643.toNat, 0, 8448]
def k0_off516 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8653 : Index := Scalar.indexCast v44
  let c128_3023 : Index := 128#32
  let c2816_3024 : Index := 2816#32
  ![v8653.toNat, 128, 2816]
def k0_off517 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8671 : Index := Scalar.indexCast v44
  let c8_3029 : Index := 8#32
  let c2816_3030 : Index := 2816#32
  ![v8671.toNat, 8, 2816]
def k0_off518 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8681 : Index := Scalar.indexCast v44
  let c128_3032 : Index := 128#32
  let c8448_3033 : Index := 8448#32
  ![v8681.toNat, 128, 8448]
def k0_off519 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8699 : Index := Scalar.indexCast v44
  let c8_3038 : Index := 8#32
  let c8448_3039 : Index := 8448#32
  ![v8699.toNat, 8, 8448]
def k0_off520 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8710 : Index := Scalar.indexCast v44
  let c256_3043 : Index := 256#32
  let c2816_3044 : Index := 2816#32
  ![v8710.toNat, 256, 2816]
def k0_off521 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8728 : Index := Scalar.indexCast v44
  let c16_3049 : Index := 16#32
  let c2816_3050 : Index := 2816#32
  ![v8728.toNat, 16, 2816]
def k0_off522 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8738 : Index := Scalar.indexCast v44
  let c256_3052 : Index := 256#32
  let c8448_3053 : Index := 8448#32
  ![v8738.toNat, 256, 8448]
def k0_off523 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8756 : Index := Scalar.indexCast v44
  let c16_3058 : Index := 16#32
  let c8448_3059 : Index := 8448#32
  ![v8756.toNat, 16, 8448]
def k0_off524 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8767 : Index := Scalar.indexCast v44
  let c384_3063 : Index := 384#32
  let c2816_3064 : Index := 2816#32
  ![v8767.toNat, 384, 2816]
def k0_off525 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8785 : Index := Scalar.indexCast v44
  let c24_3069 : Index := 24#32
  let c2816_3070 : Index := 2816#32
  ![v8785.toNat, 24, 2816]
def k0_off526 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8795 : Index := Scalar.indexCast v44
  let c384_3072 : Index := 384#32
  let c8448_3073 : Index := 8448#32
  ![v8795.toNat, 384, 8448]
def k0_off527 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8813 : Index := Scalar.indexCast v44
  let c24_3078 : Index := 24#32
  let c8448_3079 : Index := 8448#32
  ![v8813.toNat, 24, 8448]
def k0_off528 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8824 : Index := Scalar.indexCast v44
  let c512_3083 : Index := 512#32
  let c2816_3084 : Index := 2816#32
  ![v8824.toNat, 512, 2816]
def k0_off529 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8842 : Index := Scalar.indexCast v44
  let c32_3089 : Index := 32#32
  let c2816_3090 : Index := 2816#32
  ![v8842.toNat, 32, 2816]
def k0_off530 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8852 : Index := Scalar.indexCast v44
  let c512_3092 : Index := 512#32
  let c8448_3093 : Index := 8448#32
  ![v8852.toNat, 512, 8448]
def k0_off531 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8870 : Index := Scalar.indexCast v44
  let c32_3098 : Index := 32#32
  let c8448_3099 : Index := 8448#32
  ![v8870.toNat, 32, 8448]
def k0_off532 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8881 : Index := Scalar.indexCast v44
  let c640_3103 : Index := 640#32
  let c2816_3104 : Index := 2816#32
  ![v8881.toNat, 640, 2816]
def k0_off533 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8899 : Index := Scalar.indexCast v44
  let c40_3109 : Index := 40#32
  let c2816_3110 : Index := 2816#32
  ![v8899.toNat, 40, 2816]
def k0_off534 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8909 : Index := Scalar.indexCast v44
  let c640_3112 : Index := 640#32
  let c8448_3113 : Index := 8448#32
  ![v8909.toNat, 640, 8448]
def k0_off535 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8927 : Index := Scalar.indexCast v44
  let c40_3118 : Index := 40#32
  let c8448_3119 : Index := 8448#32
  ![v8927.toNat, 40, 8448]
def k0_off536 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8938 : Index := Scalar.indexCast v44
  let c768_3123 : Index := 768#32
  let c2816_3124 : Index := 2816#32
  ![v8938.toNat, 768, 2816]
def k0_off537 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8956 : Index := Scalar.indexCast v44
  let c48_3129 : Index := 48#32
  let c2816_3130 : Index := 2816#32
  ![v8956.toNat, 48, 2816]
def k0_off538 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8966 : Index := Scalar.indexCast v44
  let c768_3132 : Index := 768#32
  let c8448_3133 : Index := 8448#32
  ![v8966.toNat, 768, 8448]
def k0_off539 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8984 : Index := Scalar.indexCast v44
  let c48_3138 : Index := 48#32
  let c8448_3139 : Index := 8448#32
  ![v8984.toNat, 48, 8448]
def k0_off540 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v8995 : Index := Scalar.indexCast v44
  let c896_3143 : Index := 896#32
  let c2816_3144 : Index := 2816#32
  ![v8995.toNat, 896, 2816]
def k0_off541 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9013 : Index := Scalar.indexCast v44
  let c56_3149 : Index := 56#32
  let c2816_3150 : Index := 2816#32
  ![v9013.toNat, 56, 2816]
def k0_off542 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9023 : Index := Scalar.indexCast v44
  let c896_3152 : Index := 896#32
  let c8448_3153 : Index := 8448#32
  ![v9023.toNat, 896, 8448]
def k0_off543 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9041 : Index := Scalar.indexCast v44
  let c56_3158 : Index := 56#32
  let c8448_3159 : Index := 8448#32
  ![v9041.toNat, 56, 8448]
def k0_off544 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9110 : Index := Scalar.indexCast v44
  let c0_3180 : Index := 0#32
  let c3072 : Index := 3072#32
  ![v9110.toNat, 0, 3072]
def k0_off545 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9128 : Index := Scalar.indexCast v44
  let c0_3185 : Index := 0#32
  let c3072_3186 : Index := 3072#32
  ![v9128.toNat, 0, 3072]
def k0_off546 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9137 : Index := Scalar.indexCast v44
  let c0_3188 : Index := 0#32
  let c8704 : Index := 8704#32
  ![v9137.toNat, 0, 8704]
def k0_off547 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9155 : Index := Scalar.indexCast v44
  let c0_3193 : Index := 0#32
  let c8704_3194 : Index := 8704#32
  ![v9155.toNat, 0, 8704]
def k0_off548 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9165 : Index := Scalar.indexCast v44
  let c128_3198 : Index := 128#32
  let c3072_3199 : Index := 3072#32
  ![v9165.toNat, 128, 3072]
def k0_off549 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9183 : Index := Scalar.indexCast v44
  let c8_3204 : Index := 8#32
  let c3072_3205 : Index := 3072#32
  ![v9183.toNat, 8, 3072]
def k0_off550 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9193 : Index := Scalar.indexCast v44
  let c128_3207 : Index := 128#32
  let c8704_3208 : Index := 8704#32
  ![v9193.toNat, 128, 8704]
def k0_off551 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9211 : Index := Scalar.indexCast v44
  let c8_3213 : Index := 8#32
  let c8704_3214 : Index := 8704#32
  ![v9211.toNat, 8, 8704]
def k0_off552 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9222 : Index := Scalar.indexCast v44
  let c256_3218 : Index := 256#32
  let c3072_3219 : Index := 3072#32
  ![v9222.toNat, 256, 3072]
def k0_off553 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9240 : Index := Scalar.indexCast v44
  let c16_3224 : Index := 16#32
  let c3072_3225 : Index := 3072#32
  ![v9240.toNat, 16, 3072]
def k0_off554 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9250 : Index := Scalar.indexCast v44
  let c256_3227 : Index := 256#32
  let c8704_3228 : Index := 8704#32
  ![v9250.toNat, 256, 8704]
def k0_off555 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9268 : Index := Scalar.indexCast v44
  let c16_3233 : Index := 16#32
  let c8704_3234 : Index := 8704#32
  ![v9268.toNat, 16, 8704]
def k0_off556 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9279 : Index := Scalar.indexCast v44
  let c384_3238 : Index := 384#32
  let c3072_3239 : Index := 3072#32
  ![v9279.toNat, 384, 3072]
def k0_off557 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9297 : Index := Scalar.indexCast v44
  let c24_3244 : Index := 24#32
  let c3072_3245 : Index := 3072#32
  ![v9297.toNat, 24, 3072]
def k0_off558 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9307 : Index := Scalar.indexCast v44
  let c384_3247 : Index := 384#32
  let c8704_3248 : Index := 8704#32
  ![v9307.toNat, 384, 8704]
def k0_off559 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9325 : Index := Scalar.indexCast v44
  let c24_3253 : Index := 24#32
  let c8704_3254 : Index := 8704#32
  ![v9325.toNat, 24, 8704]
def k0_off560 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9336 : Index := Scalar.indexCast v44
  let c512_3258 : Index := 512#32
  let c3072_3259 : Index := 3072#32
  ![v9336.toNat, 512, 3072]
def k0_off561 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9354 : Index := Scalar.indexCast v44
  let c32_3264 : Index := 32#32
  let c3072_3265 : Index := 3072#32
  ![v9354.toNat, 32, 3072]
def k0_off562 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9364 : Index := Scalar.indexCast v44
  let c512_3267 : Index := 512#32
  let c8704_3268 : Index := 8704#32
  ![v9364.toNat, 512, 8704]
def k0_off563 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9382 : Index := Scalar.indexCast v44
  let c32_3273 : Index := 32#32
  let c8704_3274 : Index := 8704#32
  ![v9382.toNat, 32, 8704]
def k0_off564 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9393 : Index := Scalar.indexCast v44
  let c640_3278 : Index := 640#32
  let c3072_3279 : Index := 3072#32
  ![v9393.toNat, 640, 3072]
def k0_off565 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9411 : Index := Scalar.indexCast v44
  let c40_3284 : Index := 40#32
  let c3072_3285 : Index := 3072#32
  ![v9411.toNat, 40, 3072]
def k0_off566 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9421 : Index := Scalar.indexCast v44
  let c640_3287 : Index := 640#32
  let c8704_3288 : Index := 8704#32
  ![v9421.toNat, 640, 8704]
def k0_off567 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9439 : Index := Scalar.indexCast v44
  let c40_3293 : Index := 40#32
  let c8704_3294 : Index := 8704#32
  ![v9439.toNat, 40, 8704]
def k0_off568 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9450 : Index := Scalar.indexCast v44
  let c768_3298 : Index := 768#32
  let c3072_3299 : Index := 3072#32
  ![v9450.toNat, 768, 3072]
def k0_off569 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9468 : Index := Scalar.indexCast v44
  let c48_3304 : Index := 48#32
  let c3072_3305 : Index := 3072#32
  ![v9468.toNat, 48, 3072]
def k0_off570 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9478 : Index := Scalar.indexCast v44
  let c768_3307 : Index := 768#32
  let c8704_3308 : Index := 8704#32
  ![v9478.toNat, 768, 8704]
def k0_off571 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9496 : Index := Scalar.indexCast v44
  let c48_3313 : Index := 48#32
  let c8704_3314 : Index := 8704#32
  ![v9496.toNat, 48, 8704]
def k0_off572 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9507 : Index := Scalar.indexCast v44
  let c896_3318 : Index := 896#32
  let c3072_3319 : Index := 3072#32
  ![v9507.toNat, 896, 3072]
def k0_off573 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9525 : Index := Scalar.indexCast v44
  let c56_3324 : Index := 56#32
  let c3072_3325 : Index := 3072#32
  ![v9525.toNat, 56, 3072]
def k0_off574 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9535 : Index := Scalar.indexCast v44
  let c896_3327 : Index := 896#32
  let c8704_3328 : Index := 8704#32
  ![v9535.toNat, 896, 8704]
def k0_off575 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9553 : Index := Scalar.indexCast v44
  let c56_3333 : Index := 56#32
  let c8704_3334 : Index := 8704#32
  ![v9553.toNat, 56, 8704]
def k0_off576 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9622 : Index := Scalar.indexCast v44
  let c0_3355 : Index := 0#32
  let c3328 : Index := 3328#32
  ![v9622.toNat, 0, 3328]
def k0_off577 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9640 : Index := Scalar.indexCast v44
  let c0_3360 : Index := 0#32
  let c3328_3361 : Index := 3328#32
  ![v9640.toNat, 0, 3328]
def k0_off578 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9649 : Index := Scalar.indexCast v44
  let c0_3363 : Index := 0#32
  let c8960 : Index := 8960#32
  ![v9649.toNat, 0, 8960]
def k0_off579 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9667 : Index := Scalar.indexCast v44
  let c0_3368 : Index := 0#32
  let c8960_3369 : Index := 8960#32
  ![v9667.toNat, 0, 8960]
def k0_off580 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9677 : Index := Scalar.indexCast v44
  let c128_3373 : Index := 128#32
  let c3328_3374 : Index := 3328#32
  ![v9677.toNat, 128, 3328]
def k0_off581 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9695 : Index := Scalar.indexCast v44
  let c8_3379 : Index := 8#32
  let c3328_3380 : Index := 3328#32
  ![v9695.toNat, 8, 3328]
def k0_off582 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9705 : Index := Scalar.indexCast v44
  let c128_3382 : Index := 128#32
  let c8960_3383 : Index := 8960#32
  ![v9705.toNat, 128, 8960]
def k0_off583 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9723 : Index := Scalar.indexCast v44
  let c8_3388 : Index := 8#32
  let c8960_3389 : Index := 8960#32
  ![v9723.toNat, 8, 8960]
def k0_off584 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9734 : Index := Scalar.indexCast v44
  let c256_3393 : Index := 256#32
  let c3328_3394 : Index := 3328#32
  ![v9734.toNat, 256, 3328]
def k0_off585 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9752 : Index := Scalar.indexCast v44
  let c16_3399 : Index := 16#32
  let c3328_3400 : Index := 3328#32
  ![v9752.toNat, 16, 3328]
def k0_off586 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9762 : Index := Scalar.indexCast v44
  let c256_3402 : Index := 256#32
  let c8960_3403 : Index := 8960#32
  ![v9762.toNat, 256, 8960]
def k0_off587 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9780 : Index := Scalar.indexCast v44
  let c16_3408 : Index := 16#32
  let c8960_3409 : Index := 8960#32
  ![v9780.toNat, 16, 8960]
def k0_off588 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9791 : Index := Scalar.indexCast v44
  let c384_3413 : Index := 384#32
  let c3328_3414 : Index := 3328#32
  ![v9791.toNat, 384, 3328]
def k0_off589 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9809 : Index := Scalar.indexCast v44
  let c24_3419 : Index := 24#32
  let c3328_3420 : Index := 3328#32
  ![v9809.toNat, 24, 3328]
def k0_off590 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9819 : Index := Scalar.indexCast v44
  let c384_3422 : Index := 384#32
  let c8960_3423 : Index := 8960#32
  ![v9819.toNat, 384, 8960]
def k0_off591 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9837 : Index := Scalar.indexCast v44
  let c24_3428 : Index := 24#32
  let c8960_3429 : Index := 8960#32
  ![v9837.toNat, 24, 8960]
def k0_off592 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9848 : Index := Scalar.indexCast v44
  let c512_3433 : Index := 512#32
  let c3328_3434 : Index := 3328#32
  ![v9848.toNat, 512, 3328]
def k0_off593 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9866 : Index := Scalar.indexCast v44
  let c32_3439 : Index := 32#32
  let c3328_3440 : Index := 3328#32
  ![v9866.toNat, 32, 3328]
def k0_off594 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9876 : Index := Scalar.indexCast v44
  let c512_3442 : Index := 512#32
  let c8960_3443 : Index := 8960#32
  ![v9876.toNat, 512, 8960]
def k0_off595 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9894 : Index := Scalar.indexCast v44
  let c32_3448 : Index := 32#32
  let c8960_3449 : Index := 8960#32
  ![v9894.toNat, 32, 8960]
def k0_off596 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9905 : Index := Scalar.indexCast v44
  let c640_3453 : Index := 640#32
  let c3328_3454 : Index := 3328#32
  ![v9905.toNat, 640, 3328]
def k0_off597 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9923 : Index := Scalar.indexCast v44
  let c40_3459 : Index := 40#32
  let c3328_3460 : Index := 3328#32
  ![v9923.toNat, 40, 3328]
def k0_off598 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9933 : Index := Scalar.indexCast v44
  let c640_3462 : Index := 640#32
  let c8960_3463 : Index := 8960#32
  ![v9933.toNat, 640, 8960]
def k0_off599 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9951 : Index := Scalar.indexCast v44
  let c40_3468 : Index := 40#32
  let c8960_3469 : Index := 8960#32
  ![v9951.toNat, 40, 8960]
def k0_off600 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9962 : Index := Scalar.indexCast v44
  let c768_3473 : Index := 768#32
  let c3328_3474 : Index := 3328#32
  ![v9962.toNat, 768, 3328]
def k0_off601 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9980 : Index := Scalar.indexCast v44
  let c48_3479 : Index := 48#32
  let c3328_3480 : Index := 3328#32
  ![v9980.toNat, 48, 3328]
def k0_off602 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v9990 : Index := Scalar.indexCast v44
  let c768_3482 : Index := 768#32
  let c8960_3483 : Index := 8960#32
  ![v9990.toNat, 768, 8960]
def k0_off603 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10008 : Index := Scalar.indexCast v44
  let c48_3488 : Index := 48#32
  let c8960_3489 : Index := 8960#32
  ![v10008.toNat, 48, 8960]
def k0_off604 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10019 : Index := Scalar.indexCast v44
  let c896_3493 : Index := 896#32
  let c3328_3494 : Index := 3328#32
  ![v10019.toNat, 896, 3328]
def k0_off605 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10037 : Index := Scalar.indexCast v44
  let c56_3499 : Index := 56#32
  let c3328_3500 : Index := 3328#32
  ![v10037.toNat, 56, 3328]
def k0_off606 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10047 : Index := Scalar.indexCast v44
  let c896_3502 : Index := 896#32
  let c8960_3503 : Index := 8960#32
  ![v10047.toNat, 896, 8960]
def k0_off607 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10065 : Index := Scalar.indexCast v44
  let c56_3508 : Index := 56#32
  let c8960_3509 : Index := 8960#32
  ![v10065.toNat, 56, 8960]
def k0_off608 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10134 : Index := Scalar.indexCast v44
  let c0_3530 : Index := 0#32
  let c3584 : Index := 3584#32
  ![v10134.toNat, 0, 3584]
def k0_off609 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10152 : Index := Scalar.indexCast v44
  let c0_3535 : Index := 0#32
  let c3584_3536 : Index := 3584#32
  ![v10152.toNat, 0, 3584]
def k0_off610 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10161 : Index := Scalar.indexCast v44
  let c0_3538 : Index := 0#32
  let c9216 : Index := 9216#32
  ![v10161.toNat, 0, 9216]
def k0_off611 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10179 : Index := Scalar.indexCast v44
  let c0_3543 : Index := 0#32
  let c9216_3544 : Index := 9216#32
  ![v10179.toNat, 0, 9216]
def k0_off612 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10189 : Index := Scalar.indexCast v44
  let c128_3548 : Index := 128#32
  let c3584_3549 : Index := 3584#32
  ![v10189.toNat, 128, 3584]
def k0_off613 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10207 : Index := Scalar.indexCast v44
  let c8_3554 : Index := 8#32
  let c3584_3555 : Index := 3584#32
  ![v10207.toNat, 8, 3584]
def k0_off614 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10217 : Index := Scalar.indexCast v44
  let c128_3557 : Index := 128#32
  let c9216_3558 : Index := 9216#32
  ![v10217.toNat, 128, 9216]
def k0_off615 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10235 : Index := Scalar.indexCast v44
  let c8_3563 : Index := 8#32
  let c9216_3564 : Index := 9216#32
  ![v10235.toNat, 8, 9216]
def k0_off616 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10246 : Index := Scalar.indexCast v44
  let c256_3568 : Index := 256#32
  let c3584_3569 : Index := 3584#32
  ![v10246.toNat, 256, 3584]
def k0_off617 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10264 : Index := Scalar.indexCast v44
  let c16_3574 : Index := 16#32
  let c3584_3575 : Index := 3584#32
  ![v10264.toNat, 16, 3584]
def k0_off618 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10274 : Index := Scalar.indexCast v44
  let c256_3577 : Index := 256#32
  let c9216_3578 : Index := 9216#32
  ![v10274.toNat, 256, 9216]
def k0_off619 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10292 : Index := Scalar.indexCast v44
  let c16_3583 : Index := 16#32
  let c9216_3584 : Index := 9216#32
  ![v10292.toNat, 16, 9216]
def k0_off620 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10303 : Index := Scalar.indexCast v44
  let c384_3588 : Index := 384#32
  let c3584_3589 : Index := 3584#32
  ![v10303.toNat, 384, 3584]
def k0_off621 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10321 : Index := Scalar.indexCast v44
  let c24_3594 : Index := 24#32
  let c3584_3595 : Index := 3584#32
  ![v10321.toNat, 24, 3584]
def k0_off622 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10331 : Index := Scalar.indexCast v44
  let c384_3597 : Index := 384#32
  let c9216_3598 : Index := 9216#32
  ![v10331.toNat, 384, 9216]
def k0_off623 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10349 : Index := Scalar.indexCast v44
  let c24_3603 : Index := 24#32
  let c9216_3604 : Index := 9216#32
  ![v10349.toNat, 24, 9216]
def k0_off624 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10360 : Index := Scalar.indexCast v44
  let c512_3608 : Index := 512#32
  let c3584_3609 : Index := 3584#32
  ![v10360.toNat, 512, 3584]
def k0_off625 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10378 : Index := Scalar.indexCast v44
  let c32_3614 : Index := 32#32
  let c3584_3615 : Index := 3584#32
  ![v10378.toNat, 32, 3584]
def k0_off626 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10388 : Index := Scalar.indexCast v44
  let c512_3617 : Index := 512#32
  let c9216_3618 : Index := 9216#32
  ![v10388.toNat, 512, 9216]
def k0_off627 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10406 : Index := Scalar.indexCast v44
  let c32_3623 : Index := 32#32
  let c9216_3624 : Index := 9216#32
  ![v10406.toNat, 32, 9216]
def k0_off628 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10417 : Index := Scalar.indexCast v44
  let c640_3628 : Index := 640#32
  let c3584_3629 : Index := 3584#32
  ![v10417.toNat, 640, 3584]
def k0_off629 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10435 : Index := Scalar.indexCast v44
  let c40_3634 : Index := 40#32
  let c3584_3635 : Index := 3584#32
  ![v10435.toNat, 40, 3584]
def k0_off630 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10445 : Index := Scalar.indexCast v44
  let c640_3637 : Index := 640#32
  let c9216_3638 : Index := 9216#32
  ![v10445.toNat, 640, 9216]
def k0_off631 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10463 : Index := Scalar.indexCast v44
  let c40_3643 : Index := 40#32
  let c9216_3644 : Index := 9216#32
  ![v10463.toNat, 40, 9216]
def k0_off632 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10474 : Index := Scalar.indexCast v44
  let c768_3648 : Index := 768#32
  let c3584_3649 : Index := 3584#32
  ![v10474.toNat, 768, 3584]
def k0_off633 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10492 : Index := Scalar.indexCast v44
  let c48_3654 : Index := 48#32
  let c3584_3655 : Index := 3584#32
  ![v10492.toNat, 48, 3584]
def k0_off634 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10502 : Index := Scalar.indexCast v44
  let c768_3657 : Index := 768#32
  let c9216_3658 : Index := 9216#32
  ![v10502.toNat, 768, 9216]
def k0_off635 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10520 : Index := Scalar.indexCast v44
  let c48_3663 : Index := 48#32
  let c9216_3664 : Index := 9216#32
  ![v10520.toNat, 48, 9216]
def k0_off636 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10531 : Index := Scalar.indexCast v44
  let c896_3668 : Index := 896#32
  let c3584_3669 : Index := 3584#32
  ![v10531.toNat, 896, 3584]
def k0_off637 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10549 : Index := Scalar.indexCast v44
  let c56_3674 : Index := 56#32
  let c3584_3675 : Index := 3584#32
  ![v10549.toNat, 56, 3584]
def k0_off638 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10559 : Index := Scalar.indexCast v44
  let c896_3677 : Index := 896#32
  let c9216_3678 : Index := 9216#32
  ![v10559.toNat, 896, 9216]
def k0_off639 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10577 : Index := Scalar.indexCast v44
  let c56_3683 : Index := 56#32
  let c9216_3684 : Index := 9216#32
  ![v10577.toNat, 56, 9216]
def k0_off640 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10646 : Index := Scalar.indexCast v44
  let c0_3705 : Index := 0#32
  let c3840 : Index := 3840#32
  ![v10646.toNat, 0, 3840]
def k0_off641 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10664 : Index := Scalar.indexCast v44
  let c0_3710 : Index := 0#32
  let c3840_3711 : Index := 3840#32
  ![v10664.toNat, 0, 3840]
def k0_off642 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10673 : Index := Scalar.indexCast v44
  let c0_3713 : Index := 0#32
  let c9472 : Index := 9472#32
  ![v10673.toNat, 0, 9472]
def k0_off643 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10691 : Index := Scalar.indexCast v44
  let c0_3718 : Index := 0#32
  let c9472_3719 : Index := 9472#32
  ![v10691.toNat, 0, 9472]
def k0_off644 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10701 : Index := Scalar.indexCast v44
  let c128_3723 : Index := 128#32
  let c3840_3724 : Index := 3840#32
  ![v10701.toNat, 128, 3840]
def k0_off645 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10719 : Index := Scalar.indexCast v44
  let c8_3729 : Index := 8#32
  let c3840_3730 : Index := 3840#32
  ![v10719.toNat, 8, 3840]
def k0_off646 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10729 : Index := Scalar.indexCast v44
  let c128_3732 : Index := 128#32
  let c9472_3733 : Index := 9472#32
  ![v10729.toNat, 128, 9472]
def k0_off647 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10747 : Index := Scalar.indexCast v44
  let c8_3738 : Index := 8#32
  let c9472_3739 : Index := 9472#32
  ![v10747.toNat, 8, 9472]
def k0_off648 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10758 : Index := Scalar.indexCast v44
  let c256_3743 : Index := 256#32
  let c3840_3744 : Index := 3840#32
  ![v10758.toNat, 256, 3840]
def k0_off649 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10776 : Index := Scalar.indexCast v44
  let c16_3749 : Index := 16#32
  let c3840_3750 : Index := 3840#32
  ![v10776.toNat, 16, 3840]
def k0_off650 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10786 : Index := Scalar.indexCast v44
  let c256_3752 : Index := 256#32
  let c9472_3753 : Index := 9472#32
  ![v10786.toNat, 256, 9472]
def k0_off651 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10804 : Index := Scalar.indexCast v44
  let c16_3758 : Index := 16#32
  let c9472_3759 : Index := 9472#32
  ![v10804.toNat, 16, 9472]
def k0_off652 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10815 : Index := Scalar.indexCast v44
  let c384_3763 : Index := 384#32
  let c3840_3764 : Index := 3840#32
  ![v10815.toNat, 384, 3840]
def k0_off653 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10833 : Index := Scalar.indexCast v44
  let c24_3769 : Index := 24#32
  let c3840_3770 : Index := 3840#32
  ![v10833.toNat, 24, 3840]
def k0_off654 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10843 : Index := Scalar.indexCast v44
  let c384_3772 : Index := 384#32
  let c9472_3773 : Index := 9472#32
  ![v10843.toNat, 384, 9472]
def k0_off655 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10861 : Index := Scalar.indexCast v44
  let c24_3778 : Index := 24#32
  let c9472_3779 : Index := 9472#32
  ![v10861.toNat, 24, 9472]
def k0_off656 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10872 : Index := Scalar.indexCast v44
  let c512_3783 : Index := 512#32
  let c3840_3784 : Index := 3840#32
  ![v10872.toNat, 512, 3840]
def k0_off657 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10890 : Index := Scalar.indexCast v44
  let c32_3789 : Index := 32#32
  let c3840_3790 : Index := 3840#32
  ![v10890.toNat, 32, 3840]
def k0_off658 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10900 : Index := Scalar.indexCast v44
  let c512_3792 : Index := 512#32
  let c9472_3793 : Index := 9472#32
  ![v10900.toNat, 512, 9472]
def k0_off659 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10918 : Index := Scalar.indexCast v44
  let c32_3798 : Index := 32#32
  let c9472_3799 : Index := 9472#32
  ![v10918.toNat, 32, 9472]
def k0_off660 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10929 : Index := Scalar.indexCast v44
  let c640_3803 : Index := 640#32
  let c3840_3804 : Index := 3840#32
  ![v10929.toNat, 640, 3840]
def k0_off661 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10947 : Index := Scalar.indexCast v44
  let c40_3809 : Index := 40#32
  let c3840_3810 : Index := 3840#32
  ![v10947.toNat, 40, 3840]
def k0_off662 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10957 : Index := Scalar.indexCast v44
  let c640_3812 : Index := 640#32
  let c9472_3813 : Index := 9472#32
  ![v10957.toNat, 640, 9472]
def k0_off663 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10975 : Index := Scalar.indexCast v44
  let c40_3818 : Index := 40#32
  let c9472_3819 : Index := 9472#32
  ![v10975.toNat, 40, 9472]
def k0_off664 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v10986 : Index := Scalar.indexCast v44
  let c768_3823 : Index := 768#32
  let c3840_3824 : Index := 3840#32
  ![v10986.toNat, 768, 3840]
def k0_off665 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11004 : Index := Scalar.indexCast v44
  let c48_3829 : Index := 48#32
  let c3840_3830 : Index := 3840#32
  ![v11004.toNat, 48, 3840]
def k0_off666 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11014 : Index := Scalar.indexCast v44
  let c768_3832 : Index := 768#32
  let c9472_3833 : Index := 9472#32
  ![v11014.toNat, 768, 9472]
def k0_off667 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11032 : Index := Scalar.indexCast v44
  let c48_3838 : Index := 48#32
  let c9472_3839 : Index := 9472#32
  ![v11032.toNat, 48, 9472]
def k0_off668 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11043 : Index := Scalar.indexCast v44
  let c896_3843 : Index := 896#32
  let c3840_3844 : Index := 3840#32
  ![v11043.toNat, 896, 3840]
def k0_off669 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11061 : Index := Scalar.indexCast v44
  let c56_3849 : Index := 56#32
  let c3840_3850 : Index := 3840#32
  ![v11061.toNat, 56, 3840]
def k0_off670 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11071 : Index := Scalar.indexCast v44
  let c896_3852 : Index := 896#32
  let c9472_3853 : Index := 9472#32
  ![v11071.toNat, 896, 9472]
def k0_off671 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11089 : Index := Scalar.indexCast v44
  let c56_3858 : Index := 56#32
  let c9472_3859 : Index := 9472#32
  ![v11089.toNat, 56, 9472]
def k0_off672 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11158 : Index := Scalar.indexCast v44
  let c0_3880 : Index := 0#32
  let c4096 : Index := 4096#32
  ![v11158.toNat, 0, 4096]
def k0_off673 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11176 : Index := Scalar.indexCast v44
  let c0_3885 : Index := 0#32
  let c4096_3886 : Index := 4096#32
  ![v11176.toNat, 0, 4096]
def k0_off674 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11185 : Index := Scalar.indexCast v44
  let c0_3888 : Index := 0#32
  let c9728 : Index := 9728#32
  ![v11185.toNat, 0, 9728]
def k0_off675 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11203 : Index := Scalar.indexCast v44
  let c0_3893 : Index := 0#32
  let c9728_3894 : Index := 9728#32
  ![v11203.toNat, 0, 9728]
def k0_off676 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11213 : Index := Scalar.indexCast v44
  let c128_3898 : Index := 128#32
  let c4096_3899 : Index := 4096#32
  ![v11213.toNat, 128, 4096]
def k0_off677 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11231 : Index := Scalar.indexCast v44
  let c8_3904 : Index := 8#32
  let c4096_3905 : Index := 4096#32
  ![v11231.toNat, 8, 4096]
def k0_off678 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11241 : Index := Scalar.indexCast v44
  let c128_3907 : Index := 128#32
  let c9728_3908 : Index := 9728#32
  ![v11241.toNat, 128, 9728]
def k0_off679 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11259 : Index := Scalar.indexCast v44
  let c8_3913 : Index := 8#32
  let c9728_3914 : Index := 9728#32
  ![v11259.toNat, 8, 9728]
def k0_off680 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11270 : Index := Scalar.indexCast v44
  let c256_3918 : Index := 256#32
  let c4096_3919 : Index := 4096#32
  ![v11270.toNat, 256, 4096]
def k0_off681 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11288 : Index := Scalar.indexCast v44
  let c16_3924 : Index := 16#32
  let c4096_3925 : Index := 4096#32
  ![v11288.toNat, 16, 4096]
def k0_off682 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11298 : Index := Scalar.indexCast v44
  let c256_3927 : Index := 256#32
  let c9728_3928 : Index := 9728#32
  ![v11298.toNat, 256, 9728]
def k0_off683 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11316 : Index := Scalar.indexCast v44
  let c16_3933 : Index := 16#32
  let c9728_3934 : Index := 9728#32
  ![v11316.toNat, 16, 9728]
def k0_off684 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11327 : Index := Scalar.indexCast v44
  let c384_3938 : Index := 384#32
  let c4096_3939 : Index := 4096#32
  ![v11327.toNat, 384, 4096]
def k0_off685 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11345 : Index := Scalar.indexCast v44
  let c24_3944 : Index := 24#32
  let c4096_3945 : Index := 4096#32
  ![v11345.toNat, 24, 4096]
def k0_off686 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11355 : Index := Scalar.indexCast v44
  let c384_3947 : Index := 384#32
  let c9728_3948 : Index := 9728#32
  ![v11355.toNat, 384, 9728]
def k0_off687 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11373 : Index := Scalar.indexCast v44
  let c24_3953 : Index := 24#32
  let c9728_3954 : Index := 9728#32
  ![v11373.toNat, 24, 9728]
def k0_off688 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11384 : Index := Scalar.indexCast v44
  let c512_3958 : Index := 512#32
  let c4096_3959 : Index := 4096#32
  ![v11384.toNat, 512, 4096]
def k0_off689 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11402 : Index := Scalar.indexCast v44
  let c32_3964 : Index := 32#32
  let c4096_3965 : Index := 4096#32
  ![v11402.toNat, 32, 4096]
def k0_off690 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11412 : Index := Scalar.indexCast v44
  let c512_3967 : Index := 512#32
  let c9728_3968 : Index := 9728#32
  ![v11412.toNat, 512, 9728]
def k0_off691 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11430 : Index := Scalar.indexCast v44
  let c32_3973 : Index := 32#32
  let c9728_3974 : Index := 9728#32
  ![v11430.toNat, 32, 9728]
def k0_off692 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11441 : Index := Scalar.indexCast v44
  let c640_3978 : Index := 640#32
  let c4096_3979 : Index := 4096#32
  ![v11441.toNat, 640, 4096]
def k0_off693 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11459 : Index := Scalar.indexCast v44
  let c40_3984 : Index := 40#32
  let c4096_3985 : Index := 4096#32
  ![v11459.toNat, 40, 4096]
def k0_off694 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11469 : Index := Scalar.indexCast v44
  let c640_3987 : Index := 640#32
  let c9728_3988 : Index := 9728#32
  ![v11469.toNat, 640, 9728]
def k0_off695 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11487 : Index := Scalar.indexCast v44
  let c40_3993 : Index := 40#32
  let c9728_3994 : Index := 9728#32
  ![v11487.toNat, 40, 9728]
def k0_off696 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11498 : Index := Scalar.indexCast v44
  let c768_3998 : Index := 768#32
  let c4096_3999 : Index := 4096#32
  ![v11498.toNat, 768, 4096]
def k0_off697 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11516 : Index := Scalar.indexCast v44
  let c48_4004 : Index := 48#32
  let c4096_4005 : Index := 4096#32
  ![v11516.toNat, 48, 4096]
def k0_off698 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11526 : Index := Scalar.indexCast v44
  let c768_4007 : Index := 768#32
  let c9728_4008 : Index := 9728#32
  ![v11526.toNat, 768, 9728]
def k0_off699 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11544 : Index := Scalar.indexCast v44
  let c48_4013 : Index := 48#32
  let c9728_4014 : Index := 9728#32
  ![v11544.toNat, 48, 9728]
def k0_off700 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11555 : Index := Scalar.indexCast v44
  let c896_4018 : Index := 896#32
  let c4096_4019 : Index := 4096#32
  ![v11555.toNat, 896, 4096]
def k0_off701 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11573 : Index := Scalar.indexCast v44
  let c56_4024 : Index := 56#32
  let c4096_4025 : Index := 4096#32
  ![v11573.toNat, 56, 4096]
def k0_off702 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11583 : Index := Scalar.indexCast v44
  let c896_4027 : Index := 896#32
  let c9728_4028 : Index := 9728#32
  ![v11583.toNat, 896, 9728]
def k0_off703 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11601 : Index := Scalar.indexCast v44
  let c56_4033 : Index := 56#32
  let c9728_4034 : Index := 9728#32
  ![v11601.toNat, 56, 9728]
def k0_off704 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11670 : Index := Scalar.indexCast v44
  let c0_4055 : Index := 0#32
  let c4352 : Index := 4352#32
  ![v11670.toNat, 0, 4352]
def k0_off705 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11688 : Index := Scalar.indexCast v44
  let c0_4060 : Index := 0#32
  let c4352_4061 : Index := 4352#32
  ![v11688.toNat, 0, 4352]
def k0_off706 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11697 : Index := Scalar.indexCast v44
  let c0_4063 : Index := 0#32
  let c9984 : Index := 9984#32
  ![v11697.toNat, 0, 9984]
def k0_off707 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11715 : Index := Scalar.indexCast v44
  let c0_4068 : Index := 0#32
  let c9984_4069 : Index := 9984#32
  ![v11715.toNat, 0, 9984]
def k0_off708 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11725 : Index := Scalar.indexCast v44
  let c128_4073 : Index := 128#32
  let c4352_4074 : Index := 4352#32
  ![v11725.toNat, 128, 4352]
def k0_off709 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11743 : Index := Scalar.indexCast v44
  let c8_4079 : Index := 8#32
  let c4352_4080 : Index := 4352#32
  ![v11743.toNat, 8, 4352]
def k0_off710 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11753 : Index := Scalar.indexCast v44
  let c128_4082 : Index := 128#32
  let c9984_4083 : Index := 9984#32
  ![v11753.toNat, 128, 9984]
def k0_off711 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11771 : Index := Scalar.indexCast v44
  let c8_4088 : Index := 8#32
  let c9984_4089 : Index := 9984#32
  ![v11771.toNat, 8, 9984]
def k0_off712 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11782 : Index := Scalar.indexCast v44
  let c256_4093 : Index := 256#32
  let c4352_4094 : Index := 4352#32
  ![v11782.toNat, 256, 4352]
def k0_off713 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11800 : Index := Scalar.indexCast v44
  let c16_4099 : Index := 16#32
  let c4352_4100 : Index := 4352#32
  ![v11800.toNat, 16, 4352]
def k0_off714 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11810 : Index := Scalar.indexCast v44
  let c256_4102 : Index := 256#32
  let c9984_4103 : Index := 9984#32
  ![v11810.toNat, 256, 9984]
def k0_off715 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11828 : Index := Scalar.indexCast v44
  let c16_4108 : Index := 16#32
  let c9984_4109 : Index := 9984#32
  ![v11828.toNat, 16, 9984]
def k0_off716 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11839 : Index := Scalar.indexCast v44
  let c384_4113 : Index := 384#32
  let c4352_4114 : Index := 4352#32
  ![v11839.toNat, 384, 4352]
def k0_off717 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11857 : Index := Scalar.indexCast v44
  let c24_4119 : Index := 24#32
  let c4352_4120 : Index := 4352#32
  ![v11857.toNat, 24, 4352]
def k0_off718 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11867 : Index := Scalar.indexCast v44
  let c384_4122 : Index := 384#32
  let c9984_4123 : Index := 9984#32
  ![v11867.toNat, 384, 9984]
def k0_off719 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11885 : Index := Scalar.indexCast v44
  let c24_4128 : Index := 24#32
  let c9984_4129 : Index := 9984#32
  ![v11885.toNat, 24, 9984]
def k0_off720 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11896 : Index := Scalar.indexCast v44
  let c512_4133 : Index := 512#32
  let c4352_4134 : Index := 4352#32
  ![v11896.toNat, 512, 4352]
def k0_off721 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11914 : Index := Scalar.indexCast v44
  let c32_4139 : Index := 32#32
  let c4352_4140 : Index := 4352#32
  ![v11914.toNat, 32, 4352]
def k0_off722 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11924 : Index := Scalar.indexCast v44
  let c512_4142 : Index := 512#32
  let c9984_4143 : Index := 9984#32
  ![v11924.toNat, 512, 9984]
def k0_off723 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11942 : Index := Scalar.indexCast v44
  let c32_4148 : Index := 32#32
  let c9984_4149 : Index := 9984#32
  ![v11942.toNat, 32, 9984]
def k0_off724 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11953 : Index := Scalar.indexCast v44
  let c640_4153 : Index := 640#32
  let c4352_4154 : Index := 4352#32
  ![v11953.toNat, 640, 4352]
def k0_off725 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11971 : Index := Scalar.indexCast v44
  let c40_4159 : Index := 40#32
  let c4352_4160 : Index := 4352#32
  ![v11971.toNat, 40, 4352]
def k0_off726 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11981 : Index := Scalar.indexCast v44
  let c640_4162 : Index := 640#32
  let c9984_4163 : Index := 9984#32
  ![v11981.toNat, 640, 9984]
def k0_off727 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v11999 : Index := Scalar.indexCast v44
  let c40_4168 : Index := 40#32
  let c9984_4169 : Index := 9984#32
  ![v11999.toNat, 40, 9984]
def k0_off728 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12010 : Index := Scalar.indexCast v44
  let c768_4173 : Index := 768#32
  let c4352_4174 : Index := 4352#32
  ![v12010.toNat, 768, 4352]
def k0_off729 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12028 : Index := Scalar.indexCast v44
  let c48_4179 : Index := 48#32
  let c4352_4180 : Index := 4352#32
  ![v12028.toNat, 48, 4352]
def k0_off730 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12038 : Index := Scalar.indexCast v44
  let c768_4182 : Index := 768#32
  let c9984_4183 : Index := 9984#32
  ![v12038.toNat, 768, 9984]
def k0_off731 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12056 : Index := Scalar.indexCast v44
  let c48_4188 : Index := 48#32
  let c9984_4189 : Index := 9984#32
  ![v12056.toNat, 48, 9984]
def k0_off732 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12067 : Index := Scalar.indexCast v44
  let c896_4193 : Index := 896#32
  let c4352_4194 : Index := 4352#32
  ![v12067.toNat, 896, 4352]
def k0_off733 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12085 : Index := Scalar.indexCast v44
  let c56_4199 : Index := 56#32
  let c4352_4200 : Index := 4352#32
  ![v12085.toNat, 56, 4352]
def k0_off734 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12095 : Index := Scalar.indexCast v44
  let c896_4202 : Index := 896#32
  let c9984_4203 : Index := 9984#32
  ![v12095.toNat, 896, 9984]
def k0_off735 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12113 : Index := Scalar.indexCast v44
  let c56_4208 : Index := 56#32
  let c9984_4209 : Index := 9984#32
  ![v12113.toNat, 56, 9984]
def k0_off736 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12182 : Index := Scalar.indexCast v44
  let c0_4230 : Index := 0#32
  let c4608 : Index := 4608#32
  ![v12182.toNat, 0, 4608]
def k0_off737 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12200 : Index := Scalar.indexCast v44
  let c0_4235 : Index := 0#32
  let c4608_4236 : Index := 4608#32
  ![v12200.toNat, 0, 4608]
def k0_off738 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12209 : Index := Scalar.indexCast v44
  let c0_4238 : Index := 0#32
  let c10240 : Index := 10240#32
  ![v12209.toNat, 0, 10240]
def k0_off739 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12227 : Index := Scalar.indexCast v44
  let c0_4243 : Index := 0#32
  let c10240_4244 : Index := 10240#32
  ![v12227.toNat, 0, 10240]
def k0_off740 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12237 : Index := Scalar.indexCast v44
  let c128_4248 : Index := 128#32
  let c4608_4249 : Index := 4608#32
  ![v12237.toNat, 128, 4608]
def k0_off741 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12255 : Index := Scalar.indexCast v44
  let c8_4254 : Index := 8#32
  let c4608_4255 : Index := 4608#32
  ![v12255.toNat, 8, 4608]
def k0_off742 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12265 : Index := Scalar.indexCast v44
  let c128_4257 : Index := 128#32
  let c10240_4258 : Index := 10240#32
  ![v12265.toNat, 128, 10240]
def k0_off743 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12283 : Index := Scalar.indexCast v44
  let c8_4263 : Index := 8#32
  let c10240_4264 : Index := 10240#32
  ![v12283.toNat, 8, 10240]
def k0_off744 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12294 : Index := Scalar.indexCast v44
  let c256_4268 : Index := 256#32
  let c4608_4269 : Index := 4608#32
  ![v12294.toNat, 256, 4608]
def k0_off745 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12312 : Index := Scalar.indexCast v44
  let c16_4274 : Index := 16#32
  let c4608_4275 : Index := 4608#32
  ![v12312.toNat, 16, 4608]
def k0_off746 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12322 : Index := Scalar.indexCast v44
  let c256_4277 : Index := 256#32
  let c10240_4278 : Index := 10240#32
  ![v12322.toNat, 256, 10240]
def k0_off747 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12340 : Index := Scalar.indexCast v44
  let c16_4283 : Index := 16#32
  let c10240_4284 : Index := 10240#32
  ![v12340.toNat, 16, 10240]
def k0_off748 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12351 : Index := Scalar.indexCast v44
  let c384_4288 : Index := 384#32
  let c4608_4289 : Index := 4608#32
  ![v12351.toNat, 384, 4608]
def k0_off749 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12369 : Index := Scalar.indexCast v44
  let c24_4294 : Index := 24#32
  let c4608_4295 : Index := 4608#32
  ![v12369.toNat, 24, 4608]
def k0_off750 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12379 : Index := Scalar.indexCast v44
  let c384_4297 : Index := 384#32
  let c10240_4298 : Index := 10240#32
  ![v12379.toNat, 384, 10240]
def k0_off751 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12397 : Index := Scalar.indexCast v44
  let c24_4303 : Index := 24#32
  let c10240_4304 : Index := 10240#32
  ![v12397.toNat, 24, 10240]
def k0_off752 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12408 : Index := Scalar.indexCast v44
  let c512_4308 : Index := 512#32
  let c4608_4309 : Index := 4608#32
  ![v12408.toNat, 512, 4608]
def k0_off753 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12426 : Index := Scalar.indexCast v44
  let c32_4314 : Index := 32#32
  let c4608_4315 : Index := 4608#32
  ![v12426.toNat, 32, 4608]
def k0_off754 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12436 : Index := Scalar.indexCast v44
  let c512_4317 : Index := 512#32
  let c10240_4318 : Index := 10240#32
  ![v12436.toNat, 512, 10240]
def k0_off755 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12454 : Index := Scalar.indexCast v44
  let c32_4323 : Index := 32#32
  let c10240_4324 : Index := 10240#32
  ![v12454.toNat, 32, 10240]
def k0_off756 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12465 : Index := Scalar.indexCast v44
  let c640_4328 : Index := 640#32
  let c4608_4329 : Index := 4608#32
  ![v12465.toNat, 640, 4608]
def k0_off757 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12483 : Index := Scalar.indexCast v44
  let c40_4334 : Index := 40#32
  let c4608_4335 : Index := 4608#32
  ![v12483.toNat, 40, 4608]
def k0_off758 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12493 : Index := Scalar.indexCast v44
  let c640_4337 : Index := 640#32
  let c10240_4338 : Index := 10240#32
  ![v12493.toNat, 640, 10240]
def k0_off759 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12511 : Index := Scalar.indexCast v44
  let c40_4343 : Index := 40#32
  let c10240_4344 : Index := 10240#32
  ![v12511.toNat, 40, 10240]
def k0_off760 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12522 : Index := Scalar.indexCast v44
  let c768_4348 : Index := 768#32
  let c4608_4349 : Index := 4608#32
  ![v12522.toNat, 768, 4608]
def k0_off761 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12540 : Index := Scalar.indexCast v44
  let c48_4354 : Index := 48#32
  let c4608_4355 : Index := 4608#32
  ![v12540.toNat, 48, 4608]
def k0_off762 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12550 : Index := Scalar.indexCast v44
  let c768_4357 : Index := 768#32
  let c10240_4358 : Index := 10240#32
  ![v12550.toNat, 768, 10240]
def k0_off763 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12568 : Index := Scalar.indexCast v44
  let c48_4363 : Index := 48#32
  let c10240_4364 : Index := 10240#32
  ![v12568.toNat, 48, 10240]
def k0_off764 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12579 : Index := Scalar.indexCast v44
  let c896_4368 : Index := 896#32
  let c4608_4369 : Index := 4608#32
  ![v12579.toNat, 896, 4608]
def k0_off765 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12597 : Index := Scalar.indexCast v44
  let c56_4374 : Index := 56#32
  let c4608_4375 : Index := 4608#32
  ![v12597.toNat, 56, 4608]
def k0_off766 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12607 : Index := Scalar.indexCast v44
  let c896_4377 : Index := 896#32
  let c10240_4378 : Index := 10240#32
  ![v12607.toNat, 896, 10240]
def k0_off767 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12625 : Index := Scalar.indexCast v44
  let c56_4383 : Index := 56#32
  let c10240_4384 : Index := 10240#32
  ![v12625.toNat, 56, 10240]
def k0_off768 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12694 : Index := Scalar.indexCast v44
  let c0_4405 : Index := 0#32
  let c4864 : Index := 4864#32
  ![v12694.toNat, 0, 4864]
def k0_off769 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12712 : Index := Scalar.indexCast v44
  let c0_4410 : Index := 0#32
  let c4864_4411 : Index := 4864#32
  ![v12712.toNat, 0, 4864]
def k0_off770 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12721 : Index := Scalar.indexCast v44
  let c0_4413 : Index := 0#32
  let c10496 : Index := 10496#32
  ![v12721.toNat, 0, 10496]
def k0_off771 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12739 : Index := Scalar.indexCast v44
  let c0_4418 : Index := 0#32
  let c10496_4419 : Index := 10496#32
  ![v12739.toNat, 0, 10496]
def k0_off772 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12749 : Index := Scalar.indexCast v44
  let c128_4423 : Index := 128#32
  let c4864_4424 : Index := 4864#32
  ![v12749.toNat, 128, 4864]
def k0_off773 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12767 : Index := Scalar.indexCast v44
  let c8_4429 : Index := 8#32
  let c4864_4430 : Index := 4864#32
  ![v12767.toNat, 8, 4864]
def k0_off774 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12777 : Index := Scalar.indexCast v44
  let c128_4432 : Index := 128#32
  let c10496_4433 : Index := 10496#32
  ![v12777.toNat, 128, 10496]
def k0_off775 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12795 : Index := Scalar.indexCast v44
  let c8_4438 : Index := 8#32
  let c10496_4439 : Index := 10496#32
  ![v12795.toNat, 8, 10496]
def k0_off776 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12806 : Index := Scalar.indexCast v44
  let c256_4443 : Index := 256#32
  let c4864_4444 : Index := 4864#32
  ![v12806.toNat, 256, 4864]
def k0_off777 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12824 : Index := Scalar.indexCast v44
  let c16_4449 : Index := 16#32
  let c4864_4450 : Index := 4864#32
  ![v12824.toNat, 16, 4864]
def k0_off778 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12834 : Index := Scalar.indexCast v44
  let c256_4452 : Index := 256#32
  let c10496_4453 : Index := 10496#32
  ![v12834.toNat, 256, 10496]
def k0_off779 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12852 : Index := Scalar.indexCast v44
  let c16_4458 : Index := 16#32
  let c10496_4459 : Index := 10496#32
  ![v12852.toNat, 16, 10496]
def k0_off780 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12863 : Index := Scalar.indexCast v44
  let c384_4463 : Index := 384#32
  let c4864_4464 : Index := 4864#32
  ![v12863.toNat, 384, 4864]
def k0_off781 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12881 : Index := Scalar.indexCast v44
  let c24_4469 : Index := 24#32
  let c4864_4470 : Index := 4864#32
  ![v12881.toNat, 24, 4864]
def k0_off782 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12891 : Index := Scalar.indexCast v44
  let c384_4472 : Index := 384#32
  let c10496_4473 : Index := 10496#32
  ![v12891.toNat, 384, 10496]
def k0_off783 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12909 : Index := Scalar.indexCast v44
  let c24_4478 : Index := 24#32
  let c10496_4479 : Index := 10496#32
  ![v12909.toNat, 24, 10496]
def k0_off784 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12920 : Index := Scalar.indexCast v44
  let c512_4483 : Index := 512#32
  let c4864_4484 : Index := 4864#32
  ![v12920.toNat, 512, 4864]
def k0_off785 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12938 : Index := Scalar.indexCast v44
  let c32_4489 : Index := 32#32
  let c4864_4490 : Index := 4864#32
  ![v12938.toNat, 32, 4864]
def k0_off786 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12948 : Index := Scalar.indexCast v44
  let c512_4492 : Index := 512#32
  let c10496_4493 : Index := 10496#32
  ![v12948.toNat, 512, 10496]
def k0_off787 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12966 : Index := Scalar.indexCast v44
  let c32_4498 : Index := 32#32
  let c10496_4499 : Index := 10496#32
  ![v12966.toNat, 32, 10496]
def k0_off788 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12977 : Index := Scalar.indexCast v44
  let c640_4503 : Index := 640#32
  let c4864_4504 : Index := 4864#32
  ![v12977.toNat, 640, 4864]
def k0_off789 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v12995 : Index := Scalar.indexCast v44
  let c40_4509 : Index := 40#32
  let c4864_4510 : Index := 4864#32
  ![v12995.toNat, 40, 4864]
def k0_off790 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13005 : Index := Scalar.indexCast v44
  let c640_4512 : Index := 640#32
  let c10496_4513 : Index := 10496#32
  ![v13005.toNat, 640, 10496]
def k0_off791 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13023 : Index := Scalar.indexCast v44
  let c40_4518 : Index := 40#32
  let c10496_4519 : Index := 10496#32
  ![v13023.toNat, 40, 10496]
def k0_off792 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13034 : Index := Scalar.indexCast v44
  let c768_4523 : Index := 768#32
  let c4864_4524 : Index := 4864#32
  ![v13034.toNat, 768, 4864]
def k0_off793 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13052 : Index := Scalar.indexCast v44
  let c48_4529 : Index := 48#32
  let c4864_4530 : Index := 4864#32
  ![v13052.toNat, 48, 4864]
def k0_off794 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13062 : Index := Scalar.indexCast v44
  let c768_4532 : Index := 768#32
  let c10496_4533 : Index := 10496#32
  ![v13062.toNat, 768, 10496]
def k0_off795 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13080 : Index := Scalar.indexCast v44
  let c48_4538 : Index := 48#32
  let c10496_4539 : Index := 10496#32
  ![v13080.toNat, 48, 10496]
def k0_off796 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13091 : Index := Scalar.indexCast v44
  let c896_4543 : Index := 896#32
  let c4864_4544 : Index := 4864#32
  ![v13091.toNat, 896, 4864]
def k0_off797 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13109 : Index := Scalar.indexCast v44
  let c56_4549 : Index := 56#32
  let c4864_4550 : Index := 4864#32
  ![v13109.toNat, 56, 4864]
def k0_off798 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13119 : Index := Scalar.indexCast v44
  let c896_4552 : Index := 896#32
  let c10496_4553 : Index := 10496#32
  ![v13119.toNat, 896, 10496]
def k0_off799 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13137 : Index := Scalar.indexCast v44
  let c56_4558 : Index := 56#32
  let c10496_4559 : Index := 10496#32
  ![v13137.toNat, 56, 10496]
def k0_off800 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13206 : Index := Scalar.indexCast v44
  let c0_4580 : Index := 0#32
  let c5120 : Index := 5120#32
  ![v13206.toNat, 0, 5120]
def k0_off801 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13224 : Index := Scalar.indexCast v44
  let c0_4585 : Index := 0#32
  let c5120_4586 : Index := 5120#32
  ![v13224.toNat, 0, 5120]
def k0_off802 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13233 : Index := Scalar.indexCast v44
  let c0_4588 : Index := 0#32
  let c10752 : Index := 10752#32
  ![v13233.toNat, 0, 10752]
def k0_off803 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13251 : Index := Scalar.indexCast v44
  let c0_4593 : Index := 0#32
  let c10752_4594 : Index := 10752#32
  ![v13251.toNat, 0, 10752]
def k0_off804 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13261 : Index := Scalar.indexCast v44
  let c128_4598 : Index := 128#32
  let c5120_4599 : Index := 5120#32
  ![v13261.toNat, 128, 5120]
def k0_off805 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13279 : Index := Scalar.indexCast v44
  let c8_4604 : Index := 8#32
  let c5120_4605 : Index := 5120#32
  ![v13279.toNat, 8, 5120]
def k0_off806 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13289 : Index := Scalar.indexCast v44
  let c128_4607 : Index := 128#32
  let c10752_4608 : Index := 10752#32
  ![v13289.toNat, 128, 10752]
def k0_off807 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13307 : Index := Scalar.indexCast v44
  let c8_4613 : Index := 8#32
  let c10752_4614 : Index := 10752#32
  ![v13307.toNat, 8, 10752]
def k0_off808 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13318 : Index := Scalar.indexCast v44
  let c256_4618 : Index := 256#32
  let c5120_4619 : Index := 5120#32
  ![v13318.toNat, 256, 5120]
def k0_off809 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13336 : Index := Scalar.indexCast v44
  let c16_4624 : Index := 16#32
  let c5120_4625 : Index := 5120#32
  ![v13336.toNat, 16, 5120]
def k0_off810 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13346 : Index := Scalar.indexCast v44
  let c256_4627 : Index := 256#32
  let c10752_4628 : Index := 10752#32
  ![v13346.toNat, 256, 10752]
def k0_off811 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13364 : Index := Scalar.indexCast v44
  let c16_4633 : Index := 16#32
  let c10752_4634 : Index := 10752#32
  ![v13364.toNat, 16, 10752]
def k0_off812 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13375 : Index := Scalar.indexCast v44
  let c384_4638 : Index := 384#32
  let c5120_4639 : Index := 5120#32
  ![v13375.toNat, 384, 5120]
def k0_off813 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13393 : Index := Scalar.indexCast v44
  let c24_4644 : Index := 24#32
  let c5120_4645 : Index := 5120#32
  ![v13393.toNat, 24, 5120]
def k0_off814 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13403 : Index := Scalar.indexCast v44
  let c384_4647 : Index := 384#32
  let c10752_4648 : Index := 10752#32
  ![v13403.toNat, 384, 10752]
def k0_off815 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13421 : Index := Scalar.indexCast v44
  let c24_4653 : Index := 24#32
  let c10752_4654 : Index := 10752#32
  ![v13421.toNat, 24, 10752]
def k0_off816 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13432 : Index := Scalar.indexCast v44
  let c512_4658 : Index := 512#32
  let c5120_4659 : Index := 5120#32
  ![v13432.toNat, 512, 5120]
def k0_off817 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13450 : Index := Scalar.indexCast v44
  let c32_4664 : Index := 32#32
  let c5120_4665 : Index := 5120#32
  ![v13450.toNat, 32, 5120]
def k0_off818 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13460 : Index := Scalar.indexCast v44
  let c512_4667 : Index := 512#32
  let c10752_4668 : Index := 10752#32
  ![v13460.toNat, 512, 10752]
def k0_off819 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13478 : Index := Scalar.indexCast v44
  let c32_4673 : Index := 32#32
  let c10752_4674 : Index := 10752#32
  ![v13478.toNat, 32, 10752]
def k0_off820 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13489 : Index := Scalar.indexCast v44
  let c640_4678 : Index := 640#32
  let c5120_4679 : Index := 5120#32
  ![v13489.toNat, 640, 5120]
def k0_off821 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13507 : Index := Scalar.indexCast v44
  let c40_4684 : Index := 40#32
  let c5120_4685 : Index := 5120#32
  ![v13507.toNat, 40, 5120]
def k0_off822 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13517 : Index := Scalar.indexCast v44
  let c640_4687 : Index := 640#32
  let c10752_4688 : Index := 10752#32
  ![v13517.toNat, 640, 10752]
def k0_off823 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13535 : Index := Scalar.indexCast v44
  let c40_4693 : Index := 40#32
  let c10752_4694 : Index := 10752#32
  ![v13535.toNat, 40, 10752]
def k0_off824 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13546 : Index := Scalar.indexCast v44
  let c768_4698 : Index := 768#32
  let c5120_4699 : Index := 5120#32
  ![v13546.toNat, 768, 5120]
def k0_off825 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13564 : Index := Scalar.indexCast v44
  let c48_4704 : Index := 48#32
  let c5120_4705 : Index := 5120#32
  ![v13564.toNat, 48, 5120]
def k0_off826 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13574 : Index := Scalar.indexCast v44
  let c768_4707 : Index := 768#32
  let c10752_4708 : Index := 10752#32
  ![v13574.toNat, 768, 10752]
def k0_off827 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13592 : Index := Scalar.indexCast v44
  let c48_4713 : Index := 48#32
  let c10752_4714 : Index := 10752#32
  ![v13592.toNat, 48, 10752]
def k0_off828 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13603 : Index := Scalar.indexCast v44
  let c896_4718 : Index := 896#32
  let c5120_4719 : Index := 5120#32
  ![v13603.toNat, 896, 5120]
def k0_off829 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13621 : Index := Scalar.indexCast v44
  let c56_4724 : Index := 56#32
  let c5120_4725 : Index := 5120#32
  ![v13621.toNat, 56, 5120]
def k0_off830 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13631 : Index := Scalar.indexCast v44
  let c896_4727 : Index := 896#32
  let c10752_4728 : Index := 10752#32
  ![v13631.toNat, 896, 10752]
def k0_off831 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13649 : Index := Scalar.indexCast v44
  let c56_4733 : Index := 56#32
  let c10752_4734 : Index := 10752#32
  ![v13649.toNat, 56, 10752]
def k0_off832 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13718 : Index := Scalar.indexCast v44
  let c0_4755 : Index := 0#32
  let c5376 : Index := 5376#32
  ![v13718.toNat, 0, 5376]
def k0_off833 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13736 : Index := Scalar.indexCast v44
  let c0_4760 : Index := 0#32
  let c5376_4761 : Index := 5376#32
  ![v13736.toNat, 0, 5376]
def k0_off834 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13745 : Index := Scalar.indexCast v44
  let c0_4763 : Index := 0#32
  let c11008 : Index := 11008#32
  ![v13745.toNat, 0, 11008]
def k0_off835 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13763 : Index := Scalar.indexCast v44
  let c0_4768 : Index := 0#32
  let c11008_4769 : Index := 11008#32
  ![v13763.toNat, 0, 11008]
def k0_off836 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13773 : Index := Scalar.indexCast v44
  let c128_4773 : Index := 128#32
  let c5376_4774 : Index := 5376#32
  ![v13773.toNat, 128, 5376]
def k0_off837 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13791 : Index := Scalar.indexCast v44
  let c8_4779 : Index := 8#32
  let c5376_4780 : Index := 5376#32
  ![v13791.toNat, 8, 5376]
def k0_off838 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13801 : Index := Scalar.indexCast v44
  let c128_4782 : Index := 128#32
  let c11008_4783 : Index := 11008#32
  ![v13801.toNat, 128, 11008]
def k0_off839 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13819 : Index := Scalar.indexCast v44
  let c8_4788 : Index := 8#32
  let c11008_4789 : Index := 11008#32
  ![v13819.toNat, 8, 11008]
def k0_off840 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13830 : Index := Scalar.indexCast v44
  let c256_4793 : Index := 256#32
  let c5376_4794 : Index := 5376#32
  ![v13830.toNat, 256, 5376]
def k0_off841 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13848 : Index := Scalar.indexCast v44
  let c16_4799 : Index := 16#32
  let c5376_4800 : Index := 5376#32
  ![v13848.toNat, 16, 5376]
def k0_off842 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13858 : Index := Scalar.indexCast v44
  let c256_4802 : Index := 256#32
  let c11008_4803 : Index := 11008#32
  ![v13858.toNat, 256, 11008]
def k0_off843 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13876 : Index := Scalar.indexCast v44
  let c16_4808 : Index := 16#32
  let c11008_4809 : Index := 11008#32
  ![v13876.toNat, 16, 11008]
def k0_off844 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13887 : Index := Scalar.indexCast v44
  let c384_4813 : Index := 384#32
  let c5376_4814 : Index := 5376#32
  ![v13887.toNat, 384, 5376]
def k0_off845 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13905 : Index := Scalar.indexCast v44
  let c24_4819 : Index := 24#32
  let c5376_4820 : Index := 5376#32
  ![v13905.toNat, 24, 5376]
def k0_off846 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13915 : Index := Scalar.indexCast v44
  let c384_4822 : Index := 384#32
  let c11008_4823 : Index := 11008#32
  ![v13915.toNat, 384, 11008]
def k0_off847 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13933 : Index := Scalar.indexCast v44
  let c24_4828 : Index := 24#32
  let c11008_4829 : Index := 11008#32
  ![v13933.toNat, 24, 11008]
def k0_off848 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13944 : Index := Scalar.indexCast v44
  let c512_4833 : Index := 512#32
  let c5376_4834 : Index := 5376#32
  ![v13944.toNat, 512, 5376]
def k0_off849 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13962 : Index := Scalar.indexCast v44
  let c32_4839 : Index := 32#32
  let c5376_4840 : Index := 5376#32
  ![v13962.toNat, 32, 5376]
def k0_off850 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13972 : Index := Scalar.indexCast v44
  let c512_4842 : Index := 512#32
  let c11008_4843 : Index := 11008#32
  ![v13972.toNat, 512, 11008]
def k0_off851 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v13990 : Index := Scalar.indexCast v44
  let c32_4848 : Index := 32#32
  let c11008_4849 : Index := 11008#32
  ![v13990.toNat, 32, 11008]
def k0_off852 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v14001 : Index := Scalar.indexCast v44
  let c640_4853 : Index := 640#32
  let c5376_4854 : Index := 5376#32
  ![v14001.toNat, 640, 5376]
def k0_off853 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v14019 : Index := Scalar.indexCast v44
  let c40_4859 : Index := 40#32
  let c5376_4860 : Index := 5376#32
  ![v14019.toNat, 40, 5376]
def k0_off854 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v14029 : Index := Scalar.indexCast v44
  let c640_4862 : Index := 640#32
  let c11008_4863 : Index := 11008#32
  ![v14029.toNat, 640, 11008]
def k0_off855 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v14047 : Index := Scalar.indexCast v44
  let c40_4868 : Index := 40#32
  let c11008_4869 : Index := 11008#32
  ![v14047.toNat, 40, 11008]
def k0_off856 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v14058 : Index := Scalar.indexCast v44
  let c768_4873 : Index := 768#32
  let c5376_4874 : Index := 5376#32
  ![v14058.toNat, 768, 5376]
def k0_off857 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v14076 : Index := Scalar.indexCast v44
  let c48_4879 : Index := 48#32
  let c5376_4880 : Index := 5376#32
  ![v14076.toNat, 48, 5376]
def k0_off858 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v14086 : Index := Scalar.indexCast v44
  let c768_4882 : Index := 768#32
  let c11008_4883 : Index := 11008#32
  ![v14086.toNat, 768, 11008]
def k0_off859 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v14104 : Index := Scalar.indexCast v44
  let c48_4888 : Index := 48#32
  let c11008_4889 : Index := 11008#32
  ![v14104.toNat, 48, 11008]
def k0_off860 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v14115 : Index := Scalar.indexCast v44
  let c896_4893 : Index := 896#32
  let c5376_4894 : Index := 5376#32
  ![v14115.toNat, 896, 5376]
def k0_off861 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v14133 : Index := Scalar.indexCast v44
  let c56_4899 : Index := 56#32
  let c5376_4900 : Index := 5376#32
  ![v14133.toNat, 56, 5376]
def k0_off862 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v14143 : Index := Scalar.indexCast v44
  let c896_4902 : Index := 896#32
  let c11008_4903 : Index := 11008#32
  ![v14143.toNat, 896, 11008]
def k0_off863 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let v14161 : Index := Scalar.indexCast v44
  let c56_4908 : Index := 56#32
  let c11008_4909 : Index := 11008#32
  ![v14161.toNat, 56, 11008]
def k0_off864 (k0_t1 : Fin k0_t1_loop.trips) : Fin 2 → Nat :=
  let c4_i32_4929 : BitVec 32 := 4#32
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  ![4, v44.toNat]
def k0_off865 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let c0_i32_4932 : BitVec 32 := 0#32
  let c0_i32_4933 : BitVec 32 := 0#32
  ![v44.toNat, 0, 0]
def k0_off866 (k0_t1 : Fin k0_t1_loop.trips) : Fin 3 → Nat :=
  let c0_i32_52 : BitVec 32 := 0#32
  let c0_i32_48 : BitVec 32 := 0#32
  let c1_i32 : BitVec 32 := 1#32
  let arg21 : BitVec 32 := Scf.iv c0_i32_48 c1_i32 k0_t1
  let c1_i32_51 : BitVec 32 := 1#32
  let v43 : BitVec 32 := Scalar.muli arg21 c1_i32_51
  let v44 : BitVec 32 := Scalar.addi c0_i32_52 v43
  let c0_i32_4938 : BitVec 32 := 0#32
  let c0_i32_4939 : BitVec 32 := 0#32
  ![v44.toNat, 0, 0]
abbrev stage0_0 : Fin 1 → Memref sig .tc .vmem S6x8x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x48x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x48x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x48x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S6x8x2048 : Shape := ⟨3, ![6, 8, 2048]⟩
abbrev S2x48x2048 : Shape := ⟨3, ![2, 48, 2048]⟩
abbrev S2x2048 : Shape := ⟨2, ![2, 2048]⟩
abbrev S2x1024x2048 : Shape := ⟨3, ![2, 1024, 2048]⟩
abbrev S2x64x2048 : Shape := ⟨3, ![2, 64, 2048]⟩
abbrev S2x1024x11264 : Shape := ⟨3, ![2, 1024, 11264]⟩
abbrev S2x64x11264 : Shape := ⟨3, ![2, 64, 11264]⟩
abbrev S2x2816x2048 : Shape := ⟨3, ![2, 2816, 2048]⟩
abbrev S2x176x2048 : Shape := ⟨3, ![2, 176, 2048]⟩
abbrev S48x2048 : Shape := ⟨2, ![48, 2048]⟩
abbrev S1x48x2048 : Shape := ⟨3, ![1, 48, 2048]⟩
abbrev S1x1024x2048 : Shape := ⟨3, ![1, 1024, 2048]⟩
abbrev S1024x2048 : Shape := ⟨2, ![1024, 2048]⟩
abbrev S1x64x2048 : Shape := ⟨3, ![1, 64, 2048]⟩
abbrev S64x2048 : Shape := ⟨2, ![64, 2048]⟩
abbrev S48x64x2x16 : Shape := ⟨4, ![48, 64, 2, 16]⟩
abbrev S48x64x1x16 : Shape := ⟨4, ![48, 64, 1, 16]⟩
abbrev S48x64x16 : Shape := ⟨3, ![48, 64, 16]⟩
abbrev S48x1024 : Shape := ⟨2, ![48, 1024]⟩
abbrev S_ : Shape := ⟨0, ![]⟩
abbrev S64x16x2048 : Shape := ⟨3, ![64, 16, 2048]⟩
abbrev S64x1x2048 : Shape := ⟨3, ![64, 1, 2048]⟩
abbrev S1x2048 : Shape := ⟨2, ![1, 2048]⟩
abbrev S2048 : Shape := ⟨1, ![2048]⟩
abbrev S48 : Shape := ⟨1, ![48]⟩
abbrev S48x1 : Shape := ⟨2, ![48, 1]⟩
abbrev S1x1024x11264 : Shape := ⟨3, ![1, 1024, 11264]⟩
abbrev S1024x11264 : Shape := ⟨2, ![1024, 11264]⟩
abbrev S1x64x11264 : Shape := ⟨3, ![1, 64, 11264]⟩
abbrev S64x11264 : Shape := ⟨2, ![64, 11264]⟩
abbrev S64x16x11264 : Shape := ⟨3, ![64, 16, 11264]⟩
abbrev S64x1x11264 : Shape := ⟨3, ![64, 1, 11264]⟩
abbrev S48x11264 : Shape := ⟨2, ![48, 11264]⟩
abbrev S48x5632 : Shape := ⟨2, ![48, 5632]⟩
abbrev S1x2816x2048 : Shape := ⟨3, ![1, 2816, 2048]⟩
abbrev S2816x2048 : Shape := ⟨2, ![2816, 2048]⟩
abbrev S1x176x2048 : Shape := ⟨3, ![1, 176, 2048]⟩
abbrev S176x2048 : Shape := ⟨2, ![176, 2048]⟩
abbrev S48x176x2x16 : Shape := ⟨4, ![48, 176, 2, 16]⟩
abbrev S48x176x1x16 : Shape := ⟨4, ![48, 176, 1, 16]⟩
abbrev S48x176x16 : Shape := ⟨3, ![48, 176, 16]⟩
abbrev S48x2816 : Shape := ⟨2, ![48, 2816]⟩
abbrev S176x16x2048 : Shape := ⟨3, ![176, 16, 2048]⟩
abbrev S176x1x2048 : Shape := ⟨3, ![176, 1, 2048]⟩

abbrev nBuf : Space → Nat
  | .hbm => 329
  | .vmem => 0
  | .smem => 0
  | _ => 0

abbrev hbmTy0_0 (i : Nat) : BufTy := match i % 128 with
  | 0 => ⟨S6x8x2048, .bf16⟩
  | 1 => ⟨S2x48x2048, .bf16⟩
  | 2 => ⟨S2x2048, .f32⟩
  | 3 => ⟨S2x1024x2048, .i8⟩
  | 4 => ⟨S2x64x2048, .bf16⟩
  | 5 => ⟨S2x1024x11264, .i8⟩
  | 6 => ⟨S2x64x11264, .bf16⟩
  | 7 => ⟨S2x2816x2048, .i8⟩
  | 8 => ⟨S2x176x2048, .bf16⟩
  | 9 => ⟨S6x8x2048, .f32⟩
  | 10 => ⟨S48x2048, .f32⟩
  | 11 => ⟨S1x48x2048, .bf16⟩
  | 12 => ⟨S48x2048, .bf16⟩
  | 13 => ⟨S1x1024x2048, .i8⟩
  | 14 => ⟨S1024x2048, .i8⟩
  | 15 => ⟨S1x64x2048, .bf16⟩
  | 16 => ⟨S64x2048, .bf16⟩
  | 17 => ⟨S48x64x2x16, .bf16⟩
  | 18 => ⟨S48x64x1x16, .bf16⟩
  | 19 => ⟨S48x64x16, .bf16⟩
  | 20 => ⟨S48x1024, .bf16⟩
  | 21 => ⟨S48x64x1x16, .bf16⟩
  | 22 => ⟨S48x64x16, .bf16⟩
  | 23 => ⟨S48x1024, .bf16⟩
  | 24 => ⟨S1024x2048, .i32⟩
  | 25 => ⟨S_, .i32⟩
  | 26 => ⟨S1024x2048, .i32⟩
  | 27 => ⟨S1024x2048, .i32⟩
  | 28 => ⟨S_, .i32⟩
  | 29 => ⟨S1024x2048, .i32⟩
  | 30 => ⟨S1024x2048, .i32⟩
  | 31 => ⟨S1024x2048, .bf16⟩
  | 32 => ⟨S64x16x2048, .bf16⟩
  | 33 => ⟨S64x1x2048, .bf16⟩
  | 34 => ⟨S64x16x2048, .bf16⟩
  | 35 => ⟨S64x16x2048, .bf16⟩
  | 36 => ⟨S1024x2048, .bf16⟩
  | 37 => ⟨S48x2048, .f32⟩
  | 38 => ⟨S1024x2048, .i32⟩
  | 39 => ⟨S_, .i32⟩
  | 40 => ⟨S1024x2048, .i32⟩
  | 41 => ⟨S1024x2048, .i32⟩
  | 42 => ⟨S_, .i32⟩
  | 43 => ⟨S1024x2048, .i32⟩
  | 44 => ⟨S1024x2048, .i32⟩
  | 45 => ⟨S1024x2048, .bf16⟩
  | 46 => ⟨S64x16x2048, .bf16⟩
  | 47 => ⟨S64x1x2048, .bf16⟩
  | 48 => ⟨S64x16x2048, .bf16⟩
  | 49 => ⟨S64x16x2048, .bf16⟩
  | 50 => ⟨S1024x2048, .bf16⟩
  | 51 => ⟨S48x2048, .f32⟩
  | 52 => ⟨S48x2048, .f32⟩
  | 53 => ⟨S48x2048, .f32⟩
  | 54 => ⟨S1x2048, .f32⟩
  | 55 => ⟨S2048, .f32⟩
  | 56 => ⟨S48x2048, .f32⟩
  | 57 => ⟨S_, .f32⟩
  | 58 => ⟨S48, .f32⟩
  | 59 => ⟨S48x1, .f32⟩
  | 60 => ⟨S_, .f32⟩
  | 61 => ⟨S48x1, .f32⟩
  | 62 => ⟨S48x1, .f32⟩
  | 63 => ⟨S_, .f32⟩
  | 64 => ⟨S48x1, .f32⟩
  | 65 => ⟨S48x1, .f32⟩
  | 66 => ⟨S48x1, .f32⟩
  | 67 => ⟨S48x2048, .f32⟩
  | 68 => ⟨S48x2048, .f32⟩
  | 69 => ⟨S1x2048, .f32⟩
  | 70 => ⟨S48x2048, .f32⟩
  | 71 => ⟨S48x2048, .f32⟩
  | 72 => ⟨S48x2048, .bf16⟩
  | 73 => ⟨S1x1024x11264, .i8⟩
  | 74 => ⟨S1024x11264, .i8⟩
  | 75 => ⟨S1x64x11264, .bf16⟩
  | 76 => ⟨S64x11264, .bf16⟩
  | 77 => ⟨S48x64x2x16, .bf16⟩
  | 78 => ⟨S48x64x1x16, .bf16⟩
  | 79 => ⟨S48x64x16, .bf16⟩
  | 80 => ⟨S48x1024, .bf16⟩
  | 81 => ⟨S48x64x1x16, .bf16⟩
  | 82 => ⟨S48x64x16, .bf16⟩
  | 83 => ⟨S48x1024, .bf16⟩
  | 84 => ⟨S1024x11264, .i32⟩
  | 85 => ⟨S_, .i32⟩
  | 86 => ⟨S1024x11264, .i32⟩
  | 87 => ⟨S1024x11264, .i32⟩
  | 88 => ⟨S_, .i32⟩
  | 89 => ⟨S1024x11264, .i32⟩
  | 90 => ⟨S1024x11264, .i32⟩
  | 91 => ⟨S1024x11264, .bf16⟩
  | 92 => ⟨S64x16x11264, .bf16⟩
  | 93 => ⟨S64x1x11264, .bf16⟩
  | 94 => ⟨S64x16x11264, .bf16⟩
  | 95 => ⟨S64x16x11264, .bf16⟩
  | 96 => ⟨S1024x11264, .bf16⟩
  | 97 => ⟨S48x11264, .f32⟩
  | 98 => ⟨S1024x11264, .i32⟩
  | 99 => ⟨S_, .i32⟩
  | 100 => ⟨S1024x11264, .i32⟩
  | 101 => ⟨S1024x11264, .i32⟩
  | 102 => ⟨S_, .i32⟩
  | 103 => ⟨S1024x11264, .i32⟩
  | 104 => ⟨S1024x11264, .i32⟩
  | 105 => ⟨S1024x11264, .bf16⟩
  | 106 => ⟨S64x16x11264, .bf16⟩
  | 107 => ⟨S64x1x11264, .bf16⟩
  | 108 => ⟨S64x16x11264, .bf16⟩
  | 109 => ⟨S64x16x11264, .bf16⟩
  | 110 => ⟨S1024x11264, .bf16⟩
  | 111 => ⟨S48x11264, .f32⟩
  | 112 => ⟨S48x11264, .f32⟩
  | 113 => ⟨S48x5632, .f32⟩
  | 114 => ⟨S48x5632, .f32⟩
  | 115 => ⟨S48x5632, .f32⟩
  | 116 => ⟨S48x5632, .f32⟩
  | 117 => ⟨S_, .f32⟩
  | 118 => ⟨S48x5632, .f32⟩
  | 119 => ⟨S48x5632, .f32⟩
  | 120 => ⟨S_, .f32⟩
  | 121 => ⟨S48x5632, .f32⟩
  | 122 => ⟨S48x5632, .f32⟩
  | 123 => ⟨S48x5632, .f32⟩
  | 124 => ⟨S48x5632, .f32⟩
  | 125 => ⟨S48x5632, .bf16⟩
  | 126 => ⟨S1x2816x2048, .i8⟩
  | 127 => ⟨S2816x2048, .i8⟩
  | _ => ⟨S6x8x2048, .bf16⟩

abbrev hbmTy0_1 (i : Nat) : BufTy := match i % 128 with
  | 0 => ⟨S1x176x2048, .bf16⟩
  | 1 => ⟨S176x2048, .bf16⟩
  | 2 => ⟨S48x176x2x16, .bf16⟩
  | 3 => ⟨S48x176x1x16, .bf16⟩
  | 4 => ⟨S48x176x16, .bf16⟩
  | 5 => ⟨S48x2816, .bf16⟩
  | 6 => ⟨S48x176x1x16, .bf16⟩
  | 7 => ⟨S48x176x16, .bf16⟩
  | 8 => ⟨S48x2816, .bf16⟩
  | 9 => ⟨S2816x2048, .i32⟩
  | 10 => ⟨S_, .i32⟩
  | 11 => ⟨S2816x2048, .i32⟩
  | 12 => ⟨S2816x2048, .i32⟩
  | 13 => ⟨S_, .i32⟩
  | 14 => ⟨S2816x2048, .i32⟩
  | 15 => ⟨S2816x2048, .i32⟩
  | 16 => ⟨S2816x2048, .bf16⟩
  | 17 => ⟨S176x16x2048, .bf16⟩
  | 18 => ⟨S176x1x2048, .bf16⟩
  | 19 => ⟨S176x16x2048, .bf16⟩
  | 20 => ⟨S176x16x2048, .bf16⟩
  | 21 => ⟨S2816x2048, .bf16⟩
  | 22 => ⟨S48x2048, .f32⟩
  | 23 => ⟨S2816x2048, .i32⟩
  | 24 => ⟨S_, .i32⟩
  | 25 => ⟨S2816x2048, .i32⟩
  | 26 => ⟨S2816x2048, .i32⟩
  | 27 => ⟨S_, .i32⟩
  | 28 => ⟨S2816x2048, .i32⟩
  | 29 => ⟨S2816x2048, .i32⟩
  | 30 => ⟨S2816x2048, .bf16⟩
  | 31 => ⟨S176x16x2048, .bf16⟩
  | 32 => ⟨S176x1x2048, .bf16⟩
  | 33 => ⟨S176x16x2048, .bf16⟩
  | 34 => ⟨S176x16x2048, .bf16⟩
  | 35 => ⟨S2816x2048, .bf16⟩
  | 36 => ⟨S48x2048, .f32⟩
  | 37 => ⟨S48x2048, .f32⟩
  | 38 => ⟨S48x2048, .f32⟩
  | 39 => ⟨S1x48x2048, .bf16⟩
  | 40 => ⟨S48x2048, .bf16⟩
  | 41 => ⟨S1x1024x2048, .i8⟩
  | 42 => ⟨S1024x2048, .i8⟩
  | 43 => ⟨S1x64x2048, .bf16⟩
  | 44 => ⟨S64x2048, .bf16⟩
  | 45 => ⟨S48x64x2x16, .bf16⟩
  | 46 => ⟨S48x64x1x16, .bf16⟩
  | 47 => ⟨S48x64x16, .bf16⟩
  | 48 => ⟨S48x1024, .bf16⟩
  | 49 => ⟨S48x64x1x16, .bf16⟩
  | 50 => ⟨S48x64x16, .bf16⟩
  | 51 => ⟨S48x1024, .bf16⟩
  | 52 => ⟨S1024x2048, .i32⟩
  | 53 => ⟨S_, .i32⟩
  | 54 => ⟨S1024x2048, .i32⟩
  | 55 => ⟨S1024x2048, .i32⟩
  | 56 => ⟨S_, .i32⟩
  | 57 => ⟨S1024x2048, .i32⟩
  | 58 => ⟨S1024x2048, .i32⟩
  | 59 => ⟨S1024x2048, .bf16⟩
  | 60 => ⟨S64x16x2048, .bf16⟩
  | 61 => ⟨S64x1x2048, .bf16⟩
  | 62 => ⟨S64x16x2048, .bf16⟩
  | 63 => ⟨S64x16x2048, .bf16⟩
  | 64 => ⟨S1024x2048, .bf16⟩
  | 65 => ⟨S48x2048, .f32⟩
  | 66 => ⟨S1024x2048, .i32⟩
  | 67 => ⟨S_, .i32⟩
  | 68 => ⟨S1024x2048, .i32⟩
  | 69 => ⟨S1024x2048, .i32⟩
  | 70 => ⟨S_, .i32⟩
  | 71 => ⟨S1024x2048, .i32⟩
  | 72 => ⟨S1024x2048, .i32⟩
  | 73 => ⟨S1024x2048, .bf16⟩
  | 74 => ⟨S64x16x2048, .bf16⟩
  | 75 => ⟨S64x1x2048, .bf16⟩
  | 76 => ⟨S64x16x2048, .bf16⟩
  | 77 => ⟨S64x16x2048, .bf16⟩
  | 78 => ⟨S1024x2048, .bf16⟩
  | 79 => ⟨S48x2048, .f32⟩
  | 80 => ⟨S48x2048, .f32⟩
  | 81 => ⟨S48x2048, .f32⟩
  | 82 => ⟨S1x2048, .f32⟩
  | 83 => ⟨S2048, .f32⟩
  | 84 => ⟨S48x2048, .f32⟩
  | 85 => ⟨S_, .f32⟩
  | 86 => ⟨S48, .f32⟩
  | 87 => ⟨S48x1, .f32⟩
  | 88 => ⟨S_, .f32⟩
  | 89 => ⟨S48x1, .f32⟩
  | 90 => ⟨S48x1, .f32⟩
  | 91 => ⟨S_, .f32⟩
  | 92 => ⟨S48x1, .f32⟩
  | 93 => ⟨S48x1, .f32⟩
  | 94 => ⟨S48x1, .f32⟩
  | 95 => ⟨S48x2048, .f32⟩
  | 96 => ⟨S48x2048, .f32⟩
  | 97 => ⟨S1x2048, .f32⟩
  | 98 => ⟨S48x2048, .f32⟩
  | 99 => ⟨S48x2048, .f32⟩
  | 100 => ⟨S48x2048, .bf16⟩
  | 101 => ⟨S1x1024x11264, .i8⟩
  | 102 => ⟨S1024x11264, .i8⟩
  | 103 => ⟨S1x64x11264, .bf16⟩
  | 104 => ⟨S64x11264, .bf16⟩
  | 105 => ⟨S48x64x2x16, .bf16⟩
  | 106 => ⟨S48x64x1x16, .bf16⟩
  | 107 => ⟨S48x64x16, .bf16⟩
  | 108 => ⟨S48x1024, .bf16⟩
  | 109 => ⟨S48x64x1x16, .bf16⟩
  | 110 => ⟨S48x64x16, .bf16⟩
  | 111 => ⟨S48x1024, .bf16⟩
  | 112 => ⟨S1024x11264, .i32⟩
  | 113 => ⟨S_, .i32⟩
  | 114 => ⟨S1024x11264, .i32⟩
  | 115 => ⟨S1024x11264, .i32⟩
  | 116 => ⟨S_, .i32⟩
  | 117 => ⟨S1024x11264, .i32⟩
  | 118 => ⟨S1024x11264, .i32⟩
  | 119 => ⟨S1024x11264, .bf16⟩
  | 120 => ⟨S64x16x11264, .bf16⟩
  | 121 => ⟨S64x1x11264, .bf16⟩
  | 122 => ⟨S64x16x11264, .bf16⟩
  | 123 => ⟨S64x16x11264, .bf16⟩
  | 124 => ⟨S1024x11264, .bf16⟩
  | 125 => ⟨S48x11264, .f32⟩
  | 126 => ⟨S1024x11264, .i32⟩
  | 127 => ⟨S_, .i32⟩
  | _ => ⟨S6x8x2048, .bf16⟩

abbrev hbmTy0_2 (i : Nat) : BufTy := match i % 128 with
  | 0 => ⟨S1024x11264, .i32⟩
  | 1 => ⟨S1024x11264, .i32⟩
  | 2 => ⟨S_, .i32⟩
  | 3 => ⟨S1024x11264, .i32⟩
  | 4 => ⟨S1024x11264, .i32⟩
  | 5 => ⟨S1024x11264, .bf16⟩
  | 6 => ⟨S64x16x11264, .bf16⟩
  | 7 => ⟨S64x1x11264, .bf16⟩
  | 8 => ⟨S64x16x11264, .bf16⟩
  | 9 => ⟨S64x16x11264, .bf16⟩
  | 10 => ⟨S1024x11264, .bf16⟩
  | 11 => ⟨S48x11264, .f32⟩
  | 12 => ⟨S48x11264, .f32⟩
  | 13 => ⟨S48x5632, .f32⟩
  | 14 => ⟨S48x5632, .f32⟩
  | 15 => ⟨S48x5632, .f32⟩
  | 16 => ⟨S48x5632, .f32⟩
  | 17 => ⟨S_, .f32⟩
  | 18 => ⟨S48x5632, .f32⟩
  | 19 => ⟨S48x5632, .f32⟩
  | 20 => ⟨S_, .f32⟩
  | 21 => ⟨S48x5632, .f32⟩
  | 22 => ⟨S48x5632, .f32⟩
  | 23 => ⟨S48x5632, .f32⟩
  | 24 => ⟨S48x5632, .f32⟩
  | 25 => ⟨S48x5632, .bf16⟩
  | 26 => ⟨S1x2816x2048, .i8⟩
  | 27 => ⟨S2816x2048, .i8⟩
  | 28 => ⟨S1x176x2048, .bf16⟩
  | 29 => ⟨S176x2048, .bf16⟩
  | 30 => ⟨S48x176x2x16, .bf16⟩
  | 31 => ⟨S48x176x1x16, .bf16⟩
  | 32 => ⟨S48x176x16, .bf16⟩
  | 33 => ⟨S48x2816, .bf16⟩
  | 34 => ⟨S48x176x1x16, .bf16⟩
  | 35 => ⟨S48x176x16, .bf16⟩
  | 36 => ⟨S48x2816, .bf16⟩
  | 37 => ⟨S2816x2048, .i32⟩
  | 38 => ⟨S_, .i32⟩
  | 39 => ⟨S2816x2048, .i32⟩
  | 40 => ⟨S2816x2048, .i32⟩
  | 41 => ⟨S_, .i32⟩
  | 42 => ⟨S2816x2048, .i32⟩
  | 43 => ⟨S2816x2048, .i32⟩
  | 44 => ⟨S2816x2048, .bf16⟩
  | 45 => ⟨S176x16x2048, .bf16⟩
  | 46 => ⟨S176x1x2048, .bf16⟩
  | 47 => ⟨S176x16x2048, .bf16⟩
  | 48 => ⟨S176x16x2048, .bf16⟩
  | 49 => ⟨S2816x2048, .bf16⟩
  | 50 => ⟨S48x2048, .f32⟩
  | 51 => ⟨S2816x2048, .i32⟩
  | 52 => ⟨S_, .i32⟩
  | 53 => ⟨S2816x2048, .i32⟩
  | 54 => ⟨S2816x2048, .i32⟩
  | 55 => ⟨S_, .i32⟩
  | 56 => ⟨S2816x2048, .i32⟩
  | 57 => ⟨S2816x2048, .i32⟩
  | 58 => ⟨S2816x2048, .bf16⟩
  | 59 => ⟨S176x16x2048, .bf16⟩
  | 60 => ⟨S176x1x2048, .bf16⟩
  | 61 => ⟨S176x16x2048, .bf16⟩
  | 62 => ⟨S176x16x2048, .bf16⟩
  | 63 => ⟨S2816x2048, .bf16⟩
  | 64 => ⟨S48x2048, .f32⟩
  | 65 => ⟨S48x2048, .f32⟩
  | 66 => ⟨S48x2048, .f32⟩
  | 67 => ⟨S1x48x2048, .f32⟩
  | 68 => ⟨S1x48x2048, .f32⟩
  | 69 => ⟨S2x48x2048, .f32⟩
  | 70 => ⟨S1x48x2048, .f32⟩
  | 71 => ⟨S1x48x2048, .f32⟩
  | 72 => ⟨S2x48x2048, .f32⟩
  | _ => ⟨S6x8x2048, .bf16⟩

abbrev hbmTy (i : Nat) : BufTy := match i / 128 with
  | 0 => hbmTy0_0 i
  | 1 => hbmTy0_1 i
  | 2 => hbmTy0_2 i
  | _ => ⟨S6x8x2048, .bf16⟩

abbrev bufTy : (tb : Table) → Fin (tcTables nBuf tb) → BufTy
  | .hbm, ⟨i, _⟩ => hbmTy i
  | _, _ => ⟨S6x8x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_1 : Ref sig .tc := ⟨.hbm, 39, rfl⟩
abbrev main_v28 : Ref sig .tc := ⟨.hbm, 40, rfl⟩
abbrev main_v29 : Ref sig .tc := ⟨.hbm, 41, rfl⟩
abbrev main_c_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst : Ref sig .tc := ⟨.hbm, 57, rfl⟩
abbrev main_v44 : Ref sig .tc := ⟨.hbm, 58, rfl⟩
abbrev main_v45 : Ref sig .tc := ⟨.hbm, 59, rfl⟩
abbrev main_cst_3 : Ref sig .tc := ⟨.hbm, 60, rfl⟩
abbrev main_v46 : Ref sig .tc := ⟨.hbm, 61, rfl⟩
abbrev main_v47 : Ref sig .tc := ⟨.hbm, 62, rfl⟩
abbrev main_cst_4 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_c_5 : Ref sig .tc := ⟨.hbm, 85, rfl⟩
abbrev main_v69 : Ref sig .tc := ⟨.hbm, 86, rfl⟩
abbrev main_v70 : Ref sig .tc := ⟨.hbm, 87, rfl⟩
abbrev main_c_6 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_c_7 : Ref sig .tc := ⟨.hbm, 99, rfl⟩
abbrev main_v81 : Ref sig .tc := ⟨.hbm, 100, rfl⟩
abbrev main_v82 : Ref sig .tc := ⟨.hbm, 101, rfl⟩
abbrev main_c_8 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_cst_9 : Ref sig .tc := ⟨.hbm, 117, rfl⟩
abbrev main_v97 : Ref sig .tc := ⟨.hbm, 118, rfl⟩
abbrev main_v98 : Ref sig .tc := ⟨.hbm, 119, rfl⟩
abbrev main_cst_10 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_c_11 : Ref sig .tc := ⟨.hbm, 138, rfl⟩
abbrev main_v116 : Ref sig .tc := ⟨.hbm, 139, rfl⟩
abbrev main_v117 : Ref sig .tc := ⟨.hbm, 140, rfl⟩
abbrev main_c_12 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_c_13 : Ref sig .tc := ⟨.hbm, 152, rfl⟩
abbrev main_v128 : Ref sig .tc := ⟨.hbm, 153, rfl⟩
abbrev main_v129 : Ref sig .tc := ⟨.hbm, 154, rfl⟩
abbrev main_c_14 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_c_15 : Ref sig .tc := ⟨.hbm, 181, rfl⟩
abbrev main_v155 : Ref sig .tc := ⟨.hbm, 182, rfl⟩
abbrev main_v156 : Ref sig .tc := ⟨.hbm, 183, rfl⟩
abbrev main_c_16 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_c_17 : Ref sig .tc := ⟨.hbm, 195, rfl⟩
abbrev main_v167 : Ref sig .tc := ⟨.hbm, 196, rfl⟩
abbrev main_v168 : Ref sig .tc := ⟨.hbm, 197, rfl⟩
abbrev main_c_18 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_cst_19 : Ref sig .tc := ⟨.hbm, 213, rfl⟩
abbrev main_v183 : Ref sig .tc := ⟨.hbm, 214, rfl⟩
abbrev main_v184 : Ref sig .tc := ⟨.hbm, 215, rfl⟩
abbrev main_cst_20 : Ref sig .tc := ⟨.hbm, 216, rfl⟩
abbrev main_v185 : Ref sig .tc := ⟨.hbm, 217, rfl⟩
abbrev main_v186 : Ref sig .tc := ⟨.hbm, 218, rfl⟩
abbrev main_cst_21 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_c_22 : Ref sig .tc := ⟨.hbm, 241, rfl⟩
abbrev main_v208 : Ref sig .tc := ⟨.hbm, 242, rfl⟩
abbrev main_v209 : Ref sig .tc := ⟨.hbm, 243, rfl⟩
abbrev main_c_23 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_v219 : Ref sig .tc := ⟨.hbm, 254, rfl⟩
abbrev main_c_24 : Ref sig .tc := ⟨.hbm, 255, rfl⟩
abbrev main_v220 : Ref sig .tc := ⟨.hbm, 256, rfl⟩
abbrev main_v221 : Ref sig .tc := ⟨.hbm, 257, rfl⟩
abbrev main_c_25 : Ref sig .tc := ⟨.hbm, 258, rfl⟩
abbrev main_v222 : Ref sig .tc := ⟨.hbm, 259, rfl⟩
abbrev main_v223 : Ref sig .tc := ⟨.hbm, 260, rfl⟩
abbrev main_v224 : Ref sig .tc := ⟨.hbm, 261, rfl⟩
abbrev main_v225 : Ref sig .tc := ⟨.hbm, 262, rfl⟩
abbrev main_v226 : Ref sig .tc := ⟨.hbm, 263, rfl⟩
abbrev main_v227 : Ref sig .tc := ⟨.hbm, 264, rfl⟩
abbrev main_v228 : Ref sig .tc := ⟨.hbm, 265, rfl⟩
abbrev main_v229 : Ref sig .tc := ⟨.hbm, 266, rfl⟩
abbrev main_v230 : Ref sig .tc := ⟨.hbm, 267, rfl⟩
abbrev main_v231 : Ref sig .tc := ⟨.hbm, 268, rfl⟩
abbrev main_v232 : Ref sig .tc := ⟨.hbm, 269, rfl⟩
abbrev main_v233 : Ref sig .tc := ⟨.hbm, 270, rfl⟩
abbrev main_v234 : Ref sig .tc := ⟨.hbm, 271, rfl⟩
abbrev main_v235 : Ref sig .tc := ⟨.hbm, 272, rfl⟩
abbrev main_cst_26 : Ref sig .tc := ⟨.hbm, 273, rfl⟩
abbrev main_v236 : Ref sig .tc := ⟨.hbm, 274, rfl⟩
abbrev main_v237 : Ref sig .tc := ⟨.hbm, 275, rfl⟩
abbrev main_cst_27 : Ref sig .tc := ⟨.hbm, 276, rfl⟩
abbrev main_v238 : Ref sig .tc := ⟨.hbm, 277, rfl⟩
abbrev main_v239 : Ref sig .tc := ⟨.hbm, 278, rfl⟩
abbrev main_v240 : Ref sig .tc := ⟨.hbm, 279, rfl⟩
abbrev main_v241 : Ref sig .tc := ⟨.hbm, 280, rfl⟩
abbrev main_v242 : Ref sig .tc := ⟨.hbm, 281, rfl⟩
abbrev main_v243 : Ref sig .tc := ⟨.hbm, 282, rfl⟩
abbrev main_v244 : Ref sig .tc := ⟨.hbm, 283, rfl⟩
abbrev main_v245 : Ref sig .tc := ⟨.hbm, 284, rfl⟩
abbrev main_v246 : Ref sig .tc := ⟨.hbm, 285, rfl⟩
abbrev main_v247 : Ref sig .tc := ⟨.hbm, 286, rfl⟩
abbrev main_v248 : Ref sig .tc := ⟨.hbm, 287, rfl⟩
abbrev main_v249 : Ref sig .tc := ⟨.hbm, 288, rfl⟩
abbrev main_v250 : Ref sig .tc := ⟨.hbm, 289, rfl⟩
abbrev main_v251 : Ref sig .tc := ⟨.hbm, 290, rfl⟩
abbrev main_v252 : Ref sig .tc := ⟨.hbm, 291, rfl⟩
abbrev main_v253 : Ref sig .tc := ⟨.hbm, 292, rfl⟩
abbrev main_v254 : Ref sig .tc := ⟨.hbm, 293, rfl⟩
abbrev main_c_28 : Ref sig .tc := ⟨.hbm, 294, rfl⟩
abbrev main_v255 : Ref sig .tc := ⟨.hbm, 295, rfl⟩
abbrev main_v256 : Ref sig .tc := ⟨.hbm, 296, rfl⟩
abbrev main_c_29 : Ref sig .tc := ⟨.hbm, 297, rfl⟩
abbrev main_v257 : Ref sig .tc := ⟨.hbm, 298, rfl⟩
abbrev main_v258 : Ref sig .tc := ⟨.hbm, 299, rfl⟩
abbrev main_v259 : Ref sig .tc := ⟨.hbm, 300, rfl⟩
abbrev main_v260 : Ref sig .tc := ⟨.hbm, 301, rfl⟩
abbrev main_v261 : Ref sig .tc := ⟨.hbm, 302, rfl⟩
abbrev main_v262 : Ref sig .tc := ⟨.hbm, 303, rfl⟩
abbrev main_v263 : Ref sig .tc := ⟨.hbm, 304, rfl⟩
abbrev main_v264 : Ref sig .tc := ⟨.hbm, 305, rfl⟩
abbrev main_v265 : Ref sig .tc := ⟨.hbm, 306, rfl⟩
abbrev main_v266 : Ref sig .tc := ⟨.hbm, 307, rfl⟩
abbrev main_c_30 : Ref sig .tc := ⟨.hbm, 308, rfl⟩
abbrev main_v267 : Ref sig .tc := ⟨.hbm, 309, rfl⟩
abbrev main_v268 : Ref sig .tc := ⟨.hbm, 310, rfl⟩
abbrev main_c_31 : Ref sig .tc := ⟨.hbm, 311, rfl⟩
abbrev main_v269 : Ref sig .tc := ⟨.hbm, 312, rfl⟩
abbrev main_v270 : Ref sig .tc := ⟨.hbm, 313, rfl⟩
abbrev main_v271 : Ref sig .tc := ⟨.hbm, 314, rfl⟩
abbrev main_v272 : Ref sig .tc := ⟨.hbm, 315, rfl⟩
abbrev main_v273 : Ref sig .tc := ⟨.hbm, 316, rfl⟩
abbrev main_v274 : Ref sig .tc := ⟨.hbm, 317, rfl⟩
abbrev main_v275 : Ref sig .tc := ⟨.hbm, 318, rfl⟩
abbrev main_v276 : Ref sig .tc := ⟨.hbm, 319, rfl⟩
abbrev main_v277 : Ref sig .tc := ⟨.hbm, 320, rfl⟩
abbrev main_v278 : Ref sig .tc := ⟨.hbm, 321, rfl⟩
abbrev main_v279 : Ref sig .tc := ⟨.hbm, 322, rfl⟩
abbrev main_v280 : Ref sig .tc := ⟨.hbm, 323, rfl⟩
abbrev main_v281 : Ref sig .tc := ⟨.hbm, 324, rfl⟩
abbrev main_v282 : Ref sig .tc := ⟨.hbm, 325, rfl⟩
abbrev main_v283 : Ref sig .tc := ⟨.hbm, 326, rfl⟩
abbrev main_v284 : Ref sig .tc := ⟨.hbm, 327, rfl⟩
abbrev main_v285 : Ref sig .tc := ⟨.hbm, 328, rfl⟩

abbrev nD : Nat := 1
abbrev τ : Topo := Topo.v7x

variable {F : FTy → Type} [FloatOps F]
-- ==== Proof.Own.lean ====
/-
  Ownership of a memref by what is known of its elements, and the rules by which a load and a store use it.
  `own c m q S T d` holds the elements of `m` at the coordinates `S`, and knows that those at `T` read as `d`.
-/
module

public import Idealize.ShloMosaic.Lib.Pipeline.FrameBody
public import Idealize.ShloMosaic.Lib.MixedBatch
public import Idealize.ShloMosaic.Lib.Ring
public import Idealize.ShloMosaic.Lib.Tactic

@[expose] public section

noncomputable section

namespace Cert.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {F : FTy → Type} [FloatOps F] {Λ : Labels}

local notation "𝕄" => MT nD τ sig Unit (Elt F) ℕ (Pipeline.UD sig nD τ) ℕ

/-- The elements of `m` at the coordinates `S`, at share `q`; those at `T` read as `d`. -/
def own (c : Thread nD τ) {sp : Space} {sh : Shape} {e : EltTy} (m : Memref sig c.2.kind sp sh e) (q : PosShare TreeShare)
    (S : Finset sh.Idx) (T : sh.Idx → Prop) (d : sh.Idx → Elt F e) : sProp 𝕄 :=
  iprop(∃ f, ⌜∀ x, T x → m.view.read (Elt F) f x = d x⌝ ∗ (m.view.loc c ↦[m.view.setOn S]{q} f))

variable (c : Thread nD τ) {sh : Shape} {e : EltTy} {cs : CoreSpace}
variable {defs : Defs nD τ sig (Elt F) Λ} {𝒱 : Variants} {bd : Option 𝒱.V} {E : Set ℕ} {α : Type}

/-- A load whose rectangle lies in what is held and known reads the known values. -/
theorem wp_load_own {m : Memref sig c.2.kind cs sh e} {r : Rect sh} {hl : m.view.LoadsAt r}
    {k : (r.shape.Idx → Elt F e) → Prog (TpuEff nD τ sig (Elt F) Λ c.2) α} {Q : α → sProp 𝕄}
    {S : Finset sh.Idx} {T : sh.Idx → Prop} {q : PosShare TreeShare} {d : sh.Idx → Elt F e}
    (hS : ∀ x, r.emb x ∈ S) (hT : ∀ x, T (r.emb x)) :
    own c m q S T d
      ⊢ iprop((own c m q S T d -∗ wp frame (wpE defs 𝒱 c bd) E (k fun x => d (r.emb x)) Q)
        -∗ wp frame (wpE defs 𝒱 c bd) E (.op (.load m r hl) k) Q) := by
  have hsub : (m.access r).set ⊆ m.view.setOn S := by
    intro i hi
    obtain ⟨x, -, rfl⟩ := Finset.mem_map.mp hi
    exact m.view.mem_setOn.mpr (hS x)
  unfold own
  iintro ⟨%f, %hf, H⟩
  iintro K
  have hr : (m.access r).read (Elt F) f = fun x => d (r.emb x) := funext fun x => hf _ (hT x)
  rw [← hr]
  iapply (wp_load_rect 𝒱 c bd E hsub) $$ H
  iintro H
  iapply K
  iexists f
  isplitr [H]
  · ipureintro; exact hf
  · iexact H

/-- A load whose value the program does not use. -/
theorem wp_load_any {m : Memref sig c.2.kind cs sh e} {r : Rect sh} {hl : m.view.LoadsAt r}
    {k : (r.shape.Idx → Elt F e) → Prog (TpuEff nD τ sig (Elt F) Λ c.2) α} {Q : α → sProp 𝕄}
    {S : Finset sh.Idx} {T : sh.Idx → Prop} {q : PosShare TreeShare} {d : sh.Idx → Elt F e}
    (hS : ∀ x, r.emb x ∈ S) :
    own c m q S T d
      ⊢ iprop((∀ v, own c m q S T d -∗ wp frame (wpE defs 𝒱 c bd) E (k v) Q)
        -∗ wp frame (wpE defs 𝒱 c bd) E (.op (.load m r hl) k) Q) := by
  have hsub : (m.access r).set ⊆ m.view.setOn S := by
    intro i hi
    obtain ⟨x, -, rfl⟩ := Finset.mem_map.mp hi
    exact m.view.mem_setOn.mpr (hS x)
  unfold own
  iintro ⟨%f, %hf, H⟩
  iintro K
  iapply (wp_load_rect 𝒱 c bd E hsub) $$ H
  iintro H
  iapply K
  iexists f
  isplitr [H]
  · ipureintro; exact hf
  · iexact H

/-- A store of a whole rectangle: known afterwards is what was stored, and what was known outside the rectangle. -/
theorem wp_store_own {m : Memref sig c.2.kind cs sh e} {r : Rect sh} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ c.2) α} {Q : α → sProp 𝕄}
    {S : Finset sh.Idx} {T T' : sh.Idx → Prop} {d d' : sh.Idx → Elt F e}
    (hS : ∀ x, r.emb x ∈ S)
    (hw : ∀ y, T' y → (∃ x, r.emb x = y ∧ w x = d' y) ∨ ((∀ x, r.emb x ≠ y) ∧ T y ∧ d y = d' y)) :
    own c m fullShare S T d
      ⊢ iprop((own c m fullShare S T' d' -∗ wp frame (wpE defs 𝒱 c bd) E (k ⟨⟩) Q)
        -∗ wp frame (wpE defs 𝒱 c bd) E (.op (.store m r w Finset.univ hx hm) k) Q) := by
  have hsub : (m.access r).setOn Finset.univ ⊆ m.view.setOn S := by
    intro i hi
    obtain ⟨x, -, rfl⟩ := Finset.mem_map.mp hi
    exact m.view.mem_setOn.mpr (hS x)
  unfold own
  iintro ⟨%f, %hf, H⟩
  iintro K
  iapply (wp_store 𝒱 c bd E hsub) $$ H
  iintro H
  iapply K
  iexists ((m.access r).write (Elt F) f w Finset.univ)
  isplitr [H]
  · ipureintro
    intro y hy
    rcases hw y hy with ⟨x, rfl, hx'⟩ | ⟨hn, hT, hd⟩
    · exact (View.read_slice_write_emb r f w (Finset.mem_univ x)).trans hx'
    · refine (View.read_slice_write_of_not_mem r f w Finset.univ ?_).trans ((hf y hT).trans hd)
      intro hmem
      obtain ⟨x, -, he⟩ := Finset.mem_map.mp hmem
      exact hn x he
  · iexact H

/-- Knowing less. -/
theorem own_weaken {sp : Space} {m : Memref sig c.2.kind sp sh e} {q : PosShare TreeShare} {S : Finset sh.Idx}
    {T T' : sh.Idx → Prop} {d d' : sh.Idx → Elt F e} (h : ∀ y, T' y → T y ∧ d y = d' y) :
    own c m q S T d ⊢ own c m q S T' d' := by
  unfold own
  iintro ⟨%f, %hf, H⟩
  iexists f
  isplitr [H]
  · ipureintro; intro y hy; exact (hf y (h y hy).1).trans (h y hy).2
  · iexact H

end Cert.Own
-- ==== Proof.Dma.lean ====
/-
  One layer's block of a three-axis array, as a transfer names it: the elements it covers, what a landed transfer leaves
  there, and two transfers on one semaphore cell with the two waits that collect them.
-/
module

public import proofs.«01_k».proof.Proof.Own
public import Idealize.ShloMosaic.Lib.ValueIdxCore
public import Idealize.ShloMosaic.Lib.ValueLayout

@[expose] public section

noncomputable section

namespace Cert.Own

open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {F : FTy → Type} [FloatOps F] {Λ : Labels}

local notation "𝕄" => MT nD τ sig Unit (Elt F) ℕ (Pipeline.UD sig nD τ) ℕ

variable (c : Thread nD τ)

/-! ## Blocks -/

/-- The coordinates of block `l`. -/
abbrev slot {m a b : ℕ} (l : ℕ) : Finset (⟨3, ![m, a, b]⟩ : Shape).Idx := Finset.univ.filter fun y => (y 0).val = l

/-- Block `l` of a three-axis array, as one matrix. -/
abbrev block {κ : Kind} {sp : Space} {m a b : ℕ} {e : EltTy} (M : Memref sig κ sp ⟨3, ![m, a, b]⟩ e) (l : ℕ)
    (h : ∀ i, (![l, 0, 0] : Fin 3 → ℕ) i + (⟨3, ![1, a, b]⟩ : Shape).size i ≤ (⟨3, ![m, a, b]⟩ : Shape).size i)
    (hq : (⟨3, ![1, a, b]⟩ : Shape).Squeezes ⟨2, ![a, b]⟩) : Memref sig κ sp ⟨2, ![a, b]⟩ e :=
  (M.slice (Rect.unit (s := ⟨3, ![m, a, b]⟩) ![l, 0, 0] (⟨3, ![1, a, b]⟩ : Shape).size h) (fun _ => rfl)).squeeze ⟨2, ![a, b]⟩ hq

section
variable {κ : Kind} {sp : Space} {m a b : ℕ} {e : EltTy} {M : Memref sig κ sp ⟨3, ![m, a, b]⟩ e} {l : ℕ}
  {h : ∀ i, (![l, 0, 0] : Fin 3 → ℕ) i + (⟨3, ![1, a, b]⟩ : Shape).size i ≤ (⟨3, ![m, a, b]⟩ : Shape).size i}
  {hq : (⟨3, ![1, a, b]⟩ : Shape).Squeezes ⟨2, ![a, b]⟩}

theorem block_emb (y : (⟨3, ![m, a, b]⟩ : Shape).Idx) (hl : (y 0).val = l) :
    (Rect.unit (s := ⟨3, ![m, a, b]⟩) ![l, 0, 0] (⟨3, ![1, a, b]⟩ : Shape).size h).emb (ix3 0 (y 1) (y 2)) = y := by
  funext i
  fin_cases i
  · refine Fin.ext ?_
    show l + 1 * 0 = (y 0).val; omega
  · refine Fin.ext ?_
    show 0 + 1 * (y 1).val = (y 1).val; omega
  · refine Fin.ext ?_
    show 0 + 1 * (y 2).val = (y 2).val; omega

/-- The elements a block covers. -/
theorem block_set : (block M l h hq).view.set = M.view.setOn (slot l) := by
  show ((M.view.slice _).reshape _ _).set = _
  rw [View.set_reshape, View.set_slice, ← Rect.map_emb_univ]
  refine congrArg (Finset.map M.view.emb) ?_
  ext y
  constructor
  · intro hy
    obtain ⟨x, -, rfl⟩ := Finset.mem_map.mp hy
    refine Finset.mem_filter.mpr ⟨Finset.mem_univ _, ?_⟩
    have h3 : (x 0).val < 1 := (x 0).isLt
    show l + 1 * (x 0).val = l
    omega
  · intro hy
    rw [← block_emb (h := h) y (Finset.mem_filter.mp hy).2]
    exact Finset.mem_map_of_mem _ (Finset.mem_univ _)

theorem block_read {Val : EltTy → Type} (f : M.view.ty.Contents Val) (y : (⟨3, ![m, a, b]⟩ : Shape).Idx) (hl : (y 0).val = l) :
    (block M l h hq).view.read Val f (ix2 (y 1) (y 2)) = M.view.read Val f y := by
  have hc : (⟨3, ![1, a, b]⟩ : Shape).ShapeCasts ⟨2, ![a, b]⟩ := hq.numel_eq
  refine (congrFun (Memref.read_squeeze_slice M (Rect.unit (s := ⟨3, ![m, a, b]⟩) ![l, 0, 0] (⟨3, ![1, a, b]⟩ : Shape).size h) (fun _ => rfl) hq hc f) _).trans ?_
  refine (shapeCast_1ab_ab_apply (a := a) (b := b) (M.view.readAt Val (Rect.unit (s := ⟨3, ![m, a, b]⟩) ![l, 0, 0] (⟨3, ![1, a, b]⟩ : Shape).size h).toLoadRect f : (⟨3, ![1, a, b]⟩ : Shape).Idx → Val e) hc (y 1) (y 2)).trans ?_
  exact congrArg (M.view.read Val f) (block_emb (h := h) y hl)

end

/-- What a landed transfer hands back: the destination written with the source's elements, and the source. -/
abbrev landed {sp sp' : Space} {s : Shape} {e : EltTy} (src : Memref sig c.2.kind sp s e) (dst : Memref sig c.2.kind sp' s e)
    (fs : Buf (Elt F) (src.view.loc c)) (fd : Buf (Elt F) (dst.view.loc c)) : sProp 𝕄 :=
  iprop((dst.view.loc c ↦[dst.view.set]{fullShare} View.write (Elt F) dst.view fd (ReadAs.same.apply (src.view.read (Elt F) fs)) Finset.univ)
    ∗ (src.view.loc c ↦[src.view.set]{fullShare} fs))

section
variable {sp sp' : Space} {m m' a b : ℕ} {e : EltTy} {l l' : ℕ}
  {Ms : Memref sig c.2.kind sp ⟨3, ![m, a, b]⟩ e} {Md : Memref sig c.2.kind sp' ⟨3, ![m', a, b]⟩ e}
  {h : ∀ i, (![l, 0, 0] : Fin 3 → ℕ) i + (⟨3, ![1, a, b]⟩ : Shape).size i ≤ (⟨3, ![m, a, b]⟩ : Shape).size i}
  {h' : ∀ i, (![l', 0, 0] : Fin 3 → ℕ) i + (⟨3, ![1, a, b]⟩ : Shape).size i ≤ (⟨3, ![m', a, b]⟩ : Shape).size i}
  {hq : (⟨3, ![1, a, b]⟩ : Shape).Squeezes ⟨2, ![a, b]⟩}

/-- What a block holds once a transfer from a block has landed. -/
theorem own_landed (fs : Buf (Elt F) (Ms.view.loc c)) (fd : Buf (Elt F) (Md.view.loc c)) (hl : l < m) {d : (⟨3, ![m', a, b]⟩ : Shape).Idx → Elt F e}
    (hd : ∀ y, (y 0).val = l' → d y = Ms.view.read (Elt F) fs (ix3 ⟨l, hl⟩ (y 1) (y 2))) :
    ((block Md l' h' hq).view.loc c ↦[(block Md l' h' hq).view.set]{fullShare}
        View.write (Elt F) (block Md l' h' hq).view fd (ReadAs.same.apply ((block Ms l h hq).view.read (Elt F) fs)) Finset.univ : sProp 𝕄)
      ⊢ own c Md fullShare (slot l') (fun y => (y 0).val = l') d := by
  rw [block_set]
  unfold own
  iintro H
  iexists (View.write (Elt F) (block Md l' h' hq).view fd (ReadAs.same.apply ((block Ms l h hq).view.read (Elt F) fs)) Finset.univ)
  isplitr [H]
  · ipureintro
    intro y hy
    rw [hd y hy]
    refine (block_read (h := h') (hq := hq) _ y hy).symm.trans ?_
    refine (congrFun (View.read_write_univ (v := (block Md l' h' hq).view) fd _) _).trans ?_
    exact block_read (h := h) (hq := hq) fs (ix3 ⟨l, hl⟩ (y 1) (y 2)) rfl
  · iexact H

theorem own_landed_same {Ms : Memref sig c.2.kind sp ⟨3, ![m', a, b]⟩ e}
    {h : ∀ i, (![l', 0, 0] : Fin 3 → ℕ) i + (⟨3, ![1, a, b]⟩ : Shape).size i ≤ (⟨3, ![m', a, b]⟩ : Shape).size i}
    (fs : Buf (Elt F) (Ms.view.loc c)) (fd : Buf (Elt F) (Md.view.loc c)) (hl : l' < m') :
    ((block Md l' h' hq).view.loc c ↦[(block Md l' h' hq).view.set]{fullShare}
        View.write (Elt F) (block Md l' h' hq).view fd (ReadAs.same.apply ((block Ms l' h hq).view.read (Elt F) fs)) Finset.univ : sProp 𝕄)
      ⊢ own c Md fullShare (slot l') (fun y => (y 0).val = l') (Ms.view.read (Elt F) fs) :=
  own_landed c fs fd hl fun y hy => congrArg (Ms.view.read (Elt F) fs) (by
    funext i
    fin_cases i
    · exact Fin.ext hy
    · rfl
    · rfl)

/-- A block held is what a transfer into it needs. -/
theorem own_dst {T : (⟨3, ![m', a, b]⟩ : Shape).Idx → Prop} {d : (⟨3, ![m', a, b]⟩ : Shape).Idx → Elt F e} :
    own c Md fullShare (slot l') T d
      ⊢ iprop(∃ fd, ((block Md l' h' hq).view.loc c ↦[(block Md l' h' hq).view.set]{fullShare} fd : sProp 𝕄)) := by
  rw [block_set]
  unfold own
  iintro ⟨%f, -, H⟩
  iexists f
  iexact H

/-- A two-block array held whole is its two blocks. -/
theorem pts_blocks {Ms : Memref sig c.2.kind sp ⟨3, ![2, a, b]⟩ e} (fs : Buf (Elt F) (Ms.view.loc c))
    {h0 : ∀ i, (![0, 0, 0] : Fin 3 → ℕ) i + (⟨3, ![1, a, b]⟩ : Shape).size i ≤ (⟨3, ![2, a, b]⟩ : Shape).size i}
    {h1 : ∀ i, (![1, 0, 0] : Fin 3 → ℕ) i + (⟨3, ![1, a, b]⟩ : Shape).size i ≤ (⟨3, ![2, a, b]⟩ : Shape).size i} :
    (Ms.view.loc c ↦[Ms.view.set]{fullShare} fs : sProp 𝕄)
      ⊣⊢ iprop(((block Ms 0 h0 hq).view.loc c ↦[(block Ms 0 h0 hq).view.set]{fullShare} fs)
        ∗ ((block Ms 1 h1 hq).view.loc c ↦[(block Ms 1 h1 hq).view.set]{fullShare} fs)) := by
  rw [block_set, block_set]
  have hu : Ms.view.set = Ms.view.setOn (slot 0) ∪ Ms.view.setOn (slot 1) := by
    unfold View.setOn
    rw [← Finset.map_union]
    refine congrArg (Finset.map Ms.view.emb) ?_
    ext y
    have hy : (y 0).val < 2 := (y 0).isLt
    simp only [Finset.mem_univ, Finset.mem_union, Finset.mem_filter, true_and, true_iff]
    omega
  rw [hu]
  refine pointsTo_union ?_
  unfold View.setOn
  rw [Finset.disjoint_map, Finset.disjoint_left]
  intro y h0 h1
  have e0 := (Finset.mem_filter.mp h0).2
  have e1 := (Finset.mem_filter.mp h1).2
  omega

/-- Two blocks held at anything are the array held at something. -/
theorem own_join {Md : Memref sig c.2.kind sp' ⟨3, ![2, a, b]⟩ e} {T T' : (⟨3, ![2, a, b]⟩ : Shape).Idx → Prop} {d d' : (⟨3, ![2, a, b]⟩ : Shape).Idx → Elt F e} :
    iprop(own c Md fullShare (slot 0) T d ∗ own c Md fullShare (slot 1) T' d')
      ⊢ (iprop(∃ f, Md.view.loc c ↦[Md.view.set]{fullShare} f) : sProp 𝕄) := by
  have hu : Md.view.set = Md.view.setOn (slot 0) ∪ Md.view.setOn (slot 1) := by
    unfold View.setOn
    rw [← Finset.map_union]
    refine congrArg (Finset.map Md.view.emb) ?_
    ext y
    have hy : (y 0).val < 2 := (y 0).isLt
    simp only [Finset.mem_univ, Finset.mem_union, Finset.mem_filter, true_and, true_iff]
    omega
  have hdis : Disjoint (Md.view.setOn (slot 0)) (Md.view.setOn (slot 1)) := by
    unfold View.setOn
    rw [Finset.disjoint_map, Finset.disjoint_left]
    intro y h0 h1
    have e0 := (Finset.mem_filter.mp h0).2
    have e1 := (Finset.mem_filter.mp h1).2
    omega
  rw [hu]
  unfold own
  iintro ⟨⟨%f, -, H⟩, ⟨%g, -, H'⟩⟩
  iexists _
  iapply (pointsTo_join hdis)
  isplitl [H]
  · iexact H
  · iexact H'

end

/-- The one block of a one-block array is the array. -/
theorem slot_one {a b : ℕ} : (slot 0 : Finset (⟨3, ![1, a, b]⟩ : Shape).Idx) = Finset.univ := by
  ext y
  have hy : (y 0).val < 1 := (y 0).isLt
  simp only [Finset.mem_univ, Finset.mem_filter, true_and, iff_true]
  omega

theorem own_one {sp : Space} {a b : ℕ} {e : EltTy} {m : Memref sig c.2.kind sp ⟨3, ![1, a, b]⟩ e} {d : (⟨3, ![1, a, b]⟩ : Shape).Idx → Elt F e} :
    own c m fullShare (slot 0) (fun y => (y 0).val = 0) d ⊢ (own c m fullShare Finset.univ (fun _ => True) d : sProp 𝕄) := by
  rw [slot_one]
  unfold own
  iintro ⟨%f, %hf, H⟩
  iexists f
  isplitr [H]
  · ipureintro
    intro y _
    have hy : (y 0).val < 1 := (y 0).isLt
    exact hf y (by omega)
  · iexact H

theorem own_dst_one {sp : Space} {a b : ℕ} {e : EltTy} {m : Memref sig c.2.kind sp ⟨3, ![1, a, b]⟩ e} {T : (⟨3, ![1, a, b]⟩ : Shape).Idx → Prop}
    {d : (⟨3, ![1, a, b]⟩ : Shape).Idx → Elt F e}
    {h' : ∀ i, (![0, 0, 0] : Fin 3 → ℕ) i + (⟨3, ![1, a, b]⟩ : Shape).size i ≤ (⟨3, ![1, a, b]⟩ : Shape).size i}
    {hq : (⟨3, ![1, a, b]⟩ : Shape).Squeezes ⟨2, ![a, b]⟩} :
    own c m fullShare Finset.univ T d
      ⊢ iprop(∃ fd, ((block m 0 h' hq).view.loc c ↦[(block m 0 h' hq).view.set]{fullShare} fd : sProp 𝕄)) := by
  rw [← slot_one]
  exact own_dst c

/-- A buffer at contents not told. -/
abbrev some_pts {sp : Space} {sh : Shape} {e : EltTy} (m : Memref sig c.2.kind sp sh e) : sProp 𝕄 :=
  iprop(∃ f, m.view.loc c ↦[m.view.set]{fullShare} f)

theorem own_some {sp : Space} {sh : Shape} {e : EltTy} {m : Memref sig c.2.kind sp sh e} {T : sh.Idx → Prop} {d : sh.Idx → Elt F e} :
    own c m fullShare Finset.univ T d ⊢ (some_pts c m : sProp 𝕄) := by
  unfold own
  iintro ⟨%f, -, H⟩
  iexists f
  iexact H

/-- A whole buffer at something is held with nothing known of it. -/
theorem own_of_pts {sp : Space} {sh : Shape} {e : EltTy} {m : Memref sig c.2.kind sp sh e} (f : Buf (Elt F) (m.view.loc c)) (q : PosShare TreeShare) :
    (m.view.loc c ↦[m.view.set]{q} f : sProp 𝕄) ⊢ own c m q Finset.univ (fun _ => True) (m.view.read (Elt F) f) := by
  unfold own
  iintro H
  iexists f
  isplitr [H]
  · ipureintro; intro y _; rfl
  · iexact H

theorem own_to_owns {sp : Space} {sh : Shape} {e : EltTy} {m : Memref sig c.2.kind sp sh e} {q : PosShare TreeShare} {T : sh.Idx → Prop} {d : sh.Idx → Elt F e} :
    own c m q Finset.univ T d ⊢ (iprop(∃ d', owns c m q d') : sProp 𝕄) := by
  unfold own owns
  iintro ⟨%f, -, H⟩
  iexists _, f
  isplitr [H]
  · ipureintro; rfl
  · iexact H

theorem own_to_owns_eq {sp : Space} {sh : Shape} {e : EltTy} {m : Memref sig c.2.kind sp sh e} {q : PosShare TreeShare} {T : sh.Idx → Prop} {d : sh.Idx → Elt F e}
    (hT : ∀ y, T y) :
    own c m q Finset.univ T d ⊢ (owns c m q d : sProp 𝕄) := by
  unfold own owns
  iintro ⟨%f, %hf, H⟩
  iexists f
  isplitr [H]
  · ipureintro; funext y; exact hf y (hT y)
  · iexact H

theorem owns_to_own {sp : Space} {sh : Shape} {e : EltTy} {m : Memref sig c.2.kind sp sh e} {q : PosShare TreeShare} {d : sh.Idx → Elt F e} :
    (owns c m q d : sProp 𝕄) ⊢ own c m q Finset.univ (fun _ => True) d := by
  unfold own owns
  iintro ⟨%f, %hf, H⟩
  iexists f
  isplitr [H]
  · ipureintro; intro y _; exact congrFun hf y
  · iexact H

/-! ## Two transfers on one cell -/

variable {defs : Defs nD τ sig (Elt F) Λ} {𝒱 : Variants} {bd : Option 𝒱.V} {α : Type}

/-- The two deliveries of a cell's two transfers. -/
def two (D0 D1 : sProp 𝕄) : Fin 2 → sProp 𝕄
  | 0 => D0
  | 1 => D1

instance two_storable (D0 D1 : sProp 𝕄) [Storable (upEmb : UEmb _ 𝕄) D0] [Storable (upEmb : UEmb _ 𝕄) D1] (t : Fin 2) :
    Storable (upEmb : UEmb _ 𝕄) (two D0 D1 t) := by
  fin_cases t <;> simp only [two] <;> infer_instance

theorem two_split (D0 D1 : sProp 𝕄) : (bigSep Finset.univ (two D0 D1) : sProp 𝕄) ⊢ iprop(D0 ∗ D1) := by
  rw [BI.bigSep_eq_bigSepL_of_eq [0, 1] (by decide) (by decide)]
  exact .rfl

/-- Two transfers in flight on one cell, of which no unit has been waited for. -/
abbrev flying (sm : SemLoc sig) (a0 a1 : ℕ) (D0 D1 : sProp 𝕄) : sProp 𝕄 :=
  Transfers.MixedBatch (countersEmb (U := Pipeline.UD sig nD τ)) c sm () (![a0, a1] : Fin 2 → ℕ) (two D0 D1) 2 0

theorem wp_two_starts {sp0 sp0' sp1 sp1' : Space} {s0 s1 : Shape} {e0 e1 : EltTy}
    {src0 : Memref sig c.2.kind sp0 s0 e0} {dst0 : Memref sig c.2.kind sp0' s0 e0}
    {src1 : Memref sig c.2.kind sp1 s1 e1} {dst1 : Memref sig c.2.kind sp1' s1 e1} {sm : SemLoc sig}
    {w0 : src0.view.WordExact} {x0 : dst0.view.WordExact} {t0 : DmaTarget.Typed (nD := nD) sp0 sm (.here dst0)}
    {w1 : src1.view.WordExact} {x1 : dst1.view.WordExact} {t1 : DmaTarget.Typed (nD := nD) sp1 sm (.here dst1)}
    {k : PUnit → Prog (TpuEff nD τ sig (Elt F) Λ c.2) α} {Q : α → sProp 𝕄} {a0 a1 : ℕ}
    (h0 : dst0.view.amount sm = a0) (h1 : dst1.view.amount sm = a1)
    (f0 : Buf (Elt F) (src0.view.loc c)) (g0 : Buf (Elt F) (dst0.view.loc c)) (f1 : Buf (Elt F) (src1.view.loc c)) (g1 : Buf (Elt F) (dst1.view.loc c)) :
    iprop((src0.view.loc c ↦[src0.view.set]{fullShare} f0) ∗ (dst0.view.loc c ↦[dst0.view.set]{fullShare} g0)
        ∗ (src1.view.loc c ↦[src1.view.set]{fullShare} f1) ∗ (dst1.view.loc c ↦[dst1.view.set]{fullShare} g1) ∗ semVal (c, sm) 0
        ∗ (flying c sm a0 a1 (landed c src0 dst0 f0 g0) (landed c src1 dst1 f1 g1) -∗ wp frame (wpE defs 𝒱 c bd) Set.univ (k ⟨⟩) Q))
      ⊢ wp frame (wpE defs 𝒱 c bd) Set.univ
          (.op (.enqueueDma src0 (.here dst0) sm w0 x0 t0) fun _ => .op (.enqueueDma src1 (.here dst1) sm w1 x1 t1) k) Q := by
  iintro ⟨S0, E0, S1, E1, Hq, HK⟩
  imod (Transfers.mixedBatch_alloc' (Lvl := ℕ) (countersEmb (U := Pipeline.UD sig nD τ)) c () (![a0, a1] : Fin 2 → ℕ)
    (two (landed c src0 dst0 f0 g0) (landed c src1 dst1 f1 g1)) (sm := sm) (E := Set.univ)) $$ Hq with HB
  iapply (Transfers.wp_dmaMixedBatch (countersEmb (U := Pipeline.UD sig nD τ)) 𝒱 c bd () (![a0, a1] : Fin 2 → ℕ) (Finset.Subset.refl _) (j := 0) (u := 0)
    (by omega) h0 (Nat.zero_le _) (fs := f0) (fd := g0) (D := two (landed c src0 dst0 f0 g0) (landed c src1 dst1 f1 g1)) .rfl) $$ [S0 E0 HB]
  · isplitl [S0]
    · iexact S0
    isplitl [E0]
    · iexact E0
    iexact HB
  iintro HB
  iapply (Transfers.wp_dmaMixedBatch (countersEmb (U := Pipeline.UD sig nD τ)) 𝒱 c bd () (![a0, a1] : Fin 2 → ℕ) (Finset.Subset.refl _) (j := 1) (u := 0)
    (by omega) h1 (Nat.zero_le _) (fs := f1) (fd := g1) (D := two (landed c src0 dst0 f0 g0) (landed c src1 dst1 f1 g1)) .rfl) $$ [S1 E1 HB]
  · isplitl [S1]
    · iexact S1
    isplitl [E1]
    · iexact E1
    iexact HB
  iexact HK

theorem wp_two_waits {sp0 sp0' sp1 sp1' : Space} {s0 s1 s0' s1' : Shape} {e0 e1 e0' e1' : EltTy}
    {src0 : Memref sig c.2.kind sp0 s0' e0'} {dst0 : Memref sig c.2.kind sp0' s0 e0}
    {src1 : Memref sig c.2.kind sp1 s1' e1'} {dst1 : Memref sig c.2.kind sp1' s1 e1} {sem sem' : DmaSem sig} (hs : sem = sem')
    {w0 : src0.view.WordExact} {x0 : dst0.view.WordExact}
    {w1 : src1.view.WordExact} {x1 : dst1.view.WordExact}
    {k : PUnit → Prog (TpuEff nD τ sig (Elt F) Λ c.2) α} {Q : α → sProp 𝕄} {a0 a1 : ℕ}
    (h0 : dst0.view.dmaCredit = a0) (h1 : dst1.view.dmaCredit = a1) (p0 : 0 < a0) (p1 : 0 < a1) {D0 D1 : sProp 𝕄} {W : Waits sig Unit} :
    iprop(flying c (.dma sem') a0 a1 D0 D1 ∗ owes c 0 W
        ∗ ((D0 ∗ D1 ∗ semVal (c, SemLoc.dma sem') 0 ∗ (∃ W', owes c 0 W')) -∗ wp frame (wpE defs 𝒱 c bd) Set.univ (k ⟨⟩) Q))
      ⊢ wp frame (wpE defs 𝒱 c bd) Set.univ
          (.op (.waitDma2 sem src0 dst0 w0 x0) fun _ => .op (.waitDma2 sem src1 dst1 w1 x1) k) Q := by
  subst hs
  have e2 : Transfers.sumTo (![a0, a1] : Fin 2 → ℕ) 2 = a0 + a1 := by
    rw [Transfers.sumTo_total]
    exact Fin.sum_univ_two _
  iintro ⟨HB, HO, HK⟩
  iapply (Transfers.wp_waitMixedBatch (countersEmb (U := Pipeline.UD sig nD τ)) 𝒱 c bd () (A := (![a0, a1] : Fin 2 → ℕ)) h0 (j := 2) (u := 0)
    (by rw [e2]; omega)) $$ [HB HO]
  · isplitl [HB]
    · iexact HB
    iexact HO
  iintro ⟨HB, HO⟩
  iapply (Transfers.wp_waitMixedBatchAll (countersEmb (U := Pipeline.UD sig nD τ)) 𝒱 c bd () (A := (![a0, a1] : Fin 2 → ℕ)) h1
    (fun t => by fin_cases t <;> assumption) (u := 0 + a0) (by rw [e2]; omega)) $$ [HB HO]
  · isplitl [HB]
    · iexact HB
    iexact HO
  iintro ⟨HD, Hq, HO⟩
  icases (two_split D0 D1) $$ HD with ⟨H0, H1⟩
  iapply HK
  isplitl [H0]
  · iexact H0
  isplitl [H1]
  · iexact H1
  isplitl [Hq]
  · iexact Hq
  iexists _
  iexact HO

end Cert.Own
-- ==== Proof.KIProg.lean ====
/-
  The kernel's repeated program pieces, each stated once: a weight tile's dequantisation, one product step, the
  column chunks of the three linear layers, the row normalisation. Each piece is a program that ends in a given
  continuation, so that the printed body is one piece after another.
-/
module

public import proofs.«01_k».proof.Proof.Own
public import proofs.«01_k».proof.Proof.Gen.KernelIdeal.Frame

@[expose] public section

set_option maxRecDepth 16384

noncomputable section

namespace Cert.KernelIdeal.Hand

open Cert.KernelIdeal Cert.KernelIdeal.Gen Cert.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A TensorCore program of this kernel that returns nothing. -/
abbrev PG (F : FTy → Type) [FloatOps F] := Prog (TpuEff nD τ sig (Elt F) Λ₀ .tc) PUnit

/-- The layer a trip of the loop works on, as the body computes it from the trip. -/
abbrev lidx (k : Fin k0_t1_loop.trips) : ℕ := (Scalar.indexCast (Scalar.addi 0#32 (Scalar.muli (Scf.iv 0#32 1#32 k) 1#32))).toNat
theorem lidx_eq : ∀ k : Fin k0_t1_loop.trips, lidx k = k.val := by decide +kernel
theorem lidx_lt : ∀ k : Fin k0_t1_loop.trips, lidx k < 2 := by decide +kernel

/-! ## Pure values -/

/-- A tile of packed weights, each byte two four-bit numbers in excess eight, as 256 rows of numbers times their scales. -/
def deq (w : IVec S1x128x256 8) (s : FVec F S1x8x256 .bf16) : FVec F S256x256 .bf16 :=
  mulf
    (sitofp .bf16 (shapeCast S256x256
      (shrsi (shli (broadcastTo S32x8x256 (shapeCast S32x1x256
          (xori (bitcast S32x256 32 (shapeCast S128x256 w shapeCasts_S1x128x256_S128x256) bitcasts_S128x256_w8_S32x256_w32)
            (broadcast S32x256 2290649224#32)) shapeCasts_S32x256_S32x1x256) broadcasts_S32x1x256_S32x8x256)
        (subi (broadcast S32x8x256 28#32) (muli (broadcast S32x8x256 4#32) (iota .tc S32x8x256 32 [1] iota_S32x8x256_d1_w32))))
        (broadcast S32x8x256 28#32)) shapeCasts_S32x8x256_S256x256))
    (shapeCast S256x256 (broadcastTo S8x32x256 (shapeCast S8x1x256 (shapeCast S8x1x256
      (shapeCast S8x256 s shapeCasts_S1x8x256_S8x256) shapeCasts_S8x256_S8x1x256) shapeCasts_S8x1x256_S8x1x256)
      broadcasts_S8x1x256_S8x32x256) shapeCasts_S8x32x256_S256x256)

/-- One product step: 256 columns of activations by one dequantised tile. -/
def mm (a : FVec F S48x256 .bf16) (w : IVec S1x128x256 8) (s : FVec F S1x8x256 .bf16) : FVec F S48x256 .f32 :=
  matmul dot_S48x256_S256x256_S48x256_1_0_0_1_n_n none a (deq w s) (constant S48x256 .f32 0x00000000#32)

/-- The lane order of the packed weights: lane `2j + h` of a group of 32 takes lane `16h + j`. -/
def lanes : IVec S48x128 32 :=
  ori (ori (andi (iota .tc S48x128 32 [1] iota_S48x128_d1_w32) (broadcast S48x128 4294967264#32))
      (shli (andi (iota .tc S48x128 32 [1] iota_S48x128_d1_w32) (broadcast S48x128 1#32)) (broadcast S48x128 4#32)))
    (shrsi (andi (iota .tc S48x128 32 [1] iota_S48x128_d1_w32) (broadcast S48x128 31#32)) (broadcast S48x128 1#32))

/-- 128 columns in the lane order of the packed weights. -/
def ilv (x : FVec F S48x128 .bf16) : FVec F S48x128 .bf16 :=
  truncf .bf16 (dynamicGather 1 (extf .f32 x bitsLt_bf16_f32)
    (shapeCast S48x128 (shapeCast S48x128x1 (select (cmpi .slt lanes (broadcast S48x128 0#32))
      (addi lanes (broadcast S48x128 128#32)) lanes) shapeCasts_S48x128_S48x128x1) shapeCasts_S48x128x1_S48x128)) bitsLt_bf16_f32

/-- One over the root mean square of each row. -/
def invRms (r : FVec F S48x2048 .f32) : FVec F S48x1 .f32 :=
  divf (broadcast S48x1 (Scalar.ofBits .f32 0x3F800000#32))
    (sqrt (addf (divf (shapeCast S48x1 (multiReduction .add [1] S48 (mulf r r) 0x00000000#32 reduces_S48x2048_S48 (.inl rfl) rfl) shapeCasts_S48_S48x1)
      (broadcast S48x1 (Scalar.ofBits .f32 0x45000000#32))) (broadcast S48x1 (Scalar.ofBits .f32 0x3727C5AC#32))))

theorem slR (i : ℕ) (h : i < 16) : S48x2048.Slices ![0, 128 * i] S48x128 :=
  (by decide : ∀ i : Fin 16, S48x2048.Slices ![0, 128 * i.val] S48x128) ⟨i, h⟩
theorem slG (i : ℕ) (h : i < 16) : S1x2048.Slices ![0, 128 * i] S1x128 :=
  (by decide : ∀ i : Fin 16, S1x2048.Slices ![0, 128 * i.val] S1x128) ⟨i, h⟩

/-- 128 columns of the normalised rows, in the lane order of the packed weights. -/
def rmsVal (r : FVec F S48x2048 .f32) (g : FVec F S1x2048 .f32) (i : ℕ) (h : i < 16) : FVec F S48x128 .bf16 :=
  ilv (truncf .bf16 (mulf (mulf (extractStridedSlice S48x128 ![0, 128 * i] r (slR i h)) (broadcastTo S48x128 (invRms r) broadcasts_S48x1_S48x128))
    (broadcastTo S48x128 (extractStridedSlice S1x128 ![0, 128 * i] g (slG i h)) broadcasts_S1x128_S48x128)) bitsLt_bf16_f32)

/-- The gated activation of one column chunk. -/
def actOf (g u : FVec F S48x256 .f32) : FVec F S48x256 .bf16 :=
  truncf .bf16 (mulf (mulf g (logistic g)) u) bitsLt_bf16_f32

/-! ## The bounds of the accesses -/

theorem inN (k : Fin k0_t1_loop.trips) : ∀ a, (![lidx k, 0] : Fin 2 → ℕ) a + S1x2048.size a ≤ S2x2048.size a := by
  have := lidx_lt k
  intro a; fin_cases a
  · show lidx k + 1 ≤ 2; omega
  · show 0 + 2048 ≤ 2048; omega
theorem inT (k : Fin k0_t1_loop.trips) (i : ℕ) (h : i < 16) : ∀ a, (![lidx k, 0, 128 * i] : Fin 3 → ℕ) a + S1x48x128.size a ≤ S2x48x2048.size a := by
  have := lidx_lt k
  intro a; fin_cases a
  · show lidx k + 1 ≤ 2; omega
  · show 0 + 48 ≤ 48; omega
  · show 128 * i + 128 ≤ 2048; omega
theorem inWo (k : Fin k0_t1_loop.trips) (j c : ℕ) (h : j < 8) (hc : c < 8) :
    ∀ a, (![lidx k, 128 * j, 256 * c] : Fin 3 → ℕ) a + S1x128x256.size a ≤ S2x1024x2048.size a := by
  have := lidx_lt k
  intro a; fin_cases a
  · show lidx k + 1 ≤ 2; omega
  · show 128 * j + 128 ≤ 1024; omega
  · show 256 * c + 256 ≤ 2048; omega
theorem inSo (k : Fin k0_t1_loop.trips) (j c : ℕ) (h : j < 8) (hc : c < 8) :
    ∀ a, (![lidx k, 8 * j, 256 * c] : Fin 3 → ℕ) a + S1x8x256.size a ≤ S2x64x2048.size a := by
  have := lidx_lt k
  intro a; fin_cases a
  · show lidx k + 1 ≤ 2; omega
  · show 8 * j + 8 ≤ 64; omega
  · show 256 * c + 256 ≤ 2048; omega
theorem inA8 (i : ℕ) (h : i < 16) : ∀ a, (![0, 128 * i] : Fin 2 → ℕ) a + S48x128.size a ≤ S48x2048.size a :=
  (by decide : ∀ i : Fin 16, ∀ a, (![0, 128 * i.val] : Fin 2 → ℕ) a + S48x128.size a ≤ S48x2048.size a) ⟨i, h⟩
theorem inA (j : ℕ) (h : j < 8) : ∀ a, (![0, 256 * j] : Fin 2 → ℕ) a + S48x256.size a ≤ S48x2048.size a :=
  (by decide : ∀ j : Fin 8, ∀ a, (![0, 256 * j.val] : Fin 2 → ℕ) a + S48x256.size a ≤ S48x2048.size a) ⟨j, h⟩
theorem inP (i : ℕ) (h : i < 44) : ∀ a, (![0, 128 * i] : Fin 2 → ℕ) a + S48x128.size a ≤ S48x5632.size a :=
  (by decide : ∀ i : Fin 44, ∀ a, (![0, 128 * i.val] : Fin 2 → ℕ) a + S48x128.size a ≤ S48x5632.size a) ⟨i, h⟩
theorem inP2 (j : ℕ) (h : j < 22) : ∀ a, (![0, 256 * j] : Fin 2 → ℕ) a + S48x256.size a ≤ S48x5632.size a :=
  (by decide : ∀ j : Fin 22, ∀ a, (![0, 256 * j.val] : Fin 2 → ℕ) a + S48x256.size a ≤ S48x5632.size a) ⟨j, h⟩
theorem inWg (k : Fin k0_t1_loop.trips) (j c : ℕ) (h : j < 8) (hc : c < 44) :
    ∀ a, (![lidx k, 128 * j, 256 * c] : Fin 3 → ℕ) a + S1x128x256.size a ≤ S2x1024x11264.size a := by
  have := lidx_lt k
  intro a; fin_cases a
  · show lidx k + 1 ≤ 2; omega
  · show 128 * j + 128 ≤ 1024; omega
  · show 256 * c + 256 ≤ 11264; omega
theorem inSg (k : Fin k0_t1_loop.trips) (j c : ℕ) (h : j < 8) (hc : c < 44) :
    ∀ a, (![lidx k, 8 * j, 256 * c] : Fin 3 → ℕ) a + S1x8x256.size a ≤ S2x64x11264.size a := by
  have := lidx_lt k
  intro a; fin_cases a
  · show lidx k + 1 ≤ 2; omega
  · show 8 * j + 8 ≤ 64; omega
  · show 256 * c + 256 ≤ 11264; omega
theorem inWd (j c : ℕ) (h : j < 22) (hc : c < 8) :
    ∀ a, (![0, 128 * j, 256 * c] : Fin 3 → ℕ) a + S1x128x256.size a ≤ S1x2816x2048.size a := by
  intro a; fin_cases a
  · show 0 + 1 ≤ 1; omega
  · show 128 * j + 128 ≤ 2816; omega
  · show 256 * c + 256 ≤ 2048; omega
theorem inSd (j c : ℕ) (h : j < 22) (hc : c < 8) :
    ∀ a, (![0, 8 * j, 256 * c] : Fin 3 → ℕ) a + S1x8x256.size a ≤ S1x176x2048.size a := by
  intro a; fin_cases a
  · show 0 + 1 ≤ 1; omega
  · show 8 * j + 8 ≤ 176; omega
  · show 256 * c + 256 ≤ 2048; omega
theorem inH (k : Fin k0_t1_loop.trips) (c : ℕ) (hc : c < 8) :
    ∀ a, (![lidx k, 0, 256 * c] : Fin 3 → ℕ) a + S1x48x256.size a ≤ S2x48x2048.size a := by
  have := lidx_lt k
  intro a; fin_cases a
  · show lidx k + 1 ≤ 2; omega
  · show 0 + 48 ≤ 48; omega
  · show 256 * c + 256 ≤ 2048; omega
theorem pkA (i : ℕ) (h : i < 16) : (Rect.unit (s := S48x2048) ![0, 128 * i] S48x128.size (inA8 i h)).PackedRows (EltTy.packing .bf16) :=
  (by decide : ∀ i : Fin 16, (Rect.unit (s := S48x2048) ![0, 128 * i.val] S48x128.size (inA8 i.val i.isLt)).PackedRows (EltTy.packing .bf16)) ⟨i, h⟩
theorem pkP (i : ℕ) (h : i < 44) : (Rect.unit (s := S48x5632) ![0, 128 * i] S48x128.size (inP i h)).PackedRows (EltTy.packing .bf16) :=
  (by decide : ∀ i : Fin 44, (Rect.unit (s := S48x5632) ![0, 128 * i.val] S48x128.size (inP i.val i.isLt)).PackedRows (EltTy.packing .bf16)) ⟨i, h⟩

/-! ## The rectangles -/

abbrev rX0 : Rect S6x8x2048 := Rect.unit (s := S6x8x2048) ![0, 0, 0] S6x8x2048.size inb_S6x8x2048_S6x8x2048_0_0_0
abbrev rT (k : Fin k0_t1_loop.trips) (i : ℕ) (h : i < 16) : Rect S2x48x2048 :=
  Rect.unit (s := S2x48x2048) ![lidx k, 0, 128 * i] S1x48x128.size (inT k i h)
abbrev rWo (k : Fin k0_t1_loop.trips) (j c : ℕ) (h : j < 8) (hc : c < 8) : Rect S2x1024x2048 :=
  Rect.unit (s := S2x1024x2048) ![lidx k, 128 * j, 256 * c] S1x128x256.size (inWo k j c h hc)
abbrev rSo (k : Fin k0_t1_loop.trips) (j c : ℕ) (h : j < 8) (hc : c < 8) : Rect S2x64x2048 :=
  Rect.unit (s := S2x64x2048) ![lidx k, 8 * j, 256 * c] S1x8x256.size (inSo k j c h hc)
abbrev rN (k : Fin k0_t1_loop.trips) : Rect S2x2048 := Rect.unit (s := S2x2048) ![lidx k, 0] S1x2048.size (inN k)
abbrev rR : Rect S48x2048 := Rect.unit (s := S48x2048) ![0, 0] S48x2048.size inb_S48x2048_S48x2048_0_0
abbrev rA8 (i : ℕ) (h : i < 16) : Rect S48x2048 := Rect.unit (s := S48x2048) ![0, 128 * i] S48x128.size (inA8 i h)
abbrev rA (j : ℕ) (h : j < 8) : Rect S48x2048 := Rect.unit (s := S48x2048) ![0, 256 * j] S48x256.size (inA j h)
abbrev rP (i : ℕ) (h : i < 44) : Rect S48x5632 := Rect.unit (s := S48x5632) ![0, 128 * i] S48x128.size (inP i h)
abbrev rP2 (j : ℕ) (h : j < 22) : Rect S48x5632 := Rect.unit (s := S48x5632) ![0, 256 * j] S48x256.size (inP2 j h)
abbrev rWg (k : Fin k0_t1_loop.trips) (j c : ℕ) (h : j < 8) (hc : c < 44) : Rect S2x1024x11264 :=
  Rect.unit (s := S2x1024x11264) ![lidx k, 128 * j, 256 * c] S1x128x256.size (inWg k j c h hc)
abbrev rSg (k : Fin k0_t1_loop.trips) (j c : ℕ) (h : j < 8) (hc : c < 44) : Rect S2x64x11264 :=
  Rect.unit (s := S2x64x11264) ![lidx k, 8 * j, 256 * c] S1x8x256.size (inSg k j c h hc)
abbrev rWd (j c : ℕ) (h : j < 22) (hc : c < 8) : Rect S1x2816x2048 :=
  Rect.unit (s := S1x2816x2048) ![0, 128 * j, 256 * c] S1x128x256.size (inWd j c h hc)
abbrev rSd (j c : ℕ) (h : j < 22) (hc : c < 8) : Rect S1x176x2048 :=
  Rect.unit (s := S1x176x2048) ![0, 8 * j, 256 * c] S1x8x256.size (inSd j c h hc)
abbrev rH (k : Fin k0_t1_loop.trips) (c : ℕ) (hc : c < 8) : Rect S2x48x2048 :=
  Rect.unit (s := S2x48x2048) ![lidx k, 0, 256 * c] S1x48x256.size (inH k c hc)

/-! ## The program pieces -/

section Pieces
variable (X : Memref sig .tc .vmem S6x8x2048 .bf16) (T : Memref sig .tc .vmem S2x48x2048 .bf16) (N : Memref sig .tc .vmem S2x2048 .f32)
  (H : Memref sig .tc .vmem S2x48x2048 .f32)
  (Wo : Memref sig .tc .vmem S2x1024x2048 .i8) (So : Memref sig .tc .vmem S2x64x2048 .bf16)
  (Wg : Memref sig .tc .vmem S2x1024x11264 .i8) (Sg : Memref sig .tc .vmem S2x64x11264 .bf16)
  (Wd : Memref sig .tc .vmem S1x2816x2048 .i8) (Sd : Memref sig .tc .vmem S1x176x2048 .bf16)
  (R : Memref sig .tc .vmem S48x2048 .f32) (A : Memref sig .tc .vmem S48x2048 .bf16) (hA : A.IsWhole)
  (P : Memref sig .tc .vmem S48x5632 .bf16) (hP : P.IsWhole)
  (k : Fin k0_t1_loop.trips)

/-- The input rows copied to the residual buffer. -/
def rowsIn (K : PUnit → PG F) : PG F :=
  .op (.load X rX0.toLoadRect (View.loadsAt_vmem h_S6x8x2048)) fun (x : Vec F S6x8x2048 .bf16) =>
  .op (.load R rR.toLoadRect (View.loadsAt_vmem h_S48x2048)) fun _ =>
  .op (.store R rR (shapeCast S48x2048 (shapeCast S48x2048 (extf .f32 x bitsLt_bf16_f32 : FVec F S6x8x2048 .f32) shapeCasts_S6x8x2048_S48x2048) shapeCasts_S48x2048_S48x2048) Finset.univ
    (View.stores_vmem_bits_univ h_S48x2048 rfl) (.inl rfl)) K

/-- 128 columns written to the activation buffer. -/
def putA (i : ℕ) (h : i < 16) (v : FVec F S48x128 .bf16) (K : PUnit → PG F) : PG F :=
  .op (.load A (rA8 i h).toLoadRect (View.loadsAt_vmem h_S48x128)) fun _ =>
  .op (.store A (rA8 i h) (shapeCast S48x128 v shapeCasts_S48x128_S48x128) Finset.univ
    (View.stores_vmem h_S48x128 (hA.storeExact_slice rfl _ (pkA i h)) (fun _ => rfl)) (.inl rfl)) K

/-- `n` column chunks of the layer's attention put in the lane order of the packed weights, from chunk `i` on. -/
def atSteps (K : PUnit → PG F) : (n i : ℕ) → i + n ≤ 16 → PUnit → PG F
  | 0, _, _ => K
  | n + 1, i, h => fun _ =>
      .op (.load T (rT k i (by omega)).toLoadRect (View.loadsAt_vmem h_S1x48x128)) fun (t : Vec F S1x48x128 .bf16) =>
      putA A hA i (by omega) (ilv (shapeCast S48x128 t shapeCasts_S1x48x128_S48x128)) (atSteps K n (i + 1) (by omega))

/-- `n` column chunks of the row normalisation, from chunk `i` on. -/
def rmsSteps (r : FVec F S48x2048 .f32) (g : FVec F S1x2048 .f32) (K : PUnit → PG F) : (n i : ℕ) → i + n ≤ 16 → PUnit → PG F
  | 0, _, _ => K
  | n + 1, i, h => fun _ => putA A hA i (by omega) (rmsVal r g i (by omega)) (rmsSteps r g K n (i + 1) (by omega))

/-- The row normalisation. -/
def rms (K : PUnit → PG F) : PG F :=
  .op (.load R rR.toLoadRect (View.loadsAt_vmem h_S48x2048)) fun (r : Vec F S48x2048 .f32) =>
  .op (.load N (rN k).toLoadRect (View.loadsAt_vmem h_S1x2048)) fun (g : Vec F S1x2048 .f32) =>
  rmsSteps A hA r g K 16 0 (by omega) ⟨⟩

/-- The loads of one product step of the first layer: activations, then both tiles with their scales. -/
def guLoads (j c : ℕ) (h : j < 8) (hc : c < 22)
    (K : FVec F S48x256 .bf16 → IVec S1x128x256 8 → FVec F S1x8x256 .bf16 → IVec S1x128x256 8 → FVec F S1x8x256 .bf16 → PG F) : PG F :=
  .op (.load A (rA j h).toLoadRect (View.loadsAt_vmem h_S48x256)) fun (a : Vec F S48x256 .bf16) =>
  .op (.load Wg (rWg k j c h (by omega)).toLoadRect (View.loadsAt_vmem h_S1x128x256)) fun (w : Vec F S1x128x256 .i8) =>
  .op (.load Sg (rSg k j c h (by omega)).toLoadRect (View.loadsAt_vmem h_S1x8x256)) fun (s : Vec F S1x8x256 .bf16) =>
  .op (.load Wg (rWg k j (c + 22) h (by omega)).toLoadRect (View.loadsAt_vmem h_S1x128x256)) fun (w' : Vec F S1x128x256 .i8) =>
  .op (.load Sg (rSg k j (c + 22) h (by omega)).toLoadRect (View.loadsAt_vmem h_S1x8x256)) fun (s' : Vec F S1x8x256 .bf16) => K a w s w' s'

/-- `n` product steps of the first layer, from step `j` on, over the accumulators so far. -/
def guSteps (c : ℕ) (hc : c < 22) (K : FVec F S48x256 .f32 → FVec F S48x256 .f32 → PG F) :
    (n j : ℕ) → j + n ≤ 8 → FVec F S48x256 .f32 → FVec F S48x256 .f32 → PG F
  | 0, _, _, g, u => K g u
  | n + 1, j, h, g, u => guLoads Wg Sg A k j c (by omega) hc fun a w s w' s' =>
      guSteps c hc K n (j + 1) (by omega) (addf g (mm a w s)) (addf u (mm a w' s'))

/-- 128 columns written to the gated activations' buffer. -/
def putP (i : ℕ) (h : i < 44) (v : FVec F S48x128 .bf16) (K : PUnit → PG F) : PG F :=
  .op (.load P (rP i h).toLoadRect (View.loadsAt_vmem h_S48x128)) fun _ =>
  .op (.store P (rP i h) (shapeCast S48x128 v shapeCasts_S48x128_S48x128) Finset.univ
    (View.stores_vmem h_S48x128 (hP.storeExact_slice rfl _ (pkP i h)) (fun _ => rfl)) (.inl rfl)) K

theorem slP0 : S48x256.Slices ![0, 0] S48x128 := by decide
theorem slP1 : S48x256.Slices ![0, 128] S48x128 := by decide

/-- One column chunk of the first layer with its gate. -/
def guChunk (c : ℕ) (hc : c < 22) (K : PUnit → PG F) : PG F :=
  guLoads Wg Sg A k 0 c (by omega) hc fun a w s w' s' =>
  guSteps Wg Sg A k c hc (fun g u =>
    putP P hP (2 * c) (by omega) (ilv (extractStridedSlice S48x128 ![0, 0] (actOf g u) slP0)) fun _ =>
    putP P hP (2 * c + 1) (by omega) (ilv (extractStridedSlice S48x128 ![0, 128] (actOf g u) slP1)) K)
    7 1 (by omega) (mm a w s) (mm a w' s')

/-- The loads of one product step of the second layer: activations, then two tiles side by side with their scales. -/
def dnLoads (j c : ℕ) (h : j < 22) (hc : c < 4)
    (K : FVec F S48x256 .bf16 → IVec S1x128x256 8 → FVec F S1x8x256 .bf16 → IVec S1x128x256 8 → FVec F S1x8x256 .bf16 → PG F) : PG F :=
  .op (.load P (rP2 j h).toLoadRect (View.loadsAt_vmem h_S48x256)) fun (a : Vec F S48x256 .bf16) =>
  .op (.load Wd (rWd j (2 * c) h (by omega)).toLoadRect (View.loadsAt_vmem h_S1x128x256)) fun (w : Vec F S1x128x256 .i8) =>
  .op (.load Sd (rSd j (2 * c) h (by omega)).toLoadRect (View.loadsAt_vmem h_S1x8x256)) fun (s : Vec F S1x8x256 .bf16) =>
  .op (.load Wd (rWd j (2 * c + 1) h (by omega)).toLoadRect (View.loadsAt_vmem h_S1x128x256)) fun (w' : Vec F S1x128x256 .i8) =>
  .op (.load Sd (rSd j (2 * c + 1) h (by omega)).toLoadRect (View.loadsAt_vmem h_S1x8x256)) fun (s' : Vec F S1x8x256 .bf16) => K a w s w' s'

/-- `n` product steps of the second layer. -/
def dnSteps (c : ℕ) (hc : c < 4) (K : FVec F S48x256 .f32 → FVec F S48x256 .f32 → PG F) :
    (n j : ℕ) → j + n ≤ 22 → FVec F S48x256 .f32 → FVec F S48x256 .f32 → PG F
  | 0, _, _, g, u => K g u
  | n + 1, j, h, g, u => dnLoads Wd Sd P j c (by omega) hc fun a w s w' s' =>
      dnSteps c hc K n (j + 1) (by omega) (addf g (mm a w s)) (addf u (mm a w' s'))

theorem inR (c : ℕ) (h : c < 8) : ∀ a, (![0, 256 * c] : Fin 2 → ℕ) a + S48x256.size a ≤ S48x2048.size a := inA c h

/-- 256 columns added to the residual and written out. -/
def putR (c : ℕ) (hc : c < 8) (v : FVec F S48x256 .f32) (K : PUnit → PG F) : PG F :=
  .op (.load R (rA c hc).toLoadRect (View.loadsAt_vmem h_S48x256)) fun (r : Vec F S48x256 .f32) =>
  .op (.load R (rA c hc).toLoadRect (View.loadsAt_vmem h_S48x256)) fun _ =>
  .op (.store R (rA c hc) (shapeCast S48x256 (addf r v) shapeCasts_S48x256_S48x256) Finset.univ
    (View.stores_vmem_bits_univ h_S48x256 rfl) (.inl rfl)) fun _ =>
  .op (.load H (rH k c hc).toLoadRect (View.loadsAt_vmem h_S1x48x256)) fun _ =>
  .op (.store H (rH k c hc) (shapeCast S1x48x256 (addf r v) shapeCasts_S48x256_S1x48x256) Finset.univ
    (View.stores_vmem_bits_univ h_S1x48x256 rfl) (.inl rfl)) K

/-- The loads of one product step of the output projection: activations, then two tiles side by side with their scales. -/
def oLoads (j c : ℕ) (h : j < 8) (hc : c < 4)
    (K : FVec F S48x256 .bf16 → IVec S1x128x256 8 → FVec F S1x8x256 .bf16 → IVec S1x128x256 8 → FVec F S1x8x256 .bf16 → PG F) : PG F :=
  .op (.load A (rA j h).toLoadRect (View.loadsAt_vmem h_S48x256)) fun (a : Vec F S48x256 .bf16) =>
  .op (.load Wo (rWo k j (2 * c) h (by omega)).toLoadRect (View.loadsAt_vmem h_S1x128x256)) fun (w : Vec F S1x128x256 .i8) =>
  .op (.load So (rSo k j (2 * c) h (by omega)).toLoadRect (View.loadsAt_vmem h_S1x8x256)) fun (s : Vec F S1x8x256 .bf16) =>
  .op (.load Wo (rWo k j (2 * c + 1) h (by omega)).toLoadRect (View.loadsAt_vmem h_S1x128x256)) fun (w' : Vec F S1x128x256 .i8) =>
  .op (.load So (rSo k j (2 * c + 1) h (by omega)).toLoadRect (View.loadsAt_vmem h_S1x8x256)) fun (s' : Vec F S1x8x256 .bf16) => K a w s w' s'

/-- `n` product steps of the output projection. -/
def oSteps (c : ℕ) (hc : c < 4) (K : FVec F S48x256 .f32 → FVec F S48x256 .f32 → PG F) :
    (n j : ℕ) → j + n ≤ 8 → FVec F S48x256 .f32 → FVec F S48x256 .f32 → PG F
  | 0, _, _, g, u => K g u
  | n + 1, j, h, g, u => oLoads Wo So A k j c (by omega) hc fun a w s w' s' =>
      oSteps c hc K n (j + 1) (by omega) (addf g (mm a w s)) (addf u (mm a w' s'))

/-- Two column chunks of the output projection. -/
def oChunk (c : ℕ) (hc : c < 4) (K : PUnit → PG F) : PG F :=
  oLoads Wo So A k 0 c (by omega) hc fun a w s w' s' =>
  oSteps Wo So A k c hc (fun g u =>
    putR H R k (2 * c) (by omega) g fun _ => putR H R k (2 * c + 1) (by omega) u K)
    7 1 (by omega) (mm a w s) (mm a w' s')

/-- Two column chunks of the second layer. -/
def dnChunk (c : ℕ) (hc : c < 4) (K : PUnit → PG F) : PG F :=
  dnLoads Wd Sd P 0 c (by omega) hc fun a w s w' s' =>
  dnSteps Wd Sd P c hc (fun g u =>
    putR H R k (2 * c) (by omega) g fun _ => putR H R k (2 * c + 1) (by omega) u K)
    21 1 (by omega) (mm a w s) (mm a w' s')

end Pieces

end Cert.KernelIdeal.Hand
-- ==== Proof.KIBody.lean ====
/-
  The printed body as its pieces in sequence: the transfers started, the rows copied in, then for each of the two layers the attention
  projected and added, the rows normalised, multiplied through the gated layer and back, with the transfers' waits and the next transfers' starts.
-/
module

public import proofs.«01_k».proof.Proof.KIProg

@[expose] public section

set_option maxRecDepth 16384

noncomputable section

namespace Cert.KernelIdeal.Hand

open Cert.KernelIdeal Cert.KernelIdeal.Gen Cert.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The transfers' ends -/

/-- One layer's block of a S2x1024x11264 array, as one matrix. -/
abbrev blkWg {sp : Space} (M : Memref sig .tc sp S2x1024x11264 .i8) (o : Fin 3 → ℕ) (h : ∀ a, o a + S1x1024x11264.size a ≤ S2x1024x11264.size a) : Memref sig .tc sp S1024x11264 .i8 :=
  (M.slice (Rect.unit (s := S2x1024x11264) o S1x1024x11264.size h) (fun _ => rfl)).squeeze S1024x11264 squeezes_S1x1024x11264_S1024x11264
/-- One layer's block of a S2x64x11264 array, as one matrix. -/
abbrev blkSg {sp : Space} (M : Memref sig .tc sp S2x64x11264 .bf16) (o : Fin 3 → ℕ) (h : ∀ a, o a + S1x64x11264.size a ≤ S2x64x11264.size a) : Memref sig .tc sp S64x11264 .bf16 :=
  (M.slice (Rect.unit (s := S2x64x11264) o S1x64x11264.size h) (fun _ => rfl)).squeeze S64x11264 squeezes_S1x64x11264_S64x11264
/-- One layer's block of a S2x1024x2048 array, as one matrix. -/
abbrev blkWo {sp : Space} (M : Memref sig .tc sp S2x1024x2048 .i8) (o : Fin 3 → ℕ) (h : ∀ a, o a + S1x1024x2048.size a ≤ S2x1024x2048.size a) : Memref sig .tc sp S1024x2048 .i8 :=
  (M.slice (Rect.unit (s := S2x1024x2048) o S1x1024x2048.size h) (fun _ => rfl)).squeeze S1024x2048 squeezes_S1x1024x2048_S1024x2048
/-- One layer's block of a S2x64x2048 array, as one matrix. -/
abbrev blkSo {sp : Space} (M : Memref sig .tc sp S2x64x2048 .bf16) (o : Fin 3 → ℕ) (h : ∀ a, o a + S1x64x2048.size a ≤ S2x64x2048.size a) : Memref sig .tc sp S64x2048 .bf16 :=
  (M.slice (Rect.unit (s := S2x64x2048) o S1x64x2048.size h) (fun _ => rfl)).squeeze S64x2048 squeezes_S1x64x2048_S64x2048
/-- One layer's block of a S2x2816x2048 array, as one matrix. -/
abbrev blkWdH {sp : Space} (M : Memref sig .tc sp S2x2816x2048 .i8) (o : Fin 3 → ℕ) (h : ∀ a, o a + S1x2816x2048.size a ≤ S2x2816x2048.size a) : Memref sig .tc sp S2816x2048 .i8 :=
  (M.slice (Rect.unit (s := S2x2816x2048) o S1x2816x2048.size h) (fun _ => rfl)).squeeze S2816x2048 squeezes_S1x2816x2048_S2816x2048
/-- One layer's block of a S2x176x2048 array, as one matrix. -/
abbrev blkSdH {sp : Space} (M : Memref sig .tc sp S2x176x2048 .bf16) (o : Fin 3 → ℕ) (h : ∀ a, o a + S1x176x2048.size a ≤ S2x176x2048.size a) : Memref sig .tc sp S176x2048 .bf16 :=
  (M.slice (Rect.unit (s := S2x176x2048) o S1x176x2048.size h) (fun _ => rfl)).squeeze S176x2048 squeezes_S1x176x2048_S176x2048
/-- One layer's block of a S1x2816x2048 array, as one matrix. -/
abbrev blkWdV {sp : Space} (M : Memref sig .tc sp S1x2816x2048 .i8) (o : Fin 3 → ℕ) (h : ∀ a, o a + S1x2816x2048.size a ≤ S1x2816x2048.size a) : Memref sig .tc sp S2816x2048 .i8 :=
  (M.slice (Rect.unit (s := S1x2816x2048) o S1x2816x2048.size h) (fun _ => rfl)).squeeze S2816x2048 squeezes_S1x2816x2048_S2816x2048
/-- One layer's block of a S1x176x2048 array, as one matrix. -/
abbrev blkSdV {sp : Space} (M : Memref sig .tc sp S1x176x2048 .bf16) (o : Fin 3 → ℕ) (h : ∀ a, o a + S1x176x2048.size a ≤ S1x176x2048.size a) : Memref sig .tc sp S176x2048 .bf16 :=
  (M.slice (Rect.unit (s := S1x176x2048) o S1x176x2048.size h) (fun _ => rfl)).squeeze S176x2048 squeezes_S1x176x2048_S176x2048
/-- One cell of the transfers' semaphores. -/
abbrev cell (M : DmaSems sig S5x2) (o : Fin 2 → ℕ) (h : ∀ a, o a + S1x1.size a ≤ S5x2.size a) : DmaSems sig S_ :=
  (M.slice (Rect.unit (s := S5x2) o S1x1.size h)).squeeze S_ squeezes_S1x1_S_

/-! ## The transfers' pieces -/

section
variable (arg0 : Memref sig .tc .vmem S6x8x2048 .bf16) (harg0 : arg0.IsWhole) (arg1 : Memref sig .tc .vmem S2x48x2048 .bf16) (harg1 : arg1.IsWhole) (arg2 : Memref sig .tc .vmem S2x2048 .f32) (harg2 : arg2.IsWhole) (arg3 : Memref sig .tc .hbm S2x1024x2048 .i8) (harg3 : arg3.IsWhole) (arg4 : Memref sig .tc .hbm S2x64x2048 .bf16) (harg4 : arg4.IsWhole) (arg5 : Memref sig .tc .hbm S2x1024x11264 .i8) (harg5 : arg5.IsWhole) (arg6 : Memref sig .tc .hbm S2x64x11264 .bf16) (harg6 : arg6.IsWhole) (arg7 : Memref sig .tc .hbm S2x2816x2048 .i8) (harg7 : arg7.IsWhole) (arg8 : Memref sig .tc .hbm S2x176x2048 .bf16) (harg8 : arg8.IsWhole) (arg9 : Memref sig .tc .vmem S2x48x2048 .f32) (harg9 : arg9.IsWhole) (arg10 : Memref sig .tc .vmem S2x48x2048 .f32) (harg10 : arg10.IsWhole) (arg11 : Memref sig .tc .vmem S2x1024x2048 .i8) (harg11 : arg11.IsWhole) (arg12 : Memref sig .tc .vmem S2x64x2048 .bf16) (harg12 : arg12.IsWhole) (arg13 : Memref sig .tc .vmem S2x1024x11264 .i8) (harg13 : arg13.IsWhole) (arg14 : Memref sig .tc .vmem S2x64x11264 .bf16) (harg14 : arg14.IsWhole) (arg15 : Memref sig .tc .vmem S1x2816x2048 .i8) (harg15 : arg15.IsWhole) (arg16 : Memref sig .tc .vmem S1x176x2048 .bf16) (harg16 : arg16.IsWhole) (arg17 : Memref sig .tc .vmem S48x2048 .f32) (harg17 : arg17.IsWhole) (arg18 : Memref sig .tc .vmem S48x2048 .bf16) (harg18 : arg18.IsWhole) (arg19 : Memref sig .tc .vmem S48x5632 .bf16) (harg19 : arg19.IsWhole) (arg20 : DmaSems sig S5x2)

/-- The output projection's weights and scales of block 0 start arriving. -/
def startO0 (K : PUnit → PG F) : PG F :=
  .op (.enqueueDma (blkWo arg3 ![0, 0, 0] inb_S2x1024x2048_S1x1024x2048_0_0_0) (.here (blkWo arg11 ![0, 0, 0] inb_S2x1024x2048_S1x1024x2048_0_0_0))
    (.dma (cell arg20 ![2, 0] inb_S5x2_S1x1_2_0).sem)
    ((harg3.wordExact_slice rfl _ wordsi8_S2x1024x2048_S1x1024x2048_0_0_0).reshape _ _) ((harg11.wordExact_slice rfl _ wordsi8_S2x1024x2048_S1x1024x2048_0_0_0).reshape _ _) ⟨Or.inl rfl, trivial⟩) fun _ =>
  .op (.enqueueDma (blkSo arg4 ![0, 0, 0] inb_S2x64x2048_S1x64x2048_0_0_0) (.here (blkSo arg12 ![0, 0, 0] inb_S2x64x2048_S1x64x2048_0_0_0))
    (.dma (cell arg20 ![2, 0] inb_S5x2_S1x1_2_0).sem)
    ((harg4.wordExact_slice rfl _ wordsbf16_S2x64x2048_S1x64x2048_0_0_0).reshape _ _) ((harg12.wordExact_slice rfl _ wordsbf16_S2x64x2048_S1x64x2048_0_0_0).reshape _ _) ⟨Or.inl rfl, trivial⟩) K

/-- The first layer's weights and scales of block 0 start arriving. -/
def startGu0 (K : PUnit → PG F) : PG F :=
  .op (.enqueueDma (blkWg arg5 ![0, 0, 0] inb_S2x1024x11264_S1x1024x11264_0_0_0) (.here (blkWg arg13 ![0, 0, 0] inb_S2x1024x11264_S1x1024x11264_0_0_0))
    (.dma (cell arg20 ![3, 0] inb_S5x2_S1x1_3_0).sem)
    ((harg5.wordExact_slice rfl _ wordsi8_S2x1024x11264_S1x1024x11264_0_0_0).reshape _ _) ((harg13.wordExact_slice rfl _ wordsi8_S2x1024x11264_S1x1024x11264_0_0_0).reshape _ _) ⟨Or.inl rfl, trivial⟩) fun _ =>
  .op (.enqueueDma (blkSg arg6 ![0, 0, 0] inb_S2x64x11264_S1x64x11264_0_0_0) (.here (blkSg arg14 ![0, 0, 0] inb_S2x64x11264_S1x64x11264_0_0_0))
    (.dma (cell arg20 ![3, 0] inb_S5x2_S1x1_3_0).sem)
    ((harg6.wordExact_slice rfl _ wordsbf16_S2x64x11264_S1x64x11264_0_0_0).reshape _ _) ((harg14.wordExact_slice rfl _ wordsbf16_S2x64x11264_S1x64x11264_0_0_0).reshape _ _) ⟨Or.inl rfl, trivial⟩) K

/-- The second layer's weights and scales of block 0 start arriving. -/
def startDn0 (K : PUnit → PG F) : PG F :=
  .op (.enqueueDma (blkWdH arg7 ![0, 0, 0] inb_S2x2816x2048_S1x2816x2048_0_0_0) (.here (blkWdV arg15 ![0, 0, 0] inb_S1x2816x2048_S1x2816x2048_0_0_0))
    (.dma (cell arg20 ![4, 0] inb_S5x2_S1x1_4_0).sem)
    ((harg7.wordExact_slice rfl _ wordsi8_S2x2816x2048_S1x2816x2048_0_0_0).reshape _ _) ((harg15.wordExact_slice rfl _ wordsi8_S1x2816x2048_S1x2816x2048_0_0_0).reshape _ _) ⟨Or.inl rfl, trivial⟩) fun _ =>
  .op (.enqueueDma (blkSdH arg8 ![0, 0, 0] inb_S2x176x2048_S1x176x2048_0_0_0) (.here (blkSdV arg16 ![0, 0, 0] inb_S1x176x2048_S1x176x2048_0_0_0))
    (.dma (cell arg20 ![4, 0] inb_S5x2_S1x1_4_0).sem)
    ((harg8.wordExact_slice rfl _ wordsbf16_S2x176x2048_S1x176x2048_0_0_0).reshape _ _) ((harg16.wordExact_slice rfl _ wordsbf16_S1x176x2048_S1x176x2048_0_0_0).reshape _ _) ⟨Or.inl rfl, trivial⟩) K

/-- The output projection's weights and scales of block 1 start arriving. -/
def startO1 (K : PUnit → PG F) : PG F :=
  .op (.enqueueDma (blkWo arg3 ![1, 0, 0] inb_S2x1024x2048_S1x1024x2048_1_0_0) (.here (blkWo arg11 ![1, 0, 0] inb_S2x1024x2048_S1x1024x2048_1_0_0))
    (.dma (cell arg20 ![2, 1] inb_S5x2_S1x1_2_1).sem)
    ((harg3.wordExact_slice rfl _ wordsi8_S2x1024x2048_S1x1024x2048_1_0_0).reshape _ _) ((harg11.wordExact_slice rfl _ wordsi8_S2x1024x2048_S1x1024x2048_1_0_0).reshape _ _) ⟨Or.inl rfl, trivial⟩) fun _ =>
  .op (.enqueueDma (blkSo arg4 ![1, 0, 0] inb_S2x64x2048_S1x64x2048_1_0_0) (.here (blkSo arg12 ![1, 0, 0] inb_S2x64x2048_S1x64x2048_1_0_0))
    (.dma (cell arg20 ![2, 1] inb_S5x2_S1x1_2_1).sem)
    ((harg4.wordExact_slice rfl _ wordsbf16_S2x64x2048_S1x64x2048_1_0_0).reshape _ _) ((harg12.wordExact_slice rfl _ wordsbf16_S2x64x2048_S1x64x2048_1_0_0).reshape _ _) ⟨Or.inl rfl, trivial⟩) K

/-- The first layer's weights and scales of block 1 start arriving. -/
def startGu1 (K : PUnit → PG F) : PG F :=
  .op (.enqueueDma (blkWg arg5 ![1, 0, 0] inb_S2x1024x11264_S1x1024x11264_1_0_0) (.here (blkWg arg13 ![1, 0, 0] inb_S2x1024x11264_S1x1024x11264_1_0_0))
    (.dma (cell arg20 ![3, 1] inb_S5x2_S1x1_3_1).sem)
    ((harg5.wordExact_slice rfl _ wordsi8_S2x1024x11264_S1x1024x11264_1_0_0).reshape _ _) ((harg13.wordExact_slice rfl _ wordsi8_S2x1024x11264_S1x1024x11264_1_0_0).reshape _ _) ⟨Or.inl rfl, trivial⟩) fun _ =>
  .op (.enqueueDma (blkSg arg6 ![1, 0, 0] inb_S2x64x11264_S1x64x11264_1_0_0) (.here (blkSg arg14 ![1, 0, 0] inb_S2x64x11264_S1x64x11264_1_0_0))
    (.dma (cell arg20 ![3, 1] inb_S5x2_S1x1_3_1).sem)
    ((harg6.wordExact_slice rfl _ wordsbf16_S2x64x11264_S1x64x11264_1_0_0).reshape _ _) ((harg14.wordExact_slice rfl _ wordsbf16_S2x64x11264_S1x64x11264_1_0_0).reshape _ _) ⟨Or.inl rfl, trivial⟩) K

/-- The second layer's weights and scales of block 1 start arriving. -/
def startDn1 (K : PUnit → PG F) : PG F :=
  .op (.enqueueDma (blkWdH arg7 ![1, 0, 0] inb_S2x2816x2048_S1x2816x2048_1_0_0) (.here (blkWdV arg15 ![0, 0, 0] inb_S1x2816x2048_S1x2816x2048_0_0_0))
    (.dma (cell arg20 ![4, 1] inb_S5x2_S1x1_4_1).sem)
    ((harg7.wordExact_slice rfl _ wordsi8_S2x2816x2048_S1x2816x2048_1_0_0).reshape _ _) ((harg15.wordExact_slice rfl _ wordsi8_S1x2816x2048_S1x2816x2048_0_0_0).reshape _ _) ⟨Or.inl rfl, trivial⟩) fun _ =>
  .op (.enqueueDma (blkSdH arg8 ![1, 0, 0] inb_S2x176x2048_S1x176x2048_1_0_0) (.here (blkSdV arg16 ![0, 0, 0] inb_S1x176x2048_S1x176x2048_0_0_0))
    (.dma (cell arg20 ![4, 1] inb_S5x2_S1x1_4_1).sem)
    ((harg8.wordExact_slice rfl _ wordsbf16_S2x176x2048_S1x176x2048_1_0_0).reshape _ _) ((harg16.wordExact_slice rfl _ wordsbf16_S1x176x2048_S1x176x2048_0_0_0).reshape _ _) ⟨Or.inl rfl, trivial⟩) K

/-- The output projection's weights and scales have arrived. -/
def waitO (k : Fin k0_t1_loop.trips) (K : PUnit → PG F) : PG F :=
  .op (.waitDma2 (cell arg20 (k0_off17 k) (k0_off17_inb k)).sem (blkWo arg3 (k0_off18 k) (k0_off18_inb k)) (blkWo arg11 (k0_off18 k) (k0_off18_inb k))
    ((harg3.wordExact_slice rfl _ (k0_off18_wordsi8 k)).reshape _ _) ((harg11.wordExact_slice rfl _ (k0_off18_wordsi8 k)).reshape _ _)) fun _ =>
  .op (.waitDma2 (cell arg20 (k0_off17 k) (k0_off17_inb k)).sem (blkSo arg4 (k0_off19 k) (k0_off19_inb k)) (blkSo arg12 (k0_off19 k) (k0_off19_inb k))
    ((harg4.wordExact_slice rfl _ (k0_off19_wordsbf16 k)).reshape _ _) ((harg12.wordExact_slice rfl _ (k0_off19_wordsbf16 k)).reshape _ _)) K

/-- The first layer's weights and scales have arrived. -/
def waitGu (k : Fin k0_t1_loop.trips) (K : PUnit → PG F) : PG F :=
  .op (.waitDma2 (cell arg20 (k0_off157 k) (k0_off157_inb k)).sem (blkWg arg5 (k0_off158 k) (k0_off158_inb k)) (blkWg arg13 (k0_off158 k) (k0_off158_inb k))
    ((harg5.wordExact_slice rfl _ (k0_off158_wordsi8 k)).reshape _ _) ((harg13.wordExact_slice rfl _ (k0_off158_wordsi8 k)).reshape _ _)) fun _ =>
  .op (.waitDma2 (cell arg20 (k0_off157 k) (k0_off157_inb k)).sem (blkSg arg6 (k0_off159 k) (k0_off159_inb k)) (blkSg arg14 (k0_off159 k) (k0_off159_inb k))
    ((harg6.wordExact_slice rfl _ (k0_off159_wordsbf16 k)).reshape _ _) ((harg14.wordExact_slice rfl _ (k0_off159_wordsbf16 k)).reshape _ _)) K

/-- The second layer's weights and scales have arrived. -/
def waitDn (k : Fin k0_t1_loop.trips) (K : PUnit → PG F) : PG F :=
  .op (.waitDma2 (cell arg20 (k0_off864 k) (k0_off864_inb k)).sem (blkWdH arg7 (k0_off865 k) (k0_off865_inb k)) (blkWdV arg15 ![0, 0, 0] inb_S1x2816x2048_S1x2816x2048_0_0_0)
    ((harg7.wordExact_slice rfl _ (k0_off865_wordsi8 k)).reshape _ _) ((harg15.wordExact_slice rfl _ wordsi8_S1x2816x2048_S1x2816x2048_0_0_0).reshape _ _)) fun _ =>
  .op (.waitDma2 (cell arg20 (k0_off864 k) (k0_off864_inb k)).sem (blkSdH arg8 (k0_off866 k) (k0_off866_inb k)) (blkSdV arg16 ![0, 0, 0] inb_S1x176x2048_S1x176x2048_0_0_0)
    ((harg8.wordExact_slice rfl _ (k0_off866_wordsbf16 k)).reshape _ _) ((harg16.wordExact_slice rfl _ wordsbf16_S1x176x2048_S1x176x2048_0_0_0).reshape _ _)) K

/-- `n` pairs of column chunks of the output projection, from pair `c` on. -/
def oChunks (k : Fin k0_t1_loop.trips) (K : PUnit → PG F) : (n c : ℕ) → c + n ≤ 4 → PUnit → PG F
  | 0, _, _ => K
  | n + 1, c, h => fun _ => oChunk arg10 arg11 arg12 arg17 arg18 k c (by omega) (oChunks k K n (c + 1) (by omega))

/-- `n` column chunks of the first layer, from chunk `c` on. -/
def guChunks (k : Fin k0_t1_loop.trips) (K : PUnit → PG F) : (n c : ℕ) → c + n ≤ 22 → PUnit → PG F
  | 0, _, _ => K
  | n + 1, c, h => fun _ => guChunk arg13 arg14 arg18 arg19 harg19 k c (by omega) (guChunks k K n (c + 1) (by omega))

/-- `n` pairs of column chunks of the second layer, from pair `c` on. -/
def dnChunks (k : Fin k0_t1_loop.trips) (K : PUnit → PG F) : (n c : ℕ) → c + n ≤ 4 → PUnit → PG F
  | 0, _, _ => K
  | n + 1, c, h => fun _ => dnChunk arg9 arg15 arg16 arg17 arg19 k c (by omega) (dnChunks k K n (c + 1) (by omega))

/-- The two trips. -/
abbrev t0 : Fin k0_t1_loop.trips := ⟨0, by decide⟩
abbrev t1 : Fin k0_t1_loop.trips := ⟨1, by decide⟩

/-- The whole body as its pieces. -/
def pieces (K : PUnit → PG F) : PG F :=
  startO0 arg3 harg3 arg4 harg4 arg11 harg11 arg12 harg12 arg20 fun _ =>
  startGu0 arg5 harg5 arg6 harg6 arg13 harg13 arg14 harg14 arg20 fun _ =>
  startDn0 arg7 harg7 arg8 harg8 arg15 harg15 arg16 harg16 arg20 fun _ =>
  rowsIn arg0 arg17 fun _ =>
  atSteps arg1 arg18 harg18 t0 (fun _ =>
  startO1 arg3 harg3 arg4 harg4 arg11 harg11 arg12 harg12 arg20 fun _ =>
  startGu1 arg5 harg5 arg6 harg6 arg13 harg13 arg14 harg14 arg20 fun _ =>
  waitO arg3 harg3 arg4 harg4 arg11 harg11 arg12 harg12 arg20 t0 fun _ =>
  oChunks arg10 arg11 arg12 arg17 arg18 t0 (fun _ =>
  rms arg2 arg17 arg18 harg18 t0 fun _ =>
  waitGu arg5 harg5 arg6 harg6 arg13 harg13 arg14 harg14 arg20 t0 fun _ =>
  guChunks arg13 arg14 arg18 arg19 harg19 t0 (fun _ =>
  waitDn arg7 harg7 arg8 harg8 arg15 harg15 arg16 harg16 arg20 t0 fun _ =>
  dnChunks arg9 arg15 arg16 arg17 arg19 t0 (fun _ =>
  startDn1 arg7 harg7 arg8 harg8 arg15 harg15 arg16 harg16 arg20 fun _ =>
  atSteps arg1 arg18 harg18 t1 (fun _ =>
  waitO arg3 harg3 arg4 harg4 arg11 harg11 arg12 harg12 arg20 t1 fun _ =>
  oChunks arg10 arg11 arg12 arg17 arg18 t1 (fun _ =>
  rms arg2 arg17 arg18 harg18 t1 fun _ =>
  waitGu arg5 harg5 arg6 harg6 arg13 harg13 arg14 harg14 arg20 t1 fun _ =>
  guChunks arg13 arg14 arg18 arg19 harg19 t1 (fun _ =>
  waitDn arg7 harg7 arg8 harg8 arg15 harg15 arg16 harg16 arg20 t1 fun _ =>
  dnChunks arg9 arg15 arg16 arg17 arg19 t1 K 4 0 (by omega) ⟨⟩) 22 0 (by omega) ⟨⟩) 4 0 (by omega) ⟨⟩) 16 0 (by omega) ⟨⟩) 4 0 (by omega) ⟨⟩) 22 0 (by omega) ⟨⟩) 4 0 (by omega) ⟨⟩) 16 0 (by omega) ⟨⟩

end

/-- One trip of the layer loop, as printed. -/
def trip (arg0 : Memref sig .tc .vmem S6x8x2048 .bf16) (harg0 : arg0.IsWhole) (arg1 : Memref sig .tc .vmem S2x48x2048 .bf16) (harg1 : arg1.IsWhole) (arg2 : Memref sig .tc .vmem S2x2048 .f32) (harg2 : arg2.IsWhole) (arg3 : Memref sig .tc .hbm S2x1024x2048 .i8) (harg3 : arg3.IsWhole) (arg4 : Memref sig .tc .hbm S2x64x2048 .bf16) (harg4 : arg4.IsWhole) (arg5 : Memref sig .tc .hbm S2x1024x11264 .i8) (harg5 : arg5.IsWhole) (arg6 : Memref sig .tc .hbm S2x64x11264 .bf16) (harg6 : arg6.IsWhole) (arg7 : Memref sig .tc .hbm S2x2816x2048 .i8) (harg7 : arg7.IsWhole) (arg8 : Memref sig .tc .hbm S2x176x2048 .bf16) (harg8 : arg8.IsWhole) (arg9 : Memref sig .tc .vmem S2x48x2048 .f32) (harg9 : arg9.IsWhole) (arg10 : Memref sig .tc .vmem S2x48x2048 .f32) (harg10 : arg10.IsWhole) (arg11 : Memref sig .tc .vmem S2x1024x2048 .i8) (harg11 : arg11.IsWhole) (arg12 : Memref sig .tc .vmem S2x64x2048 .bf16) (harg12 : arg12.IsWhole) (arg13 : Memref sig .tc .vmem S2x1024x11264 .i8) (harg13 : arg13.IsWhole) (arg14 : Memref sig .tc .vmem S2x64x11264 .bf16) (harg14 : arg14.IsWhole) (arg15 : Memref sig .tc .vmem S1x2816x2048 .i8) (harg15 : arg15.IsWhole) (arg16 : Memref sig .tc .vmem S1x176x2048 .bf16) (harg16 : arg16.IsWhole) (arg17 : Memref sig .tc .vmem S48x2048 .f32) (harg17 : arg17.IsWhole) (arg18 : Memref sig .tc .vmem S48x2048 .bf16) (harg18 : arg18.IsWhole) (arg19 : Memref sig .tc .vmem S48x5632 .bf16) (harg19 : arg19.IsWhole) (arg20 : DmaSems sig S5x2) (k0_t1 : Fin k0_t1_loop.trips) :
    Prog (TpuEff nD τ sig (Elt F) Λ₀ .tc) PUnit :=
  let c0_i32_48 : BitVec 32 := 0#32
  let c1_i32 : BitVec 32 := 1#32
  do
    let ⟨v44, v2412, v2422, v2424, v2652⟩ : Σ' (v44 : BitVec 32) (v2412 : Vec F S48x2048 .f32) (v2422 : FVec F S48x1 .f32) (v2424 : Vec F S1x2048 .f32), FVec F S48x128 .bf16 ← k0_part438 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 c0_i32_48 c1_i32 k0_t1
    let ⟨v5267, v5295, v5296, v5314, v5319⟩ : Σ' (v5267 : FVec F S48x256 .f32) (v5295 : FVec F S48x256 .f32) (v5296 : Vec F S48x256 .bf16) (v5314 : FVec F S256x256 .bf16), FVec F S8x1x256 .bf16 ← k0_part439 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 k0_t1 v44 v2412 v2422 v2424 v2652
    let ⟨v7941, v7969, v7970, v7981, v7982⟩ : Σ' (v7941 : FVec F S48x256 .f32) (v7969 : FVec F S48x256 .f32) (v7970 : Vec F S48x256 .bf16) (v7981 : IVec S32x8x256 32), IVec S32x1x256 32 ← k0_part440 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 k0_t1 v44 v5267 v5295 v5296 v5314 v5319
    let v10645 : Vec F S48x256 .bf16 ← k0_part441 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 k0_t1 v44 v7941 v7969 v7970 v7981 v7982
    let ⟨v13259, v13260, v13288, v13306, v13310⟩ : Σ' (v13259 : FVec F S48x256 .f32) (v13260 : Vec F S48x256 .bf16) (v13288 : FVec F S48x256 .f32) (v13306 : FVec F S256x256 .bf16), FVec F S8x1x256 .bf16 ← k0_part442 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 k0_t1 v44 v10645
    let ⟨v15791, v15792, v15818, v15835, v15840⟩ : Σ' (v15791 : FVec F S48x256 .f32) (v15792 : Vec F S48x256 .bf16) (v15818 : FVec F S48x256 .f32) (v15835 : FVec F S256x256 .bf16), FVec F S8x32x256 .bf16 ← k0_part443 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 k0_t1 v44 v13259 v13260 v13288 v13306 v13310
    let ⟨v18261, v18262, v18288, v18305⟩ : Σ' (v18261 : FVec F S48x256 .f32) (v18262 : Vec F S48x256 .bf16) (v18288 : FVec F S48x256 .f32), FVec F S256x256 .bf16 ← k0_part444 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 k0_t1 v44 v15791 v15792 v15818 v15835 v15840
    let ⟨v18314, v18315, v18341, v18346⟩ : Σ' (v18314 : FVec F S48x256 .f32) (v18315 : Vec F S48x256 .bf16) (v18341 : FVec F S48x256 .f32), IVec S32x256 32 ← k0_part422 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v18261 v18262 v18288 v18305
    let ⟨v18367, v18368, v18385, v18387⟩ : Σ' (v18367 : FVec F S48x256 .f32) (v18368 : Vec F S48x256 .bf16) (v18385 : FVec F S256x256 .bf16), FVec F S8x256 .bf16 ← k0_part423 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v18314 v18315 v18346
    let ⟨v18394, v18420, v18421, v18426, v18427, v18428⟩ : Σ' (v18394 : FVec F S48x256 .f32) (v18420 : FVec F S48x256 .f32) (v18421 : Vec F S48x256 .bf16) (v18426 : IVec S32x256 32) (v18427 : IVec S32x8x256 32), IVec S32x8x256 32 ← k0_part424 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v18341 v18367 v18368 v18385 v18387
    let ⟨v18447, v18471, cst_6858⟩ : Σ' (v18447 : FVec F S48x256 .f32) (v18471 : FVec F S256x256 .bf16), FVec F S48x256 .f32 ← k0_part425 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v18394 v18421 v18426 v18427 v18428
    let ⟨v18473, v18474, v18500, v18510, v18512⟩ : Σ' (v18473 : FVec F S48x256 .f32) (v18474 : Vec F S48x256 .bf16) (v18500 : FVec F S48x256 .f32) (v18510 : IVec S32x8x256 32), IVec S32x8x256 32 ← k0_part426 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v18420 v18421 v18447 v18471 cst_6858
    let ⟨v18526, v18527, v18553⟩ : Σ' (v18526 : FVec F S48x256 .f32) (v18527 : Vec F S48x256 .bf16), FVec F S48x256 .f32 ← k0_part427 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v18473 v18474 v18500 v18510 v18512
    let ⟨v18579, v18580, v18593, v18594⟩ : Σ' (v18579 : FVec F S48x256 .f32) (v18580 : Vec F S48x256 .bf16) (v18593 : IVec S32x8x256 32), IVec S32x8x256 32 ← k0_part428 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v18526 v18527
    let ⟨v18606, v18632, v18633, v18634⟩ : Σ' (v18606 : FVec F S48x256 .f32) (v18632 : FVec F S48x256 .f32) (v18633 : Vec F S48x256 .bf16), Vec F S1x128x256 .i8 ← k0_part429 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v18553 v18579 v18580 v18593 v18594
    let ⟨v18659, v18676⟩ : Σ' (v18659 : FVec F S48x256 .f32), FVec F S256x256 .bf16 ← k0_part430 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v18606 v18633 v18634
    let ⟨v18685, v18686, v18712, v18717, v18718⟩ : Σ' (v18685 : FVec F S48x256 .f32) (v18686 : Vec F S48x256 .bf16) (v18712 : FVec F S48x256 .f32) (v18717 : IVec S32x256 32), IVec S32x8x256 32 ← k0_part431 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v18632 v18633 v18659 v18676
    let ⟨v18738, v18739, v18756, v18759⟩ : Σ' (v18738 : FVec F S48x256 .f32) (v18739 : Vec F S48x256 .bf16) (v18756 : FVec F S256x256 .bf16), FVec F S8x1x256 .bf16 ← k0_part432 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v18685 v18686 v18717 v18718
    let ⟨v18765, v18791, v18792, v18797, v18800⟩ : Σ' (v18765 : FVec F S48x256 .f32) (v18791 : FVec F S48x256 .f32) (v18792 : Vec F S48x256 .bf16) (v18797 : IVec S32x256 32), IVec S32x8x256 32 ← k0_part433 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v18712 v18738 v18739 v18756 v18759
    let ⟨v18818, v18843⟩ : Σ' (v18818 : FVec F S48x256 .f32), FVec F S48x256 .f32 ← k0_part434 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v18765 v18792 v18797 v18800
    let ⟨v18844, v18845, v18871, v18884⟩ : Σ' (v18844 : FVec F S48x256 .f32) (v18845 : Vec F S48x256 .bf16) (v18871 : FVec F S48x256 .f32), IVec S32x8x256 32 ← k0_part435 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v18791 v18818 v18843
    let ⟨v18897, v18898, v18924⟩ : Σ' (v18897 : FVec F S48x256 .f32) (v18898 : Vec F S48x256 .bf16), FVec F S48x256 .f32 ← k0_part436 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v18844 v18845 v18871 v18884
    let v18961 : FVec F S48x256 .f32 ← k0_part437 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 k0_t1 v44 v18897 v18898 v18924
    have v18964 : FVec F S48x256 .f32 := shapeCast S48x256 v18961 shapeCasts_S48x256_S48x256
    Prog.lift (.store arg17 (Rect.unit (s := S48x2048) ![0, 1792] S48x256.size inb_S48x2048_S48x256_0_1792) v18964 Finset.univ (View.stores_vmem_bits_univ h_S48x256 rfl) (.inl rfl))
    let v18965 : Index := Scalar.indexCast v44
    let c0_7085 : Index := 0#32
    let c1792_7086 : Index := 1792#32
    let v18966 : Vec F S1x48x256 .f32 ← Prog.lift (.load arg9 (Rect.unit (s := S2x48x2048) (k0_off155 k0_t1) S1x48x256.size (k0_off155_inb k0_t1)).toLoadRect (View.loadsAt_vmem h_S1x48x256))
    have v18967 : FVec F S48x256 .f32 := shapeCast S48x256 v18966 shapeCasts_S1x48x256_S48x256
    have v18968 : FVec F S1x48x256 .f32 := shapeCast S1x48x256 v18961 shapeCasts_S48x256_S1x48x256
    Prog.lift (.store arg9 (Rect.unit (s := S2x48x2048) (k0_off155 k0_t1) S1x48x256.size (k0_off155_inb k0_t1)) v18968 Finset.univ (View.stores_vmem_bits_univ h_S1x48x256 rfl) (.inl rfl))
    let c0_i32_7087 : BitVec 32 := 0#32
    let v18969 : BitVec 1 := Scalar.cmpi .eq v44 c0_i32_7087
    let v18970 : BitVec 32 := Scalar.extui v18969
    let c0_i32_7088 : BitVec 32 := 0#32
    let v18971 : BitVec 1 := Scalar.cmpi .ne v18970 c0_i32_7088
    if k0_h2 : v18971 = 1#1 then do
      let c1_i32_7089 : BitVec 32 := 1#32
      let c0_i32_7090 : BitVec 32 := 0#32
      let c4_i32_7091 : BitVec 32 := 4#32
      let c1_i32_7092 : BitVec 32 := 1#32
      let v18972 : DmaSems sig S1x1 := arg20.slice (Rect.unit (s := S5x2) ![4, 1] S1x1.size inb_S5x2_S1x1_4_1)
      let v18973 : DmaSems sig S_ := v18972.squeeze S_ squeezes_S1x1_S_
      let c0_i32_7093 : BitVec 32 := 0#32
      let c0_i32_7094 : BitVec 32 := 0#32
      let v18974 : Memref sig .tc .vmem S1x2816x2048 .i8 := arg15.slice (Rect.unit (s := S1x2816x2048) ![0, 0, 0] S1x2816x2048.size inb_S1x2816x2048_S1x2816x2048_0_0_0) (fun _ => rfl)
      let v18975 : Memref sig .tc .vmem S2816x2048 .i8 := v18974.squeeze S2816x2048 squeezes_S1x2816x2048_S2816x2048
      let c0_i32_7095 : BitVec 32 := 0#32
      let c0_i32_7096 : BitVec 32 := 0#32
      let v18976 : Memref sig .tc .hbm S1x2816x2048 .i8 := arg7.slice (Rect.unit (s := S2x2816x2048) ![1, 0, 0] S1x2816x2048.size inb_S2x2816x2048_S1x2816x2048_1_0_0) (fun _ => rfl)
      let v18977 : Memref sig .tc .hbm S2816x2048 .i8 := v18976.squeeze S2816x2048 squeezes_S1x2816x2048_S2816x2048
      Prog.lift (.enqueueDma v18977 (.here v18975) (.dma v18973.sem) ((harg7.wordExact_slice rfl _ wordsi8_S2x2816x2048_S1x2816x2048_1_0_0).reshape _ _) ((harg15.wordExact_slice rfl _ wordsi8_S1x2816x2048_S1x2816x2048_0_0_0).reshape _ _) ⟨Or.inl rfl, trivial⟩)
      let c1_i32_7097 : BitVec 32 := 1#32
      let c0_i32_7098 : BitVec 32 := 0#32
      let c4_i32_7099 : BitVec 32 := 4#32
      let c1_i32_7100 : BitVec 32 := 1#32
      let v18978 : DmaSems sig S1x1 := arg20.slice (Rect.unit (s := S5x2) ![4, 1] S1x1.size inb_S5x2_S1x1_4_1)
      let v18979 : DmaSems sig S_ := v18978.squeeze S_ squeezes_S1x1_S_
      let c0_i32_7101 : BitVec 32 := 0#32
      let c0_i32_7102 : BitVec 32 := 0#32
      let v18980 : Memref sig .tc .vmem S1x176x2048 .bf16 := arg16.slice (Rect.unit (s := S1x176x2048) ![0, 0, 0] S1x176x2048.size inb_S1x176x2048_S1x176x2048_0_0_0) (fun _ => rfl)
      let v18981 : Memref sig .tc .vmem S176x2048 .bf16 := v18980.squeeze S176x2048 squeezes_S1x176x2048_S176x2048
      let c0_i32_7103 : BitVec 32 := 0#32
      let c0_i32_7104 : BitVec 32 := 0#32
      let v18982 : Memref sig .tc .hbm S1x176x2048 .bf16 := arg8.slice (Rect.unit (s := S2x176x2048) ![1, 0, 0] S1x176x2048.size inb_S2x176x2048_S1x176x2048_1_0_0) (fun _ => rfl)
      let v18983 : Memref sig .tc .hbm S176x2048 .bf16 := v18982.squeeze S176x2048 squeezes_S1x176x2048_S176x2048
      Prog.lift (.enqueueDma v18983 (.here v18981) (.dma v18979.sem) ((harg8.wordExact_slice rfl _ wordsbf16_S2x176x2048_S1x176x2048_1_0_0).reshape _ _) ((harg16.wordExact_slice rfl _ wordsbf16_S1x176x2048_S1x176x2048_0_0_0).reshape _ _) ⟨Or.inl rfl, trivial⟩)
      pure ⟨⟩
    else do
      pure ⟨⟩
    pure ⟨⟩

theorem trips_list : List.finRange k0_t1_loop.trips = [t0, t1] := by decide

/-- The printed body runs the transfers' starts, copies the rows in, and then runs the two trips. -/
theorem body_trips (arg0 : Memref sig .tc .vmem S6x8x2048 .bf16) (harg0 : arg0.IsWhole) (arg1 : Memref sig .tc .vmem S2x48x2048 .bf16) (harg1 : arg1.IsWhole) (arg2 : Memref sig .tc .vmem S2x2048 .f32) (harg2 : arg2.IsWhole) (arg3 : Memref sig .tc .hbm S2x1024x2048 .i8) (harg3 : arg3.IsWhole) (arg4 : Memref sig .tc .hbm S2x64x2048 .bf16) (harg4 : arg4.IsWhole) (arg5 : Memref sig .tc .hbm S2x1024x11264 .i8) (harg5 : arg5.IsWhole) (arg6 : Memref sig .tc .hbm S2x64x11264 .bf16) (harg6 : arg6.IsWhole) (arg7 : Memref sig .tc .hbm S2x2816x2048 .i8) (harg7 : arg7.IsWhole) (arg8 : Memref sig .tc .hbm S2x176x2048 .bf16) (harg8 : arg8.IsWhole) (arg9 : Memref sig .tc .vmem S2x48x2048 .f32) (harg9 : arg9.IsWhole) (arg10 : Memref sig .tc .vmem S2x48x2048 .f32) (harg10 : arg10.IsWhole) (arg11 : Memref sig .tc .vmem S2x1024x2048 .i8) (harg11 : arg11.IsWhole) (arg12 : Memref sig .tc .vmem S2x64x2048 .bf16) (harg12 : arg12.IsWhole) (arg13 : Memref sig .tc .vmem S2x1024x11264 .i8) (harg13 : arg13.IsWhole) (arg14 : Memref sig .tc .vmem S2x64x11264 .bf16) (harg14 : arg14.IsWhole) (arg15 : Memref sig .tc .vmem S1x2816x2048 .i8) (harg15 : arg15.IsWhole) (arg16 : Memref sig .tc .vmem S1x176x2048 .bf16) (harg16 : arg16.IsWhole) (arg17 : Memref sig .tc .vmem S48x2048 .f32) (harg17 : arg17.IsWhole) (arg18 : Memref sig .tc .vmem S48x2048 .bf16) (harg18 : arg18.IsWhole) (arg19 : Memref sig .tc .vmem S48x5632 .bf16) (harg19 : arg19.IsWhole) (arg20 : DmaSems sig S5x2) :
    cc0_spec_verify (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 =
      (startO0 arg3 harg3 arg4 harg4 arg11 harg11 arg12 harg12 arg20 fun _ =>
      startGu0 arg5 harg5 arg6 harg6 arg13 harg13 arg14 harg14 arg20 fun _ =>
      startDn0 arg7 harg7 arg8 harg8 arg15 harg15 arg16 harg16 arg20 fun _ =>
      rowsIn arg0 arg17 fun _ =>
        (trip arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 t0 >>= fun _ => trip arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 t1 >>= fun _ => .ret ⟨⟩ : PG F) >>= fun _ => .ret PUnit.unit : PG F) := by
  have h := Scf.for_eq (E := TpuEff nD τ sig (Elt F) Λ₀ .tc) k0_t1_loop.lb k0_t1_loop.ub k0_t1_loop.st k0_t1_ok PUnit.unit (fun k _ => trip arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 k)
  rw [show List.finRange (Scf.trips k0_t1_loop.lb k0_t1_loop.ub k0_t1_loop.st) = [t0, t1] from trips_list] at h
  refine congrArg (startO0 arg3 harg3 arg4 harg4 arg11 harg11 arg12 harg12 arg20) (funext fun _ => ?_)
  refine congrArg (startGu0 arg5 harg5 arg6 harg6 arg13 harg13 arg14 harg14 arg20) (funext fun _ => ?_)
  refine congrArg (startDn0 arg7 harg7 arg8 harg8 arg15 harg15 arg16 harg16 arg20) (funext fun _ => ?_)
  refine congrArg (rowsIn arg0 arg17) (funext fun _ => ?_)
  exact congrArg (fun p : PG F => p >>= fun _ => .ret PUnit.unit) h

set_option maxHeartbeats 4000000 in
theorem body_eq (arg0 : Memref sig .tc .vmem S6x8x2048 .bf16) (harg0 : arg0.IsWhole) (arg1 : Memref sig .tc .vmem S2x48x2048 .bf16) (harg1 : arg1.IsWhole) (arg2 : Memref sig .tc .vmem S2x2048 .f32) (harg2 : arg2.IsWhole) (arg3 : Memref sig .tc .hbm S2x1024x2048 .i8) (harg3 : arg3.IsWhole) (arg4 : Memref sig .tc .hbm S2x64x2048 .bf16) (harg4 : arg4.IsWhole) (arg5 : Memref sig .tc .hbm S2x1024x11264 .i8) (harg5 : arg5.IsWhole) (arg6 : Memref sig .tc .hbm S2x64x11264 .bf16) (harg6 : arg6.IsWhole) (arg7 : Memref sig .tc .hbm S2x2816x2048 .i8) (harg7 : arg7.IsWhole) (arg8 : Memref sig .tc .hbm S2x176x2048 .bf16) (harg8 : arg8.IsWhole) (arg9 : Memref sig .tc .vmem S2x48x2048 .f32) (harg9 : arg9.IsWhole) (arg10 : Memref sig .tc .vmem S2x48x2048 .f32) (harg10 : arg10.IsWhole) (arg11 : Memref sig .tc .vmem S2x1024x2048 .i8) (harg11 : arg11.IsWhole) (arg12 : Memref sig .tc .vmem S2x64x2048 .bf16) (harg12 : arg12.IsWhole) (arg13 : Memref sig .tc .vmem S2x1024x11264 .i8) (harg13 : arg13.IsWhole) (arg14 : Memref sig .tc .vmem S2x64x11264 .bf16) (harg14 : arg14.IsWhole) (arg15 : Memref sig .tc .vmem S1x2816x2048 .i8) (harg15 : arg15.IsWhole) (arg16 : Memref sig .tc .vmem S1x176x2048 .bf16) (harg16 : arg16.IsWhole) (arg17 : Memref sig .tc .vmem S48x2048 .f32) (harg17 : arg17.IsWhole) (arg18 : Memref sig .tc .vmem S48x2048 .bf16) (harg18 : arg18.IsWhole) (arg19 : Memref sig .tc .vmem S48x5632 .bf16) (harg19 : arg19.IsWhole) (arg20 : DmaSems sig S5x2) :
    cc0_spec_verify (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 = pieces arg0 arg1 arg2 arg3 harg3 arg4 harg4 arg5 harg5 arg6 harg6 arg7 harg7 arg8 harg8 arg9 arg10 arg11 harg11 arg12 harg12 arg13 harg13 arg14 harg14 arg15 harg15 arg16 harg16 arg17 arg18 harg18 arg19 harg19 arg20 (fun _ => .ret ⟨⟩) := by
  refine (body_trips arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20).trans ?_
  refine congrArg (startO0 arg3 harg3 arg4 harg4 arg11 harg11 arg12 harg12 arg20) (funext fun _ => ?_)
  refine congrArg (startGu0 arg5 harg5 arg6 harg6 arg13 harg13 arg14 harg14 arg20) (funext fun _ => ?_)
  refine congrArg (startDn0 arg7 harg7 arg8 harg8 arg15 harg15 arg16 harg16 arg20) (funext fun _ => ?_)
  refine congrArg (rowsIn arg0 arg17) (funext fun _ => ?_)
  refine congrArg (fun K => atSteps arg1 arg18 harg18 t0 K 16 0 (by omega) ⟨⟩) (funext fun _ => ?_)
  refine congrArg (startO1 arg3 harg3 arg4 harg4 arg11 harg11 arg12 harg12 arg20) (funext fun _ => ?_)
  refine congrArg (startGu1 arg5 harg5 arg6 harg6 arg13 harg13 arg14 harg14 arg20) (funext fun _ => ?_)
  refine congrArg (waitO arg3 harg3 arg4 harg4 arg11 harg11 arg12 harg12 arg20 t0) (funext fun _ => ?_)
  refine congrArg (oChunk arg10 arg11 arg12 arg17 arg18 t0 0 (by omega)) (funext fun _ => ?_)
  refine congrArg (oChunk arg10 arg11 arg12 arg17 arg18 t0 1 (by omega)) (funext fun _ => ?_)
  refine congrArg (oChunk arg10 arg11 arg12 arg17 arg18 t0 2 (by omega)) (funext fun _ => ?_)
  refine congrArg (oChunk arg10 arg11 arg12 arg17 arg18 t0 3 (by omega)) (funext fun _ => ?_)
  refine congrArg (rms arg2 arg17 arg18 harg18 t0) (funext fun _ => ?_)
  refine congrArg (waitGu arg5 harg5 arg6 harg6 arg13 harg13 arg14 harg14 arg20 t0) (funext fun _ => ?_)
  refine congrArg (guChunk arg13 arg14 arg18 arg19 harg19 t0 0 (by omega)) (funext fun _ => ?_)
  refine congrArg (guChunk arg13 arg14 arg18 arg19 harg19 t0 1 (by omega)) (funext fun _ => ?_)
  refine congrArg (guChunk arg13 arg14 arg18 arg19 harg19 t0 2 (by omega)) (funext fun _ => ?_)
  refine congrArg (guChunk arg13 arg14 arg18 arg19 harg19 t0 3 (by omega)) (funext fun _ => ?_)
  refine congrArg (guChunk arg13 arg14 arg18 arg19 harg19 t0 4 (by omega)) (funext fun _ => ?_)
  refine congrArg (guChunk arg13 arg14 arg18 arg19 harg19 t0 5 (by omega)) (funext fun _ => ?_)
  refine congrArg (guChunk arg13 arg14 arg18 arg19 harg19 t0 6 (by omega)) (funext fun _ => ?_)
  refine congrArg (guChunk arg13 arg14 arg18 arg19 harg19 t0 7 (by omega)) (funext fun _ => ?_)
  refine congrArg (guChunk arg13 arg14 arg18 arg19 harg19 t0 8 (by omega)) (funext fun _ => ?_)
  refine congrArg (guChunk arg13 arg14 arg18 arg19 harg19 t0 9 (by omega)) (funext fun _ => ?_)
  refine congrArg (guChunk arg13 arg14 arg18 arg19 harg19 t0 10 (by omega)) (funext fun _ => ?_)
  refine congrArg (guChunk arg13 arg14 arg18 arg19 harg19 t0 11 (by omega)) (funext fun _ => ?_)
  refine congrArg (guChunk arg13 arg14 arg18 arg19 harg19 t0 12 (by omega)) (funext fun _ => ?_)
  refine congrArg (guChunk arg13 arg14 arg18 arg19 harg19 t0 13 (by omega)) (funext fun _ => ?_)
  refine congrArg (guChunk arg13 arg14 arg18 arg19 harg19 t0 14 (by omega)) (funext fun _ => ?_)
  refine congrArg (guChunk arg13 arg14 arg18 arg19 harg19 t0 15 (by omega)) (funext fun _ => ?_)
  refine congrArg (guChunk arg13 arg14 arg18 arg19 harg19 t0 16 (by omega)) (funext fun _ => ?_)
  refine congrArg (guChunk arg13 arg14 arg18 arg19 harg19 t0 17 (by omega)) (funext fun _ => ?_)
  refine congrArg (guChunk arg13 arg14 arg18 arg19 harg19 t0 18 (by omega)) (funext fun _ => ?_)
  refine congrArg (guChunk arg13 arg14 arg18 arg19 harg19 t0 19 (by omega)) (funext fun _ => ?_)
  refine congrArg (guChunk arg13 arg14 arg18 arg19 harg19 t0 20 (by omega)) (funext fun _ => ?_)
  refine congrArg (guChunk arg13 arg14 arg18 arg19 harg19 t0 21 (by omega)) (funext fun _ => ?_)
  refine congrArg (waitDn arg7 harg7 arg8 harg8 arg15 harg15 arg16 harg16 arg20 t0) (funext fun _ => ?_)
  refine congrArg (dnChunk arg9 arg15 arg16 arg17 arg19 t0 0 (by omega)) (funext fun _ => ?_)
  refine congrArg (dnChunk arg9 arg15 arg16 arg17 arg19 t0 1 (by omega)) (funext fun _ => ?_)
  refine congrArg (dnChunk arg9 arg15 arg16 arg17 arg19 t0 2 (by omega)) (funext fun _ => ?_)
  refine congrArg (dnChunk arg9 arg15 arg16 arg17 arg19 t0 3 (by omega)) (funext fun _ => ?_)
  refine congrArg (startDn1 arg7 harg7 arg8 harg8 arg15 harg15 arg16 harg16 arg20) (funext fun _ => ?_)
  refine congrArg (fun K => atSteps arg1 arg18 harg18 t1 K 16 0 (by omega) ⟨⟩) (funext fun _ => ?_)
  refine congrArg (waitO arg3 harg3 arg4 harg4 arg11 harg11 arg12 harg12 arg20 t1) (funext fun _ => ?_)
  refine congrArg (oChunk arg10 arg11 arg12 arg17 arg18 t1 0 (by omega)) (funext fun _ => ?_)
  refine congrArg (oChunk arg10 arg11 arg12 arg17 arg18 t1 1 (by omega)) (funext fun _ => ?_)
  refine congrArg (oChunk arg10 arg11 arg12 arg17 arg18 t1 2 (by omega)) (funext fun _ => ?_)
  refine congrArg (oChunk arg10 arg11 arg12 arg17 arg18 t1 3 (by omega)) (funext fun _ => ?_)
  refine congrArg (rms arg2 arg17 arg18 harg18 t1) (funext fun _ => ?_)
  refine congrArg (waitGu arg5 harg5 arg6 harg6 arg13 harg13 arg14 harg14 arg20 t1) (funext fun _ => ?_)
  refine congrArg (guChunk arg13 arg14 arg18 arg19 harg19 t1 0 (by omega)) (funext fun _ => ?_)
  refine congrArg (guChunk arg13 arg14 arg18 arg19 harg19 t1 1 (by omega)) (funext fun _ => ?_)
  refine congrArg (guChunk arg13 arg14 arg18 arg19 harg19 t1 2 (by omega)) (funext fun _ => ?_)
  refine congrArg (guChunk arg13 arg14 arg18 arg19 harg19 t1 3 (by omega)) (funext fun _ => ?_)
  refine congrArg (guChunk arg13 arg14 arg18 arg19 harg19 t1 4 (by omega)) (funext fun _ => ?_)
  refine congrArg (guChunk arg13 arg14 arg18 arg19 harg19 t1 5 (by omega)) (funext fun _ => ?_)
  refine congrArg (guChunk arg13 arg14 arg18 arg19 harg19 t1 6 (by omega)) (funext fun _ => ?_)
  refine congrArg (guChunk arg13 arg14 arg18 arg19 harg19 t1 7 (by omega)) (funext fun _ => ?_)
  refine congrArg (guChunk arg13 arg14 arg18 arg19 harg19 t1 8 (by omega)) (funext fun _ => ?_)
  refine congrArg (guChunk arg13 arg14 arg18 arg19 harg19 t1 9 (by omega)) (funext fun _ => ?_)
  refine congrArg (guChunk arg13 arg14 arg18 arg19 harg19 t1 10 (by omega)) (funext fun _ => ?_)
  refine congrArg (guChunk arg13 arg14 arg18 arg19 harg19 t1 11 (by omega)) (funext fun _ => ?_)
  refine congrArg (guChunk arg13 arg14 arg18 arg19 harg19 t1 12 (by omega)) (funext fun _ => ?_)
  refine congrArg (guChunk arg13 arg14 arg18 arg19 harg19 t1 13 (by omega)) (funext fun _ => ?_)
  refine congrArg (guChunk arg13 arg14 arg18 arg19 harg19 t1 14 (by omega)) (funext fun _ => ?_)
  refine congrArg (guChunk arg13 arg14 arg18 arg19 harg19 t1 15 (by omega)) (funext fun _ => ?_)
  refine congrArg (guChunk arg13 arg14 arg18 arg19 harg19 t1 16 (by omega)) (funext fun _ => ?_)
  refine congrArg (guChunk arg13 arg14 arg18 arg19 harg19 t1 17 (by omega)) (funext fun _ => ?_)
  refine congrArg (guChunk arg13 arg14 arg18 arg19 harg19 t1 18 (by omega)) (funext fun _ => ?_)
  refine congrArg (guChunk arg13 arg14 arg18 arg19 harg19 t1 19 (by omega)) (funext fun _ => ?_)
  refine congrArg (guChunk arg13 arg14 arg18 arg19 harg19 t1 20 (by omega)) (funext fun _ => ?_)
  refine congrArg (guChunk arg13 arg14 arg18 arg19 harg19 t1 21 (by omega)) (funext fun _ => ?_)
  refine congrArg (waitDn arg7 harg7 arg8 harg8 arg15 harg15 arg16 harg16 arg20 t1) (funext fun _ => ?_)
  refine congrArg (dnChunk arg9 arg15 arg16 arg17 arg19 t1 0 (by omega)) (funext fun _ => ?_)
  refine congrArg (dnChunk arg9 arg15 arg16 arg17 arg19 t1 1 (by omega)) (funext fun _ => ?_)
  refine congrArg (dnChunk arg9 arg15 arg16 arg17 arg19 t1 2 (by omega)) (funext fun _ => ?_)
  refine congrArg (dnChunk arg9 arg15 arg16 arg17 arg19 t1 3 (by omega)) (funext fun _ => ?_)
  rfl

end Cert.KernelIdeal.Hand
-- ==== Proof.KIVal.lean ====
/-
  What the kernel's buffers hold, layer by layer, as functions of the weights and of the rows a layer starts from.
-/
module

public import proofs.«01_k».proof.Proof.KIBody
public import Idealize.ShloMosaic.Lib.ValueIdxCore
public import Idealize.ShloMosaic.Lib.Pointwise

@[expose] public section

set_option maxRecDepth 16384

noncomputable section

namespace Cert.KernelIdeal.Hand

open Cert.KernelIdeal Cert.KernelIdeal.Gen Cert.Own
open Idealize.ShloMosaic hiding ix0 ix1 ix2 ix3
open Idealize.ShloMosaic.TcCoe Idealize.ShloMosaic.Tactic Idealize.ShloMosaic.ValueIdx

variable {F : FTy → Type} [FloatOps F]

/-! ## Column blocks -/

theorem col2_emb {n0 n1 w : ℕ} {o : ℕ} {inb : ∀ a, (![0, o] : Fin 2 → ℕ) a + (⟨2, ![n0, w]⟩ : Shape).size a ≤ (⟨2, ![n0, n1]⟩ : Shape).size a}
    (y : (⟨2, ![n0, n1]⟩ : Shape).Idx) (h : o ≤ (y 1).val) (h' : (y 1).val - o < w) :
    (Rect.unit (s := ⟨2, ![n0, n1]⟩) ![0, o] (⟨2, ![n0, w]⟩ : Shape).size inb).emb (ix2 (y 0) ⟨(y 1).val - o, h'⟩) = y := by
  funext a
  fin_cases a
  · refine Fin.ext ?_
    show 0 + 1 * (y 0).val = (y 0).val; omega
  · refine Fin.ext ?_
    show o + 1 * ((y 1).val - o) = (y 1).val; omega

theorem col2_not {n0 n1 w : ℕ} {o : ℕ} {inb : ∀ a, (![0, o] : Fin 2 → ℕ) a + (⟨2, ![n0, w]⟩ : Shape).size a ≤ (⟨2, ![n0, n1]⟩ : Shape).size a}
    (y : (⟨2, ![n0, n1]⟩ : Shape).Idx) (h : (y 1).val < o ∨ o + w ≤ (y 1).val)
    (x : (Rect.unit (s := ⟨2, ![n0, n1]⟩) ![0, o] (⟨2, ![n0, w]⟩ : Shape).size inb).shape.Idx) :
    (Rect.unit (s := ⟨2, ![n0, n1]⟩) ![0, o] (⟨2, ![n0, w]⟩ : Shape).size inb).emb x ≠ y := by
  intro he
  have h1 : o + 1 * (x 1).val = (y 1).val := congrArg (fun z => (z 1).val) he
  have h2 : (x 1).val < w := (x 1).isLt
  omega

theorem col3_emb {m n0 n1 w : ℕ} {l o : ℕ} {inb : ∀ a, (![l, 0, o] : Fin 3 → ℕ) a + (⟨3, ![1, n0, w]⟩ : Shape).size a ≤ (⟨3, ![m, n0, n1]⟩ : Shape).size a}
    (y : (⟨3, ![m, n0, n1]⟩ : Shape).Idx) (hl : (y 0).val = l) (h : o ≤ (y 2).val) (h' : (y 2).val - o < w) :
    (Rect.unit (s := ⟨3, ![m, n0, n1]⟩) ![l, 0, o] (⟨3, ![1, n0, w]⟩ : Shape).size inb).emb (ix3 0 (y 1) ⟨(y 2).val - o, h'⟩) = y := by
  funext a
  fin_cases a
  · refine Fin.ext ?_
    show l + 1 * 0 = (y 0).val; omega
  · refine Fin.ext ?_
    show 0 + 1 * (y 1).val = (y 1).val; omega
  · refine Fin.ext ?_
    show o + 1 * ((y 2).val - o) = (y 2).val; omega

theorem col3_not {m n0 n1 w : ℕ} {l o : ℕ} {inb : ∀ a, (![l, 0, o] : Fin 3 → ℕ) a + (⟨3, ![1, n0, w]⟩ : Shape).size a ≤ (⟨3, ![m, n0, n1]⟩ : Shape).size a}
    (y : (⟨3, ![m, n0, n1]⟩ : Shape).Idx) (h : (y 0).val ≠ l ∨ (y 2).val < o ∨ o + w ≤ (y 2).val)
    (x : (Rect.unit (s := ⟨3, ![m, n0, n1]⟩) ![l, 0, o] (⟨3, ![1, n0, w]⟩ : Shape).size inb).shape.Idx) :
    (Rect.unit (s := ⟨3, ![m, n0, n1]⟩) ![l, 0, o] (⟨3, ![1, n0, w]⟩ : Shape).size inb).emb x ≠ y := by
  intro he
  have h0 : l + 1 * (x 0).val = (y 0).val := congrArg (fun z => (z 0).val) he
  have h1 : o + 1 * (x 2).val = (y 2).val := congrArg (fun z => (z 2).val) he
  have h2 : (x 2).val < w := (x 2).isLt
  have h3 : (x 0).val < 1 := (x 0).isLt
  omega

/-! ## The values of one layer -/

section
variable (k : Fin k0_t1_loop.trips)
variable (x : S2x48x2048.Idx → Elt F .f32) (nn : S2x2048.Idx → Elt F .f32)
variable (wg : S2x1024x11264.Idx → Elt F .i8) (sg : S2x64x11264.Idx → Elt F .bf16)
variable (wd : S1x2816x2048.Idx → Elt F .i8) (sd : S1x176x2048.Idx → Elt F .bf16)

/-- The rows the layer normalises. -/
def rowsV : FVec F S48x2048 .f32 :=
  fun y => x (ix3 ⟨k.val, k.isLt⟩ (y 0) (y 1))

/-- The layer's normalised rows, in the lane order of the packed weights. -/
def actV (r : FVec F S48x2048 .f32) : S48x2048.Idx → Elt F .bf16 := fun y =>
  rmsVal r (fun z => nn ((rN k).emb z)) ((y 1).val / 128) (by have h : (y 1).val < 2048 := (y 1).isLt; omega)
    (ix2 (y 0) ⟨(y 1).val % 128, Nat.mod_lt _ (by decide)⟩)

theorem actV_eq (r : FVec F S48x2048 .f32) (i : ℕ) (h : i < 16) (y : S48x2048.Idx) (h1 : 128 * i ≤ (y 1).val) (h2 : (y 1).val - 128 * i < 128) :
    rmsVal r (fun z => nn ((rN k).emb z)) i h (ix2 (y 0) ⟨(y 1).val - 128 * i, h2⟩) = actV k nn r y := by
  unfold actV
  have e : i = (y 1).val / 128 := by omega
  subst e
  refine congrArg _ ?_
  refine congrArg (ix2 (y 0)) (Fin.ext ?_)
  show (y 1).val - 128 * ((y 1).val / 128) = (y 1).val % 128
  omega

/-- Rows plus a matrix given by its column blocks. -/
def addCols (r : FVec F S48x2048 .f32) (tile : (c : ℕ) → c < 8 → FVec F S48x256 .f32) : S48x2048.Idx → Elt F .f32 := fun y =>
  (addf (fun z => r ((rA ((y 1).val / 256) (by have h : (y 1).val < 2048 := (y 1).isLt; omega)).emb z))
    (tile ((y 1).val / 256) (by have h : (y 1).val < 2048 := (y 1).isLt; omega)) : FVec F S48x256 .f32)
    (ix2 (y 0) ⟨(y 1).val % 256, Nat.mod_lt _ (by decide)⟩)

theorem addCols_eq (r : FVec F S48x2048 .f32) (tile : (c : ℕ) → c < 8 → FVec F S48x256 .f32) (c : ℕ) (hc : c < 8) (y : S48x2048.Idx)
    (h1 : 256 * c ≤ (y 1).val) (h2 : (y 1).val - 256 * c < 256) :
    (addf (fun z => r ((rA c hc).emb z)) (tile c hc) : FVec F S48x256 .f32) (ix2 (y 0) ⟨(y 1).val - 256 * c, h2⟩) = addCols r tile y := by
  unfold addCols
  have e : c = (y 1).val / 256 := by omega
  subst e
  refine congrArg _ ?_
  refine congrArg (ix2 (y 0)) (Fin.ext ?_)
  show (y 1).val - 256 * ((y 1).val / 256) = (y 1).val % 256
  omega

/-- The layer's attention in the lane order of the packed weights. -/
def attV (at' : S2x48x2048.Idx → Elt F .bf16) : S48x2048.Idx → Elt F .bf16 := fun y =>
  ilv (shapeCast S48x128 ((fun z => at' ((rT k ((y 1).val / 128) (by have h : (y 1).val < 2048 := (y 1).isLt; omega)).emb z)) : FVec F S1x48x128 .bf16)
    shapeCasts_S1x48x128_S48x128) (ix2 (y 0) ⟨(y 1).val % 128, Nat.mod_lt _ (by decide)⟩)

theorem attV_eq (at' : S2x48x2048.Idx → Elt F .bf16) (i : ℕ) (h : i < 16) (y : S48x2048.Idx) (h1 : 128 * i ≤ (y 1).val) (h2 : (y 1).val - 128 * i < 128) :
    ilv (shapeCast S48x128 ((fun z => at' ((rT k i h).emb z)) : FVec F S1x48x128 .bf16) shapeCasts_S1x48x128_S48x128) (ix2 (y 0) ⟨(y 1).val - 128 * i, h2⟩)
      = attV k at' y := by
  unfold attV
  have e : i = (y 1).val / 128 := by omega
  subst e
  refine congrArg _ ?_
  refine congrArg (ix2 (y 0)) (Fin.ext ?_)
  show (y 1).val - 128 * ((y 1).val / 128) = (y 1).val % 128
  omega

section
variable (wo : S2x1024x2048.Idx → Elt F .i8) (so : S2x64x2048.Idx → Elt F .bf16)

/-- The partial sums of one column block of the output projection. -/
def oAcc (a : S48x2048.Idx → Elt F .bf16) (c : ℕ) (hc : c < 8) : (n j : ℕ) → j + n ≤ 8 → FVec F S48x256 .f32 → FVec F S48x256 .f32
  | 0, _, _, g => g
  | n + 1, j, h, g => oAcc a c hc n (j + 1) (by omega)
      (addf g (mm (fun z => a ((rA j (by omega)).emb z)) (fun z => wo ((rWo k j c (by omega) hc).emb z)) (fun z => so ((rSo k j c (by omega) hc).emb z))))

/-- One column block of the output projection. -/
def oTot (a : S48x2048.Idx → Elt F .bf16) (c : ℕ) (hc : c < 8) : FVec F S48x256 .f32 :=
  oAcc k wo so a c hc 7 1 (by omega)
    (mm (fun z => a ((rA 0 (by omega)).emb z)) (fun z => wo ((rWo k 0 c (by omega) hc).emb z)) (fun z => so ((rSo k 0 c (by omega) hc).emb z)))

/-- The rows after the attention: those before it plus the output projection. -/
abbrev midV (r : FVec F S48x2048 .f32) (a : S48x2048.Idx → Elt F .bf16) : S48x2048.Idx → Elt F .f32 := addCols r (oTot k wo so a)

end

/-- The partial sums of one column block of the first layer. -/
def gAcc (a : S48x2048.Idx → Elt F .bf16) (c : ℕ) (hc : c < 44) : (n j : ℕ) → j + n ≤ 8 → FVec F S48x256 .f32 → FVec F S48x256 .f32
  | 0, _, _, g => g
  | n + 1, j, h, g => gAcc a c hc n (j + 1) (by omega)
      (addf g (mm (fun z => a ((rA j (by omega)).emb z)) (fun z => wg ((rWg k j c (by omega) hc).emb z)) (fun z => sg ((rSg k j c (by omega) hc).emb z))))

/-- One column block of the first layer. -/
def gTot (a : S48x2048.Idx → Elt F .bf16) (c : ℕ) (hc : c < 44) : FVec F S48x256 .f32 :=
  gAcc k wg sg a c hc 7 1 (by omega)
    (mm (fun z => a ((rA 0 (by omega)).emb z)) (fun z => wg ((rWg k 0 c (by omega) hc).emb z)) (fun z => sg ((rSg k 0 c (by omega) hc).emb z)))

theorem slP (b : ℕ) (h : b < 2) : S48x256.Slices ![0, 128 * b] S48x128 :=
  (by decide : ∀ b : Fin 2, S48x256.Slices ![0, 128 * b.val] S48x128) ⟨b, h⟩

/-- 128 columns of the gated activations, in the lane order of the packed weights. -/
def pTile (a : S48x2048.Idx → Elt F .bf16) (c : ℕ) (hc : c < 22) (b : ℕ) (hb : b < 2) : FVec F S48x128 .bf16 :=
  ilv (extractStridedSlice S48x128 ![0, 128 * b] (actOf (gTot k wg sg a c (by omega)) (gTot k wg sg a (c + 22) (by omega))) (slP b hb))

/-- The gated activations. -/
def gateV (a : S48x2048.Idx → Elt F .bf16) : S48x5632.Idx → Elt F .bf16 := fun y =>
  pTile k wg sg a ((y 1).val / 256) (by have h : (y 1).val < 5632 := (y 1).isLt; omega) ((y 1).val / 128 % 2) (by omega)
    (ix2 (y 0) ⟨(y 1).val % 128, Nat.mod_lt _ (by decide)⟩)

theorem gateV_eq (a : S48x2048.Idx → Elt F .bf16) (c : ℕ) (hc : c < 22) (b : ℕ) (hb : b < 2) (y : S48x5632.Idx)
    (h1 : 128 * (2 * c + b) ≤ (y 1).val) (h2 : (y 1).val - 128 * (2 * c + b) < 128) :
    pTile k wg sg a c hc b hb (ix2 (y 0) ⟨(y 1).val - 128 * (2 * c + b), h2⟩) = gateV k wg sg a y := by
  unfold gateV
  have e : c = (y 1).val / 256 := by omega
  have e' : b = (y 1).val / 128 % 2 := by omega
  subst e
  subst e'
  refine congrArg _ ?_
  refine congrArg (ix2 (y 0)) (Fin.ext ?_)
  show (y 1).val - 128 * (2 * ((y 1).val / 256) + (y 1).val / 128 % 2) = (y 1).val % 128
  omega

/-- The partial sums of one column block of the second layer. -/
def dAcc (p : S48x5632.Idx → Elt F .bf16) (c : ℕ) (hc : c < 8) : (n j : ℕ) → j + n ≤ 22 → FVec F S48x256 .f32 → FVec F S48x256 .f32
  | 0, _, _, g => g
  | n + 1, j, h, g => dAcc p c hc n (j + 1) (by omega)
      (addf g (mm (fun z => p ((rP2 j (by omega)).emb z)) (fun z => wd ((rWd j c (by omega) hc).emb z)) (fun z => sd ((rSd j c (by omega) hc).emb z))))

/-- One column block of the second layer. -/
def dTot (p : S48x5632.Idx → Elt F .bf16) (c : ℕ) (hc : c < 8) : FVec F S48x256 .f32 :=
  dAcc wd sd p c hc 21 1 (by omega)
    (mm (fun z => p ((rP2 0 (by omega)).emb z)) (fun z => wd ((rWd 0 c (by omega) hc).emb z)) (fun z => sd ((rSd 0 c (by omega) hc).emb z)))

/-- The layer's result. -/
abbrev outV (r : FVec F S48x2048 .f32) (p : S48x5632.Idx → Elt F .bf16) : S48x2048.Idx → Elt F .f32 := addCols r (dTot wd sd p)

end

/-- The result: in each layer the rows plus the gated layer's output. -/
def hidV (x : S2x48x2048.Idx → Elt F .f32) (nn : S2x2048.Idx → Elt F .f32)
    (wg : S2x1024x11264.Idx → Elt F .i8) (sg : S2x64x11264.Idx → Elt F .bf16)
    (wd : S2x2816x2048.Idx → Elt F .i8) (sd : S2x176x2048.Idx → Elt F .bf16) (k : Fin k0_t1_loop.trips) : S48x2048.Idx → Elt F .f32 :=
  outV (fun z => wd (ix3 ⟨k.val, k.isLt⟩ (z 1) (z 2))) (fun z => sd (ix3 ⟨k.val, k.isLt⟩ (z 1) (z 2))) (rowsV k x)
    (gateV k wg sg (actV k nn (rowsV k x)))

def hidAll (x : S2x48x2048.Idx → Elt F .f32) (nn : S2x2048.Idx → Elt F .f32)
    (wg : S2x1024x11264.Idx → Elt F .i8) (sg : S2x64x11264.Idx → Elt F .bf16)
    (wd : S2x2816x2048.Idx → Elt F .i8) (sd : S2x176x2048.Idx → Elt F .bf16) : S2x48x2048.Idx → Elt F .f32 := fun y =>
  hidV x nn wg sg wd sd ⟨(y 0).val, (y 0).isLt⟩ (ix2 (y 1) (y 2))

/-! ## The rows between the layers -/

/-- The rows the first layer starts from. -/
def rows0 (x0 : S6x8x2048.Idx → Elt F .bf16) : FVec F S48x2048 .f32 :=
  shapeCast S48x2048 (extf .f32 (x0 : FVec F S6x8x2048 .bf16) bitsLt_bf16_f32 : FVec F S6x8x2048 .f32) shapeCasts_S6x8x2048_S48x2048

/-- The same rows in both layers. -/
def both (m : S48x2048.Idx → Elt F .f32) : S2x48x2048.Idx → Elt F .f32 := fun y => m (ix2 (y 1) (y 2))

section
variable (x0 : S6x8x2048.Idx → Elt F .bf16) (at' : S2x48x2048.Idx → Elt F .bf16) (nn : S2x2048.Idx → Elt F .f32)
variable (wo : S2x1024x2048.Idx → Elt F .i8) (so : S2x64x2048.Idx → Elt F .bf16)
variable (wg : S2x1024x11264.Idx → Elt F .i8) (sg : S2x64x11264.Idx → Elt F .bf16)
variable (wd : S2x2816x2048.Idx → Elt F .i8) (sd : S2x176x2048.Idx → Elt F .bf16)

/-- After the first layer's attention, after the first layer, after the second layer's attention. -/
def mid0 : S48x2048.Idx → Elt F .f32 := midV t0 wo so (rows0 x0) (attV t0 at')
def hid0 : S48x2048.Idx → Elt F .f32 := hidV (both (mid0 x0 at' wo so)) nn wg sg wd sd t0
def mid1 : S48x2048.Idx → Elt F .f32 := midV t1 wo so (hid0 x0 at' nn wo so wg sg wd sd) (attV t1 at')

/-- The second result: in each layer the rows after its attention. -/
def midAll : S2x48x2048.Idx → Elt F .f32 := fun y =>
  if (y 0).val = 0 then mid0 x0 at' wo so (ix2 (y 1) (y 2)) else mid1 x0 at' nn wo so wg sg wd sd (ix2 (y 1) (y 2))

theorem hidV_congr {x x' : S2x48x2048.Idx → Elt F .f32} (k : Fin k0_t1_loop.trips) (h : rowsV k x = rowsV k x') :
    hidV x nn wg sg wd sd k = hidV x' nn wg sg wd sd k := by
  unfold hidV
  rw [h]

theorem rowsV_both (k : Fin k0_t1_loop.trips) (m : S48x2048.Idx → Elt F .f32) : rowsV k (both m) = m :=
  funext fun y => congrArg m (ValueIdx.eq_ix2 y).symm

theorem rowsV_mid0 : midV t0 wo so (rows0 x0) (attV t0 at') = rowsV t0 (midAll x0 at' nn wo so wg sg wd sd) := by
  funext y
  unfold rowsV midAll
  exact (congrArg (mid0 x0 at' wo so) (ValueIdx.eq_ix2 y)).trans (if_pos rfl).symm

theorem hid0_eq : hidV (midAll x0 at' nn wo so wg sg wd sd) nn wg sg wd sd t0 = hid0 x0 at' nn wo so wg sg wd sd :=
  hidV_congr _ _ _ _ _ t0 ((rowsV_mid0 x0 at' nn wo so wg sg wd sd).symm.trans (rowsV_both t0 (mid0 x0 at' wo so)).symm)

theorem rowsV_mid1 : midV t1 wo so (hidV (midAll x0 at' nn wo so wg sg wd sd) nn wg sg wd sd t0) (attV t1 at')
    = rowsV t1 (midAll x0 at' nn wo so wg sg wd sd) := by
  rw [hid0_eq]
  funext y
  unfold rowsV midAll
  exact (congrArg (mid1 x0 at' nn wo so wg sg wd sd) (ValueIdx.eq_ix2 y)).trans (if_neg (show ¬ (1 : ℕ) = 0 by decide)).symm

end

end Cert.KernelIdeal.Hand
-- ==== Proof.KIWp.lean ====
/-
  The pieces run: each piece, from what its buffers hold, to what they hold afterwards.
-/
module

public import proofs.«01_k».proof.Proof.KIVal
public import proofs.«01_k».proof.Proof.KIBody
public import Idealize.ShloMosaic.Lib.ValueLayout

@[expose] public section

set_option maxRecDepth 16384

noncomputable section

namespace Cert.KernelIdeal.Hand

open Cert.KernelIdeal Cert.KernelIdeal.Gen Cert.Own
open Idealize.ShloMosaic hiding ix0 ix1 ix2 ix3
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- The body's programs run on a core. -/
abbrev runs (p : PG F) (Q : PUnit → sProp 𝕄) : sProp 𝕄 :=
  wp frame (wpE (defs₀ (F := F)) Variants.none (c : Thread nD τ) none) Set.univ p Q

/-- A whole buffer, of which the first columns are known. -/
abbrev ownC {sh : Shape} {e : EltTy} {cs : CoreSpace} (m : Memref sig .tc cs sh e) (T : sh.Idx → Prop) (d : sh.Idx → Elt F e) : sProp 𝕄 :=
  own (c : Thread nD τ) m fullShare Finset.univ T d

variable {X : Memref sig .tc .vmem S6x8x2048 .bf16} {T : Memref sig .tc .vmem S2x48x2048 .bf16} {N : Memref sig .tc .vmem S2x2048 .f32}
  {H : Memref sig .tc .vmem S2x48x2048 .f32}
  {Wo : Memref sig .tc .vmem S2x1024x2048 .i8} {So : Memref sig .tc .vmem S2x64x2048 .bf16}
  {Wg : Memref sig .tc .vmem S2x1024x11264 .i8} {Sg : Memref sig .tc .vmem S2x64x11264 .bf16}
  {Wd : Memref sig .tc .vmem S1x2816x2048 .i8} {Sd : Memref sig .tc .vmem S1x176x2048 .bf16}
  {R : Memref sig .tc .vmem S48x2048 .f32} {A : Memref sig .tc .vmem S48x2048 .bf16} {hA : A.IsWhole}
  {P : Memref sig .tc .vmem S48x5632 .bf16} {hP : P.IsWhole}
  {k : Fin k0_t1_loop.trips}
variable {x0 : S6x8x2048.Idx → Elt F .bf16} {at' : S2x48x2048.Idx → Elt F .bf16} {nn : S2x2048.Idx → Elt F .f32}
variable {wo : S2x1024x2048.Idx → Elt F .i8} {so : S2x64x2048.Idx → Elt F .bf16}
variable {wg : S2x1024x11264.Idx → Elt F .i8} {sg : S2x64x11264.Idx → Elt F .bf16}
variable {wd : S1x2816x2048.Idx → Elt F .i8} {sd : S1x176x2048.Idx → Elt F .bf16}

theorem wp_rowsIn {q : PosShare TreeShare} {T₀ : S48x2048.Idx → Prop} {d : S48x2048.Idx → Elt F .f32} {K : PUnit → PG F} {Q : PUnit → sProp 𝕄} :
    iprop(own (c : Thread nD τ) X q Finset.univ (fun _ => True) x0 ∗ ownC c R T₀ d
      ∗ (own (c : Thread nD τ) X q Finset.univ (fun _ => True) x0 -∗ ownC c R (fun _ => True) (rows0 x0) -∗ runs c (K ⟨⟩) Q))
      ⊢ runs c (rowsIn X R K) Q := by
  unfold rowsIn
  iintro ⟨HX, HR, HK⟩
  iapply (wp_load_own (c : Thread nD τ) (fun _ => Finset.mem_univ _) (fun _ => trivial)) $$ HX
  iintro HX
  rw [show (fun z => x0 (rX0.emb z)) = x0 from funext fun z => congrArg x0 (by
    funext a; refine Fin.ext ?_
    fin_cases a
    · show 0 + 1 * (z 0).val = (z 0).val; omega
    · show 0 + 1 * (z 1).val = (z 1).val; omega
    · show 0 + 1 * (z 2).val = (z 2).val; omega)]
  iapply (wp_load_any (c : Thread nD τ) (fun _ => Finset.mem_univ _)) $$ HR
  iintro %v HR
  iapply (wp_store_own (c : Thread nD τ) (T' := fun _ => True) (d' := rows0 x0) (fun _ => Finset.mem_univ _) ?_) $$ HR
  · intro y _
    left
    refine ⟨ix2 (y 0) (y 1), ?_, ?_⟩
    · funext a
      fin_cases a
      · refine Fin.ext ?_
        show 0 + 1 * (y 0).val = (y 0).val; omega
      · refine Fin.ext ?_
        show 0 + 1 * (y 1).val = (y 1).val; omega
    · rw [shapeCast_id]
      exact congrArg (rows0 x0) (ValueIdx.eq_ix2 y).symm
  iintro HR
  iapply HK $$ HX HR

theorem wp_putA {i : ℕ} {h : i < 16} {v : FVec F S48x128 .bf16} {d : S48x2048.Idx → Elt F .bf16}
    (hv : ∀ (y : S48x2048.Idx) (h1 : 128 * i ≤ (y 1).val) (h2 : (y 1).val - 128 * i < 128), v (ix2 (y 0) ⟨(y 1).val - 128 * i, h2⟩) = d y)
    {K : PUnit → PG F} {Q : PUnit → sProp 𝕄} :
    iprop(ownC c A (fun y => (y 1).val < 128 * i) d
      ∗ (ownC c A (fun y => (y 1).val < 128 * (i + 1)) d -∗ runs c (K ⟨⟩) Q))
      ⊢ runs c (putA A hA i h v K) Q := by
  unfold putA
  iintro ⟨HA, HK⟩
  iapply (wp_load_any (c : Thread nD τ) (fun _ => Finset.mem_univ _)) $$ HA
  iintro %v₀ HA
  iapply (wp_store_own (c : Thread nD τ) (T' := fun y => (y 1).val < 128 * (i + 1)) (d' := d) (fun _ => Finset.mem_univ _) ?_) $$ HA
  · intro y hy
    by_cases hlt : (y 1).val < 128 * i
    · right
      exact ⟨fun z => col2_not y (Or.inl hlt) z, hlt, rfl⟩
    · left
      have h1 : 128 * i ≤ (y 1).val := by omega
      have h2 : (y 1).val - 128 * i < 128 := by omega
      refine ⟨ix2 (y 0) ⟨(y 1).val - 128 * i, h2⟩, col2_emb y h1 h2, ?_⟩
      rw [shapeCast_id]
      exact hv y h1 h2
  iintro HA
  iapply HK $$ HA

theorem wp_atSteps {q : PosShare TreeShare} {K : PUnit → PG F} {Q : PUnit → sProp 𝕄} :
    ∀ (n i : ℕ) (h : i + n ≤ 16),
    iprop(own (c : Thread nD τ) T q Finset.univ (fun _ => True) at' ∗ ownC c A (fun y => (y 1).val < 128 * i) (attV k at')
      ∗ (own (c : Thread nD τ) T q Finset.univ (fun _ => True) at' -∗ ownC c A (fun y => (y 1).val < 128 * (i + n)) (attV k at') -∗ runs c (K ⟨⟩) Q))
      ⊢ runs c (atSteps T A hA k K n i h ⟨⟩) Q
  | 0, i, h => by
    unfold atSteps
    iintro ⟨HT, HA, HK⟩
    iapply HK $$ HT HA
  | n + 1, i, h => by
    unfold atSteps
    iintro ⟨HT, HA, HK⟩
    iapply (wp_load_own (c : Thread nD τ) (fun _ => Finset.mem_univ _) (fun _ => trivial)) $$ HT
    iintro HT
    iapply (wp_putA c (d := attV k at') fun y h1 h2 => attV_eq k at' i (by omega) y h1 h2)
    isplitl [HA]
    · iexact HA
    iintro HA
    iapply (wp_atSteps n (i + 1) _)
    isplitl [HT]
    · iexact HT
    isplitl [HA]
    · iexact HA
    rw [show i + 1 + n = i + (n + 1) by omega]
    iexact HK

theorem wp_rmsSteps {r : FVec F S48x2048 .f32} {K : PUnit → PG F} {Q : PUnit → sProp 𝕄} :
    ∀ (n i : ℕ) (h : i + n ≤ 16),
    iprop(ownC c A (fun y => (y 1).val < 128 * i) (actV k nn r)
      ∗ (ownC c A (fun y => (y 1).val < 128 * (i + n)) (actV k nn r) -∗ runs c (K ⟨⟩) Q))
      ⊢ runs c (rmsSteps A hA r (fun z => nn ((rN k).emb z)) K n i h ⟨⟩) Q
  | 0, i, h => by
    unfold rmsSteps
    iintro ⟨HA, HK⟩
    iapply HK $$ HA
  | n + 1, i, h => by
    unfold rmsSteps
    iintro ⟨HA, HK⟩
    iapply (wp_putA c (d := actV k nn r) fun y h1 h2 => actV_eq k nn r i (by omega) y h1 h2)
    isplitl [HA]
    · iexact HA
    iintro HA
    iapply (wp_rmsSteps n (i + 1) _)
    isplitl [HA]
    · iexact HA
    rw [show i + 1 + n = i + (n + 1) by omega]
    iexact HK

theorem wp_rms {q : PosShare TreeShare} {T₀ : S48x2048.Idx → Prop} {d : S48x2048.Idx → Elt F .bf16} {r : FVec F S48x2048 .f32}
    {K : PUnit → PG F} {Q : PUnit → sProp 𝕄} :
    iprop(own (c : Thread nD τ) N q Finset.univ (fun _ => True) nn ∗ ownC c R (fun _ => True) r ∗ ownC c A T₀ d
      ∗ (own (c : Thread nD τ) N q Finset.univ (fun _ => True) nn -∗ ownC c R (fun _ => True) r -∗ ownC c A (fun _ => True) (actV k nn r)
          -∗ runs c (K ⟨⟩) Q))
      ⊢ runs c (rms N R A hA k K) Q := by
  unfold rms
  iintro ⟨HN, HR, HA, HK⟩
  iapply (wp_load_own (c : Thread nD τ) (fun _ => Finset.mem_univ _) (fun _ => trivial)) $$ HR
  iintro HR
  iapply (wp_load_own (c : Thread nD τ) (fun _ => Finset.mem_univ _) (fun _ => trivial)) $$ HN
  iintro HN
  rw [show (fun z => r (rR.emb z)) = r from funext fun z => congrArg r (by
    funext a; refine Fin.ext ?_
    fin_cases a
    · show 0 + 1 * (z 0).val = (z 0).val; omega
    · show 0 + 1 * (z 1).val = (z 1).val; omega)]
  iapply (wp_rmsSteps c (k := k) (nn := nn) (r := r) 16 0 _)
  isplitl [HA]
  · iapply (own_weaken (c : Thread nD τ) (T' := fun y => (y 1).val < 128 * 0) (d' := actV k nn r) fun y hy => absurd hy (by omega)) $$ HA
  iintro HA
  iapply HK $$ HN HR
  iapply (own_weaken (c : Thread nD τ) (T' := fun _ => True) (d' := actV k nn r) fun y _ =>
    ⟨(by have h : (y 1).val < 2048 := (y 1).isLt; omega), rfl⟩) $$ HA

/-- What a layer's weights are held as. -/
abbrev ownWg (k : Fin k0_t1_loop.trips) (m : Memref sig .tc .vmem S2x1024x11264 .i8) (d : S2x1024x11264.Idx → Elt F .i8) : sProp 𝕄 :=
  own (c : Thread nD τ) m fullShare (Finset.univ.filter fun y => (y 0).val = k.val) (fun y => (y 0).val = k.val) d
abbrev ownSg (k : Fin k0_t1_loop.trips) (m : Memref sig .tc .vmem S2x64x11264 .bf16) (d : S2x64x11264.Idx → Elt F .bf16) : sProp 𝕄 :=
  own (c : Thread nD τ) m fullShare (Finset.univ.filter fun y => (y 0).val = k.val) (fun y => (y 0).val = k.val) d

theorem rWg_row {k : Fin k0_t1_loop.trips} {j b : ℕ} {h : j < 8} {hb : b < 44} (z : (rWg k j b h hb).shape.Idx) :
    ((rWg k j b h hb).emb z 0).val = k.val := by
  have h3 : (z 0).val < 1 := (z 0).isLt
  have := lidx_eq k
  show lidx k + 1 * (z 0).val = k.val
  omega
theorem rSg_row {k : Fin k0_t1_loop.trips} {j b : ℕ} {h : j < 8} {hb : b < 44} (z : (rSg k j b h hb).shape.Idx) :
    ((rSg k j b h hb).emb z 0).val = k.val := by
  have h3 : (z 0).val < 1 := (z 0).isLt
  have := lidx_eq k
  show lidx k + 1 * (z 0).val = k.val
  omega

theorem wp_guLoads {a : S48x2048.Idx → Elt F .bf16} {j b : ℕ} {h : j < 8} {hb : b < 22}
    {K : FVec F S48x256 .bf16 → IVec S1x128x256 8 → FVec F S1x8x256 .bf16 → IVec S1x128x256 8 → FVec F S1x8x256 .bf16 → PG F} {Q : PUnit → sProp 𝕄} :
    iprop(ownC c A (fun _ => True) a ∗ ownWg c k Wg wg ∗ ownSg c k Sg sg
      ∗ (ownC c A (fun _ => True) a -∗ ownWg c k Wg wg -∗ ownSg c k Sg sg -∗
          runs c (K (fun z => a ((rA j h).emb z)) (fun z => wg ((rWg k j b h (by omega)).emb z)) (fun z => sg ((rSg k j b h (by omega)).emb z))
            (fun z => wg ((rWg k j (b + 22) h (by omega)).emb z)) (fun z => sg ((rSg k j (b + 22) h (by omega)).emb z))) Q))
      ⊢ runs c (guLoads Wg Sg A k j b h hb K) Q := by
  unfold guLoads
  iintro ⟨HA, HW, HS, HK⟩
  iapply (wp_load_own (c : Thread nD τ) (fun _ => Finset.mem_univ _) (fun _ => trivial)) $$ HA
  iintro HA
  iapply (wp_load_own (c : Thread nD τ) (fun z => Finset.mem_filter.mpr ⟨Finset.mem_univ _, rWg_row z⟩) (fun z => rWg_row z)) $$ HW
  iintro HW
  iapply (wp_load_own (c : Thread nD τ) (fun z => Finset.mem_filter.mpr ⟨Finset.mem_univ _, rSg_row z⟩) (fun z => rSg_row z)) $$ HS
  iintro HS
  iapply (wp_load_own (c : Thread nD τ) (fun z => Finset.mem_filter.mpr ⟨Finset.mem_univ _, rWg_row z⟩) (fun z => rWg_row z)) $$ HW
  iintro HW
  iapply (wp_load_own (c : Thread nD τ) (fun z => Finset.mem_filter.mpr ⟨Finset.mem_univ _, rSg_row z⟩) (fun z => rSg_row z)) $$ HS
  iintro HS
  iapply HK $$ HA HW HS

theorem wp_guSteps {a : S48x2048.Idx → Elt F .bf16} {b : ℕ} {hb : b < 22} {K : FVec F S48x256 .f32 → FVec F S48x256 .f32 → PG F} {Q : PUnit → sProp 𝕄} :
    ∀ (n j : ℕ) (h : j + n ≤ 8) (g u : FVec F S48x256 .f32),
    iprop(ownC c A (fun _ => True) a ∗ ownWg c k Wg wg ∗ ownSg c k Sg sg
      ∗ (ownC c A (fun _ => True) a -∗ ownWg c k Wg wg -∗ ownSg c k Sg sg -∗
          runs c (K (gAcc k wg sg a b (by omega) n j h g) (gAcc k wg sg a (b + 22) (by omega) n j h u)) Q))
      ⊢ runs c (guSteps Wg Sg A k b hb K n j h g u) Q
  | 0, j, h, g, u => by
    unfold guSteps gAcc
    iintro ⟨HA, HW, HS, HK⟩
    iapply HK $$ HA HW HS
  | n + 1, j, h, g, u => by
    unfold guSteps
    rw [gAcc, gAcc]
    iintro ⟨HA, HW, HS, HK⟩
    iapply (wp_guLoads c (wg := wg) (sg := sg) (a := a))
    isplitl [HA]
    · iexact HA
    isplitl [HW]
    · iexact HW
    isplitl [HS]
    · iexact HS
    iintro HA HW HS
    iapply (wp_guSteps n (j + 1) _)
    isplitl [HA]
    · iexact HA
    isplitl [HW]
    · iexact HW
    isplitl [HS]
    · iexact HS
    iexact HK

theorem wp_putP {a : S48x2048.Idx → Elt F .bf16} {b : ℕ} {hb : b < 22} {e : ℕ} {he : e < 2} {i : ℕ} (hi : i = 2 * b + e) {h : i < 44}
    {K : PUnit → PG F} {Q : PUnit → sProp 𝕄} :
    iprop(ownC c P (fun y => (y 1).val < 128 * i) (gateV k wg sg a)
      ∗ (ownC c P (fun y => (y 1).val < 128 * (i + 1)) (gateV k wg sg a) -∗ runs c (K ⟨⟩) Q))
      ⊢ runs c (putP P hP i h (pTile k wg sg a b hb e he) K) Q := by
  subst hi
  unfold putP
  iintro ⟨HA, HK⟩
  iapply (wp_load_any (c : Thread nD τ) (fun _ => Finset.mem_univ _)) $$ HA
  iintro %v HA
  iapply (wp_store_own (c : Thread nD τ) (T' := fun y => (y 1).val < 128 * (2 * b + e + 1)) (d' := gateV k wg sg a) (fun _ => Finset.mem_univ _) ?_) $$ HA
  · intro y hy
    by_cases hlt : (y 1).val < 128 * (2 * b + e)
    · right
      exact ⟨fun z => col2_not y (Or.inl hlt) z, hlt, rfl⟩
    · left
      have h1 : 128 * (2 * b + e) ≤ (y 1).val := by omega
      have h2 : (y 1).val - 128 * (2 * b + e) < 128 := by omega
      refine ⟨ix2 (y 0) ⟨(y 1).val - 128 * (2 * b + e), h2⟩, col2_emb y h1 h2, ?_⟩
      rw [shapeCast_id]
      exact gateV_eq k wg sg a b hb e he y h1 h2
  iintro HA
  iapply HK $$ HA

theorem wp_guChunk {a : S48x2048.Idx → Elt F .bf16} {b : ℕ} {hb : b < 22} {K : PUnit → PG F} {Q : PUnit → sProp 𝕄} :
    iprop(ownC c A (fun _ => True) a ∗ ownWg c k Wg wg ∗ ownSg c k Sg sg ∗ ownC c P (fun y => (y 1).val < 256 * b) (gateV k wg sg a)
      ∗ (ownC c A (fun _ => True) a -∗ ownWg c k Wg wg -∗ ownSg c k Sg sg -∗ ownC c P (fun y => (y 1).val < 256 * (b + 1)) (gateV k wg sg a)
          -∗ runs c (K ⟨⟩) Q))
      ⊢ runs c (guChunk Wg Sg A P hP k b hb K) Q := by
  unfold guChunk
  iintro ⟨HA, HW, HS, HP, HK⟩
  iapply (wp_guLoads c (wg := wg) (sg := sg) (a := a))
  isplitl [HA]
  · iexact HA
  isplitl [HW]
  · iexact HW
  isplitl [HS]
  · iexact HS
  iintro HA HW HS
  iapply (wp_guSteps c (wg := wg) (sg := sg) (a := a) 7 1 _)
  isplitl [HA]
  · iexact HA
  isplitl [HW]
  · iexact HW
  isplitl [HS]
  · iexact HS
  iintro HA HW HS
  iapply (wp_putP c (wg := wg) (sg := sg) (a := a) (k := k) (b := b) (hb := hb) (e := 0) (he := by omega) (i := 2 * b) (by omega))
  isplitl [HP]
  · iapply (own_weaken (c : Thread nD τ) (T' := fun y => (y 1).val < 128 * (2 * b)) (d' := gateV k wg sg a) fun y hy => ⟨by omega, rfl⟩) $$ HP
  iintro HP
  iapply (wp_putP c (wg := wg) (sg := sg) (a := a) (k := k) (b := b) (hb := hb) (e := 1) (he := by omega) (i := 2 * b + 1) (by omega))
  isplitl [HP]
  · iexact HP
  iintro HP
  iapply HK $$ HA HW HS
  iapply (own_weaken (c : Thread nD τ) (T' := fun y => (y 1).val < 256 * (b + 1)) (d' := gateV k wg sg a) fun y hy => ⟨by omega, rfl⟩) $$ HP

theorem wp_guChunks {a : S48x2048.Idx → Elt F .bf16} {K : PUnit → PG F} {Q : PUnit → sProp 𝕄} :
    ∀ (n b : ℕ) (h : b + n ≤ 22),
    iprop(ownC c A (fun _ => True) a ∗ ownWg c k Wg wg ∗ ownSg c k Sg sg ∗ ownC c P (fun y => (y 1).val < 256 * b) (gateV k wg sg a)
      ∗ (ownC c A (fun _ => True) a -∗ ownWg c k Wg wg -∗ ownSg c k Sg sg -∗ ownC c P (fun y => (y 1).val < 256 * (b + n)) (gateV k wg sg a)
          -∗ runs c (K ⟨⟩) Q))
      ⊢ runs c (guChunks Wg Sg A P hP k K n b h ⟨⟩) Q
  | 0, b, h => by
    unfold guChunks
    iintro ⟨HA, HW, HS, HP, HK⟩
    iapply HK $$ HA HW HS HP
  | n + 1, b, h => by
    unfold guChunks
    iintro ⟨HA, HW, HS, HP, HK⟩
    iapply (wp_guChunk c (wg := wg) (sg := sg) (a := a))
    isplitl [HA]
    · iexact HA
    isplitl [HW]
    · iexact HW
    isplitl [HS]
    · iexact HS
    isplitl [HP]
    · iexact HP
    iintro HA HW HS HP
    iapply (wp_guChunks n (b + 1) _)
    isplitl [HA]
    · iexact HA
    isplitl [HW]
    · iexact HW
    isplitl [HS]
    · iexact HS
    isplitl [HP]
    · iexact HP
    rw [show b + 1 + n = b + (n + 1) by omega]
    iexact HK

theorem wp_dnLoads {p : S48x5632.Idx → Elt F .bf16} {j b : ℕ} {h : j < 22} {hb : b < 4}
    {K : FVec F S48x256 .bf16 → IVec S1x128x256 8 → FVec F S1x8x256 .bf16 → IVec S1x128x256 8 → FVec F S1x8x256 .bf16 → PG F} {Q : PUnit → sProp 𝕄} :
    iprop(ownC c P (fun _ => True) p ∗ ownC c Wd (fun _ => True) wd ∗ ownC c Sd (fun _ => True) sd
      ∗ (ownC c P (fun _ => True) p -∗ ownC c Wd (fun _ => True) wd -∗ ownC c Sd (fun _ => True) sd -∗
          runs c (K (fun z => p ((rP2 j h).emb z)) (fun z => wd ((rWd j (2 * b) h (by omega)).emb z)) (fun z => sd ((rSd j (2 * b) h (by omega)).emb z))
            (fun z => wd ((rWd j (2 * b + 1) h (by omega)).emb z)) (fun z => sd ((rSd j (2 * b + 1) h (by omega)).emb z))) Q))
      ⊢ runs c (dnLoads Wd Sd P j b h hb K) Q := by
  unfold dnLoads
  iintro ⟨HA, HW, HS, HK⟩
  iapply (wp_load_own (c : Thread nD τ) (fun _ => Finset.mem_univ _) (fun _ => trivial)) $$ HA
  iintro HA
  iapply (wp_load_own (c : Thread nD τ) (fun _ => Finset.mem_univ _) (fun _ => trivial)) $$ HW
  iintro HW
  iapply (wp_load_own (c : Thread nD τ) (fun _ => Finset.mem_univ _) (fun _ => trivial)) $$ HS
  iintro HS
  iapply (wp_load_own (c : Thread nD τ) (fun _ => Finset.mem_univ _) (fun _ => trivial)) $$ HW
  iintro HW
  iapply (wp_load_own (c : Thread nD τ) (fun _ => Finset.mem_univ _) (fun _ => trivial)) $$ HS
  iintro HS
  iapply HK $$ HA HW HS

theorem wp_dnSteps {p : S48x5632.Idx → Elt F .bf16} {b : ℕ} {hb : b < 4} {K : FVec F S48x256 .f32 → FVec F S48x256 .f32 → PG F} {Q : PUnit → sProp 𝕄} :
    ∀ (n j : ℕ) (h : j + n ≤ 22) (g u : FVec F S48x256 .f32),
    iprop(ownC c P (fun _ => True) p ∗ ownC c Wd (fun _ => True) wd ∗ ownC c Sd (fun _ => True) sd
      ∗ (ownC c P (fun _ => True) p -∗ ownC c Wd (fun _ => True) wd -∗ ownC c Sd (fun _ => True) sd -∗
          runs c (K (dAcc wd sd p (2 * b) (by omega) n j h g) (dAcc wd sd p (2 * b + 1) (by omega) n j h u)) Q))
      ⊢ runs c (dnSteps Wd Sd P b hb K n j h g u) Q
  | 0, j, h, g, u => by
    unfold dnSteps dAcc
    iintro ⟨HA, HW, HS, HK⟩
    iapply HK $$ HA HW HS
  | n + 1, j, h, g, u => by
    unfold dnSteps
    rw [dAcc, dAcc]
    iintro ⟨HA, HW, HS, HK⟩
    iapply (wp_dnLoads c (wd := wd) (sd := sd) (p := p))
    isplitl [HA]
    · iexact HA
    isplitl [HW]
    · iexact HW
    isplitl [HS]
    · iexact HS
    iintro HA HW HS
    iapply (wp_dnSteps n (j + 1) _)
    isplitl [HA]
    · iexact HA
    isplitl [HW]
    · iexact HW
    isplitl [HS]
    · iexact HS
    iexact HK

/-- The residual while the layer's result is being added: the columns already done, and the rest as they were. -/
def resV (o r : S48x2048.Idx → Elt F .f32) (n : ℕ) : S48x2048.Idx → Elt F .f32 := fun y => if (y 1).val < 256 * n then o y else r y

/-- The result rows known so far: the layers before, and the first columns of this one. -/
def doneT (l n : ℕ) (y : S2x48x2048.Idx) : Prop := (y 0).val < l ∨ ((y 0).val = l ∧ (y 2).val < 256 * n)

theorem wp_putR {r : S48x2048.Idx → Elt F .f32} {tile : (c : ℕ) → c < 8 → FVec F S48x256 .f32} {hid : S2x48x2048.Idx → Elt F .f32}
    (hh : ∀ y, (y 0).val = k.val → hid y = addCols r tile (ix2 (y 1) (y 2)))
    {b : ℕ} {hb : b < 8} {K : PUnit → PG F} {Q : PUnit → sProp 𝕄} :
    iprop(ownC c R (fun _ => True) (resV (addCols r tile) r b) ∗ ownC c H (doneT k.val b) hid
      ∗ (ownC c R (fun _ => True) (resV (addCols r tile) r (b + 1)) -∗ ownC c H (doneT k.val (b + 1)) hid -∗ runs c (K ⟨⟩) Q))
      ⊢ runs c (putR H R k b hb (tile b hb) K) Q := by
  unfold putR
  iintro ⟨HR, HH, HK⟩
  iapply (wp_load_own (c : Thread nD τ) (fun _ => Finset.mem_univ _) (fun _ => trivial)) $$ HR
  iintro HR
  iapply (wp_load_any (c : Thread nD τ) (fun _ => Finset.mem_univ _)) $$ HR
  iintro %v HR
  have hr : (fun z => resV (addCols r tile) r b ((rA b hb).emb z)) = fun z => r ((rA b hb).emb z) := by
    funext z
    refine if_neg ?_
    show ¬ (256 * b + 1 * (z 1).val < 256 * b)
    omega
  rw [hr]
  iapply (wp_store_own (c : Thread nD τ) (T' := fun _ => True) (d' := resV (addCols r tile) r (b + 1)) (fun _ => Finset.mem_univ _) ?_) $$ HR
  · intro y hy
    by_cases hin : 256 * b ≤ (y 1).val ∧ (y 1).val - 256 * b < 256
    · left
      refine ⟨ix2 (y 0) ⟨(y 1).val - 256 * b, hin.2⟩, col2_emb y hin.1 hin.2, ?_⟩
      rw [shapeCast_id]
      exact (addCols_eq r tile b hb y hin.1 hin.2).trans (if_pos (show (y 1).val < 256 * (b + 1) by omega)).symm
    · right
      refine ⟨fun z => col2_not y (by omega) z, trivial, ?_⟩
      unfold resV
      by_cases hlt : (y 1).val < 256 * b
      · rw [if_pos hlt, if_pos (by omega)]
      · rw [if_neg hlt, if_neg (by omega)]
  iintro HR
  iapply (wp_load_any (c : Thread nD τ) (fun _ => Finset.mem_univ _)) $$ HH
  iintro %v' HH
  iapply (wp_store_own (c : Thread nD τ) (T' := doneT k.val (b + 1)) (d' := hid) (fun _ => Finset.mem_univ _) ?_) $$ HH
  · have hlk := lidx_eq k
    intro y hy
    by_cases hin : (y 0).val = k.val ∧ 256 * b ≤ (y 2).val ∧ (y 2).val - 256 * b < 256
    · left
      refine ⟨ix3 0 (y 1) ⟨(y 2).val - 256 * b, hin.2.2⟩, col3_emb y (hin.1.trans hlk.symm) hin.2.1 hin.2.2, ?_⟩
      exact (shapeCast_ab_1ab_apply _ _ 0 (y 1) _).trans
        ((addCols_eq r tile b hb (ix2 (y 1) (y 2)) hin.2.1 hin.2.2).trans (hh y hin.1).symm)
    · right
      have hy' : (y 0).val < k.val ∨ ((y 0).val = k.val ∧ (y 2).val < 256 * (b + 1)) := hy
      refine ⟨fun z => col3_not y (by omega) z, ?_, rfl⟩
      show (y 0).val < k.val ∨ ((y 0).val = k.val ∧ (y 2).val < 256 * b)
      omega
  iintro HH
  iapply HK $$ HR HH

theorem wp_dnChunk {r : S48x2048.Idx → Elt F .f32} {p : S48x5632.Idx → Elt F .bf16} {hid : S2x48x2048.Idx → Elt F .f32}
    (hh : ∀ y, (y 0).val = k.val → hid y = outV wd sd r p (ix2 (y 1) (y 2)))
    {b : ℕ} {hb : b < 4} {K : PUnit → PG F} {Q : PUnit → sProp 𝕄} :
    iprop(ownC c P (fun _ => True) p ∗ ownC c Wd (fun _ => True) wd ∗ ownC c Sd (fun _ => True) sd
      ∗ ownC c R (fun _ => True) (resV (outV wd sd r p) r (2 * b)) ∗ ownC c H (doneT k.val (2 * b)) hid
      ∗ (ownC c P (fun _ => True) p -∗ ownC c Wd (fun _ => True) wd -∗ ownC c Sd (fun _ => True) sd
          -∗ ownC c R (fun _ => True) (resV (outV wd sd r p) r (2 * (b + 1))) -∗ ownC c H (doneT k.val (2 * (b + 1))) hid -∗ runs c (K ⟨⟩) Q))
      ⊢ runs c (dnChunk H Wd Sd R P k b hb K) Q := by
  unfold dnChunk
  iintro ⟨HA, HW, HS, HR, HH, HK⟩
  iapply (wp_dnLoads c (wd := wd) (sd := sd) (p := p))
  isplitl [HA]
  · iexact HA
  isplitl [HW]
  · iexact HW
  isplitl [HS]
  · iexact HS
  iintro HA HW HS
  iapply (wp_dnSteps c (wd := wd) (sd := sd) (p := p) 21 1 _)
  isplitl [HA]
  · iexact HA
  isplitl [HW]
  · iexact HW
  isplitl [HS]
  · iexact HS
  iintro HA HW HS
  iapply (wp_putR c (tile := dTot wd sd p) (r := r) (hid := hid) hh)
  isplitl [HR]
  · iexact HR
  isplitl [HH]
  · iexact HH
  iintro HR HH
  iapply (wp_putR c (tile := dTot wd sd p) (r := r) (hid := hid) hh)
  isplitl [HR]
  · iexact HR
  isplitl [HH]
  · iexact HH
  iintro HR HH
  iapply HK $$ HA HW HS HR HH

theorem wp_dnChunks {r : S48x2048.Idx → Elt F .f32} {p : S48x5632.Idx → Elt F .bf16} {hid : S2x48x2048.Idx → Elt F .f32}
    (hh : ∀ y, (y 0).val = k.val → hid y = outV wd sd r p (ix2 (y 1) (y 2))) {K : PUnit → PG F} {Q : PUnit → sProp 𝕄} :
    ∀ (n b : ℕ) (h : b + n ≤ 4),
    iprop(ownC c P (fun _ => True) p ∗ ownC c Wd (fun _ => True) wd ∗ ownC c Sd (fun _ => True) sd
      ∗ ownC c R (fun _ => True) (resV (outV wd sd r p) r (2 * b)) ∗ ownC c H (doneT k.val (2 * b)) hid
      ∗ (ownC c P (fun _ => True) p -∗ ownC c Wd (fun _ => True) wd -∗ ownC c Sd (fun _ => True) sd
          -∗ ownC c R (fun _ => True) (resV (outV wd sd r p) r (2 * (b + n))) -∗ ownC c H (doneT k.val (2 * (b + n))) hid -∗ runs c (K ⟨⟩) Q))
      ⊢ runs c (dnChunks H Wd Sd R P k K n b h ⟨⟩) Q
  | 0, b, h => by
    unfold dnChunks
    iintro ⟨HA, HW, HS, HR, HH, HK⟩
    iapply HK $$ HA HW HS HR HH
  | n + 1, b, h => by
    unfold dnChunks
    iintro ⟨HA, HW, HS, HR, HH, HK⟩
    iapply (wp_dnChunk c (wd := wd) (sd := sd) (p := p) (r := r) (hid := hid) hh)
    isplitl [HA]
    · iexact HA
    isplitl [HW]
    · iexact HW
    isplitl [HS]
    · iexact HS
    isplitl [HR]
    · iexact HR
    isplitl [HH]
    · iexact HH
    iintro HA HW HS HR HH
    iapply (wp_dnChunks hh n (b + 1) _)
    isplitl [HA]
    · iexact HA
    isplitl [HW]
    · iexact HW
    isplitl [HS]
    · iexact HS
    isplitl [HR]
    · iexact HR
    isplitl [HH]
    · iexact HH
    rw [show b + 1 + n = b + (n + 1) by omega]
    iexact HK

/-- What the output projection's weights are held as. -/
abbrev ownWo (k : Fin k0_t1_loop.trips) (m : Memref sig .tc .vmem S2x1024x2048 .i8) (d : S2x1024x2048.Idx → Elt F .i8) : sProp 𝕄 :=
  own (c : Thread nD τ) m fullShare (Finset.univ.filter fun y => (y 0).val = k.val) (fun y => (y 0).val = k.val) d
abbrev ownSo (k : Fin k0_t1_loop.trips) (m : Memref sig .tc .vmem S2x64x2048 .bf16) (d : S2x64x2048.Idx → Elt F .bf16) : sProp 𝕄 :=
  own (c : Thread nD τ) m fullShare (Finset.univ.filter fun y => (y 0).val = k.val) (fun y => (y 0).val = k.val) d

theorem rWo_row {k : Fin k0_t1_loop.trips} {j b : ℕ} {h : j < 8} {hb : b < 8} (z : (rWo k j b h hb).shape.Idx) :
    ((rWo k j b h hb).emb z 0).val = k.val := by
  have h3 : (z 0).val < 1 := (z 0).isLt
  have := lidx_eq k
  show lidx k + 1 * (z 0).val = k.val
  omega
theorem rSo_row {k : Fin k0_t1_loop.trips} {j b : ℕ} {h : j < 8} {hb : b < 8} (z : (rSo k j b h hb).shape.Idx) :
    ((rSo k j b h hb).emb z 0).val = k.val := by
  have h3 : (z 0).val < 1 := (z 0).isLt
  have := lidx_eq k
  show lidx k + 1 * (z 0).val = k.val
  omega

theorem wp_oLoads {a : S48x2048.Idx → Elt F .bf16} {j b : ℕ} {h : j < 8} {hb : b < 4}
    {K : FVec F S48x256 .bf16 → IVec S1x128x256 8 → FVec F S1x8x256 .bf16 → IVec S1x128x256 8 → FVec F S1x8x256 .bf16 → PG F} {Q : PUnit → sProp 𝕄} :
    iprop(ownC c A (fun _ => True) a ∗ ownWo c k Wo wo ∗ ownSo c k So so
      ∗ (ownC c A (fun _ => True) a -∗ ownWo c k Wo wo -∗ ownSo c k So so -∗
          runs c (K (fun z => a ((rA j h).emb z)) (fun z => wo ((rWo k j (2 * b) h (by omega)).emb z)) (fun z => so ((rSo k j (2 * b) h (by omega)).emb z))
            (fun z => wo ((rWo k j (2 * b + 1) h (by omega)).emb z)) (fun z => so ((rSo k j (2 * b + 1) h (by omega)).emb z))) Q))
      ⊢ runs c (oLoads Wo So A k j b h hb K) Q := by
  unfold oLoads
  iintro ⟨HA, HW, HS, HK⟩
  iapply (wp_load_own (c : Thread nD τ) (fun _ => Finset.mem_univ _) (fun _ => trivial)) $$ HA
  iintro HA
  iapply (wp_load_own (c : Thread nD τ) (fun z => Finset.mem_filter.mpr ⟨Finset.mem_univ _, rWo_row z⟩) (fun z => rWo_row z)) $$ HW
  iintro HW
  iapply (wp_load_own (c : Thread nD τ) (fun z => Finset.mem_filter.mpr ⟨Finset.mem_univ _, rSo_row z⟩) (fun z => rSo_row z)) $$ HS
  iintro HS
  iapply (wp_load_own (c : Thread nD τ) (fun z => Finset.mem_filter.mpr ⟨Finset.mem_univ _, rWo_row z⟩) (fun z => rWo_row z)) $$ HW
  iintro HW
  iapply (wp_load_own (c : Thread nD τ) (fun z => Finset.mem_filter.mpr ⟨Finset.mem_univ _, rSo_row z⟩) (fun z => rSo_row z)) $$ HS
  iintro HS
  iapply HK $$ HA HW HS

theorem wp_oSteps {a : S48x2048.Idx → Elt F .bf16} {b : ℕ} {hb : b < 4} {K : FVec F S48x256 .f32 → FVec F S48x256 .f32 → PG F} {Q : PUnit → sProp 𝕄} :
    ∀ (n j : ℕ) (h : j + n ≤ 8) (g u : FVec F S48x256 .f32),
    iprop(ownC c A (fun _ => True) a ∗ ownWo c k Wo wo ∗ ownSo c k So so
      ∗ (ownC c A (fun _ => True) a -∗ ownWo c k Wo wo -∗ ownSo c k So so -∗
          runs c (K (oAcc k wo so a (2 * b) (by omega) n j h g) (oAcc k wo so a (2 * b + 1) (by omega) n j h u)) Q))
      ⊢ runs c (oSteps Wo So A k b hb K n j h g u) Q
  | 0, j, h, g, u => by
    unfold oSteps oAcc
    iintro ⟨HA, HW, HS, HK⟩
    iapply HK $$ HA HW HS
  | n + 1, j, h, g, u => by
    unfold oSteps
    rw [oAcc, oAcc]
    iintro ⟨HA, HW, HS, HK⟩
    iapply (wp_oLoads c (wo := wo) (so := so) (a := a))
    isplitl [HA]
    · iexact HA
    isplitl [HW]
    · iexact HW
    isplitl [HS]
    · iexact HS
    iintro HA HW HS
    iapply (wp_oSteps n (j + 1) _)
    isplitl [HA]
    · iexact HA
    isplitl [HW]
    · iexact HW
    isplitl [HS]
    · iexact HS
    iexact HK

theorem wp_oChunk {r : S48x2048.Idx → Elt F .f32} {a : S48x2048.Idx → Elt F .bf16} {hid : S2x48x2048.Idx → Elt F .f32}
    (hh : ∀ y, (y 0).val = k.val → hid y = midV k wo so r a (ix2 (y 1) (y 2)))
    {b : ℕ} {hb : b < 4} {K : PUnit → PG F} {Q : PUnit → sProp 𝕄} :
    iprop(ownC c A (fun _ => True) a ∗ ownWo c k Wo wo ∗ ownSo c k So so
      ∗ ownC c R (fun _ => True) (resV (midV k wo so r a) r (2 * b)) ∗ ownC c H (doneT k.val (2 * b)) hid
      ∗ (ownC c A (fun _ => True) a -∗ ownWo c k Wo wo -∗ ownSo c k So so
          -∗ ownC c R (fun _ => True) (resV (midV k wo so r a) r (2 * (b + 1))) -∗ ownC c H (doneT k.val (2 * (b + 1))) hid -∗ runs c (K ⟨⟩) Q))
      ⊢ runs c (oChunk H Wo So R A k b hb K) Q := by
  unfold oChunk
  iintro ⟨HA, HW, HS, HR, HH, HK⟩
  iapply (wp_oLoads c (wo := wo) (so := so) (a := a))
  isplitl [HA]
  · iexact HA
  isplitl [HW]
  · iexact HW
  isplitl [HS]
  · iexact HS
  iintro HA HW HS
  iapply (wp_oSteps c (wo := wo) (so := so) (a := a) 7 1 _)
  isplitl [HA]
  · iexact HA
  isplitl [HW]
  · iexact HW
  isplitl [HS]
  · iexact HS
  iintro HA HW HS
  iapply (wp_putR c (tile := oTot k wo so a) (r := r) (hid := hid) hh)
  isplitl [HR]
  · iexact HR
  isplitl [HH]
  · iexact HH
  iintro HR HH
  iapply (wp_putR c (tile := oTot k wo so a) (r := r) (hid := hid) hh)
  isplitl [HR]
  · iexact HR
  isplitl [HH]
  · iexact HH
  iintro HR HH
  iapply HK $$ HA HW HS HR HH

theorem wp_oChunks {r : S48x2048.Idx → Elt F .f32} {a : S48x2048.Idx → Elt F .bf16} {hid : S2x48x2048.Idx → Elt F .f32}
    (hh : ∀ y, (y 0).val = k.val → hid y = midV k wo so r a (ix2 (y 1) (y 2))) {K : PUnit → PG F} {Q : PUnit → sProp 𝕄} :
    ∀ (n b : ℕ) (h : b + n ≤ 4),
    iprop(ownC c A (fun _ => True) a ∗ ownWo c k Wo wo ∗ ownSo c k So so
      ∗ ownC c R (fun _ => True) (resV (midV k wo so r a) r (2 * b)) ∗ ownC c H (doneT k.val (2 * b)) hid
      ∗ (ownC c A (fun _ => True) a -∗ ownWo c k Wo wo -∗ ownSo c k So so
          -∗ ownC c R (fun _ => True) (resV (midV k wo so r a) r (2 * (b + n))) -∗ ownC c H (doneT k.val (2 * (b + n))) hid -∗ runs c (K ⟨⟩) Q))
      ⊢ runs c (oChunks H Wo So R A k K n b h ⟨⟩) Q
  | 0, b, h => by
    unfold oChunks
    iintro ⟨HA, HW, HS, HR, HH, HK⟩
    iapply HK $$ HA HW HS HR HH
  | n + 1, b, h => by
    unfold oChunks
    iintro ⟨HA, HW, HS, HR, HH, HK⟩
    iapply (wp_oChunk c (wo := wo) (so := so) (a := a) (r := r) (hid := hid) hh)
    isplitl [HA]
    · iexact HA
    isplitl [HW]
    · iexact HW
    isplitl [HS]
    · iexact HS
    isplitl [HR]
    · iexact HR
    isplitl [HH]
    · iexact HH
    iintro HA HW HS HR HH
    iapply (wp_oChunks hh n (b + 1) _)
    isplitl [HA]
    · iexact HA
    isplitl [HW]
    · iexact HW
    isplitl [HS]
    · iexact HS
    isplitl [HR]
    · iexact HR
    isplitl [HH]
    · iexact HH
    rw [show b + 1 + n = b + (n + 1) by omega]
    iexact HK

end Cert.KernelIdeal.Hand
-- ==== Proof.KIRun.lean ====
/-
  The whole body runs: from the buffers as the pipeline hands them over, to the two result blocks at their values, every
  transfer's cell back at zero and every operand as it was.
-/
module

public import proofs.«01_k».proof.Proof.Dma
public import proofs.«01_k».proof.Proof.KIWp

@[expose] public section

set_option maxRecDepth 16384

noncomputable section

namespace Cert.KernelIdeal.Hand

open Cert.KernelIdeal Cert.KernelIdeal.Gen Cert.Own
open Idealize.ShloMosaic hiding ix0 ix1 ix2 ix3
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

variable {W0 : Memref sig .tc .hbm S2x1024x2048 .i8} {hW0 : W0.IsWhole} {S0 : Memref sig .tc .hbm S2x64x2048 .bf16} {hS0 : S0.IsWhole}
  {Wo : Memref sig .tc .vmem S2x1024x2048 .i8} {hWo : Wo.IsWhole} {So : Memref sig .tc .vmem S2x64x2048 .bf16} {hSo : So.IsWhole}
variable {W2 : Memref sig .tc .hbm S2x1024x11264 .i8} {hW2 : W2.IsWhole} {S3 : Memref sig .tc .hbm S2x64x11264 .bf16} {hS3 : S3.IsWhole}
  {W4 : Memref sig .tc .hbm S2x2816x2048 .i8} {hW4 : W4.IsWhole} {S5 : Memref sig .tc .hbm S2x176x2048 .bf16} {hS5 : S5.IsWhole}
  {X : Memref sig .tc .vmem S6x8x2048 .bf16} {T : Memref sig .tc .vmem S2x48x2048 .bf16} {N : Memref sig .tc .vmem S2x2048 .f32}
  {H : Memref sig .tc .vmem S2x48x2048 .f32} {Mo : Memref sig .tc .vmem S2x48x2048 .f32}
  {Wg : Memref sig .tc .vmem S2x1024x11264 .i8} {hWg : Wg.IsWhole} {Sg : Memref sig .tc .vmem S2x64x11264 .bf16} {hSg : Sg.IsWhole}
  {Wd : Memref sig .tc .vmem S1x2816x2048 .i8} {hWd : Wd.IsWhole} {Sd : Memref sig .tc .vmem S1x176x2048 .bf16} {hSd : Sd.IsWhole}
  {R : Memref sig .tc .vmem S48x2048 .f32} {A : Memref sig .tc .vmem S48x2048 .bf16} {hA : A.IsWhole}
  {P : Memref sig .tc .vmem S48x5632 .bf16} {hP : P.IsWhole} {M : DmaSems sig S5x2}

/-- All of a buffer, at `f`. -/
abbrev pts {sp : Space} {s : Shape} {e : EltTy} (m : Memref sig .tc sp s e) (f : Buf (Elt F) (m.view.loc (c : Thread nD τ))) : sProp 𝕄 :=
  m.view.loc (c : Thread nD τ) ↦[m.view.set]{fullShare} f

/-- One cell at zero. -/
abbrev sem0 (M : DmaSems sig S5x2) (o : Fin 2 → ℕ) (h : ∀ a, o a + S1x1.size a ≤ S5x2.size a) : sProp 𝕄 :=
  semVal ((c : Thread nD τ), SemLoc.dma (cell M o h).sem) 0

/-- What the transfers' completions count. -/
abbrev crWo (m : Memref sig .tc .vmem S2x1024x2048 .i8) : ℕ := (blkWo m ![0, 0, 0] inb_S2x1024x2048_S1x1024x2048_0_0_0).view.dmaCredit
abbrev crSo (m : Memref sig .tc .vmem S2x64x2048 .bf16) : ℕ := (blkSo m ![0, 0, 0] inb_S2x64x2048_S1x64x2048_0_0_0).view.dmaCredit
abbrev crWg (m : Memref sig .tc .vmem S2x1024x11264 .i8) : ℕ := (blkWg m ![0, 0, 0] inb_S2x1024x11264_S1x1024x11264_0_0_0).view.dmaCredit
abbrev crSg (m : Memref sig .tc .vmem S2x64x11264 .bf16) : ℕ := (blkSg m ![0, 0, 0] inb_S2x64x11264_S1x64x11264_0_0_0).view.dmaCredit
abbrev crWd (m : Memref sig .tc .vmem S1x2816x2048 .i8) : ℕ := (blkWdV m ![0, 0, 0] inb_S1x2816x2048_S1x2816x2048_0_0_0).view.dmaCredit
abbrev crSd (m : Memref sig .tc .vmem S1x176x2048 .bf16) : ℕ := (blkSdV m ![0, 0, 0] inb_S1x176x2048_S1x176x2048_0_0_0).view.dmaCredit

section
variable {f0 : Buf (Elt F) (W0.view.loc (c : Thread nD τ))} {f1 : Buf (Elt F) (S0.view.loc (c : Thread nD τ))}
  {g11 : Buf (Elt F) (Wo.view.loc (c : Thread nD τ))} {g12 : Buf (Elt F) (So.view.loc (c : Thread nD τ))}
variable {f2 : Buf (Elt F) (W2.view.loc (c : Thread nD τ))} {f3 : Buf (Elt F) (S3.view.loc (c : Thread nD τ))}
  {f4 : Buf (Elt F) (W4.view.loc (c : Thread nD τ))} {f5 : Buf (Elt F) (S5.view.loc (c : Thread nD τ))}
  {g7 : Buf (Elt F) (Wg.view.loc (c : Thread nD τ))} {g8 : Buf (Elt F) (Sg.view.loc (c : Thread nD τ))}
  {g9 : Buf (Elt F) (Wd.view.loc (c : Thread nD τ))} {g10 : Buf (Elt F) (Sd.view.loc (c : Thread nD τ))}
  {K : PUnit.{1} → PG F}

theorem wp_startO0 {Q : PUnit → sProp 𝕄} :
    iprop(pts c (blkWo W0 ![0, 0, 0] inb_S2x1024x2048_S1x1024x2048_0_0_0) f0 ∗ pts c (blkWo Wo ![0, 0, 0] inb_S2x1024x2048_S1x1024x2048_0_0_0) g11
        ∗ pts c (blkSo S0 ![0, 0, 0] inb_S2x64x2048_S1x64x2048_0_0_0) f1 ∗ pts c (blkSo So ![0, 0, 0] inb_S2x64x2048_S1x64x2048_0_0_0) g12
        ∗ sem0 c M ![2, 0] inb_S5x2_S1x1_2_0
        ∗ (flying (c : Thread nD τ) (.dma (cell M ![2, 0] inb_S5x2_S1x1_2_0).sem) (crWo Wo) (crSo So)
            (landed (c : Thread nD τ) (blkWo W0 ![0, 0, 0] inb_S2x1024x2048_S1x1024x2048_0_0_0) (blkWo Wo ![0, 0, 0] inb_S2x1024x2048_S1x1024x2048_0_0_0) f0 g11)
            (landed (c : Thread nD τ) (blkSo S0 ![0, 0, 0] inb_S2x64x2048_S1x64x2048_0_0_0) (blkSo So ![0, 0, 0] inb_S2x64x2048_S1x64x2048_0_0_0) f1 g12)
            -∗ runs c (K ⟨⟩) Q))
      ⊢ runs c (startO0 W0 hW0 S0 hS0 Wo hWo So hSo M K) Q :=
  wp_two_starts (c : Thread nD τ) (src0 := blkWo W0 ![0, 0, 0] inb_S2x1024x2048_S1x1024x2048_0_0_0) (dst0 := blkWo Wo ![0, 0, 0] inb_S2x1024x2048_S1x1024x2048_0_0_0)
    (src1 := blkSo S0 ![0, 0, 0] inb_S2x64x2048_S1x64x2048_0_0_0) (dst1 := blkSo So ![0, 0, 0] inb_S2x64x2048_S1x64x2048_0_0_0)
    (View.amount_dma _ _) (View.amount_dma _ _) f0 g11 f1 g12

theorem wp_startO1 {Q : PUnit → sProp 𝕄} :
    iprop(pts c (blkWo W0 ![1, 0, 0] inb_S2x1024x2048_S1x1024x2048_1_0_0) f0 ∗ pts c (blkWo Wo ![1, 0, 0] inb_S2x1024x2048_S1x1024x2048_1_0_0) g11
        ∗ pts c (blkSo S0 ![1, 0, 0] inb_S2x64x2048_S1x64x2048_1_0_0) f1 ∗ pts c (blkSo So ![1, 0, 0] inb_S2x64x2048_S1x64x2048_1_0_0) g12
        ∗ sem0 c M ![2, 1] inb_S5x2_S1x1_2_1
        ∗ (flying (c : Thread nD τ) (.dma (cell M ![2, 1] inb_S5x2_S1x1_2_1).sem) (crWo Wo) (crSo So)
            (landed (c : Thread nD τ) (blkWo W0 ![1, 0, 0] inb_S2x1024x2048_S1x1024x2048_1_0_0) (blkWo Wo ![1, 0, 0] inb_S2x1024x2048_S1x1024x2048_1_0_0) f0 g11)
            (landed (c : Thread nD τ) (blkSo S0 ![1, 0, 0] inb_S2x64x2048_S1x64x2048_1_0_0) (blkSo So ![1, 0, 0] inb_S2x64x2048_S1x64x2048_1_0_0) f1 g12)
            -∗ runs c (K ⟨⟩) Q))
      ⊢ runs c (startO1 W0 hW0 S0 hS0 Wo hWo So hSo M K) Q :=
  wp_two_starts (c : Thread nD τ) (src0 := blkWo W0 ![1, 0, 0] inb_S2x1024x2048_S1x1024x2048_1_0_0) (dst0 := blkWo Wo ![1, 0, 0] inb_S2x1024x2048_S1x1024x2048_1_0_0)
    (src1 := blkSo S0 ![1, 0, 0] inb_S2x64x2048_S1x64x2048_1_0_0) (dst1 := blkSo So ![1, 0, 0] inb_S2x64x2048_S1x64x2048_1_0_0)
    (View.amount_dma _ _) (View.amount_dma _ _) f0 g11 f1 g12

theorem wp_startGu0 {Q : PUnit → sProp 𝕄} :
    iprop(pts c (blkWg W2 ![0, 0, 0] inb_S2x1024x11264_S1x1024x11264_0_0_0) f2 ∗ pts c (blkWg Wg ![0, 0, 0] inb_S2x1024x11264_S1x1024x11264_0_0_0) g7
        ∗ pts c (blkSg S3 ![0, 0, 0] inb_S2x64x11264_S1x64x11264_0_0_0) f3 ∗ pts c (blkSg Sg ![0, 0, 0] inb_S2x64x11264_S1x64x11264_0_0_0) g8
        ∗ sem0 c M ![3, 0] inb_S5x2_S1x1_3_0
        ∗ (flying (c : Thread nD τ) (.dma (cell M ![3, 0] inb_S5x2_S1x1_3_0).sem) (crWg Wg) (crSg Sg)
            (landed (c : Thread nD τ) (blkWg W2 ![0, 0, 0] inb_S2x1024x11264_S1x1024x11264_0_0_0) (blkWg Wg ![0, 0, 0] inb_S2x1024x11264_S1x1024x11264_0_0_0) f2 g7)
            (landed (c : Thread nD τ) (blkSg S3 ![0, 0, 0] inb_S2x64x11264_S1x64x11264_0_0_0) (blkSg Sg ![0, 0, 0] inb_S2x64x11264_S1x64x11264_0_0_0) f3 g8)
            -∗ runs c (K ⟨⟩) Q))
      ⊢ runs c (startGu0 W2 hW2 S3 hS3 Wg hWg Sg hSg M K) Q :=
  wp_two_starts (c : Thread nD τ) (src0 := blkWg W2 ![0, 0, 0] inb_S2x1024x11264_S1x1024x11264_0_0_0) (dst0 := blkWg Wg ![0, 0, 0] inb_S2x1024x11264_S1x1024x11264_0_0_0)
    (src1 := blkSg S3 ![0, 0, 0] inb_S2x64x11264_S1x64x11264_0_0_0) (dst1 := blkSg Sg ![0, 0, 0] inb_S2x64x11264_S1x64x11264_0_0_0)
    (View.amount_dma _ _) (View.amount_dma _ _) f2 g7 f3 g8

theorem wp_startGu1 {Q : PUnit → sProp 𝕄} :
    iprop(pts c (blkWg W2 ![1, 0, 0] inb_S2x1024x11264_S1x1024x11264_1_0_0) f2 ∗ pts c (blkWg Wg ![1, 0, 0] inb_S2x1024x11264_S1x1024x11264_1_0_0) g7
        ∗ pts c (blkSg S3 ![1, 0, 0] inb_S2x64x11264_S1x64x11264_1_0_0) f3 ∗ pts c (blkSg Sg ![1, 0, 0] inb_S2x64x11264_S1x64x11264_1_0_0) g8
        ∗ sem0 c M ![3, 1] inb_S5x2_S1x1_3_1
        ∗ (flying (c : Thread nD τ) (.dma (cell M ![3, 1] inb_S5x2_S1x1_3_1).sem) (crWg Wg) (crSg Sg)
            (landed (c : Thread nD τ) (blkWg W2 ![1, 0, 0] inb_S2x1024x11264_S1x1024x11264_1_0_0) (blkWg Wg ![1, 0, 0] inb_S2x1024x11264_S1x1024x11264_1_0_0) f2 g7)
            (landed (c : Thread nD τ) (blkSg S3 ![1, 0, 0] inb_S2x64x11264_S1x64x11264_1_0_0) (blkSg Sg ![1, 0, 0] inb_S2x64x11264_S1x64x11264_1_0_0) f3 g8)
            -∗ runs c (K ⟨⟩) Q))
      ⊢ runs c (startGu1 W2 hW2 S3 hS3 Wg hWg Sg hSg M K) Q :=
  wp_two_starts (c : Thread nD τ) (src0 := blkWg W2 ![1, 0, 0] inb_S2x1024x11264_S1x1024x11264_1_0_0) (dst0 := blkWg Wg ![1, 0, 0] inb_S2x1024x11264_S1x1024x11264_1_0_0)
    (src1 := blkSg S3 ![1, 0, 0] inb_S2x64x11264_S1x64x11264_1_0_0) (dst1 := blkSg Sg ![1, 0, 0] inb_S2x64x11264_S1x64x11264_1_0_0)
    (View.amount_dma _ _) (View.amount_dma _ _) f2 g7 f3 g8

theorem wp_startDn0 {Q : PUnit → sProp 𝕄} :
    iprop(pts c (blkWdH W4 ![0, 0, 0] inb_S2x2816x2048_S1x2816x2048_0_0_0) f4 ∗ pts c (blkWdV Wd ![0, 0, 0] inb_S1x2816x2048_S1x2816x2048_0_0_0) g9
        ∗ pts c (blkSdH S5 ![0, 0, 0] inb_S2x176x2048_S1x176x2048_0_0_0) f5 ∗ pts c (blkSdV Sd ![0, 0, 0] inb_S1x176x2048_S1x176x2048_0_0_0) g10
        ∗ sem0 c M ![4, 0] inb_S5x2_S1x1_4_0
        ∗ (flying (c : Thread nD τ) (.dma (cell M ![4, 0] inb_S5x2_S1x1_4_0).sem) (crWd Wd) (crSd Sd)
            (landed (c : Thread nD τ) (blkWdH W4 ![0, 0, 0] inb_S2x2816x2048_S1x2816x2048_0_0_0) (blkWdV Wd ![0, 0, 0] inb_S1x2816x2048_S1x2816x2048_0_0_0) f4 g9)
            (landed (c : Thread nD τ) (blkSdH S5 ![0, 0, 0] inb_S2x176x2048_S1x176x2048_0_0_0) (blkSdV Sd ![0, 0, 0] inb_S1x176x2048_S1x176x2048_0_0_0) f5 g10)
            -∗ runs c (K ⟨⟩) Q))
      ⊢ runs c (startDn0 W4 hW4 S5 hS5 Wd hWd Sd hSd M K) Q :=
  wp_two_starts (c : Thread nD τ) (src0 := blkWdH W4 ![0, 0, 0] inb_S2x2816x2048_S1x2816x2048_0_0_0) (dst0 := blkWdV Wd ![0, 0, 0] inb_S1x2816x2048_S1x2816x2048_0_0_0)
    (src1 := blkSdH S5 ![0, 0, 0] inb_S2x176x2048_S1x176x2048_0_0_0) (dst1 := blkSdV Sd ![0, 0, 0] inb_S1x176x2048_S1x176x2048_0_0_0)
    (View.amount_dma _ _) (View.amount_dma _ _) f4 g9 f5 g10

theorem wp_startDn1 {Q : PUnit → sProp 𝕄} :
    iprop(pts c (blkWdH W4 ![1, 0, 0] inb_S2x2816x2048_S1x2816x2048_1_0_0) f4 ∗ pts c (blkWdV Wd ![0, 0, 0] inb_S1x2816x2048_S1x2816x2048_0_0_0) g9
        ∗ pts c (blkSdH S5 ![1, 0, 0] inb_S2x176x2048_S1x176x2048_1_0_0) f5 ∗ pts c (blkSdV Sd ![0, 0, 0] inb_S1x176x2048_S1x176x2048_0_0_0) g10
        ∗ sem0 c M ![4, 1] inb_S5x2_S1x1_4_1
        ∗ (flying (c : Thread nD τ) (.dma (cell M ![4, 1] inb_S5x2_S1x1_4_1).sem) (crWd Wd) (crSd Sd)
            (landed (c : Thread nD τ) (blkWdH W4 ![1, 0, 0] inb_S2x2816x2048_S1x2816x2048_1_0_0) (blkWdV Wd ![0, 0, 0] inb_S1x2816x2048_S1x2816x2048_0_0_0) f4 g9)
            (landed (c : Thread nD τ) (blkSdH S5 ![1, 0, 0] inb_S2x176x2048_S1x176x2048_1_0_0) (blkSdV Sd ![0, 0, 0] inb_S1x176x2048_S1x176x2048_0_0_0) f5 g10)
            -∗ runs c (K ⟨⟩) Q))
      ⊢ runs c (startDn1 W4 hW4 S5 hS5 Wd hWd Sd hSd M K) Q :=
  wp_two_starts (c : Thread nD τ) (src0 := blkWdH W4 ![1, 0, 0] inb_S2x2816x2048_S1x2816x2048_1_0_0) (dst0 := blkWdV Wd ![0, 0, 0] inb_S1x2816x2048_S1x2816x2048_0_0_0)
    (src1 := blkSdH S5 ![1, 0, 0] inb_S2x176x2048_S1x176x2048_1_0_0) (dst1 := blkSdV Sd ![0, 0, 0] inb_S1x176x2048_S1x176x2048_0_0_0)
    (View.amount_dma _ _) (View.amount_dma _ _) f4 g9 f5 g10

theorem cell_congr {o o' : Fin 2 → ℕ} (e : o = o') (h : ∀ a, o a + S1x1.size a ≤ S5x2.size a) (h' : ∀ a, o' a + S1x1.size a ≤ S5x2.size a) :
    (cell M o h).sem = (cell M o' h').sem := by
  subst e; rfl

theorem wp_waitO {k : Fin k0_t1_loop.trips} {o : Fin 2 → ℕ} (e : k0_off17 k = o) (h : ∀ a, o a + S1x1.size a ≤ S5x2.size a) {D0 D1 : sProp 𝕄} {W : Waits sig Unit}
    {Q : PUnit → sProp 𝕄} :
    iprop(flying (c : Thread nD τ) (.dma (cell M o h).sem) (crWo Wo) (crSo So) D0 D1 ∗ owes (c : Thread nD τ) 0 W
        ∗ ((D0 ∗ D1 ∗ sem0 c M o h ∗ (∃ W', owes (c : Thread nD τ) 0 W')) -∗ runs c (K ⟨⟩) Q))
      ⊢ runs c (waitO W0 hW0 S0 hS0 Wo hWo So hSo M k K) Q :=
  wp_two_waits (c : Thread nD τ) (cell_congr e (k0_off17_inb k) h)
    (src0 := blkWo W0 (k0_off18 k) (k0_off18_inb k)) (dst0 := blkWo Wo (k0_off18 k) (k0_off18_inb k))
    (src1 := blkSo S0 (k0_off19 k) (k0_off19_inb k)) (dst1 := blkSo So (k0_off19 k) (k0_off19_inb k)) rfl rfl (View.dmaCredit_pos _ (by decide)) (View.dmaCredit_pos _ (by decide))

theorem wp_waitGu {k : Fin k0_t1_loop.trips} {o : Fin 2 → ℕ} (e : k0_off157 k = o) (h : ∀ a, o a + S1x1.size a ≤ S5x2.size a) {D0 D1 : sProp 𝕄} {W : Waits sig Unit}
    {Q : PUnit → sProp 𝕄} :
    iprop(flying (c : Thread nD τ) (.dma (cell M o h).sem) (crWg Wg) (crSg Sg) D0 D1 ∗ owes (c : Thread nD τ) 0 W
        ∗ ((D0 ∗ D1 ∗ sem0 c M o h ∗ (∃ W', owes (c : Thread nD τ) 0 W')) -∗ runs c (K ⟨⟩) Q))
      ⊢ runs c (waitGu W2 hW2 S3 hS3 Wg hWg Sg hSg M k K) Q :=
  wp_two_waits (c : Thread nD τ) (cell_congr e (k0_off157_inb k) h)
    (src0 := blkWg W2 (k0_off158 k) (k0_off158_inb k)) (dst0 := blkWg Wg (k0_off158 k) (k0_off158_inb k))
    (src1 := blkSg S3 (k0_off159 k) (k0_off159_inb k)) (dst1 := blkSg Sg (k0_off159 k) (k0_off159_inb k)) rfl rfl (View.dmaCredit_pos _ (by decide)) (View.dmaCredit_pos _ (by decide))

theorem wp_waitDn {k : Fin k0_t1_loop.trips} {o : Fin 2 → ℕ} (e : k0_off864 k = o) (h : ∀ a, o a + S1x1.size a ≤ S5x2.size a) {D0 D1 : sProp 𝕄} {W : Waits sig Unit}
    {Q : PUnit → sProp 𝕄} :
    iprop(flying (c : Thread nD τ) (.dma (cell M o h).sem) (crWd Wd) (crSd Sd) D0 D1 ∗ owes (c : Thread nD τ) 0 W
        ∗ ((D0 ∗ D1 ∗ sem0 c M o h ∗ (∃ W', owes (c : Thread nD τ) 0 W')) -∗ runs c (K ⟨⟩) Q))
      ⊢ runs c (waitDn W4 hW4 S5 hS5 Wd hWd Sd hSd M k K) Q :=
  wp_two_waits (c : Thread nD τ) (cell_congr e (k0_off864_inb k) h)
    (src0 := blkWdH W4 (k0_off865 k) (k0_off865_inb k)) (dst0 := blkWdV Wd ![0, 0, 0] inb_S1x2816x2048_S1x2816x2048_0_0_0)
    (src1 := blkSdH S5 (k0_off866 k) (k0_off866_inb k)) (dst1 := blkSdV Sd ![0, 0, 0] inb_S1x176x2048_S1x176x2048_0_0_0) rfl rfl (View.dmaCredit_pos _ (by decide)) (View.dmaCredit_pos _ (by decide))

end

theorem resV_zero (o r : S48x2048.Idx → Elt F .f32) : resV o r (2 * 0) = r := by
  funext y
  unfold resV
  rw [if_neg (by omega)]

theorem resV_all (o r : S48x2048.Idx → Elt F .f32) : resV o r (2 * (0 + 4)) = o := by
  funext y
  unfold resV
  rw [if_pos (by have h : (y 1).val < 2048 := (y 1).isLt; omega)]

theorem hidAll_layer {x : S2x48x2048.Idx → Elt F .f32} {nn : S2x2048.Idx → Elt F .f32} {wg : S2x1024x11264.Idx → Elt F .i8} {sg : S2x64x11264.Idx → Elt F .bf16}
    {wd : S2x2816x2048.Idx → Elt F .i8} {sd : S2x176x2048.Idx → Elt F .bf16} (k : Fin k0_t1_loop.trips) (y : S2x48x2048.Idx) (hy : (y 0).val = k.val) :
    hidAll x nn wg sg wd sd y = outV (fun z => wd (ix3 ⟨k.val, k.isLt⟩ (z 1) (z 2))) (fun z => sd (ix3 ⟨k.val, k.isLt⟩ (z 1) (z 2))) (rowsV k x)
      (gateV k wg sg (actV k nn (rowsV k x))) (ix2 (y 1) (y 2)) := by
  have e : (⟨(y 0).val, (y 0).isLt⟩ : Fin k0_t1_loop.trips) = k := Fin.ext hy
  unfold hidAll
  rw [e]
  rfl

/-- The second product of a layer: the residual and the result rows written. -/
theorem wp_layer {x : S2x48x2048.Idx → Elt F .f32} {nn : S2x2048.Idx → Elt F .f32} {wg : S2x1024x11264.Idx → Elt F .i8} {sg : S2x64x11264.Idx → Elt F .bf16}
    {wd : S2x2816x2048.Idx → Elt F .i8} {sd : S2x176x2048.Idx → Elt F .bf16} (k : Fin k0_t1_loop.trips)
    {wdk : S1x2816x2048.Idx → Elt F .i8} {sdk : S1x176x2048.Idx → Elt F .bf16}
    (hwd : wdk = fun z => wd (ix3 ⟨k.val, k.isLt⟩ (z 1) (z 2))) (hsd : sdk = fun z => sd (ix3 ⟨k.val, k.isLt⟩ (z 1) (z 2)))
    {K : PUnit.{1} → PG F} {Q : PUnit.{1} → sProp 𝕄} :
    iprop(ownC c P (fun _ => True) (gateV k wg sg (actV k nn (rowsV k x))) ∗ ownC c Wd (fun _ => True) wdk ∗ ownC c Sd (fun _ => True) sdk
      ∗ ownC c R (fun _ => True) (rowsV k x) ∗ ownC c H (doneT k.val 0) (hidAll x nn wg sg wd sd)
      ∗ (ownC c P (fun _ => True) (gateV k wg sg (actV k nn (rowsV k x))) -∗ ownC c Wd (fun _ => True) wdk -∗ ownC c Sd (fun _ => True) sdk
          -∗ ownC c R (fun _ => True) (hidV x nn wg sg wd sd k) -∗ ownC c H (doneT k.val 8) (hidAll x nn wg sg wd sd) -∗ runs c (K ⟨⟩) Q))
      ⊢ runs c (dnChunks H Wd Sd R P k K 4 0 (by omega) ⟨⟩) Q := by
  subst hwd
  subst hsd
  have e := wp_dnChunks c (k := k) (Wd := Wd) (Sd := Sd) (R := R) (P := P) (H := H) (wd := fun z => wd (ix3 ⟨k.val, k.isLt⟩ (z 1) (z 2)))
    (sd := fun z => sd (ix3 ⟨k.val, k.isLt⟩ (z 1) (z 2))) (r := rowsV k x) (p := gateV k wg sg (actV k nn (rowsV k x)))
    (hid := hidAll x nn wg sg wd sd) (fun y hy => hidAll_layer k y hy) (K := K) (Q := Q) 4 0 (by omega)
  rw [resV_zero, resV_all] at e
  unfold hidV
  iintro ⟨HP, HW, HS, HR, HH, HK⟩
  iapply e
  isplitl [HP]
  · iexact HP
  isplitl [HW]
  · iexact HW
  isplitl [HS]
  · iexact HS
  isplitl [HR]
  · iexact HR
  isplitl [HH]
  · iexact HH
  iintro HP HW HS HR HH
  iapply HK $$ HP HW HS HR HH

/-- The rows copied and normalised. -/
theorem wp_norm {x : S2x48x2048.Idx → Elt F .f32} {nn : S2x2048.Idx → Elt F .f32} {q' : PosShare TreeShare} (k : Fin k0_t1_loop.trips)
    {K : PUnit.{1} → PG F} {Q : PUnit.{1} → sProp 𝕄} :
    iprop(own (c : Thread nD τ) N q' Finset.univ (fun _ => True) nn ∗ ownC c R (fun _ => True) (rowsV k x) ∗ some_pts (c : Thread nD τ) A
      ∗ (own (c : Thread nD τ) N q' Finset.univ (fun _ => True) nn -∗ ownC c R (fun _ => True) (rowsV k x) -∗ ownC c A (fun _ => True) (actV k nn (rowsV k x))
          -∗ runs c (K ⟨⟩) Q))
      ⊢ runs c (rms N R A hA k K) Q := by
  iintro ⟨HN, HR, ⟨%f, HA⟩, HK⟩
  ihave HA := (own_of_pts (c : Thread nD τ) f fullShare) $$ HA
  iapply (wp_rms c)
  isplitl [HN]
  · iexact HN
  isplitl [HR]
  · iexact HR
  isplitl [HA]
  · iexact HA
  iintro HN HR HA
  iapply HK $$ HN HR HA

theorem wp_copy {x0 : S6x8x2048.Idx → Elt F .bf16} {q : PosShare TreeShare}
    {K : PUnit.{1} → PG F} {Q : PUnit.{1} → sProp 𝕄} :
    iprop(own (c : Thread nD τ) X q Finset.univ (fun _ => True) x0 ∗ some_pts (c : Thread nD τ) R
      ∗ (own (c : Thread nD τ) X q Finset.univ (fun _ => True) x0 -∗ ownC c R (fun _ => True) (rows0 x0) -∗ runs c (K ⟨⟩) Q))
      ⊢ runs c (rowsIn X R K) Q := by
  iintro ⟨HX, ⟨%f, HR⟩, HK⟩
  ihave HR := (own_of_pts (c : Thread nD τ) f fullShare) $$ HR
  iapply (wp_rowsIn c)
  isplitl [HX]
  · iexact HX
  isplitl [HR]
  · iexact HR
  iintro HX HR
  iapply HK $$ HX HR

/-- The attention put in the lane order of the packed weights. -/
theorem wp_att {at' : S2x48x2048.Idx → Elt F .bf16} {q : PosShare TreeShare} (k : Fin k0_t1_loop.trips)
    {K : PUnit.{1} → PG F} {Q : PUnit.{1} → sProp 𝕄} :
    iprop(own (c : Thread nD τ) T q Finset.univ (fun _ => True) at' ∗ some_pts (c : Thread nD τ) A
      ∗ (own (c : Thread nD τ) T q Finset.univ (fun _ => True) at' -∗ ownC c A (fun _ => True) (attV k at') -∗ runs c (K ⟨⟩) Q))
      ⊢ runs c (atSteps T A hA k K 16 0 (by omega) ⟨⟩) Q := by
  iintro ⟨HT, ⟨%f, HA⟩, HK⟩
  ihave HA := (own_of_pts (c : Thread nD τ) f fullShare) $$ HA
  ihave HA := (own_weaken (c : Thread nD τ) (T' := fun y => (y 1).val < 128 * 0) (d' := attV k at') (fun y hy => absurd hy (by omega))) $$ HA
  iapply (wp_atSteps c (at' := at') 16 0 _)
  isplitl [HT]
  · iexact HT
  isplitl [HA]
  · iexact HA
  iintro HT HA
  ihave HA := (own_weaken (c : Thread nD τ) (T' := fun _ => True) (d' := attV k at') (fun y _ => ⟨by
    have h1 : (y 1).val < 2048 := (y 1).isLt
    omega, rfl⟩)) $$ HA
  iapply HK $$ HT HA

/-- The output projection: the residual and the second result's rows written. -/
theorem wp_mid {wo : S2x1024x2048.Idx → Elt F .i8} {so : S2x64x2048.Idx → Elt F .bf16} {r : S48x2048.Idx → Elt F .f32} {a : S48x2048.Idx → Elt F .bf16}
    {xm : S2x48x2048.Idx → Elt F .f32} (k : Fin k0_t1_loop.trips) (hx : midV k wo so r a = rowsV k xm)
    {K : PUnit.{1} → PG F} {Q : PUnit.{1} → sProp 𝕄} :
    iprop(ownC c A (fun _ => True) a ∗ ownWo c k Wo wo ∗ ownSo c k So so ∗ ownC c R (fun _ => True) r ∗ ownC c Mo (doneT k.val 0) xm
      ∗ (some_pts (c : Thread nD τ) A -∗ ownWo c k Wo wo -∗ ownSo c k So so -∗ ownC c R (fun _ => True) (rowsV k xm) -∗ ownC c Mo (doneT k.val 8) xm
          -∗ runs c (K ⟨⟩) Q))
      ⊢ runs c (oChunks Mo Wo So R A k K 4 0 (by omega) ⟨⟩) Q := by
  have hh : ∀ y : S2x48x2048.Idx, (y 0).val = k.val → xm y = midV k wo so r a (ix2 (y 1) (y 2)) := by
    intro y hy
    rw [hx]
    refine congrArg xm ((ValueIdx.eq_ix3 y).trans ?_)
    exact congrArg (fun l => ix3 l (y 1) (y 2)) (Fin.ext hy)
  have e := wp_oChunks c (k := k) (Wo := Wo) (So := So) (R := R) (A := A) (H := Mo) (wo := wo) (so := so) (r := r) (a := a)
    (hid := xm) hh (K := K) (Q := Q) 4 0 (by omega)
  rw [resV_zero, resV_all, hx] at e
  iintro ⟨HA, HW, HS, HR, HH, HK⟩
  iapply e
  isplitl [HA]
  · iexact HA
  isplitl [HW]
  · iexact HW
  isplitl [HS]
  · iexact HS
  isplitl [HR]
  · iexact HR
  isplitl [HH]
  · iexact HH
  iintro HA HW HS HR HH
  ihave HA := (own_some (c : Thread nD τ)) $$ HA
  iapply HK $$ HA HW HS HR HH

/-- The gated layer's columns. -/
theorem wp_gate {wg : S2x1024x11264.Idx → Elt F .i8} {sg : S2x64x11264.Idx → Elt F .bf16} {a : S48x2048.Idx → Elt F .bf16} (k : Fin k0_t1_loop.trips)
    {K : PUnit.{1} → PG F} {Q : PUnit.{1} → sProp 𝕄} :
    iprop(ownC c A (fun _ => True) a ∗ ownWg c k Wg wg ∗ ownSg c k Sg sg ∗ some_pts (c : Thread nD τ) P
      ∗ (some_pts (c : Thread nD τ) A -∗ ownWg c k Wg wg -∗ ownSg c k Sg sg -∗ ownC c P (fun _ => True) (gateV k wg sg a) -∗ runs c (K ⟨⟩) Q))
      ⊢ runs c (guChunks Wg Sg A P hP k K 22 0 (by omega) ⟨⟩) Q := by
  iintro ⟨HA, HW, HS, ⟨%f, HP⟩, HK⟩
  ihave HP := (own_of_pts (c : Thread nD τ) f fullShare) $$ HP
  ihave HP := (own_weaken (c : Thread nD τ) (T' := fun y => (y 1).val < 256 * 0) (d' := gateV k wg sg a) (fun y hy => absurd hy (by omega))) $$ HP
  iapply (wp_guChunks c (wg := wg) (sg := sg) (a := a) 22 0 _)
  isplitl [HA]
  · iexact HA
  isplitl [HW]
  · iexact HW
  isplitl [HS]
  · iexact HS
  isplitl [HP]
  · iexact HP
  iintro HA HW HS HP
  ihave HA := (own_some (c : Thread nD τ)) $$ HA
  ihave HP := (own_weaken (c : Thread nD τ) (T' := fun _ => True) (d' := gateV k wg sg a) (fun y _ => ⟨by
    have h1 : (y 1).val < 5632 := (y 1).isLt
    omega, rfl⟩)) $$ HP
  iapply HK $$ HA HW HS HP

/-- THE BODY RUNS: from the three operand blocks, the two result blocks and the scratch at anything, the six operands
    the transfers read, and the six cells at zero; to the same, the result blocks at their values. -/
theorem wp_pieces {q q' q'' : PosShare TreeShare} {x0 : S6x8x2048.Idx → Elt F .bf16} {at' : S2x48x2048.Idx → Elt F .bf16} {nn : S2x2048.Idx → Elt F .f32}
    {TH : S2x48x2048.Idx → Prop} {dH : S2x48x2048.Idx → Elt F .f32} {TM : S2x48x2048.Idx → Prop} {dM : S2x48x2048.Idx → Elt F .f32}
    (f0 : Buf (Elt F) (W0.view.loc (c : Thread nD τ))) (f1 : Buf (Elt F) (S0.view.loc (c : Thread nD τ)))
    (f2 : Buf (Elt F) (W2.view.loc (c : Thread nD τ))) (f3 : Buf (Elt F) (S3.view.loc (c : Thread nD τ)))
    (f4 : Buf (Elt F) (W4.view.loc (c : Thread nD τ))) (f5 : Buf (Elt F) (S5.view.loc (c : Thread nD τ)))
    {x hid : S2x48x2048.Idx → Elt F .f32}
    (hx : x = midAll x0 at' nn (W0.view.read (Elt F) f0) (S0.view.read (Elt F) f1) (W2.view.read (Elt F) f2) (S3.view.read (Elt F) f3) (W4.view.read (Elt F) f4) (S5.view.read (Elt F) f5))
    (hhid : hid = hidAll x nn (W2.view.read (Elt F) f2) (S3.view.read (Elt F) f3) (W4.view.read (Elt F) f4) (S5.view.read (Elt F) f5))
    {W : Waits sig Unit} {K : PUnit.{1} → PG F} {Q : PUnit.{1} → sProp 𝕄} :
    iprop(own (c : Thread nD τ) X q Finset.univ (fun _ => True) x0 ∗ own (c : Thread nD τ) T q'' Finset.univ (fun _ => True) at' ∗ own (c : Thread nD τ) N q' Finset.univ (fun _ => True) nn ∗ ownC c H TH dH ∗ ownC c Mo TM dM
        ∗ pts c W0 f0 ∗ pts c S0 f1 ∗ pts c W2 f2 ∗ pts c S3 f3 ∗ pts c W4 f4 ∗ pts c S5 f5
        ∗ some_pts (c : Thread nD τ) Wo ∗ some_pts (c : Thread nD τ) So ∗ some_pts (c : Thread nD τ) Wg ∗ some_pts (c : Thread nD τ) Sg ∗ some_pts (c : Thread nD τ) Wd ∗ some_pts (c : Thread nD τ) Sd
        ∗ some_pts (c : Thread nD τ) R ∗ some_pts (c : Thread nD τ) A ∗ some_pts (c : Thread nD τ) P
        ∗ sem0 c M ![2, 0] inb_S5x2_S1x1_2_0 ∗ sem0 c M ![2, 1] inb_S5x2_S1x1_2_1 ∗ sem0 c M ![3, 0] inb_S5x2_S1x1_3_0 ∗ sem0 c M ![3, 1] inb_S5x2_S1x1_3_1 ∗ sem0 c M ![4, 0] inb_S5x2_S1x1_4_0 ∗ sem0 c M ![4, 1] inb_S5x2_S1x1_4_1
        ∗ owes (c : Thread nD τ) 0 W
        ∗ ((own (c : Thread nD τ) X q Finset.univ (fun _ => True) x0 ∗ own (c : Thread nD τ) T q'' Finset.univ (fun _ => True) at' ∗ own (c : Thread nD τ) N q' Finset.univ (fun _ => True) nn ∗ ownC c H (fun _ => True) hid ∗ ownC c Mo (fun _ => True) x
            ∗ pts c W0 f0 ∗ pts c S0 f1 ∗ pts c W2 f2 ∗ pts c S3 f3 ∗ pts c W4 f4 ∗ pts c S5 f5
            ∗ some_pts (c : Thread nD τ) Wo ∗ some_pts (c : Thread nD τ) So ∗ some_pts (c : Thread nD τ) Wg ∗ some_pts (c : Thread nD τ) Sg ∗ some_pts (c : Thread nD τ) Wd ∗ some_pts (c : Thread nD τ) Sd
            ∗ some_pts (c : Thread nD τ) R ∗ some_pts (c : Thread nD τ) A ∗ some_pts (c : Thread nD τ) P
            ∗ sem0 c M ![2, 0] inb_S5x2_S1x1_2_0 ∗ sem0 c M ![2, 1] inb_S5x2_S1x1_2_1 ∗ sem0 c M ![3, 0] inb_S5x2_S1x1_3_0 ∗ sem0 c M ![3, 1] inb_S5x2_S1x1_3_1 ∗ sem0 c M ![4, 0] inb_S5x2_S1x1_4_0 ∗ sem0 c M ![4, 1] inb_S5x2_S1x1_4_1
            ∗ (∃ W', owes (c : Thread nD τ) 0 W')) -∗ runs c (K ⟨⟩) Q))
      ⊢ runs c (pieces X T N W0 hW0 S0 hS0 W2 hW2 S3 hS3 W4 hW4 S5 hS5 H Mo Wo hWo So hSo Wg hWg Sg hSg Wd hWd Sd hSd R A hA P hP M K) Q := by
  subst hhid
  have hx0 := (rowsV_mid0 x0 at' nn (W0.view.read (Elt F) f0) (S0.view.read (Elt F) f1) (W2.view.read (Elt F) f2) (S3.view.read (Elt F) f3) (W4.view.read (Elt F) f4) (S5.view.read (Elt F) f5)).trans
    (congrArg (rowsV t0) hx.symm)
  have hx1 := rowsV_mid1 x0 at' nn (W0.view.read (Elt F) f0) (S0.view.read (Elt F) f1) (W2.view.read (Elt F) f2) (S3.view.read (Elt F) f3) (W4.view.read (Elt F) f4) (S5.view.read (Elt F) f5)
  rw [← hx] at hx1
  unfold pieces
  iintro ⟨HX, HT, HN, HH, HM, H0, H1, H2, H3, H4, H5, ⟨%g11, H11⟩, ⟨%g12, H12⟩, ⟨%g7, H7⟩, ⟨%g8, H8⟩, ⟨%g9, H9⟩, ⟨%g10, H10⟩, HR, HA, HP, Q20, Q21, Q30, Q31, Q40, Q41, HO, HK⟩
  -- the blocks
  icases ((pts_blocks (c : Thread nD τ) f0 (hq := squeezes_S1x1024x2048_S1024x2048)).mp) $$ H0 with ⟨Ha0, Ha1⟩
  icases ((pts_blocks (c : Thread nD τ) f1 (hq := squeezes_S1x64x2048_S64x2048)).mp) $$ H1 with ⟨Hb0, Hb1⟩
  icases ((pts_blocks (c : Thread nD τ) g11 (hq := squeezes_S1x1024x2048_S1024x2048)).mp) $$ H11 with ⟨Hc0, Hc1⟩
  icases ((pts_blocks (c : Thread nD τ) g12 (hq := squeezes_S1x64x2048_S64x2048)).mp) $$ H12 with ⟨Hd0, Hd1⟩
  icases ((pts_blocks (c : Thread nD τ) f2 (hq := squeezes_S1x1024x11264_S1024x11264)).mp) $$ H2 with ⟨H20, H21⟩
  icases ((pts_blocks (c : Thread nD τ) f3 (hq := squeezes_S1x64x11264_S64x11264)).mp) $$ H3 with ⟨H30, H31⟩
  icases ((pts_blocks (c : Thread nD τ) f4 (hq := squeezes_S1x2816x2048_S2816x2048)).mp) $$ H4 with ⟨H40, H41⟩
  icases ((pts_blocks (c : Thread nD τ) f5 (hq := squeezes_S1x176x2048_S176x2048)).mp) $$ H5 with ⟨H50, H51⟩
  icases ((pts_blocks (c : Thread nD τ) g7 (hq := squeezes_S1x1024x11264_S1024x11264)).mp) $$ H7 with ⟨H70, H71⟩
  icases ((pts_blocks (c : Thread nD τ) g8 (hq := squeezes_S1x64x11264_S64x11264)).mp) $$ H8 with ⟨H80, H81⟩
  ihave H9 := (own_of_pts (c : Thread nD τ) g9 fullShare) $$ H9
  ihave H10 := (own_of_pts (c : Thread nD τ) g10 fullShare) $$ H10
  icases (own_dst_one (c : Thread nD τ) (hq := squeezes_S1x2816x2048_S2816x2048)) $$ H9 with ⟨%e9, H9⟩
  icases (own_dst_one (c : Thread nD τ) (hq := squeezes_S1x176x2048_S176x2048)) $$ H10 with ⟨%e10, H10⟩
  -- the first transfers start
  iapply (wp_startO0 c)
  isplitl [Ha0]
  · iexact Ha0
  isplitl [Hc0]
  · iexact Hc0
  isplitl [Hb0]
  · iexact Hb0
  isplitl [Hd0]
  · iexact Hd0
  isplitl [Q20]
  · iexact Q20
  iintro B20
  iapply (wp_startGu0 c)
  isplitl [H20]
  · iexact H20
  isplitl [H70]
  · iexact H70
  isplitl [H30]
  · iexact H30
  isplitl [H80]
  · iexact H80
  isplitl [Q30]
  · iexact Q30
  iintro B30
  iapply (wp_startDn0 c)
  isplitl [H40]
  · iexact H40
  isplitl [H9]
  · iexact H9
  isplitl [H50]
  · iexact H50
  isplitl [H10]
  · iexact H10
  isplitl [Q40]
  · iexact Q40
  iintro B40
  iapply (wp_copy c)
  isplitl [HX]
  · iexact HX
  isplitl [HR]
  · iexact HR
  iintro HX HR
  iapply (wp_att c t0)
  isplitl [HT]
  · iexact HT
  isplitl [HA]
  · iexact HA
  iintro HT HA
  iapply (wp_startO1 c)
  isplitl [Ha1]
  · iexact Ha1
  isplitl [Hc1]
  · iexact Hc1
  isplitl [Hb1]
  · iexact Hb1
  isplitl [Hd1]
  · iexact Hd1
  isplitl [Q21]
  · iexact Q21
  iintro B21
  iapply (wp_startGu1 c)
  isplitl [H21]
  · iexact H21
  isplitl [H71]
  · iexact H71
  isplitl [H31]
  · iexact H31
  isplitl [H81]
  · iexact H81
  isplitl [Q31]
  · iexact Q31
  iintro B31
  -- the first layer
  iapply (wp_waitO c (k0_off17_eq t0) inb_S5x2_S1x1_2_0)
  isplitl [B20]
  · iexact B20
  isplitl [HO]
  · iexact HO
  iintro ⟨⟨Hc0, Ha0⟩, ⟨Hd0, Hb0⟩, Q20, ⟨%W5, HO⟩⟩
  ihave Hc0 := (own_landed_same (c : Thread nD τ) f0 g11 (by decide)) $$ Hc0
  ihave Hd0 := (own_landed_same (c : Thread nD τ) f1 g12 (by decide)) $$ Hd0
  ihave HM := (own_weaken (c : Thread nD τ) (T' := doneT (t0 : Fin k0_t1_loop.trips).val 0) (d' := x)
    (fun y hy => absurd hy (by unfold doneT; show ¬ ((y 0).val < 0 ∨ _); omega))) $$ HM
  iapply (wp_mid c t0 hx0)
  isplitl [HA]
  · iexact HA
  isplitl [Hc0]
  · iexact Hc0
  isplitl [Hd0]
  · iexact Hd0
  isplitl [HR]
  · iexact HR
  isplitl [HM]
  · iexact HM
  iintro HA Hc0 Hd0 HR HM
  iapply (wp_norm c (x := x) (nn := nn) (q' := q') t0)
  isplitl [HN]
  · iexact HN
  isplitl [HR]
  · iexact HR
  isplitl [HA]
  · iexact HA
  iintro HN HR HA
  iapply (wp_waitGu c (k0_off157_eq t0) inb_S5x2_S1x1_3_0)
  isplitl [B30]
  · iexact B30
  isplitl [HO]
  · iexact HO
  iintro ⟨⟨H70, H20⟩, ⟨H80, H30⟩, Q30, ⟨%W1, HO⟩⟩
  ihave H70 := (own_landed_same (c : Thread nD τ) f2 g7 (by decide)) $$ H70
  ihave H80 := (own_landed_same (c : Thread nD τ) f3 g8 (by decide)) $$ H80
  iapply (wp_gate c t0)
  isplitl [HA]
  · iexact HA
  isplitl [H70]
  · iexact H70
  isplitl [H80]
  · iexact H80
  isplitl [HP]
  · iexact HP
  iintro HA H70 H80 HP
  iapply (wp_waitDn c (k0_off864_eq t0) inb_S5x2_S1x1_4_0)
  isplitl [B40]
  · iexact B40
  isplitl [HO]
  · iexact HO
  iintro ⟨⟨H9, H40⟩, ⟨H10, H50⟩, Q40, ⟨%W2', HO⟩⟩
  ihave H9 := (own_landed (c : Thread nD τ) (Ms := W4) (Md := Wd) f4 e9 (show 0 < 2 by decide) (d := fun z => W4.view.read (Elt F) f4 (ix3 ⟨0, by decide⟩ (z 1) (z 2))) (fun _ _ => rfl)) $$ H9
  ihave H10 := (own_landed (c : Thread nD τ) (Ms := S5) (Md := Sd) f5 e10 (show 0 < 2 by decide) (d := fun z => S5.view.read (Elt F) f5 (ix3 ⟨0, by decide⟩ (z 1) (z 2))) (fun _ _ => rfl)) $$ H10
  ihave H9 := (own_one (c : Thread nD τ)) $$ H9
  ihave H10 := (own_one (c : Thread nD τ)) $$ H10
  ihave HH := (own_weaken (c : Thread nD τ) (T' := doneT (t0 : Fin k0_t1_loop.trips).val 0)
    (d' := hidAll x nn (W2.view.read (Elt F) f2) (S3.view.read (Elt F) f3) (W4.view.read (Elt F) f4) (S5.view.read (Elt F) f5))
    (fun y hy => absurd hy (by unfold doneT; show ¬ ((y 0).val < 0 ∨ _); omega))) $$ HH
  iapply (wp_layer c (wd := W4.view.read (Elt F) f4) (sd := S5.view.read (Elt F) f5) t0 rfl rfl)
  isplitl [HP]
  · iexact HP
  isplitl [H9]
  · iexact H9
  isplitl [H10]
  · iexact H10
  isplitl [HR]
  · iexact HR
  isplitl [HH]
  · iexact HH
  iintro HP H9 H10 HR HH
  icases (own_dst_one (c : Thread nD τ) (hq := squeezes_S1x2816x2048_S2816x2048)) $$ H9 with ⟨%e9', H9⟩
  icases (own_dst_one (c : Thread nD τ) (hq := squeezes_S1x176x2048_S176x2048)) $$ H10 with ⟨%e10', H10⟩
  ihave HP := (own_some (c : Thread nD τ)) $$ HP
  -- the second layer
  iapply (wp_startDn1 c)
  isplitl [H41]
  · iexact H41
  isplitl [H9]
  · iexact H9
  isplitl [H51]
  · iexact H51
  isplitl [H10]
  · iexact H10
  isplitl [Q41]
  · iexact Q41
  iintro B41
  iapply (wp_att c t1)
  isplitl [HT]
  · iexact HT
  isplitl [HA]
  · iexact HA
  iintro HT HA
  iapply (wp_waitO c (k0_off17_eq t1) inb_S5x2_S1x1_2_1)
  isplitl [B21]
  · iexact B21
  isplitl [HO]
  · iexact HO
  iintro ⟨⟨Hc1, Ha1⟩, ⟨Hd1, Hb1⟩, Q21, ⟨%W6, HO⟩⟩
  ihave Hc1 := (own_landed_same (c : Thread nD τ) f0 g11 (by decide)) $$ Hc1
  ihave Hd1 := (own_landed_same (c : Thread nD τ) f1 g12 (by decide)) $$ Hd1
  ihave HM := (own_weaken (c : Thread nD τ) (T' := doneT (t1 : Fin k0_t1_loop.trips).val 0) (d' := x)
    (fun y hy => ⟨by
      have h2 : (y 2).val < 2048 := (y 2).isLt
      have hy : (y 0).val < 1 ∨ ((y 0).val = 1 ∧ (y 2).val < 256 * 0) := hy
      show (y 0).val < 0 ∨ ((y 0).val = 0 ∧ (y 2).val < 256 * 8)
      omega, rfl⟩)) $$ HM
  iapply (wp_mid c t1 hx1)
  isplitl [HA]
  · iexact HA
  isplitl [Hc1]
  · iexact Hc1
  isplitl [Hd1]
  · iexact Hd1
  isplitl [HR]
  · iexact HR
  isplitl [HM]
  · iexact HM
  iintro HA Hc1 Hd1 HR HM
  iapply (wp_norm c (x := x) (nn := nn) (q' := q') t1)
  isplitl [HN]
  · iexact HN
  isplitl [HR]
  · iexact HR
  isplitl [HA]
  · iexact HA
  iintro HN HR HA
  iapply (wp_waitGu c (k0_off157_eq t1) inb_S5x2_S1x1_3_1)
  isplitl [B31]
  · iexact B31
  isplitl [HO]
  · iexact HO
  iintro ⟨⟨H71, H21⟩, ⟨H81, H31⟩, Q31, ⟨%W3, HO⟩⟩
  ihave H71 := (own_landed_same (c : Thread nD τ) f2 g7 (by decide)) $$ H71
  ihave H81 := (own_landed_same (c : Thread nD τ) f3 g8 (by decide)) $$ H81
  iapply (wp_gate c t1)
  isplitl [HA]
  · iexact HA
  isplitl [H71]
  · iexact H71
  isplitl [H81]
  · iexact H81
  isplitl [HP]
  · iexact HP
  iintro HA H71 H81 HP
  iapply (wp_waitDn c (k0_off864_eq t1) inb_S5x2_S1x1_4_1)
  isplitl [B41]
  · iexact B41
  isplitl [HO]
  · iexact HO
  iintro ⟨⟨H9, H41⟩, ⟨H10, H51⟩, Q41, HO⟩
  ihave H9 := (own_landed (c : Thread nD τ) (Ms := W4) (Md := Wd) f4 e9' (show 1 < 2 by decide) (d := fun z => W4.view.read (Elt F) f4 (ix3 ⟨1, by decide⟩ (z 1) (z 2))) (fun _ _ => rfl)) $$ H9
  ihave H10 := (own_landed (c : Thread nD τ) (Ms := S5) (Md := Sd) f5 e10' (show 1 < 2 by decide) (d := fun z => S5.view.read (Elt F) f5 (ix3 ⟨1, by decide⟩ (z 1) (z 2))) (fun _ _ => rfl)) $$ H10
  ihave H9 := (own_one (c : Thread nD τ)) $$ H9
  ihave H10 := (own_one (c : Thread nD τ)) $$ H10
  ihave HH := (own_weaken (c : Thread nD τ) (T' := doneT (t1 : Fin k0_t1_loop.trips).val 0)
    (d' := hidAll x nn (W2.view.read (Elt F) f2) (S3.view.read (Elt F) f3) (W4.view.read (Elt F) f4) (S5.view.read (Elt F) f5))
    (fun y hy => ⟨by
      have h2 : (y 2).val < 2048 := (y 2).isLt
      have hy : (y 0).val < 1 ∨ ((y 0).val = 1 ∧ (y 2).val < 256 * 0) := hy
      show (y 0).val < 0 ∨ ((y 0).val = 0 ∧ (y 2).val < 256 * 8)
      omega, rfl⟩)) $$ HH
  iapply (wp_layer c (wd := W4.view.read (Elt F) f4) (sd := S5.view.read (Elt F) f5) t1 rfl rfl)
  isplitl [HP]
  · iexact HP
  isplitl [H9]
  · iexact H9
  isplitl [H10]
  · iexact H10
  isplitl [HR]
  · iexact HR
  isplitl [HH]
  · iexact HH
  iintro HP H9 H10 HR HH
  -- everything back
  ihave HP := (own_some (c : Thread nD τ)) $$ HP
  ihave H9 := (own_some (c : Thread nD τ)) $$ H9
  ihave H10 := (own_some (c : Thread nD τ)) $$ H10
  ihave HH := (own_weaken (c : Thread nD τ) (T' := fun _ => True)
    (d' := hidAll x nn (W2.view.read (Elt F) f2) (S3.view.read (Elt F) f3) (W4.view.read (Elt F) f4) (S5.view.read (Elt F) f5))
    (fun y _ => ⟨by
      have h0 : (y 0).val < 2 := (y 0).isLt
      have h2 : (y 2).val < 2048 := (y 2).isLt
      show (y 0).val < 1 ∨ ((y 0).val = 1 ∧ (y 2).val < 256 * 8)
      omega, rfl⟩)) $$ HH
  ihave HR := (own_some (c : Thread nD τ)) $$ HR
  ihave HM := (own_weaken (c : Thread nD τ) (T' := fun _ => True) (d' := x)
    (fun y _ => ⟨by
      have h0 : (y 0).val < 2 := (y 0).isLt
      have h2 : (y 2).val < 2048 := (y 2).isLt
      show (y 0).val < 1 ∨ ((y 0).val = 1 ∧ (y 2).val < 256 * 8)
      omega, rfl⟩)) $$ HM
  iapply HK
  isplitl [HX]
  · iexact HX
  isplitl [HT]
  · iexact HT
  isplitl [HN]
  · iexact HN
  isplitl [HH]
  · iexact HH
  isplitl [HM]
  · iexact HM
  isplitl [Ha0 Ha1]
  · iapply ((pts_blocks (c : Thread nD τ) f0 (hq := squeezes_S1x1024x2048_S1024x2048)).mpr)
    isplitl [Ha0]
    · iexact Ha0
    · iexact Ha1
  isplitl [Hb0 Hb1]
  · iapply ((pts_blocks (c : Thread nD τ) f1 (hq := squeezes_S1x64x2048_S64x2048)).mpr)
    isplitl [Hb0]
    · iexact Hb0
    · iexact Hb1
  isplitl [H20 H21]
  · iapply ((pts_blocks (c : Thread nD τ) f2 (hq := squeezes_S1x1024x11264_S1024x11264)).mpr)
    isplitl [H20]
    · iexact H20
    · iexact H21
  isplitl [H30 H31]
  · iapply ((pts_blocks (c : Thread nD τ) f3 (hq := squeezes_S1x64x11264_S64x11264)).mpr)
    isplitl [H30]
    · iexact H30
    · iexact H31
  isplitl [H40 H41]
  · iapply ((pts_blocks (c : Thread nD τ) f4 (hq := squeezes_S1x2816x2048_S2816x2048)).mpr)
    isplitl [H40]
    · iexact H40
    · iexact H41
  isplitl [H50 H51]
  · iapply ((pts_blocks (c : Thread nD τ) f5 (hq := squeezes_S1x176x2048_S176x2048)).mpr)
    isplitl [H50]
    · iexact H50
    · iexact H51
  isplitl [Hc0 Hc1]
  · iapply (own_join (c : Thread nD τ))
    isplitl [Hc0]
    · iexact Hc0
    · iexact Hc1
  isplitl [Hd0 Hd1]
  · iapply (own_join (c : Thread nD τ))
    isplitl [Hd0]
    · iexact Hd0
    · iexact Hd1
  isplitl [H70 H71]
  · iapply (own_join (c : Thread nD τ))
    isplitl [H70]
    · iexact H70
    · iexact H71
  isplitl [H80 H81]
  · iapply (own_join (c : Thread nD τ))
    isplitl [H80]
    · iexact H80
    · iexact H81
  isplitl [H9]
  · iexact H9
  isplitl [H10]
  · iexact H10
  isplitl [HR]
  · iexact HR
  isplitl [HA]
  · iexact HA
  isplitl [HP]
  · iexact HP
  isplitl [Q20]
  · iexact Q20
  isplitl [Q21]
  · iexact Q21
  isplitl [Q30]
  · iexact Q30
  isplitl [Q31]
  · iexact Q31
  isplitl [Q40]
  · iexact Q40
  isplitl [Q41]
  · iexact Q41
  iexact HO

end Cert.KernelIdeal.Hand
-- ==== Proof.KIFrame.lean ====
/-
  The run: the pipeline hands the body its three operand blocks, its two result blocks and its scratch; the body leaves
  the result blocks at their values; every argument ends as launched, every cell at zero, and the result arrays hold the values.
-/
module

public import proofs.«01_k».proof.Proof.KIRun
public import proofs.«01_k».proof.Proof.Gen.KernelIdeal.Launch
public import proofs.«01_k».proof.Proof.Gen.KernelIdeal.Points
public import Idealize.ShloMosaic.Lib.Pipeline.FrameBody
public import Idealize.ShloMosaic.Adequacy
public import Idealize.ShloMosaic.Init

@[expose] public section

set_option maxRecDepth 16384

noncomputable section

namespace Cert.KernelIdeal.Hand

open Cert.KernelIdeal Cert.KernelIdeal.Gen Cert.Own
open Idealize.ShloMosaic hiding ix0 ix1 ix2 ix3
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A core's buffers when the region is entered: as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The values the second result ends at. -/
def outMid (c : Dev nD) : S2x48x2048.Idx → Elt F .f32 :=
  midAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The values the first result ends at. -/
def outAll (c : Dev nD) : S2x48x2048.Idx → Elt F .f32 :=
  hidAll (outMid m c) (m ((c : Thread nD τ).loc main_arg2)) (m ((c : Thread nD τ).loc main_arg5)) (m ((c : Thread nD τ).loc main_arg6)) (m ((c : Thread nD τ).loc main_arg7)) (m ((c : Thread nD τ).loc main_arg8))

theorem outMid_eq (c : Dev nD) : outMid m c = midAll (m ((c : Thread nD τ).loc main_arg0)) (m ((c : Thread nD τ).loc main_arg1)) (m ((c : Thread nD τ).loc main_arg2))
    ((Memref.whole main_arg3).view.read (Elt F) (V m c main_arg3)) ((Memref.whole main_arg4).view.read (Elt F) (V m c main_arg4)) ((Memref.whole main_arg5).view.read (Elt F) (V m c main_arg5)) ((Memref.whole main_arg6).view.read (Elt F) (V m c main_arg6)) ((Memref.whole main_arg7).view.read (Elt F) (V m c main_arg7)) ((Memref.whole main_arg8).view.read (Elt F) (V m c main_arg8)) := by
  unfold outMid
  rfl

theorem outAll_eq (c : Dev nD) : outAll m c = hidAll (outMid m c) (m ((c : Thread nD τ).loc main_arg2))
    ((Memref.whole main_arg5).view.read (Elt F) (V m c main_arg5)) ((Memref.whole main_arg6).view.read (Elt F) (V m c main_arg6)) ((Memref.whole main_arg7).view.read (Elt F) (V m c main_arg7)) ((Memref.whole main_arg8).view.read (Elt F) (V m c main_arg8)) := by
  unfold outAll
  rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem iblk_0 (c : Dev nD) (t : Fin cfg0.N) : iblk m c 0 t = m ((c : Thread nD τ).loc main_arg0) := by
  rw [fin_N0 t]
  show (win0_0.blk t0_0).view.read (Elt F) (m ((c : Thread nD τ).loc main_arg0)) = _
  funext y
  refine congrArg (m ((c : Thread nD τ).loc main_arg0)) ?_
  funext a
  refine Fin.ext ?_
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
theorem iblk_1 (c : Dev nD) (t : Fin cfg0.N) : iblk m c 1 t = m ((c : Thread nD τ).loc main_arg1) := by
  rw [fin_N0 t]
  show (win0_1.blk t0_0).view.read (Elt F) (m ((c : Thread nD τ).loc main_arg1)) = _
  funext y
  refine congrArg (m ((c : Thread nD τ).loc main_arg1)) ?_
  funext a
  refine Fin.ext ?_
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
theorem iblk_2 (c : Dev nD) (t : Fin cfg0.N) : iblk m c 2 t = m ((c : Thread nD τ).loc main_arg2) := by
  rw [fin_N0 t]
  show (win0_2.blk t0_0).view.read (Elt F) (m ((c : Thread nD τ).loc main_arg2)) = _
  funext y
  refine congrArg (m ((c : Thread nD τ).loc main_arg2)) ?_
  funext a
  refine Fin.ext ?_
  match a with
  | ⟨0, _⟩ => show 0 + 1 * (y 0).val = (y 0).val; omega
  | ⟨1, _⟩ => show 0 + 1 * (y 1).val = (y 1).val; omega

/-- The body's six cells: two each of the output projection's weights, the first product's, the second's. -/
abbrev osem0 : Fin 6 → SemLoc sig := fun j => (![SemLoc.dma 9, SemLoc.dma 10, SemLoc.dma 11, SemLoc.dma 12, SemLoc.dma 13, SemLoc.dma 14] : Fin 6 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(sem0 c cc0_scratch9 ![2, 0] inb_S5x2_S1x1_2_0 ∗ sem0 c cc0_scratch9 ![2, 1] inb_S5x2_S1x1_2_1 ∗ sem0 c cc0_scratch9 ![3, 0] inb_S5x2_S1x1_3_0 ∗ sem0 c cc0_scratch9 ![3, 1] inb_S5x2_S1x1_3_1
          ∗ sem0 c cc0_scratch9 ![4, 0] inb_S5x2_S1x1_4_0 ∗ sem0 c cc0_scratch9 ![4, 1] inb_S5x2_S1x1_4_1) := by
  rw [Pipeline.ownSems0_eq_of_list c osem0 [0, 1, 2, 3, 4, 5] (by decide) (by decide)]; rfl

/-- The operands the body's transfers read. -/
def H0 : Finset (Ref sig .tc) := {main_arg3, main_arg4, main_arg5, main_arg6, main_arg7, main_arg8}
theorem H0_sub : H0 ⊆ Pipeline.restRefs sig spec0 := by decide
theorem hbmPts0_eq (c : Dev nD) :
    (bigSep H0 (fun b => ((c : Thread nD τ).loc b) ↦{fullShare} V m c b) : sProp 𝕄)
      = iprop((((c : Thread nD τ).loc main_arg3) ↦{fullShare} V m c main_arg3) ∗ (((c : Thread nD τ).loc main_arg4) ↦{fullShare} V m c main_arg4) ∗ (((c : Thread nD τ).loc main_arg5) ↦{fullShare} V m c main_arg5) ∗ (((c : Thread nD τ).loc main_arg6) ↦{fullShare} V m c main_arg6) ∗ (((c : Thread nD τ).loc main_arg7) ↦{fullShare} V m c main_arg7) ∗ (((c : Thread nD τ).loc main_arg8) ↦{fullShare} V m c main_arg8)) := by
  rw [BI.bigSep_eq_bigSepL_of_eq [main_arg3, main_arg4, main_arg5, main_arg6, main_arg7, main_arg8] (by decide) (by decide)]; rfl

theorem PhiD0_eq (c : Dev nD) :
    (Pipeline.ΦD osem0 spec0 H0 (V m) c : sProp 𝕄)
      = iprop((some_pts (c : Thread nD τ) (Memref.whole cc0_scratch0) ∗ some_pts (c : Thread nD τ) (Memref.whole cc0_scratch1)
            ∗ some_pts (c : Thread nD τ) (Memref.whole cc0_scratch2) ∗ some_pts (c : Thread nD τ) (Memref.whole cc0_scratch3)
            ∗ some_pts (c : Thread nD τ) (Memref.whole cc0_scratch4) ∗ some_pts (c : Thread nD τ) (Memref.whole cc0_scratch5)
            ∗ some_pts (c : Thread nD τ) (Memref.whole cc0_scratch6) ∗ some_pts (c : Thread nD τ) (Memref.whole cc0_scratch7)
            ∗ some_pts (c : Thread nD τ) (Memref.whole cc0_scratch8))
          ∗ (∃ r, prngReg c r)
          ∗ (sem0 c cc0_scratch9 ![2, 0] inb_S5x2_S1x1_2_0 ∗ sem0 c cc0_scratch9 ![2, 1] inb_S5x2_S1x1_2_1 ∗ sem0 c cc0_scratch9 ![3, 0] inb_S5x2_S1x1_3_0 ∗ sem0 c cc0_scratch9 ![3, 1] inb_S5x2_S1x1_3_1
            ∗ sem0 c cc0_scratch9 ![4, 0] inb_S5x2_S1x1_4_0 ∗ sem0 c cc0_scratch9 ![4, 1] inb_S5x2_S1x1_4_1)
          ∗ (pts c (Memref.whole main_arg3) (V m c main_arg3) ∗ pts c (Memref.whole main_arg4) (V m c main_arg4) ∗ pts c (Memref.whole main_arg5) (V m c main_arg5) ∗ pts c (Memref.whole main_arg6) (V m c main_arg6) ∗ pts c (Memref.whole main_arg7) (V m c main_arg7) ∗ pts c (Memref.whole main_arg8) (V m c main_arg8))) := by
  rw [Pipeline.ΦD_eq, scopedRest0_eq, ownSems00_eq, hbmPts0_eq]
  simp only [some_pts, pts, Memref.view_whole, View.set_whole]

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAll m c
    | ⟨4, _⟩ => outMid m c
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAll m c := by dsimp only [dats]
theorem after0_4 (c : Dev nD) (t : Fin cfg0.N) : (dats m 0 c).after 4 t = outMid m c := by dsimp only [dats]

theorem before0_0 {c : Dev nD} (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 {c : Dev nD} (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 {c : Dev nD} (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem runs_ret (c : Dev nD) {Q : PUnit.{1} → sProp 𝕄} : Q ⟨⟩ ⊢ runs c (.ret ⟨⟩) Q := by
  unfold runs
  rw [wp_ret]
  iintro H
  imodintro
  iexact H

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1, after0_2, after0_3, after0_4]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  simp only [before0_0, before0_1, before0_2, iblk_0, iblk_1, iblk_2]
  rw [body_eq]
  iintro ⟨⟨⟨HS0, HS1, HS2, HS3, HS4, HS5, HS6, HS7, HS8⟩, Hg, ⟨Hq0, Hq1, Hq2, Hq3, Hq4, Hq5⟩, ⟨Hh0, Hh1, Hh2, Hh3, Hh4, Hh5⟩⟩, ⟨%W, -, HW⟩, ⟨%d0, H0⟩, ⟨%d1, H1⟩, ⟨%d2, H2⟩, ⟨%d3, H3⟩, ⟨%d4, H4⟩⟩
  ihave H0 := (owns_to_own (c : Thread nD τ)) $$ H0
  ihave H1 := (owns_to_own (c : Thread nD τ)) $$ H1
  ihave H2 := (owns_to_own (c : Thread nD τ)) $$ H2
  ihave H3 := (owns_to_own (c : Thread nD τ)) $$ H3
  ihave H4 := (owns_to_own (c : Thread nD τ)) $$ H4
  iapply (wp_pieces c (x0 := m ((c : Thread nD τ).loc main_arg0)) (at' := m ((c : Thread nD τ).loc main_arg1)) (nn := m ((c : Thread nD τ).loc main_arg2))
    (W0 := Memref.whole main_arg3) (S0 := Memref.whole main_arg4) (W2 := Memref.whole main_arg5)
    (S3 := Memref.whole main_arg6) (W4 := Memref.whole main_arg7) (S5 := Memref.whole main_arg8) (x := outMid m c) (hid := outAll m c)
    (V m c main_arg3) (V m c main_arg4) (V m c main_arg5) (V m c main_arg6) (V m c main_arg7) (V m c main_arg8) (outMid_eq m c) (outAll_eq m c))
  isplitl [H0]; · iexact H0
  isplitl [H1]; · iexact H1
  isplitl [H2]; · iexact H2
  isplitl [H3]; · iexact H3
  isplitl [H4]; · iexact H4
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [HW]; · iexact HW
  iintro ⟨H0, H1, H2, H3, H4, Hh0, Hh1, Hh2, Hh3, Hh4, Hh5, HS0, HS1, HS2, HS3, HS4, HS5, HS6, HS7, HS8, Hq0, Hq1, Hq2, Hq3, Hq4, Hq5, ⟨%W', HW'⟩⟩
  iapply (runs_ret c)
  isplitl [HS0 HS1 HS2 HS3 HS4 HS5 HS6 HS7 HS8 Hg Hq0 Hq1 Hq2 Hq3 Hq4 Hq5 Hh0 Hh1 Hh2 Hh3 Hh4 Hh5]
  · isplitl [HS0 HS1 HS2 HS3 HS4 HS5 HS6 HS7 HS8]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iexact HS8
    isplitl [Hg]; · iexact Hg
    isplitl [Hq0 Hq1 Hq2 Hq3 Hq4 Hq5]
    · isplitl [Hq0]; · iexact Hq0
      isplitl [Hq1]; · iexact Hq1
      isplitl [Hq2]; · iexact Hq2
      isplitl [Hq3]; · iexact Hq3
      isplitl [Hq4]; · iexact Hq4
      iexact Hq5
    isplitl [Hh0]; · iexact Hh0
    isplitl [Hh1]; · iexact Hh1
    isplitl [Hh2]; · iexact Hh2
    isplitl [Hh3]; · iexact Hh3
    isplitl [Hh4]; · iexact Hh4
    iexact Hh5
  isplitl [HW']
  · iexists W'; isplitr; · ipureintro; exact fun _ _ => Or.inl trivial
    iexact HW'
  isplitl [H0]
  · iapply (own_to_owns_eq (c : Thread nD τ) (fun _ => trivial)) $$ H0
  isplitl [H1]
  · iapply (own_to_owns_eq (c : Thread nD τ) (fun _ => trivial)) $$ H1
  isplitl [H2]
  · iapply (own_to_owns_eq (c : Thread nD τ) (fun _ => trivial)) $$ H2
  isplitl [H3]
  · iapply (own_to_owns_eq (c : Thread nD τ) (fun _ => trivial)) $$ H3
  iapply (own_to_owns_eq (c : Thread nD τ) (fun _ => trivial)) $$ H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The first result array after the run. -/
theorem arrAt_3 (c : Dev nD) : (dats m 0 c).arrAt 3 cfg0.N = outAll m c := by
  have hr : ∀ f : Buf (Elt F) ((c : Thread nD τ).loc main_v0_0), ((cfg0.win 3).blk t0_0).view.read (Elt F) f = f := by
    intro f
    show (win0_3.blk t0_0).view.read (Elt F) f = _
    funext y
    refine congrArg f ?_
    funext a
    refine Fin.ext ?_
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
  have hw : ((cfg0.win 3).blk t0_0).view.read (Elt F) ((dats m 0 c).arrAt 3 cfg0.N) = (dats m 0 c).flushed 3 t0_0 := by
    rw [show cfg0.N = t0_0.val + 1 from rfl, (dats m 0 c).arrAt_succ (3 : Fin 5) t0_0, flush0_3, if_pos rfl]
    exact View.read_write_univ _ _
  have hf : (dats m 0 c).flushed 3 t0_0 = outAll m c := by
    show (cfg0.win 3).cut _ ((dats m 0 c).after 3 t0_0) = _
    rw [after0_3]
    exact funext fun _ => rfl
  exact (hr _).symm.trans (hw.trans hf)

/-- The second. -/
theorem arrAt_4 (c : Dev nD) : (dats m 0 c).arrAt 4 cfg0.N = outMid m c := by
  have hr : ∀ f : Buf (Elt F) ((c : Thread nD τ).loc main_v0_1), ((cfg0.win 4).blk t0_0).view.read (Elt F) f = f := by
    intro f
    show (win0_4.blk t0_0).view.read (Elt F) f = _
    funext y
    refine congrArg f ?_
    funext a
    refine Fin.ext ?_
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
  have hw : ((cfg0.win 4).blk t0_0).view.read (Elt F) ((dats m 0 c).arrAt 4 cfg0.N) = (dats m 0 c).flushed 4 t0_0 := by
    rw [show cfg0.N = t0_0.val + 1 from rfl, (dats m 0 c).arrAt_succ (4 : Fin 5) t0_0, flush0_4, if_pos rfl]
    exact View.read_write_univ _ _
  have hf : (dats m 0 c).flushed 4 t0_0 = outMid m c := by
    show (cfg0.win 4).cut _ ((dats m 0 c).after 4 t0_0) = _
    rw [after0_4]
    exact funext fun _ => rfl
  exact (hr _).symm.trans (hw.trans hf)

/-- THE RUN: the result arrays end at their values, every argument as launched, every cell at zero. -/
theorem run_all : θ_run defs (onTc (τ := τ) (main (F := F))) ⟨m, fun _ => 0, ρ⟩ (fun r => (∀ c : Dev nD,
      r.2.mem ((c.tc : Thread nD τ).loc main_v0_0) = outAll m c
      ∧ r.2.mem ((c.tc : Thread nD τ).loc main_v0_1) = outMid m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).1 3).trans (arrAt_3 m c), ((h.1 c).1 4).trans (arrAt_4 m c),
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      (h.1 c).2 main_arg3 (Pipeline.mem_restRefs_of main_arg3 (by decide) (by decide)),
      (h.1 c).2 main_arg4 (Pipeline.mem_restRefs_of main_arg4 (by decide) (by decide)),
      (h.1 c).2 main_arg5 (Pipeline.mem_restRefs_of main_arg5 (by decide) (by decide)),
      (h.1 c).2 main_arg6 (Pipeline.mem_restRefs_of main_arg6 (by decide) (by decide)),
      (h.1 c).2 main_arg7 (Pipeline.mem_restRefs_of main_arg7 (by decide) (by decide)),
      (h.1 c).2 main_arg8 (Pipeline.mem_restRefs_of main_arg8 (by decide) (by decide))⟩, h.2⟩) (run_main m ρ)

end Cert.KernelIdeal.Hand
-- ==== Proof.Same.lean ====
/-
  The kernel and its reading over the extended reals are one text in two namespaces: over any floats, one program. What is
  proved of the second over any floats is thereby proved of the first.
-/
module

public import proofs.«01_k».proof.Proof.Gen.Kernel
public import proofs.«01_k».proof.Proof.KIFrame

@[expose] public section

set_option maxRecDepth 16384

noncomputable section

namespace Cert.Same

open Idealize.ShloMosaic Idealize.ShloMosaic.TcCoe Idealize.SL.Sem

variable {F : FTy → Type} [FloatOps F]

theorem body_eq : @Cert.Kernel.cc0_spec_verify F _ Cert.Kernel.Gen.facts = @Cert.KernelIdeal.cc0_spec_verify F _ Cert.KernelIdeal.Gen.facts := rfl

theorem bodies_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) => exact congrArg (fun f => f (Cert.Kernel.win0_0.stage (s 0)) (Cert.Kernel.K0.Facts₀.hstage0_0 0) (Cert.Kernel.win0_1.stage (s 1)) (Cert.Kernel.K0.Facts₀.hstage0_1 0) (Cert.Kernel.win0_2.stage (s 2)) (Cert.Kernel.K0.Facts₀.hstage0_2 0) (Memref.whole Cert.Kernel.main_arg3) (Memref.isWhole_whole _) (Memref.whole Cert.Kernel.main_arg4) (Memref.isWhole_whole _) (Memref.whole Cert.Kernel.main_arg5) (Memref.isWhole_whole _) (Memref.whole Cert.Kernel.main_arg6) (Memref.isWhole_whole _) (Memref.whole Cert.Kernel.main_arg7) (Memref.isWhole_whole _) (Memref.whole Cert.Kernel.main_arg8) (Memref.isWhole_whole _) (Cert.Kernel.win0_3.stage (s 3)) (Cert.Kernel.K0.Facts₀.hstage0_3 0) (Cert.Kernel.win0_4.stage (s 4)) (Cert.Kernel.K0.Facts₀.hstage0_4 0) (Memref.whole Cert.Kernel.cc0_scratch0) (Memref.isWhole_whole _) (Memref.whole Cert.Kernel.cc0_scratch1) (Memref.isWhole_whole _) (Memref.whole Cert.Kernel.cc0_scratch2) (Memref.isWhole_whole _) (Memref.whole Cert.Kernel.cc0_scratch3) (Memref.isWhole_whole _) (Memref.whole Cert.Kernel.cc0_scratch4) (Memref.isWhole_whole _) (Memref.whole Cert.Kernel.cc0_scratch5) (Memref.isWhole_whole _) (Memref.whole Cert.Kernel.cc0_scratch6) (Memref.isWhole_whole _) (Memref.whole Cert.Kernel.cc0_scratch7) (Memref.isWhole_whole _) (Memref.whole Cert.Kernel.cc0_scratch8) (Memref.isWhole_whole _) Cert.Kernel.cc0_scratch9) (body_eq (F := F))
  | ⟨_ + 1, h⟩, _ => exact absurd h (Nat.not_lt.2 (Nat.le_add_left _ _))

theorem defs_eq : Cert.Kernel.defs (F := F) = Cert.KernelIdeal.defs (F := F) := by
  unfold Cert.Kernel.defs Cert.KernelIdeal.defs
  rw [bodies_eq]
  rfl

/-- The kernel's run, over any floats: every argument ends as launched, every cell at zero. -/
theorem run_kernel (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0) := by
  have h := Cert.KernelIdeal.Hand.run_all m ρ
  rw [← defs_eq] at h
  exact (θ_run (Cert.Kernel.defs (F := F)) _ _).mono (fun _ h => ⟨fun c => (h.1 c).2.2, h.2⟩) h

end Cert.Same

end
-- ==== Proof.Spec.lean ====
/-
  The mathematics both programs compute, over the extended reals and natural-number coordinates: four-bit codes, a
  linear layer whose weights are codes times a scale per group of 32 inputs, the normalised rows, the gate,
  the two layers.
-/
module

public import Idealize.ShloMosaic.PureOps.Ideal.Laws
public import Idealize.ShloMosaic.Lib.ValueIdxCore

@[expose] public section

set_option maxRecDepth 16384

noncomputable section

namespace Cert.Spec

open Idealize.ShloMosaic Idealize.ShloMosaic.ValueIdx
open scoped BigOperators

/-! ## Arrays at natural-number coordinates -/

/-- A matrix at coordinates given as natural numbers, each reduced into its range. -/
def at2 {m n : ℕ} [NeZero m] [NeZero n] {α : Type} (x : (⟨2, ![m, n]⟩ : Shape).Idx → α) (i j : ℕ) : α :=
  x (ix2 (Fin.ofNat m i) (Fin.ofNat n j))

/-- A stack of matrices at coordinates given as natural numbers. -/
def at3 {l m n : ℕ} [NeZero l] [NeZero m] [NeZero n] {α : Type} (x : (⟨3, ![l, m, n]⟩ : Shape).Idx → α) (h i j : ℕ) : α :=
  x (ix3 (Fin.ofNat l h) (Fin.ofNat m i) (Fin.ofNat n j))

theorem at2_of {m n : ℕ} [NeZero m] [NeZero n] {α : Type} (x : (⟨2, ![m, n]⟩ : Shape).Idx → α) (y : (⟨2, ![m, n]⟩ : Shape).Idx) (i j : ℕ)
    (hi : (y 0).val = i) (hj : (y 1).val = j) : x y = at2 x i j := by
  subst hi
  subst hj
  refine congrArg x ?_
  funext a
  refine Fin.ext ?_
  match a with
  | ⟨0, _⟩ => exact (Nat.mod_eq_of_lt (y 0).isLt).symm
  | ⟨1, _⟩ => exact (Nat.mod_eq_of_lt (y 1).isLt).symm

theorem at3_of {l m n : ℕ} [NeZero l] [NeZero m] [NeZero n] {α : Type} (x : (⟨3, ![l, m, n]⟩ : Shape).Idx → α) (y : (⟨3, ![l, m, n]⟩ : Shape).Idx) (h i j : ℕ)
    (hh : (y 0).val = h) (hi : (y 1).val = i) (hj : (y 2).val = j) : x y = at3 x h i j := by
  subst hh
  subst hi
  subst hj
  refine congrArg x ?_
  funext a
  refine Fin.ext ?_
  match a with
  | ⟨0, _⟩ => exact (Nat.mod_eq_of_lt (y 0).isLt).symm
  | ⟨1, _⟩ => exact (Nat.mod_eq_of_lt (y 1).isLt).symm
  | ⟨2, _⟩ => exact (Nat.mod_eq_of_lt (y 2).isLt).symm

/-! ## Four-bit codes -/

/-- The number in half `h` (0 the low four bits, 1 the high four) of a byte, kept in excess eight. -/
def code (b : BitVec 8) (h : ℕ) : BitVec 32 := (b.extractLsb' (4 * h) 4).setWidth 32 - 8#32

/-- As an extended real. -/
def codeE (b : BitVec 8) (h : ℕ) : EReal := ((((code b h).toInt : ℤ) : ℝ) : EReal)

theorem code_and : ∀ b : BitVec 8, (b.setWidth 32 &&& 15#32) - 8#32 = code b 0 := by decide +kernel
theorem code_shift : ∀ b : BitVec 8, (b.setWidth 32).sshiftRight 4 - 8#32 = code b 1 := by decide +kernel

theorem excess_four : ∀ n : BitVec 4, (n ^^^ 8#4).signExtend 32 = n.setWidth 32 - 8#32 := by decide +kernel

/-- Four bits of a word moved to the top and back with their sign. -/
theorem shifts_four (w : BitVec 32) (j : ℕ) (hj : j < 8) :
    (w <<< (28 - 4 * j)).sshiftRight 28 = (w.extractLsb' (4 * j) 4).signExtend 32 := by
  apply BitVec.eq_of_getLsbD_eq
  intro i hi
  rw [BitVec.getLsbD_sshiftRight, BitVec.getLsbD_signExtend, BitVec.msb_eq_getLsbD_last, BitVec.msb_eq_getLsbD_last,
    BitVec.getLsbD_shiftLeft, BitVec.getLsbD_shiftLeft, BitVec.getLsbD_extractLsb', BitVec.getLsbD_extractLsb']
  by_cases h : i < 4
  · rw [if_pos (by omega), if_pos h]
    rw [show 28 + i - (28 - 4 * j) = 4 * j + i by omega]
    simp [hi, h, show 28 + i < 32 by omega, show ¬ (28 + i < 28 - 4 * j) by omega]
  · rw [if_neg (by omega), if_neg h]
    rw [show 32 - 1 - (28 - 4 * j) = 4 * j + 3 by omega]
    simp [hi, show ¬ (31 < 28 - 4 * j) by omega]

theorem mask_four : ∀ j : Fin 8, (0x88888888#32).extractLsb' (4 * j.val) 4 = 8#4 := by decide +kernel

/-- The kernel's reading of four bits of a word of four bytes. -/
theorem word_code (w : BitVec 32) (b : BitVec 8) (j : ℕ) (hj : j < 8)
    (hb : ∀ q < 8, w.getLsbD (8 * (j / 2) + q) = b.getLsbD q) :
    ((w ^^^ 0x88888888#32) <<< (28 - 4 * j)).sshiftRight 28 = code b (j % 2) := by
  rw [shifts_four _ j hj]
  have hx : (w ^^^ 0x88888888#32).extractLsb' (4 * j) 4 = b.extractLsb' (4 * (j % 2)) 4 ^^^ 8#4 := by
    have hm := mask_four ⟨j, hj⟩
    rw [← hm]
    apply BitVec.eq_of_getLsbD_eq
    intro i hi
    have h := hb (4 * (j % 2) + i) (by omega)
    rw [show 8 * (j / 2) + (4 * (j % 2) + i) = 4 * j + i by omega] at h
    simp [hi, BitVec.getLsbD_xor, BitVec.getLsbD_extractLsb', h]
  rw [hx, excess_four]
  rfl

/-! ## Linear layers -/

/-- The lane order of packed weights: input `2 j + h` of a group of 32 is input `16 h + j`. -/
def src (q : ℕ) : ℕ := 32 * (q / 32) + 16 * (q % 2) + q % 32 / 2

/-- One term of a linear layer in the packed order. -/
def term (a : ℕ → EReal) (b : ℕ → BitVec 8) (s : ℕ → EReal) (q : ℕ) : EReal := a (src q) * (codeE (b (q / 2)) (q % 2) * s (q / 32))

/-- A linear layer with inputs in the packed order. -/
def linK (n : ℕ) (a : ℕ → EReal) (b : ℕ → BitVec 8) (s : ℕ → EReal) : EReal := ∑ q ∈ Finset.range n, term a b s q

/-- A linear layer: the low halves of the bytes against the first half of each group of 32 inputs, the high halves
    against the second. -/
def linR (n : ℕ) (a : ℕ → EReal) (b : ℕ → BitVec 8) (s : ℕ → EReal) : EReal :=
  (∑ p ∈ Finset.range n, a (32 * (p / 16) + p % 16) * (codeE (b p) 0 * s (p / 16)))
    + ∑ p ∈ Finset.range n, a (32 * (p / 16) + 16 + p % 16) * (codeE (b p) 1 * s (p / 16))

theorem sum_halves (f : ℕ → EReal) (n : ℕ) :
    ∑ q ∈ Finset.range (2 * n), f q = (∑ p ∈ Finset.range n, f (2 * p)) + ∑ p ∈ Finset.range n, f (2 * p + 1) := by
  induction n with
  | zero => simp
  | succ n ih =>
    rw [show 2 * (n + 1) = 2 * n + 1 + 1 by omega, Finset.sum_range_succ, Finset.sum_range_succ, ih, Finset.sum_range_succ, Finset.sum_range_succ]
    abel

theorem linK_eq_linR (n : ℕ) (a : ℕ → EReal) (b : ℕ → BitVec 8) (s : ℕ → EReal) : linK (2 * n) a b s = linR n a b s := by
  unfold linK linR
  rw [sum_halves]
  refine congrArg₂ (· + ·) (Finset.sum_congr rfl fun p _ => ?_) (Finset.sum_congr rfl fun p _ => ?_)
  · unfold term src
    rw [show 32 * (2 * p / 32) + 16 * (2 * p % 2) + 2 * p % 32 / 2 = 32 * (p / 16) + p % 16 by omega, show 2 * p / 2 = p by omega,
      show 2 * p % 2 = 0 by omega, show 2 * p / 32 = p / 16 by omega]
  · unfold term src
    rw [show 32 * ((2 * p + 1) / 32) + 16 * ((2 * p + 1) % 2) + (2 * p + 1) % 32 / 2 = 32 * (p / 16) + 16 + p % 16 by omega,
      show (2 * p + 1) / 2 = p by omega, show (2 * p + 1) % 2 = 1 by omega, show (2 * p + 1) / 32 = p / 16 by omega]

theorem linR_congr (n : ℕ) (hn : n % 16 = 0) {a a' : ℕ → EReal} {b b' : ℕ → BitVec 8} {s s' : ℕ → EReal} (ha : ∀ q < 2 * n, a q = a' q)
    (hb : ∀ p < n, b p = b' p) (hs : ∀ g, 16 * g < n → s g = s' g) : linR n a b s = linR n a' b' s' := by
  unfold linR
  refine congrArg₂ (· + ·) (Finset.sum_congr rfl fun p hp => ?_) (Finset.sum_congr rfl fun p hp => ?_)
  all_goals
    have hp : p < n := Finset.mem_range.mp hp
    rw [hb p hp, hs (p / 16) (by omega), ha _ (by omega)]

/-! ## The normalised rows -/

/-- The literals: the number of columns, the shift under the root, one. -/
abbrev cols : EReal := Ideal.ofBits .f32 0x45000000#32
abbrev eps : EReal := Ideal.ofBits .f32 0x3727C5AC#32
abbrev one : EReal := Ideal.ofBits .f32 0x3F800000#32

theorem one_eq : one = 1 := by
  simp [one, Ideal.ofBits, Ideal.ieee]
  rw [← EReal.coe_mul]
  norm_num
theorem cols_pos : 0 < cols := by
  simp [cols, Ideal.ofBits, Ideal.ieee]
  rw [← EReal.coe_mul]
  exact EReal.coe_pos.mpr (by norm_num)
theorem eps_pos : 0 < eps := by
  simp [eps, Ideal.ofBits, Ideal.ieee]
  rw [← EReal.coe_mul]
  exact EReal.coe_pos.mpr (by norm_num)

/-- The root under which the rows are divided. -/
def root (r : ℕ → EReal) : EReal := Ideal.sqrt (Ideal.div (∑ q ∈ Finset.range 2048, r q * r q) cols + eps)

theorem sq_nonneg (x : EReal) : 0 ≤ x * x := by
  induction x with
  | bot => simp
  | top => simp
  | coe r => exact_mod_cast mul_self_nonneg r

theorem sqrt_ne_zero {x : EReal} (h : 0 < x) : Ideal.sqrt x ≠ 0 := by
  induction x with
  | bot => simp at h
  | top => exact EReal.top_ne_zero
  | coe r =>
    have hr : 0 < r := by exact_mod_cast h
    have : Ideal.sqrt (r : EReal) = ((Real.sqrt r : ℝ) : EReal) := by
      show (if r < 0 then (⊥ : EReal) else (Real.sqrt r : EReal)) = _
      rw [if_neg (by linarith)]
    rw [this]
    exact_mod_cast (Real.sqrt_pos.mpr hr).ne'

theorem root_ne_zero (r : ℕ → EReal) : root r ≠ 0 := by
  refine sqrt_ne_zero ?_
  have h1 : 0 ≤ Ideal.div (∑ q ∈ Finset.range 2048, r q * r q) cols := by
    unfold Ideal.div
    rw [if_neg cols_pos.ne']
    exact mul_nonneg (Finset.sum_nonneg fun q _ => sq_nonneg _) (EReal.inv_nonneg_of_nonneg cols_pos.le)
  exact lt_of_lt_of_le eps_pos (le_add_of_nonneg_left h1)

/-- A normalised element, the quotient taken once per row or once per element. -/
def normK (r : ℕ → EReal) (g : ℕ → EReal) (q : ℕ) : EReal := r q * Ideal.div one (root r) * g q
def normR (r : ℕ → EReal) (g : ℕ → EReal) (q : ℕ) : EReal := Ideal.div (r q) (root r) * g q

theorem normK_eq (r g : ℕ → EReal) (q : ℕ) : normK r g q = normR r g q := by
  unfold normK normR Ideal.div
  rw [if_neg (root_ne_zero r), if_neg (root_ne_zero r), one_eq, one_mul]

/-! ## One layer -/

/-- The gate. -/
def gate (g u : EReal) : EReal := g * Ideal.logistic g * u

section
variable (x : (⟨3, ![2, 48, 2048]⟩ : Shape).Idx → EReal) (nn : (⟨2, ![2, 2048]⟩ : Shape).Idx → EReal)
  (wg : (⟨3, ![2, 1024, 11264]⟩ : Shape).Idx → BitVec 8) (sg : (⟨3, ![2, 64, 11264]⟩ : Shape).Idx → EReal)
  (wd : (⟨3, ![2, 2816, 2048]⟩ : Shape).Idx → BitVec 8) (sd : (⟨3, ![2, 176, 2048]⟩ : Shape).Idx → EReal)

/-- Layer `l`'s first linear layer at row `i`, column `c`. -/
def gu (l i c : ℕ) : EReal := linK 2048 (normK (at3 x l i) (at2 nn l)) (fun p => at3 wg l p c) (fun g => at3 sg l g c)

/-- The gated activations. -/
def act (l i c : ℕ) : EReal := gate (gu x nn wg sg l i c) (gu x nn wg sg l i (5632 + c))

/-- The layer's result. -/
def out (l i c : ℕ) : EReal :=
  at3 x l i c + linK 5632 (act x nn wg sg l i) (fun p => at3 wd l p c) (fun g => at3 sd l g c)

end

/-! ## The two layers -/

section
variable (x0 : (⟨3, ![6, 8, 2048]⟩ : Shape).Idx → EReal) (a : (⟨3, ![2, 48, 2048]⟩ : Shape).Idx → EReal) (nn : (⟨2, ![2, 2048]⟩ : Shape).Idx → EReal)
  (wo : (⟨3, ![2, 1024, 2048]⟩ : Shape).Idx → BitVec 8) (so : (⟨3, ![2, 64, 2048]⟩ : Shape).Idx → EReal)
  (wg : (⟨3, ![2, 1024, 11264]⟩ : Shape).Idx → BitVec 8) (sg : (⟨3, ![2, 64, 11264]⟩ : Shape).Idx → EReal)
  (wd : (⟨3, ![2, 2816, 2048]⟩ : Shape).Idx → BitVec 8) (sd : (⟨3, ![2, 176, 2048]⟩ : Shape).Idx → EReal)

/-- Layer `l`'s output projection of the attention. -/
def proj (l i c : ℕ) : EReal := linK 2048 (at3 a l i) (fun p => at3 wo l p c) (fun g => at3 so l g c)

/-- The rows after the first layer's attention. -/
def mid0 : (⟨3, ![2, 48, 2048]⟩ : Shape).Idx → EReal := fun y =>
  at3 x0 ((y 1).val / 8) ((y 1).val % 8) (y 2).val + proj a wo so 0 (y 1).val (y 2).val

/-- The rows after the second layer's attention, from the first layer's result. -/
def mid1 : (⟨3, ![2, 48, 2048]⟩ : Shape).Idx → EReal := fun y =>
  out (mid0 x0 a wo so) nn wg sg wd sd 0 (y 1).val (y 2).val + proj a wo so 1 (y 1).val (y 2).val

/-- In each layer, the rows after its attention. -/
def mid : (⟨3, ![2, 48, 2048]⟩ : Shape).Idx → EReal := fun y =>
  if (y 0).val = 0 then mid0 x0 a wo so y else mid1 x0 a nn wo so wg sg wd sd y

end

/-! ## A part of an array, and sums by tiles -/

theorem at2_rect {m n m' n' : ℕ} [NeZero m] [NeZero n] [NeZero m'] [NeZero n'] {α : Type} (x : (⟨2, ![m, n]⟩ : Shape).Idx → α) (o0 o1 : ℕ)
    (inb : ∀ a, (![o0, o1] : Fin 2 → ℕ) a + (⟨2, ![m', n']⟩ : Shape).size a ≤ (⟨2, ![m, n]⟩ : Shape).size a) (i j : ℕ) (hi : i < m') (hj : j < n') :
    at2 (fun z : (⟨2, ![m', n']⟩ : Shape).Idx => x ((Rect.unit (s := ⟨2, ![m, n]⟩) ![o0, o1] (⟨2, ![m', n']⟩ : Shape).size inb).emb z)) i j
      = at2 x (o0 + i) (o1 + j) := by
  refine at2_of x _ _ _ ?_ ?_
  · show o0 + 1 * (i % m') = o0 + i
    rw [Nat.mod_eq_of_lt hi, one_mul]
  · show o1 + 1 * (j % n') = o1 + j
    rw [Nat.mod_eq_of_lt hj, one_mul]

theorem at3_rect {l m n l' m' n' : ℕ} [NeZero l] [NeZero m] [NeZero n] [NeZero l'] [NeZero m'] [NeZero n'] {α : Type}
    (x : (⟨3, ![l, m, n]⟩ : Shape).Idx → α) (o0 o1 o2 : ℕ)
    (inb : ∀ a, (![o0, o1, o2] : Fin 3 → ℕ) a + (⟨3, ![l', m', n']⟩ : Shape).size a ≤ (⟨3, ![l, m, n]⟩ : Shape).size a)
    (h i j : ℕ) (hh : h < l') (hi : i < m') (hj : j < n') :
    at3 (fun z : (⟨3, ![l', m', n']⟩ : Shape).Idx => x ((Rect.unit (s := ⟨3, ![l, m, n]⟩) ![o0, o1, o2] (⟨3, ![l', m', n']⟩ : Shape).size inb).emb z)) h i j
      = at3 x (o0 + h) (o1 + i) (o2 + j) := by
  refine at3_of x _ _ _ _ ?_ ?_ ?_
  · show o0 + 1 * (h % l') = o0 + h
    rw [Nat.mod_eq_of_lt hh, one_mul]
  · show o1 + 1 * (i % m') = o1 + i
    rw [Nat.mod_eq_of_lt hi, one_mul]
  · show o2 + 1 * (j % n') = o2 + j
    rw [Nat.mod_eq_of_lt hj, one_mul]

/-- A tile's sum put before the later tiles' sum. -/
theorem tile_add (f : ℕ → EReal) (g : EReal) (j n : ℕ) :
    g + (∑ r ∈ Finset.range 256, f (256 * j + r)) + ∑ q ∈ Finset.Ico (256 * (j + 1)) (256 * (j + 1 + n)), f q
      = g + ∑ q ∈ Finset.Ico (256 * j) (256 * (j + (n + 1))), f q := by
  have h : ∑ r ∈ Finset.range 256, f (256 * j + r) = ∑ q ∈ Finset.Ico (256 * j) (256 * (j + 1)), f q := by
    rw [Finset.sum_Ico_eq_sum_range, show 256 * (j + 1) - 256 * j = 256 by omega]
  rw [h, add_assoc, Finset.sum_Ico_consecutive f (by omega) (by omega), show j + 1 + n = j + (n + 1) by omega]

end Cert.Spec
-- ==== Proof.KIIdeal.lean ====
/-
  The kernel's values over the extended reals: each piece read at one element, and from them the two results as the
  mathematics states them.
-/
module

public import proofs.«01_k».proof.Proof.KIVal
public import proofs.«01_k».proof.Proof.Spec
public import Idealize.ShloMosaic.Lib.Pointwise
public import Idealize.ShloMosaic.Lib.BitcastFour

@[expose] public section

set_option maxRecDepth 16384

noncomputable section

namespace Cert.KernelIdeal.Hand

open Cert.KernelIdeal Cert.KernelIdeal.Gen Cert.Own Cert.Spec
open Idealize.ShloMosaic hiding ix0 ix1 ix2 ix3
open Idealize.ShloMosaic.TcCoe Idealize.ShloMosaic.Tactic Idealize.ShloMosaic.ValueIdx
open scoped BigOperators

/-! ## The pieces at an element -/

theorem amount_eq : ∀ j : Fin 8, IntOp.subi (28#32) (IntOp.muli (4#32) (BitVec.ofNat 32 j.val)) = BitVec.ofNat 32 (28 - 4 * j.val) := by decide +kernel

theorem shifts_word (w : BitVec 32) (j : ℕ) (hj : j < 8) :
    IntOp.shrsi .vector (IntOp.shli .vector (IntOp.xori w 2290649224#32) (IntOp.subi (28#32) (IntOp.muli (4#32) (BitVec.ofNat 32 j)))) 28#32
      = ((w ^^^ 0x88888888#32) <<< (28 - 4 * j)).sshiftRight 28 := by
  rw [amount_eq ⟨j, hj⟩]
  have h : (BitVec.ofNat 32 (28 - 4 * j)).toNat = 28 - 4 * j := by
    rw [BitVec.toNat_ofNat]; exact Nat.mod_eq_of_lt (by omega)
  unfold IntOp.shrsi IntOp.shli IntOp.xori
  rw [if_pos (by decide), if_pos (by show (BitVec.ofNat 32 (28 - 4 * j)).toNat < 32; omega)]
  show ((w ^^^ 0x88888888#32) <<< (BitVec.ofNat 32 (28 - 4 * j)).toNat).sshiftRight 28 = _
  rw [h]

theorem tile_row (w : IVec S1x128x256 8) (y : S128x256.Idx) : shapeCast S128x256 w shapeCasts_S1x128x256_S128x256 y = at3 w 0 (y 0).val (y 1).val := by
  pointwise
  exact at3_of _ _ _ _ _ rfl rfl rfl

theorem deq_at (w : IVec S1x128x256 8) (s : FVec Ideal S1x8x256 .bf16) (y : S256x256.Idx) :
    deq w s y = codeE (at3 w 0 ((y 0).val / 2) (y 1).val) ((y 0).val % 2) * at3 s 0 ((y 0).val / 32) (y 1).val := by
  have h0 : (y 0).val < 256 := (y 0).isLt
  have h1 : (y 1).val < 256 := (y 1).isLt
  pointwise [deq]
  rw [shifts_word _ _ (Nat.mod_lt _ (by decide))]
  refine congrArg₂ (· * ·) ?_ (at3_of _ _ _ _ _ rfl rfl rfl)
  unfold codeE
  refine congrArg (fun z : BitVec 32 => (((z.toInt : ℤ) : ℝ) : EReal)) ?_
  rw [word_code _ (at3 w 0 ((y 0).val / 2) (y 1).val) ((y 0).val % 8) (Nat.mod_lt _ (by decide))]
  · rw [show (y 0).val % 8 % 2 = (y 0).val % 2 by omega]
  · intro q hq
    refine (bitcast_8_32_getLsbD_ix2 _ bitcasts_S128x256_w8_S32x256_w32 ⟨(y 0).val / 8, by omega⟩ (y 1) (8 * ((y 0).val % 8 / 2) + q) (by omega)
      ⟨(y 0).val / 2, by omega⟩ (by show (y 0).val / 2 = 4 * ((y 0).val / 8) + (8 * ((y 0).val % 8 / 2) + q) / 8; omega)).trans ?_
    rw [tile_row, show (8 * ((y 0).val % 8 / 2) + q) % 8 = q by omega]

theorem mm_at (a : FVec Ideal S48x256 .bf16) (w : IVec S1x128x256 8) (s : FVec Ideal S1x8x256 .bf16) (y : S48x256.Idx) :
    mm a w s y = ∑ r ∈ Finset.range 256, at2 a (y 0).val r * (codeE (at3 w 0 (r / 2) (y 1).val) (r % 2) * at3 s 0 (r / 32) (y 1).val) := by
  rw [Finset.sum_range]
  pointwise [mm]
  refine Finset.sum_congr rfl fun r _ => ?_
  refine congrArg₂ (· * ·) (at2_of _ _ _ _ rfl rfl) ((deq_at w s _).trans rfl)

theorem lane_eq : ∀ q : Fin 128, (Scalar.select (IntOp.cmpi .slt (IntOp.ori
      (IntOp.ori (IntOp.andi (BitVec.ofNat 32 q.val) 4294967264#32) (IntOp.shli .vector (IntOp.andi (BitVec.ofNat 32 q.val) 1#32) 4#32))
      (IntOp.shrsi .vector (IntOp.andi (BitVec.ofNat 32 q.val) 31#32) 1#32)) 0#32)
    (IntOp.addi (IntOp.ori
      (IntOp.ori (IntOp.andi (BitVec.ofNat 32 q.val) 4294967264#32) (IntOp.shli .vector (IntOp.andi (BitVec.ofNat 32 q.val) 1#32) 4#32))
      (IntOp.shrsi .vector (IntOp.andi (BitVec.ofNat 32 q.val) 31#32) 1#32)) 128#32)
    (IntOp.ori
      (IntOp.ori (IntOp.andi (BitVec.ofNat 32 q.val) 4294967264#32) (IntOp.shli .vector (IntOp.andi (BitVec.ofNat 32 q.val) 1#32) 4#32))
      (IntOp.shrsi .vector (IntOp.andi (BitVec.ofNat 32 q.val) 31#32) 1#32))).toNat % 128 = src q.val := by decide +kernel

theorem ilv_at (a : FVec Ideal S48x128 .bf16) (y : S48x128.Idx) : ilv a y = at2 a (y 0).val (src (y 1).val) := by
  pointwise [ilv, lanes]
  exact at2_of _ _ _ _ rfl (lane_eq (y 1))

theorem invRms_at (r : FVec Ideal S48x2048 .f32) (y : S48x1.Idx) : invRms r y = Ideal.div one (root (at2 r (y 0).val)) := by
  unfold root
  rw [one_eq, Finset.sum_range]
  pointwise [invRms]
  refine congrArg (fun z => Ideal.div 1 (Ideal.sqrt (Ideal.div z cols + eps))) (Finset.sum_congr rfl fun x _ => ?_)
  rw [at2_of r _ _ _ rfl rfl]
  rfl

theorem actOf_at (g u : FVec Ideal S48x256 .f32) (y : S48x256.Idx) : actOf g u y = gate (g y) (u y) := by
  pointwise [actOf]
  rfl

theorem rmsVal_at (r : FVec Ideal S48x2048 .f32) (g : FVec Ideal S1x2048 .f32) (i : ℕ) (h : i < 16) (y : S48x128.Idx) :
    rmsVal r g i h y = normK (at2 r (y 0).val) (at2 g 0) (128 * i + src (y 1).val) := by
  have h1 : (y 1).val < 128 := (y 1).isLt
  have hs : src (y 1).val < 128 := by unfold src; omega
  have hz : ∀ z : S48x128.Idx, (truncf .bf16 (mulf (mulf (extractStridedSlice S48x128 ![0, 128 * i] r (slR i h)) (broadcastTo S48x128 (invRms r) broadcasts_S48x1_S48x128))
      (broadcastTo S48x128 (extractStridedSlice S1x128 ![0, 128 * i] g (slG i h)) broadcasts_S1x128_S48x128)) bitsLt_bf16_f32 : FVec Ideal S48x128 .bf16) z
      = normK (at2 r (z 0).val) (at2 g 0) (128 * i + (z 1).val) := by
    intro z
    unfold normK
    pointwise
    refine congrArg₂ (· * ·) (congrArg₂ (· * ·) (at2_of _ _ _ _ rfl rfl) ?_) (at2_of _ _ _ _ rfl rfl)
    exact (invRms_at r _).trans (by rw [one_eq]; rfl)
  unfold rmsVal
  rw [ilv_at]
  refine (hz (ix2 (Fin.ofNat 48 (y 0).val) (Fin.ofNat 128 (src (y 1).val)))).trans ?_
  show normK (at2 r ((y 0).val % 48)) (at2 g 0) (128 * i + src (y 1).val % 128) = _
  rw [Nat.mod_eq_of_lt (show (y 0).val < 48 from (y 0).isLt), Nat.mod_eq_of_lt hs]

/-! ## One layer -/

section
variable (k : Fin k0_t1_loop.trips)
variable (x : S2x48x2048.Idx → Elt Ideal .f32) (nn : S2x2048.Idx → Elt Ideal .f32)
variable (wg : S2x1024x11264.Idx → Elt Ideal .i8) (sg : S2x64x11264.Idx → Elt Ideal .bf16)

theorem rowsV_at (y : S48x2048.Idx) : rowsV k x y = at3 x k.val (y 0).val (y 1).val :=
  at3_of x _ _ _ _ rfl rfl rfl

theorem rowsV_row (i : ℕ) (hi : i < 48) : at2 (rowsV k x) i = at3 x k.val i := by
  funext q
  unfold at2
  rw [rowsV_at]
  show at3 x k.val (i % 48) (q % 2048) = _
  rw [Nat.mod_eq_of_lt hi]
  unfold at3 Fin.ofNat
  simp

theorem actV_at (r : FVec Ideal S48x2048 .f32) (y : S48x2048.Idx) :
    actV k nn r y = normK (at2 r (y 0).val) (at2 nn k.val) (src (y 1).val) := by
  have h1 : (y 1).val < 2048 := (y 1).isLt
  unfold actV
  rw [rmsVal_at]
  have hg : at2 (fun z => nn ((rN k).emb z)) 0 = at2 nn k.val := by
    funext q
    refine (at2_of nn _ k.val (q % 2048) ?_ ?_).trans ?_
    · show lidx k + 1 * 0 = k.val
      rw [lidx_eq, Nat.mul_zero, Nat.add_zero]
    · show 0 + 1 * (q % 2048) = q % 2048
      omega
    · unfold at2 Fin.ofNat
      simp
  rw [hg]
  show normK (at2 r (y 0).val) (at2 nn k.val) (128 * ((y 1).val / 128) + src ((y 1).val % 128)) = _
  rw [show 128 * ((y 1).val / 128) + src ((y 1).val % 128) = src (y 1).val by unfold src; omega]

/-- Rows plus a matrix given by its column blocks. -/
theorem addCols_at (r : FVec Ideal S48x2048 .f32) (tile : (c : ℕ) → c < 8 → FVec Ideal S48x256 .f32) (y : S48x2048.Idx) :
    addCols r tile y = r y + tile ((y 1).val / 256) (by have h : (y 1).val < 2048 := (y 1).isLt; omega) (ix2 (y 0) ⟨(y 1).val % 256, Nat.mod_lt _ (by decide)⟩) := by
  unfold addCols
  show r _ + tile _ _ _ = _
  refine congrArg₂ (· + ·) (congrArg r ?_) rfl
  funext a
  refine Fin.ext ?_
  match a with
  | ⟨0, _⟩ => show 0 + 1 * (y 0).val = (y 0).val; omega
  | ⟨1, _⟩ => show 256 * ((y 1).val / 256) + 1 * ((y 1).val % 256) = (y 1).val; omega

section
variable (wo : S2x1024x2048.Idx → Elt Ideal .i8) (so : S2x64x2048.Idx → Elt Ideal .bf16)
variable (at' : S2x48x2048.Idx → Elt Ideal .bf16)

theorem attV_at (y : S48x2048.Idx) : attV k at' y = at3 at' k.val (y 0).val (src (y 1).val) := by
  have h0 : (y 0).val < 48 := (y 0).isLt
  have h1 : (y 1).val < 2048 := (y 1).isLt
  have hs : src ((y 1).val % 128) < 128 := by unfold src; omega
  have hz : ∀ (v : FVec Ideal S1x48x128 .bf16) (z : S48x128.Idx), shapeCast S48x128 v shapeCasts_S1x48x128_S48x128 z = at3 v 0 (z 0).val (z 1).val := by
    intro v z
    pointwise
    exact at3_of _ _ _ _ _ rfl rfl rfl
  unfold attV
  rw [ilv_at]
  unfold at2
  rw [hz]
  show at3 _ 0 ((y 0).val % 48) (src ((y 1).val % 128) % 128) = _
  rw [Nat.mod_eq_of_lt h0, Nat.mod_eq_of_lt hs]
  refine (at3_rect at' (lidx k) 0 (128 * ((y 1).val / 128)) (inT k _ (by omega)) 0 (y 0).val (src ((y 1).val % 128)) (by omega) h0 hs).trans ?_
  rw [lidx_eq, Nat.add_zero, Nat.zero_add, show 128 * ((y 1).val / 128) + src ((y 1).val % 128) = src (y 1).val by unfold src; omega]

/-- A product step of the output projection. -/
theorem oStep (a : S48x2048.Idx → Elt Ideal .bf16) (c : ℕ) (hc : c < 8) (j : ℕ) (hj : j < 8) (y : S48x256.Idx) (A : ℕ → EReal)
    (hA : ∀ q < 2048, at2 a (y 0).val q = A (src q)) :
    mm (F := Ideal) (fun z => a ((rA j hj).emb z)) (fun z => wo ((rWo k j c hj hc).emb z)) (fun z => so ((rSo k j c hj hc).emb z)) y
      = ∑ r ∈ Finset.range 256, term A (fun p => at3 wo k.val p (256 * c + (y 1).val)) (fun g => at3 so k.val g (256 * c + (y 1).val)) (256 * j + r) := by
  rw [mm_at]
  refine Finset.sum_congr rfl fun r hr => ?_
  have hr : r < 256 := Finset.mem_range.mp hr
  have h0 : (y 0).val < 48 := (y 0).isLt
  have h1 : (y 1).val < 256 := (y 1).isLt
  unfold term
  refine congrArg₂ (· * ·) ?_ (congrArg₂ (· * ·) ?_ ?_)
  · refine (at2_rect a 0 (256 * j) (inA j hj) (y 0).val r h0 hr).trans ?_
    rw [Nat.zero_add, hA _ (by omega)]
  · refine congrArg₂ codeE ((at3_rect wo (lidx k) (128 * j) (256 * c) (inWo k j c hj hc) 0 (r / 2) (y 1).val (by omega) (by omega) h1).trans ?_) (by omega)
    rw [lidx_eq, show 128 * j + r / 2 = (256 * j + r) / 2 by omega, Nat.add_zero]
  · refine (at3_rect so (lidx k) (8 * j) (256 * c) (inSo k j c hj hc) 0 (r / 32) (y 1).val (by omega) (by omega) h1).trans ?_
    rw [lidx_eq, show 8 * j + r / 32 = (256 * j + r) / 32 by omega, Nat.add_zero]

theorem oAcc_at (a : S48x2048.Idx → Elt Ideal .bf16) (c : ℕ) (hc : c < 8) (y : S48x256.Idx) (A : ℕ → EReal)
    (hA : ∀ q < 2048, at2 a (y 0).val q = A (src q)) : ∀ (n j : ℕ) (h : j + n ≤ 8) (g : FVec Ideal S48x256 .f32),
    oAcc k wo so a c hc n j h g y = g y + ∑ q ∈ Finset.Ico (256 * j) (256 * (j + n)),
      term A (fun p => at3 wo k.val p (256 * c + (y 1).val)) (fun g => at3 so k.val g (256 * c + (y 1).val)) q := by
  intro n
  induction n with
  | zero =>
    intro j h g
    show g y = _
    rw [Nat.add_zero, Finset.Ico_self, Finset.sum_empty, add_zero]
  | succ n ih =>
    intro j h g
    unfold oAcc
    rw [ih, ← tile_add, ← oStep k wo so a c hc j (by omega) y A hA]
    rfl

theorem oTot_at (a : S48x2048.Idx → Elt Ideal .bf16) (c : ℕ) (hc : c < 8) (y : S48x256.Idx) (A : ℕ → EReal)
    (hA : ∀ q < 2048, at2 a (y 0).val q = A (src q)) :
    oTot k wo so a c hc y = linK 2048 A (fun p => at3 wo k.val p (256 * c + (y 1).val)) (fun g => at3 so k.val g (256 * c + (y 1).val)) := by
  unfold oTot linK
  rw [oAcc_at k wo so a c hc y A hA, oStep k wo so a c hc 0 (by omega) y A hA, Finset.range_eq_Ico 2048]
  refine ((congrArg (· + _) (zero_add _).symm).trans (tile_add _ 0 0 7)).trans ?_
  rw [zero_add]

theorem midV_at (r : FVec Ideal S48x2048 .f32) (y : S48x2048.Idx) :
    midV k wo so r (attV k at') y = r y + proj at' wo so k.val (y 0).val (y 1).val := by
  have h0 : (y 0).val < 48 := (y 0).isLt
  have h1 : (y 1).val < 2048 := (y 1).isLt
  refine (addCols_at r _ y).trans (congrArg₂ (· + ·) rfl ((oTot_at k wo so _ _ _ _ (at3 at' k.val (y 0).val) fun q hq => ?_).trans ?_))
  · unfold at2
    rw [attV_at]
    show at3 at' k.val ((y 0).val % 48) (src (q % 2048)) = _
    rw [Nat.mod_eq_of_lt h0, Nat.mod_eq_of_lt hq]
  · show linK 2048 _ (fun p => at3 wo k.val p (256 * ((y 1).val / 256) + (y 1).val % 256)) (fun g => at3 so k.val g (256 * ((y 1).val / 256) + (y 1).val % 256)) = _
    rw [show 256 * ((y 1).val / 256) + (y 1).val % 256 = (y 1).val by omega]
    rfl

end

/-- A product step of the first layer. -/
theorem gStep (a : S48x2048.Idx → Elt Ideal .bf16) (c : ℕ) (hc : c < 44) (j : ℕ) (hj : j < 8) (y : S48x256.Idx) (A : ℕ → EReal)
    (hA : ∀ q < 2048, at2 a (y 0).val q = A (src q)) :
    mm (F := Ideal) (fun z => a ((rA j hj).emb z)) (fun z => wg ((rWg k j c hj hc).emb z)) (fun z => sg ((rSg k j c hj hc).emb z)) y
      = ∑ r ∈ Finset.range 256, term A (fun p => at3 wg k.val p (256 * c + (y 1).val)) (fun g => at3 sg k.val g (256 * c + (y 1).val)) (256 * j + r) := by
  rw [mm_at]
  refine Finset.sum_congr rfl fun r hr => ?_
  have hr : r < 256 := Finset.mem_range.mp hr
  have h0 : (y 0).val < 48 := (y 0).isLt
  have h1 : (y 1).val < 256 := (y 1).isLt
  unfold term
  refine congrArg₂ (· * ·) ?_ (congrArg₂ (· * ·) ?_ ?_)
  · refine (at2_rect a 0 (256 * j) (inA j hj) (y 0).val r h0 hr).trans ?_
    rw [Nat.zero_add, hA _ (by omega)]
  · refine congrArg₂ codeE ((at3_rect wg (lidx k) (128 * j) (256 * c) (inWg k j c hj hc) 0 (r / 2) (y 1).val (by omega) (by omega) h1).trans ?_) (by omega)
    rw [lidx_eq, show 128 * j + r / 2 = (256 * j + r) / 2 by omega, Nat.add_zero]
  · refine (at3_rect sg (lidx k) (8 * j) (256 * c) (inSg k j c hj hc) 0 (r / 32) (y 1).val (by omega) (by omega) h1).trans ?_
    rw [lidx_eq, show 8 * j + r / 32 = (256 * j + r) / 32 by omega, Nat.add_zero]

theorem gAcc_at (a : S48x2048.Idx → Elt Ideal .bf16) (c : ℕ) (hc : c < 44) (y : S48x256.Idx) (A : ℕ → EReal)
    (hA : ∀ q < 2048, at2 a (y 0).val q = A (src q)) : ∀ (n j : ℕ) (h : j + n ≤ 8) (g : FVec Ideal S48x256 .f32),
    gAcc k wg sg a c hc n j h g y = g y + ∑ q ∈ Finset.Ico (256 * j) (256 * (j + n)),
      term A (fun p => at3 wg k.val p (256 * c + (y 1).val)) (fun g => at3 sg k.val g (256 * c + (y 1).val)) q := by
  intro n
  induction n with
  | zero =>
    intro j h g
    show g y = _
    rw [Nat.add_zero, Finset.Ico_self, Finset.sum_empty, add_zero]
  | succ n ih =>
    intro j h g
    unfold gAcc
    rw [ih, ← tile_add, ← gStep k wg sg a c hc j (by omega) y A hA]
    rfl

theorem gTot_at (a : S48x2048.Idx → Elt Ideal .bf16) (c : ℕ) (hc : c < 44) (y : S48x256.Idx) (A : ℕ → EReal)
    (hA : ∀ q < 2048, at2 a (y 0).val q = A (src q)) :
    gTot k wg sg a c hc y = linK 2048 A (fun p => at3 wg k.val p (256 * c + (y 1).val)) (fun g => at3 sg k.val g (256 * c + (y 1).val)) := by
  unfold gTot linK
  rw [gAcc_at k wg sg a c hc y A hA, gStep k wg sg a c hc 0 (by omega) y A hA, Finset.range_eq_Ico 2048]
  refine ((congrArg (· + _) (zero_add _).symm).trans (tile_add _ 0 0 7)).trans ?_
  rw [zero_add]

theorem pTile_at (a : S48x2048.Idx → Elt Ideal .bf16) (c : ℕ) (hc : c < 22) (b : ℕ) (hb : b < 2) (y : S48x128.Idx) (A : ℕ → EReal)
    (hA : ∀ q < 2048, at2 a (y 0).val q = A (src q)) :
    pTile k wg sg a c hc b hb y
      = gate (linK 2048 A (fun p => at3 wg k.val p (256 * c + (128 * b + src (y 1).val))) (fun g => at3 sg k.val g (256 * c + (128 * b + src (y 1).val))))
          (linK 2048 A (fun p => at3 wg k.val p (256 * (c + 22) + (128 * b + src (y 1).val))) (fun g => at3 sg k.val g (256 * (c + 22) + (128 * b + src (y 1).val)))) := by
  have h1 : (y 1).val < 128 := (y 1).isLt
  have hs : src (y 1).val < 128 := by unfold src; omega
  have hz : ∀ (v : FVec Ideal S48x256 .bf16) (z : S48x128.Idx), extractStridedSlice S48x128 ![0, 128 * b] v (slP b hb) z
      = v (ix2 (z 0) ⟨128 * b + (z 1).val, by have h : (z 1).val < 128 := (z 1).isLt; omega⟩) := by
    intro v z
    pointwise
    rfl
  unfold pTile
  rw [ilv_at]
  unfold at2
  rw [hz, actOf_at]
  have hA' : ∀ q < 2048, at2 a ((y 0).val % 48) q = A (src q) := by
    rw [Nat.mod_eq_of_lt (show (y 0).val < 48 from (y 0).isLt)]; exact hA
  refine congrArg₂ gate ((gTot_at k wg sg a c (by omega) _ A hA').trans ?_) ((gTot_at k wg sg a (c + 22) (by omega) _ A hA').trans ?_)
  · show linK 2048 A (fun p => at3 wg k.val p (256 * c + (128 * b + src (y 1).val % 128))) (fun g => at3 sg k.val g (256 * c + (128 * b + src (y 1).val % 128))) = _
    rw [Nat.mod_eq_of_lt hs]
  · show linK 2048 A (fun p => at3 wg k.val p (256 * (c + 22) + (128 * b + src (y 1).val % 128))) (fun g => at3 sg k.val g (256 * (c + 22) + (128 * b + src (y 1).val % 128))) = _
    rw [Nat.mod_eq_of_lt hs]

theorem gateV_at (y : S48x5632.Idx) : gateV k wg sg (actV k nn (rowsV k x)) y = act x nn wg sg k.val (y 0).val (src (y 1).val) := by
  have h0 : (y 0).val < 48 := (y 0).isLt
  have h1 : (y 1).val < 5632 := (y 1).isLt
  unfold gateV
  rw [pTile_at k wg sg _ _ _ _ _ _ (normK (at3 x k.val (y 0).val) (at2 nn k.val))]
  · unfold act gu
    have e1 : 256 * ((y 1).val / 256) + (128 * ((y 1).val / 128 % 2) + src ((y 1).val % 128)) = src (y 1).val := by unfold src; omega
    have e2 : 256 * ((y 1).val / 256 + 22) + (128 * ((y 1).val / 128 % 2) + src ((y 1).val % 128)) = 5632 + src (y 1).val := by unfold src; omega
    show gate (linK 2048 _ (fun p => at3 wg k.val p (256 * ((y 1).val / 256) + (128 * ((y 1).val / 128 % 2) + src ((y 1).val % 128))))
        (fun g => at3 sg k.val g (256 * ((y 1).val / 256) + (128 * ((y 1).val / 128 % 2) + src ((y 1).val % 128)))))
      (linK 2048 _ (fun p => at3 wg k.val p (256 * ((y 1).val / 256 + 22) + (128 * ((y 1).val / 128 % 2) + src ((y 1).val % 128))))
        (fun g => at3 sg k.val g (256 * ((y 1).val / 256 + 22) + (128 * ((y 1).val / 128 % 2) + src ((y 1).val % 128))))) = _
    rw [e1, e2]
  · intro q hq
    unfold at2
    rw [actV_at]
    show normK (at2 (rowsV k x) ((y 0).val % 48)) (at2 nn k.val) (src (q % 2048)) = _
    rw [Nat.mod_eq_of_lt h0, Nat.mod_eq_of_lt hq, rowsV_row k x _ h0]
    rfl

end

section
variable (wd : S1x2816x2048.Idx → Elt Ideal .i8) (sd : S1x176x2048.Idx → Elt Ideal .bf16)

/-- A product step of the second layer. -/
theorem dStep (p : S48x5632.Idx → Elt Ideal .bf16) (c : ℕ) (hc : c < 8) (j : ℕ) (hj : j < 22) (y : S48x256.Idx) (A : ℕ → EReal)
    (hA : ∀ q < 5632, at2 p (y 0).val q = A (src q)) :
    mm (F := Ideal) (fun z => p ((rP2 j hj).emb z)) (fun z => wd ((rWd j c hj hc).emb z)) (fun z => sd ((rSd j c hj hc).emb z)) y
      = ∑ r ∈ Finset.range 256, term A (fun p => at3 wd 0 p (256 * c + (y 1).val)) (fun g => at3 sd 0 g (256 * c + (y 1).val)) (256 * j + r) := by
  rw [mm_at]
  refine Finset.sum_congr rfl fun r hr => ?_
  have hr : r < 256 := Finset.mem_range.mp hr
  have h0 : (y 0).val < 48 := (y 0).isLt
  have h1 : (y 1).val < 256 := (y 1).isLt
  unfold term
  refine congrArg₂ (· * ·) ?_ (congrArg₂ (· * ·) ?_ ?_)
  · refine (at2_rect p 0 (256 * j) (inP2 j hj) (y 0).val r h0 hr).trans ?_
    rw [Nat.zero_add, hA _ (by omega)]
  · refine congrArg₂ codeE ((at3_rect wd 0 (128 * j) (256 * c) (inWd j c hj hc) 0 (r / 2) (y 1).val (by omega) (by omega) h1).trans ?_) (by omega)
    rw [show 128 * j + r / 2 = (256 * j + r) / 2 by omega, Nat.add_zero]
  · refine (at3_rect sd 0 (8 * j) (256 * c) (inSd j c hj hc) 0 (r / 32) (y 1).val (by omega) (by omega) h1).trans ?_
    rw [show 8 * j + r / 32 = (256 * j + r) / 32 by omega, Nat.add_zero]

theorem dAcc_at (p : S48x5632.Idx → Elt Ideal .bf16) (c : ℕ) (hc : c < 8) (y : S48x256.Idx) (A : ℕ → EReal)
    (hA : ∀ q < 5632, at2 p (y 0).val q = A (src q)) : ∀ (n j : ℕ) (h : j + n ≤ 22) (g : FVec Ideal S48x256 .f32),
    dAcc wd sd p c hc n j h g y = g y + ∑ q ∈ Finset.Ico (256 * j) (256 * (j + n)),
      term A (fun p => at3 wd 0 p (256 * c + (y 1).val)) (fun g => at3 sd 0 g (256 * c + (y 1).val)) q := by
  intro n
  induction n with
  | zero =>
    intro j h g
    show g y = _
    rw [Nat.add_zero, Finset.Ico_self, Finset.sum_empty, add_zero]
  | succ n ih =>
    intro j h g
    unfold dAcc
    rw [ih, ← tile_add, ← dStep wd sd p c hc j (by omega) y A hA]
    rfl

theorem dTot_at (p : S48x5632.Idx → Elt Ideal .bf16) (c : ℕ) (hc : c < 8) (y : S48x256.Idx) (A : ℕ → EReal)
    (hA : ∀ q < 5632, at2 p (y 0).val q = A (src q)) :
    dTot wd sd p c hc y = linK 5632 A (fun p => at3 wd 0 p (256 * c + (y 1).val)) (fun g => at3 sd 0 g (256 * c + (y 1).val)) := by
  unfold dTot linK
  rw [dAcc_at wd sd p c hc y A hA, dStep wd sd p c hc 0 (by omega) y A hA, Finset.range_eq_Ico 5632]
  refine ((congrArg (· + _) (zero_add _).symm).trans (tile_add _ 0 0 21)).trans ?_
  rw [zero_add]

theorem outV_at (r : FVec Ideal S48x2048 .f32) (p : S48x5632.Idx → Elt Ideal .bf16) (y : S48x2048.Idx) (A : ℕ → EReal)
    (hA : ∀ q < 5632, at2 p (y 0).val q = A (src q)) :
    outV wd sd r p y = r y + linK 5632 A (fun p => at3 wd 0 p (y 1).val) (fun g => at3 sd 0 g (y 1).val) := by
  have h1 : (y 1).val < 2048 := (y 1).isLt
  refine (addCols_at r _ y).trans (congrArg₂ (· + ·) rfl ((dTot_at wd sd p _ _ _ A hA).trans ?_))
  show linK 5632 A (fun p => at3 wd 0 p (256 * ((y 1).val / 256) + (y 1).val % 256)) (fun g => at3 sd 0 g (256 * ((y 1).val / 256) + (y 1).val % 256)) = _
  rw [show 256 * ((y 1).val / 256) + (y 1).val % 256 = (y 1).val by omega]

end

/-- In each layer the rows plus the gated layer's output. -/
theorem hidAll_at (x : S2x48x2048.Idx → Elt Ideal .f32) (nn : S2x2048.Idx → Elt Ideal .f32)
    (wg : S2x1024x11264.Idx → Elt Ideal .i8) (sg : S2x64x11264.Idx → Elt Ideal .bf16)
    (wd : S2x2816x2048.Idx → Elt Ideal .i8) (sd : S2x176x2048.Idx → Elt Ideal .bf16) (y : S2x48x2048.Idx) :
    hidAll x nn wg sg wd sd y = out x nn wg sg wd sd (y 0).val (y 1).val (y 2).val := by
  have h0 : (y 0).val < 2 := (y 0).isLt
  have h1 : (y 1).val < 48 := (y 1).isLt
  unfold hidAll hidV
  rw [outV_at _ _ _ _ _ (act x nn wg sg (y 0).val (y 1).val)]
  · unfold out
    refine congrArg₂ (· + ·) (rowsV_at _ x _) ?_
    have hw : ∀ q c : ℕ, at3 (fun z : S1x2816x2048.Idx => wd (ix3 ⟨(y 0).val, h0⟩ (z 1) (z 2))) 0 q c = at3 wd (y 0).val q c := by
      intro q c
      refine congrArg wd (congrArg (fun l => ix3 l _ _) (Fin.ext ?_))
      exact (Nat.mod_eq_of_lt h0).symm
    have hs : ∀ q c : ℕ, at3 (fun z : S1x176x2048.Idx => sd (ix3 ⟨(y 0).val, h0⟩ (z 1) (z 2))) 0 q c = at3 sd (y 0).val q c := by
      intro q c
      refine congrArg sd (congrArg (fun l => ix3 l _ _) (Fin.ext ?_))
      exact (Nat.mod_eq_of_lt h0).symm
    refine congrArg₂ (linK 5632 _) (funext fun q => hw q _) (funext fun g => hs g _)
  · intro q hq
    unfold at2
    rw [gateV_at]
    show act x nn wg sg (y 0).val ((y 1).val % 48) (src (q % 5632)) = _
    rw [Nat.mod_eq_of_lt h1, Nat.mod_eq_of_lt hq]

theorem hidV_at (x : S2x48x2048.Idx → Elt Ideal .f32) (nn : S2x2048.Idx → Elt Ideal .f32)
    (wg : S2x1024x11264.Idx → Elt Ideal .i8) (sg : S2x64x11264.Idx → Elt Ideal .bf16)
    (wd : S2x2816x2048.Idx → Elt Ideal .i8) (sd : S2x176x2048.Idx → Elt Ideal .bf16) (k : Fin k0_t1_loop.trips) (y : S48x2048.Idx) :
    hidV x nn wg sg wd sd k y = out x nn wg sg wd sd k.val (y 0).val (y 1).val :=
  (congrArg (hidV x nn wg sg wd sd k) (ValueIdx.eq_ix2 y)).trans (hidAll_at x nn wg sg wd sd (ix3 ⟨k.val, k.isLt⟩ (y 0) (y 1)))

theorem rows0_at (x0 : S6x8x2048.Idx → Elt Ideal .bf16) (y : S48x2048.Idx) :
    rows0 x0 y = at3 x0 ((y 0).val / 8) ((y 0).val % 8) (y 1).val := by
  pointwise [rows0]
  exact at3_of x0 _ _ _ _ rfl rfl rfl

section
variable (x0 : S6x8x2048.Idx → Elt Ideal .bf16) (at' : S2x48x2048.Idx → Elt Ideal .bf16) (nn : S2x2048.Idx → Elt Ideal .f32)
variable (wo : S2x1024x2048.Idx → Elt Ideal .i8) (so : S2x64x2048.Idx → Elt Ideal .bf16)
variable (wg : S2x1024x11264.Idx → Elt Ideal .i8) (sg : S2x64x11264.Idx → Elt Ideal .bf16)
variable (wd : S2x2816x2048.Idx → Elt Ideal .i8) (sd : S2x176x2048.Idx → Elt Ideal .bf16)

theorem mid0_at : both (mid0 x0 at' wo so) = Spec.mid0 x0 at' wo so := by
  funext y
  unfold both mid0
  rw [midV_at, rows0_at]
  rfl

/-- THE KERNEL'S SECOND RESULT over the extended reals. -/
theorem midAll_at : midAll x0 at' nn wo so wg sg wd sd = Spec.mid x0 at' nn wo so wg sg wd sd := by
  funext y
  unfold midAll Spec.mid
  by_cases h : (y 0).val = 0
  · rw [if_pos h, if_pos h]
    exact congrFun (mid0_at x0 at' wo so) y
  · rw [if_neg h, if_neg h]
    unfold mid1 hid0
    rw [midV_at, hidV_at, mid0_at]
    rfl

/-- THE KERNEL'S FIRST RESULT over the extended reals. -/
theorem result_at (y : S2x48x2048.Idx) : hidAll (midAll x0 at' nn wo so wg sg wd sd) nn wg sg wd sd y
    = out (Spec.mid x0 at' nn wo so wg sg wd sd) nn wg sg wd sd (y 0).val (y 1).val (y 2).val := by
  rw [midAll_at]
  exact hidAll_at _ _ _ _ _ _ y

end

end Cert.KernelIdeal.Hand
-- ==== Proof.RefIdeal.lean ====
/-
  The reference's values over the extended reals: the output projection and the gated layer as functions of their
  operands, read at one element; both layers of the program are those functions.
-/
module

public import proofs.«01_k».proof.Proof.Gen.ReferenceIdeal.Read
public import proofs.«01_k».proof.Proof.Spec
public import Idealize.ShloMosaic.Lib.Pointwise
public import Idealize.ShloMosaic.Lib.Claim
public import Idealize.ShloMosaic.Lib.Quiescent

@[expose] public section

set_option maxRecDepth 16384

noncomputable section

namespace Cert.ReferenceIdeal.Hand

open Cert.ReferenceIdeal Cert.ReferenceIdeal.Gen Cert.Spec
open Idealize.ShloMosaic hiding ix0 ix1 ix2 ix3
open Idealize.ShloMosaic.TcCoe Idealize.SL.Sem Idealize.ShloMosaic.StableHlo Idealize.ShloMosaic.Tactic Idealize.ShloMosaic.ValueIdx
open scoped BigOperators

/-! ## One layer's operations -/

section
variable {F : FTy → Type} [FloatOps F]

/-- The normalised rows. -/
def hNorm (r : FVec F S48x2048 .f32) (g : FVec F S2048 .f32) : FVec F S48x2048 .bf16 :=
  truncf .bf16 (mulf (Host.divf r (broadcastInDim S48x2048 ![0, 1] bcast_S48x1_S48x2048_0_1 (Host.sqrt (addf
      (Host.divf (broadcastInDim S48x1 ![0] bcast_S48_S48x1_0 (Host.reduceAdd (mulf r r) (constant S_ .f32 0x00000000#32) reducesTo_S48x2048_S48_d1 h_S_))
        (broadcastInDim S48x1 ![] bcast_S_S48x1 (constant S_ .f32 0x45000000#32)))
      (broadcastInDim S48x1 ![] bcast_S_S48x1 (constant S_ .f32 0x3727C5AC#32))))))
    (broadcastInDim S48x2048 ![0, 1] bcast_S1x2048_S48x2048_0_1 (broadcastInDim S1x2048 ![1] bcast_S2048_S1x2048_1 g))) bitsLt_bf16_f32

/-- The first half of each group of 32 columns. -/
def loA (a : FVec F S48x2048 .bf16) : FVec F S48x1024 .bf16 :=
  shapeCast _ (shapeCast _ (extractStridedSlice S48x64x1x16 ![0, 0, 0, 0] (shapeCast _ a shapeCasts_S48x2048_S48x64x2x16) slices_S48x64x2x16_S48x64x1x16_0_0_0_0) shapeCasts_S48x64x1x16_S48x64x16) shapeCasts_S48x64x16_S48x1024

/-- The second half of each group of 32 columns. -/
def hiA (a : FVec F S48x2048 .bf16) : FVec F S48x1024 .bf16 :=
  shapeCast _ (shapeCast _ (extractStridedSlice S48x64x1x16 ![0, 0, 1, 0] (shapeCast _ a shapeCasts_S48x2048_S48x64x2x16) slices_S48x64x2x16_S48x64x1x16_0_0_1_0) shapeCasts_S48x64x1x16_S48x64x16) shapeCasts_S48x64x16_S48x1024

/-- Codes times their group's scale. -/
def deqA (v : IVec S1024x11264 32) (s : FVec F S64x11264 .bf16) : FVec F S1024x11264 .bf16 :=
  shapeCast _ (mulf (shapeCast _ (sitofp .bf16 v : FVec F S1024x11264 .bf16) shapeCasts_S1024x11264_S64x16x11264)
    (broadcastInDim S64x16x11264 ![0, 1, 2] bcast_S64x1x11264_S64x16x11264_0_1_2 (broadcastInDim S64x1x11264 ![0, 2] bcast_S64x11264_S64x1x11264_0_2 s))) shapeCasts_S64x16x11264_S1024x11264

def codeLoA (w : IVec S1024x11264 8) : IVec S1024x11264 32 :=
  subi (andi (extui 32 w natLt_8_32) (broadcastInDim S1024x11264 ![] bcast_S_S1024x11264 (constantI S_ 32 15#32))) (broadcastInDim S1024x11264 ![] bcast_S_S1024x11264 (constantI S_ 32 8#32))

def codeHiA (w : IVec S1024x11264 8) : IVec S1024x11264 32 :=
  subi (Host.shrsi (extui 32 w natLt_8_32) (broadcastInDim S1024x11264 ![] bcast_S_S1024x11264 (constantI S_ 32 4#32))) (broadcastInDim S1024x11264 ![] bcast_S_S1024x11264 (constantI S_ 32 8#32))

/-- The first linear layer. -/
def linA (a : FVec F S48x2048 .bf16) (w : IVec S1024x11264 8) (s : FVec F S64x11264 .bf16) : FVec F S48x11264 .f32 :=
  addf (Host.dotGeneral dot_S48x1024_S1024x11264_S48x11264_1_0_0_1_n_n none (loA a) (deqA (codeLoA w) s))
    (Host.dotGeneral dot_S48x1024_S1024x11264_S48x11264_1_0_0_1_n_n none (hiA a) (deqA (codeHiA w) s))

def deqO (v : IVec S1024x2048 32) (s : FVec F S64x2048 .bf16) : FVec F S1024x2048 .bf16 :=
  shapeCast _ (mulf (shapeCast _ (sitofp .bf16 v : FVec F S1024x2048 .bf16) shapeCasts_S1024x2048_S64x16x2048)
    (broadcastInDim S64x16x2048 ![0, 1, 2] bcast_S64x1x2048_S64x16x2048_0_1_2 (broadcastInDim S64x1x2048 ![0, 2] bcast_S64x2048_S64x1x2048_0_2 s))) shapeCasts_S64x16x2048_S1024x2048

def codeLoO (w : IVec S1024x2048 8) : IVec S1024x2048 32 :=
  subi (andi (extui 32 w natLt_8_32) (broadcastInDim S1024x2048 ![] bcast_S_S1024x2048 (constantI S_ 32 15#32))) (broadcastInDim S1024x2048 ![] bcast_S_S1024x2048 (constantI S_ 32 8#32))

def codeHiO (w : IVec S1024x2048 8) : IVec S1024x2048 32 :=
  subi (Host.shrsi (extui 32 w natLt_8_32) (broadcastInDim S1024x2048 ![] bcast_S_S1024x2048 (constantI S_ 32 4#32))) (broadcastInDim S1024x2048 ![] bcast_S_S1024x2048 (constantI S_ 32 8#32))

/-- The output projection. -/
def linO (a : FVec F S48x2048 .bf16) (w : IVec S1024x2048 8) (s : FVec F S64x2048 .bf16) : FVec F S48x2048 .f32 :=
  addf (Host.dotGeneral dot_S48x1024_S1024x2048_S48x2048_1_0_0_1_n_n none (loA a) (deqO (codeLoO w) s))
    (Host.dotGeneral dot_S48x1024_S1024x2048_S48x2048_1_0_0_1_n_n none (hiA a) (deqO (codeHiO w) s))

/-- The gated activations. -/
def gateA (v : FVec F S48x11264 .f32) : FVec F S48x5632 .bf16 :=
  truncf .bf16 (mulf (mulf (extractStridedSlice S48x5632 ![0, 0] v slices_S48x11264_S48x5632_0_0)
      (Host.divf (broadcastInDim S48x5632 ![] bcast_S_S48x5632 (constant S_ .f32 0x3F800000#32))
        (addf (broadcastInDim S48x5632 ![] bcast_S_S48x5632 (constant S_ .f32 0x3F800000#32)) (Host.exp (Host.negf (extractStridedSlice S48x5632 ![0, 0] v slices_S48x11264_S48x5632_0_0))))))
    (extractStridedSlice S48x5632 ![0, 5632] v slices_S48x11264_S48x5632_0_5632)) bitsLt_bf16_f32

def loB (a : FVec F S48x5632 .bf16) : FVec F S48x2816 .bf16 :=
  shapeCast _ (shapeCast _ (extractStridedSlice S48x176x1x16 ![0, 0, 0, 0] (shapeCast _ a shapeCasts_S48x5632_S48x176x2x16) slices_S48x176x2x16_S48x176x1x16_0_0_0_0) shapeCasts_S48x176x1x16_S48x176x16) shapeCasts_S48x176x16_S48x2816

def hiB (a : FVec F S48x5632 .bf16) : FVec F S48x2816 .bf16 :=
  shapeCast _ (shapeCast _ (extractStridedSlice S48x176x1x16 ![0, 0, 1, 0] (shapeCast _ a shapeCasts_S48x5632_S48x176x2x16) slices_S48x176x2x16_S48x176x1x16_0_0_1_0) shapeCasts_S48x176x1x16_S48x176x16) shapeCasts_S48x176x16_S48x2816

def deqB (v : IVec S2816x2048 32) (s : FVec F S176x2048 .bf16) : FVec F S2816x2048 .bf16 :=
  shapeCast _ (mulf (shapeCast _ (sitofp .bf16 v : FVec F S2816x2048 .bf16) shapeCasts_S2816x2048_S176x16x2048)
    (broadcastInDim S176x16x2048 ![0, 1, 2] bcast_S176x1x2048_S176x16x2048_0_1_2 (broadcastInDim S176x1x2048 ![0, 2] bcast_S176x2048_S176x1x2048_0_2 s))) shapeCasts_S176x16x2048_S2816x2048

def codeLoB (w : IVec S2816x2048 8) : IVec S2816x2048 32 :=
  subi (andi (extui 32 w natLt_8_32) (broadcastInDim S2816x2048 ![] bcast_S_S2816x2048 (constantI S_ 32 15#32))) (broadcastInDim S2816x2048 ![] bcast_S_S2816x2048 (constantI S_ 32 8#32))

def codeHiB (w : IVec S2816x2048 8) : IVec S2816x2048 32 :=
  subi (Host.shrsi (extui 32 w natLt_8_32) (broadcastInDim S2816x2048 ![] bcast_S_S2816x2048 (constantI S_ 32 4#32))) (broadcastInDim S2816x2048 ![] bcast_S_S2816x2048 (constantI S_ 32 8#32))

/-- The second linear layer. -/
def linB (a : FVec F S48x5632 .bf16) (w : IVec S2816x2048 8) (s : FVec F S176x2048 .bf16) : FVec F S48x2048 .f32 :=
  addf (Host.dotGeneral dot_S48x2816_S2816x2048_S48x2048_1_0_0_1_n_n none (loB a) (deqB (codeLoB w) s))
    (Host.dotGeneral dot_S48x2816_S2816x2048_S48x2048_1_0_0_1_n_n none (hiB a) (deqB (codeHiB w) s))

/-- One layer. -/
def hLayer (r : FVec F S48x2048 .f32) (g : FVec F S2048 .f32) (w : IVec S1024x11264 8) (s : FVec F S64x11264 .bf16)
    (wd : IVec S2816x2048 8) (sd : FVec F S176x2048 .bf16) : FVec F S48x2048 .f32 :=
  addf r (linB (gateA (linA (hNorm r g) w s)) wd sd)

open Cert.ReferenceIdeal.Read

theorem mid_zero (x0 : S6x8x2048.Idx → Elt F .bf16) (x1 : S2x48x2048.Idx → Elt F .bf16) (x3 : S2x1024x2048.Idx → Elt F .i8) (x4 : S2x64x2048.Idx → Elt F .bf16) :
    val_main_v40 (F := F) x0 x1 x3 x4 = addf (val_main_v1 (F := F) x0) (linO (val_main_v3 (F := F) x1) (val_main_v5 (F := F) x3) (val_main_v7 (F := F) x4)) := rfl

theorem layer_zero (x0 : S6x8x2048.Idx → Elt F .bf16) (x1 : S2x48x2048.Idx → Elt F .bf16) (x2 : S2x2048.Idx → Elt F .f32) (x3 : S2x1024x2048.Idx → Elt F .i8)
    (x4 : S2x64x2048.Idx → Elt F .bf16) (x5 : S2x1024x11264.Idx → Elt F .i8) (x6 : S2x64x11264.Idx → Elt F .bf16)
    (x7 : S2x2816x2048.Idx → Elt F .i8) (x8 : S2x176x2048.Idx → Elt F .bf16) :
    val_main_v140 (F := F) x0 x1 x2 x3 x4 x5 x6 x7 x8
      = hLayer (val_main_v40 (F := F) x0 x1 x3 x4) (val_main_v42 (F := F) x2) (val_main_v58 (F := F) x5) (val_main_v60 (F := F) x6) (val_main_v105 (F := F) x7) (val_main_v107 (F := F) x8) := rfl

theorem mid_one (x0 : S6x8x2048.Idx → Elt F .bf16) (x1 : S2x48x2048.Idx → Elt F .bf16) (x2 : S2x2048.Idx → Elt F .f32) (x3 : S2x1024x2048.Idx → Elt F .i8)
    (x4 : S2x64x2048.Idx → Elt F .bf16) (x5 : S2x1024x11264.Idx → Elt F .i8) (x6 : S2x64x11264.Idx → Elt F .bf16)
    (x7 : S2x2816x2048.Idx → Elt F .i8) (x8 : S2x176x2048.Idx → Elt F .bf16) :
    val_main_v179 (F := F) x0 x1 x2 x3 x4 x5 x6 x7 x8 = addf (val_main_v140 (F := F) x0 x1 x2 x3 x4 x5 x6 x7 x8) (linO (val_main_v142 (F := F) x1) (val_main_v144 (F := F) x3) (val_main_v146 (F := F) x4)) := rfl

theorem layer_one (x0 : S6x8x2048.Idx → Elt F .bf16) (x1 : S2x48x2048.Idx → Elt F .bf16) (x2 : S2x2048.Idx → Elt F .f32) (x3 : S2x1024x2048.Idx → Elt F .i8)
    (x4 : S2x64x2048.Idx → Elt F .bf16) (x5 : S2x1024x11264.Idx → Elt F .i8) (x6 : S2x64x11264.Idx → Elt F .bf16)
    (x7 : S2x2816x2048.Idx → Elt F .i8) (x8 : S2x176x2048.Idx → Elt F .bf16) :
    val_main_v279 (F := F) x0 x1 x2 x3 x4 x5 x6 x7 x8
      = hLayer (val_main_v179 (F := F) x0 x1 x2 x3 x4 x5 x6 x7 x8) (val_main_v181 (F := F) x2) (val_main_v197 (F := F) x5) (val_main_v199 (F := F) x6) (val_main_v244 (F := F) x7) (val_main_v246 (F := F) x8) := rfl

end

/-! ## Read at an element -/

theorem hNorm_at (r : FVec Ideal S48x2048 .f32) (g : FVec Ideal S2048 .f32) (y : S48x2048.Idx) :
    hNorm r g y = Ideal.div (at2 r (y 0).val (y 1).val) (root (at2 r (y 0).val)) * g (ix1 (y 1)) := by
  pointwise [hNorm]
  refine congrArg₂ (· * ·) (congrArg₂ Ideal.div (at2_of _ _ _ _ rfl rfl) ?_) rfl
  unfold root
  rw [Finset.sum_range]
  refine congrArg (fun z => Ideal.sqrt (Ideal.div z cols + eps)) (Finset.sum_congr rfl fun k _ => ?_)
  exact congrArg₂ (· * ·) (at2_of _ _ _ _ rfl rfl) (at2_of _ _ _ _ rfl rfl)

theorem loA_at (a : FVec Ideal S48x2048 .bf16) (y : S48x1024.Idx) : loA a y = at2 a (y 0).val (32 * ((y 1).val / 16) + (y 1).val % 16) := by
  pointwise [loA]
  exact at2_of _ _ _ _ rfl (by show (y 1).val / 16 * 32 + (y 1).val % 16 = _; omega)

theorem hiA_at (a : FVec Ideal S48x2048 .bf16) (y : S48x1024.Idx) : hiA a y = at2 a (y 0).val (32 * ((y 1).val / 16) + 16 + (y 1).val % 16) := by
  pointwise [hiA]
  exact at2_of _ _ _ _ rfl (by show (y 1).val / 16 * 32 + 16 + (y 1).val % 16 = _; omega)

theorem deqA_at (v : IVec S1024x11264 32) (s : FVec Ideal S64x11264 .bf16) (y : S1024x11264.Idx) :
    deqA v s y = ((((v y).toInt : ℤ) : ℝ) : EReal) * at2 s ((y 0).val / 16) (y 1).val := by
  pointwise [deqA]
  exact congrArg₂ (· * ·) rfl (at2_of _ _ _ _ rfl rfl)

theorem codeLoA_at (w : IVec S1024x11264 8) (y : S1024x11264.Idx) : codeLoA w y = code (w y) 0 := by
  rw [← code_and]
  pointwise [codeLoA]
  rfl

theorem codeHiA_at (w : IVec S1024x11264 8) (y : S1024x11264.Idx) : codeHiA w y = code (w y) 1 := by
  rw [← code_shift]
  pointwise [codeHiA]
  rfl

theorem linA_at (a : FVec Ideal S48x2048 .bf16) (w : IVec S1024x11264 8) (s : FVec Ideal S64x11264 .bf16) (y : S48x11264.Idx) :
    linA a w s y = linR 1024 (at2 a (y 0).val) (fun p => at2 w p (y 1).val) (fun g => at2 s g (y 1).val) := by
  pointwise [linA]
  unfold linR
  rw [Finset.sum_range, Finset.sum_range]
  refine congrArg₂ (· + ·) (Finset.sum_congr rfl fun k _ => ?_) (Finset.sum_congr rfl fun k _ => ?_)
  · rw [loA_at, deqA_at, codeLoA_at, at2_of w _ k.val (y 1).val rfl rfl]
    rfl
  · rw [hiA_at, deqA_at, codeHiA_at, at2_of w _ k.val (y 1).val rfl rfl]
    rfl

theorem deqO_at (v : IVec S1024x2048 32) (s : FVec Ideal S64x2048 .bf16) (y : S1024x2048.Idx) :
    deqO v s y = ((((v y).toInt : ℤ) : ℝ) : EReal) * at2 s ((y 0).val / 16) (y 1).val := by
  pointwise [deqO]
  exact congrArg₂ (· * ·) rfl (at2_of _ _ _ _ rfl rfl)

theorem codeLoO_at (w : IVec S1024x2048 8) (y : S1024x2048.Idx) : codeLoO w y = code (w y) 0 := by
  rw [← code_and]
  pointwise [codeLoO]
  rfl

theorem codeHiO_at (w : IVec S1024x2048 8) (y : S1024x2048.Idx) : codeHiO w y = code (w y) 1 := by
  rw [← code_shift]
  pointwise [codeHiO]
  rfl

theorem linO_at (a : FVec Ideal S48x2048 .bf16) (w : IVec S1024x2048 8) (s : FVec Ideal S64x2048 .bf16) (y : S48x2048.Idx) :
    linO a w s y = linR 1024 (at2 a (y 0).val) (fun p => at2 w p (y 1).val) (fun g => at2 s g (y 1).val) := by
  pointwise [linO]
  unfold linR
  rw [Finset.sum_range, Finset.sum_range]
  refine congrArg₂ (· + ·) (Finset.sum_congr rfl fun k _ => ?_) (Finset.sum_congr rfl fun k _ => ?_)
  · rw [loA_at, deqO_at, codeLoO_at, at2_of w _ k.val (y 1).val rfl rfl]
    rfl
  · rw [hiA_at, deqO_at, codeHiO_at, at2_of w _ k.val (y 1).val rfl rfl]
    rfl

theorem loB_at (a : FVec Ideal S48x5632 .bf16) (y : S48x2816.Idx) : loB a y = at2 a (y 0).val (32 * ((y 1).val / 16) + (y 1).val % 16) := by
  pointwise [loB]
  exact at2_of _ _ _ _ rfl (by show (y 1).val / 16 * 32 + (y 1).val % 16 = _; omega)

theorem hiB_at (a : FVec Ideal S48x5632 .bf16) (y : S48x2816.Idx) : hiB a y = at2 a (y 0).val (32 * ((y 1).val / 16) + 16 + (y 1).val % 16) := by
  pointwise [hiB]
  exact at2_of _ _ _ _ rfl (by show (y 1).val / 16 * 32 + 16 + (y 1).val % 16 = _; omega)

theorem deqB_at (v : IVec S2816x2048 32) (s : FVec Ideal S176x2048 .bf16) (y : S2816x2048.Idx) :
    deqB v s y = ((((v y).toInt : ℤ) : ℝ) : EReal) * at2 s ((y 0).val / 16) (y 1).val := by
  pointwise [deqB]
  exact congrArg₂ (· * ·) rfl (at2_of _ _ _ _ rfl rfl)

theorem codeLoB_at (w : IVec S2816x2048 8) (y : S2816x2048.Idx) : codeLoB w y = code (w y) 0 := by
  rw [← code_and]
  pointwise [codeLoB]
  rfl

theorem codeHiB_at (w : IVec S2816x2048 8) (y : S2816x2048.Idx) : codeHiB w y = code (w y) 1 := by
  rw [← code_shift]
  pointwise [codeHiB]
  rfl

theorem linB_at (a : FVec Ideal S48x5632 .bf16) (w : IVec S2816x2048 8) (s : FVec Ideal S176x2048 .bf16) (y : S48x2048.Idx) :
    linB a w s y = linR 2816 (at2 a (y 0).val) (fun p => at2 w p (y 1).val) (fun g => at2 s g (y 1).val) := by
  pointwise [linB]
  unfold linR
  rw [Finset.sum_range, Finset.sum_range]
  refine congrArg₂ (· + ·) (Finset.sum_congr rfl fun k _ => ?_) (Finset.sum_congr rfl fun k _ => ?_)
  · rw [loB_at, deqB_at, codeLoB_at, at2_of w _ k.val (y 1).val rfl rfl]
    rfl
  · rw [hiB_at, deqB_at, codeHiB_at, at2_of w _ k.val (y 1).val rfl rfl]
    rfl

theorem gateA_at (v : FVec Ideal S48x11264 .f32) (y : S48x5632.Idx) :
    gateA v y = gate (at2 v (y 0).val (y 1).val) (at2 v (y 0).val (5632 + (y 1).val)) := by
  pointwise [gateA]
  unfold gate Ideal.logistic
  have e : v (Idealize.ShloMosaic.ix2 (y 0) ⟨(y 1).val, by have h : (y 1).val < 5632 := (y 1).isLt; omega⟩) = at2 v (y 0).val (y 1).val := at2_of _ _ _ _ rfl rfl
  rw [e]
  exact congrArg₂ (· * ·) rfl (at2_of _ _ _ _ rfl rfl)

/-! ## One layer read at an element -/

theorem back_div (n c i j : ℕ) (hi : i < n) (hj : j < c) : (i * c + j) / c % n = i := by
  rw [Nat.mul_comm, Nat.mul_add_div (by omega), Nat.div_eq_of_lt hj, Nat.add_zero, Nat.mod_eq_of_lt hi]

theorem back_mod (c i j : ℕ) (hj : j < c) : (i * c + j) % c = j := by
  rw [Nat.mul_comm, Nat.mul_add_mod, Nat.mod_eq_of_lt hj]

section
variable (x : S2x48x2048.Idx → Elt Ideal .f32) (nn : S2x2048.Idx → Elt Ideal .f32)
  (wg : S2x1024x11264.Idx → Elt Ideal .i8) (sg : S2x64x11264.Idx → Elt Ideal .bf16)
  (wd : S2x2816x2048.Idx → Elt Ideal .i8) (sd : S2x176x2048.Idx → Elt Ideal .bf16)

/-- A layer whose operands are layer `l`'s parts of the arguments gives that layer's result. -/
theorem hLayer_at (l : ℕ) (r : FVec Ideal S48x2048 .f32) (g : FVec Ideal S2048 .f32) (w : IVec S1024x11264 8) (s : FVec Ideal S64x11264 .bf16)
    (w' : IVec S2816x2048 8) (s' : FVec Ideal S176x2048 .bf16)
    (hr : ∀ y, r y = at3 x l (y 0).val (y 1).val) (hg : ∀ y, g y = at2 nn l (y 0).val)
    (hw : ∀ y, w y = at3 wg l (y 0).val (y 1).val) (hs : ∀ y, s y = at3 sg l (y 0).val (y 1).val)
    (hw' : ∀ y, w' y = at3 wd l (y 0).val (y 1).val) (hs' : ∀ y, s' y = at3 sd l (y 0).val (y 1).val) (y : S48x2048.Idx) :
    hLayer r g w s w' s' y = out x nn wg sg wd sd l (y 0).val (y 1).val := by
  have h0 : (y 0).val < 48 := (y 0).isLt
  have h1 : (y 1).val < 2048 := (y 1).isLt
  have hrow : at2 r (y 0).val = at3 x l (y 0).val := by
    funext q
    unfold at2
    rw [hr]
    show at3 x l ((y 0).val % 48) (q % 2048) = _
    rw [Nat.mod_eq_of_lt h0]
    unfold at3 Fin.ofNat
    simp
  have hnorm : ∀ q < 2048, at2 (hNorm r g) (y 0).val q = normK (at3 x l (y 0).val) (at2 nn l) q := by
    intro q hq
    rw [normK_eq]
    unfold at2
    rw [hNorm_at]
    show Ideal.div (at2 r ((y 0).val % 48) (q % 2048)) (root (at2 r ((y 0).val % 48))) * g _ = _
    rw [Nat.mod_eq_of_lt h0, Nat.mod_eq_of_lt hq, hrow, hg]
    show _ * at2 nn l (q % 2048) = _
    rw [Nat.mod_eq_of_lt hq]
    rfl
  have hlin : ∀ c < 11264, at2 (linA (hNorm r g) w s) (y 0).val c = gu x nn wg sg l (y 0).val c := by
    intro c hc
    unfold at2 gu
    rw [linA_at]
    refine Eq.trans ?_ (linK_eq_linR 1024 _ _ _).symm
    show linR 1024 (at2 (hNorm r g) ((y 0).val % 48)) (fun p => at2 w p (c % 11264)) (fun g => at2 s g (c % 11264)) = _
    rw [Nat.mod_eq_of_lt h0, Nat.mod_eq_of_lt hc]
    refine linR_congr 1024 rfl (fun q hq => hnorm q hq) (fun p hp => ?_) (fun g hg => ?_)
    · unfold at2
      rw [hw]
      show at3 wg l (p % 1024) (c % 11264) = _
      rw [Nat.mod_eq_of_lt hp, Nat.mod_eq_of_lt hc]
    · unfold at2
      rw [hs]
      show at3 sg l (g % 64) (c % 11264) = _
      rw [Nat.mod_eq_of_lt (by omega), Nat.mod_eq_of_lt hc]
  unfold hLayer out
  show r y + linB _ _ _ y = _
  rw [hr, linB_at]
  refine congrArg₂ (· + ·) rfl (Eq.trans ?_ (linK_eq_linR 2816 _ _ _).symm)
  refine linR_congr 2816 rfl (fun q hq => ?_) (fun p hp => ?_) (fun g hg => ?_)
  · unfold act
    rw [← hlin q (by omega), ← hlin (5632 + q) (by omega)]
    refine Eq.trans (gateA_at _ _) ?_
    show gate (at2 _ ((y 0).val % 48) (q % 5632)) (at2 _ ((y 0).val % 48) (5632 + q % 5632)) = _
    rw [Nat.mod_eq_of_lt h0, Nat.mod_eq_of_lt hq]
  · unfold at2
    rw [hw']
    show at3 wd l (p % 2816) ((y 1).val % 2048) = _
    rw [Nat.mod_eq_of_lt hp, Nat.mod_eq_of_lt h1]
  · unfold at2
    rw [hs']
    show at3 sd l (g % 176) ((y 1).val % 2048) = _
    rw [Nat.mod_eq_of_lt (by omega), Nat.mod_eq_of_lt h1]

end

/-- The output projection of layer `l`'s parts of the arguments. -/
theorem linO_proj (a : S2x48x2048.Idx → Elt Ideal .bf16) (wo : S2x1024x2048.Idx → Elt Ideal .i8) (so : S2x64x2048.Idx → Elt Ideal .bf16) (l : ℕ)
    (v : FVec Ideal S48x2048 .bf16) (w : IVec S1024x2048 8) (s : FVec Ideal S64x2048 .bf16)
    (hv : ∀ y, v y = at3 a l (y 0).val (y 1).val) (hw : ∀ y, w y = at3 wo l (y 0).val (y 1).val) (hs : ∀ y, s y = at3 so l (y 0).val (y 1).val)
    (y : S48x2048.Idx) : linO v w s y = proj a wo so l (y 0).val (y 1).val := by
  have h0 : (y 0).val < 48 := (y 0).isLt
  have h1 : (y 1).val < 2048 := (y 1).isLt
  unfold proj
  rw [linO_at]
  refine Eq.trans ?_ (linK_eq_linR 1024 _ _ _).symm
  refine linR_congr 1024 rfl (fun q hq => ?_) (fun p hp => ?_) (fun g hg => ?_)
  · unfold at2
    rw [hv]
    show at3 a l ((y 0).val % 48) (q % 2048) = _
    rw [Nat.mod_eq_of_lt h0, Nat.mod_eq_of_lt hq]
  · unfold at2
    rw [hw]
    show at3 wo l (p % 1024) ((y 1).val % 2048) = _
    rw [Nat.mod_eq_of_lt hp, Nat.mod_eq_of_lt h1]
  · unfold at2
    rw [hs]
    show at3 so l (g % 64) ((y 1).val % 2048) = _
    rw [Nat.mod_eq_of_lt (by omega), Nat.mod_eq_of_lt h1]

/-- Two layers' rows put side by side. -/
theorem stack_at (p q : FVec Ideal S1x48x2048 .f32) (y : S2x48x2048.Idx) :
    concatenate S2x48x2048 0 [⟨S1x48x2048, p⟩, ⟨S1x48x2048, q⟩] concatenates_S1x48x2048_S1x48x2048_S2x48x2048_d0 y
      = if (y 0).val = 0 then p (ix3 (0 : Fin 1) (y 1) (y 2)) else q (ix3 (0 : Fin 1) (y 1) (y 2)) := by
  have h0 : (y 0).val < 2 := (y 0).isLt
  by_cases h : (y 0).val = 0
  · rw [if_pos h]
    refine concatenate_pair_apply_left (t := S2x48x2048) (s₁ := S1x48x2048) (s₂ := S1x48x2048) (0 : Fin 3) _ _ concatenates_S1x48x2048_S1x48x2048_S2x48x2048_d0 y rfl (ix3 (0 : Fin 1) (y 1) (y 2)) ?_
    intro b
    match b with
    | ⟨0, _⟩ => exact h.symm
    | ⟨1, _⟩ => rfl
    | ⟨2, _⟩ => rfl
  · rw [if_neg h]
    refine concatenate_pair_apply_right (t := S2x48x2048) (s₁ := S1x48x2048) (s₂ := S1x48x2048) (0 : Fin 3) _ _ concatenates_S1x48x2048_S1x48x2048_S2x48x2048_d0 y rfl rfl (ix3 (0 : Fin 1) (y 1) (y 2)) ?_ ?_
    · intro b hb
      match b, hb with
      | ⟨0, _⟩, hb => exact absurd rfl hb
      | ⟨1, _⟩, _ => rfl
      | ⟨2, _⟩, _ => rfl
    · show 0 + 1 = (y 0).val
      omega

open Cert.ReferenceIdeal.Read

section
variable (x0 : S6x8x2048.Idx → Elt Ideal .bf16) (a : S2x48x2048.Idx → Elt Ideal .bf16) (nn : S2x2048.Idx → Elt Ideal .f32)
  (wo : S2x1024x2048.Idx → Elt Ideal .i8) (so : S2x64x2048.Idx → Elt Ideal .bf16)
  (wg : S2x1024x11264.Idx → Elt Ideal .i8) (sg : S2x64x11264.Idx → Elt Ideal .bf16)
  (wd : S2x2816x2048.Idx → Elt Ideal .i8) (sd : S2x176x2048.Idx → Elt Ideal .bf16)

theorem val_mid0 (y : S48x2048.Idx) : val_main_v40 (F := Ideal) x0 a wo so y = mid0 x0 a wo so (ix3 (0 : Fin 2) (y 0) (y 1)) := by
  have h0 : (y 0).val < 48 := (y 0).isLt
  have h1 : (y 1).val < 2048 := (y 1).isLt
  rw [mid_zero]
  show val_main_v1 (F := Ideal) x0 y + linO (F := Ideal) _ _ _ y = at3 x0 ((y 0).val / 8) ((y 0).val % 8) (y 1).val + proj a wo so 0 (y 0).val (y 1).val
  refine congrArg₂ (· + ·) ?_ (linO_proj a wo so 0 _ _ _ ?_ ?_ ?_ y)
  · rw [val_main_v1_apply, val_main_v0_apply]
    refine at3_of x0 _ _ _ _ ?_ ?_ ?_
    · show ((y 0).val * 2048 + (y 1).val) / 16384 = (y 0).val / 8
      omega
    · show ((y 0).val * 2048 + (y 1).val) / 2048 % 8 = (y 0).val % 8
      omega
    · show ((y 0).val * 2048 + (y 1).val) % 2048 = (y 1).val
      omega
  all_goals intro z
  · rw [val_main_v3_apply, val_main_v2_apply]; exact at3_of _ _ _ _ _ rfl (back_div 48 2048 _ _ (z 0).isLt (z 1).isLt) (back_mod 2048 _ _ (z 1).isLt)
  · rw [val_main_v5_apply, val_main_v4_apply]; exact at3_of _ _ _ _ _ rfl (back_div 1024 2048 _ _ (z 0).isLt (z 1).isLt) (back_mod 2048 _ _ (z 1).isLt)
  · rw [val_main_v7_apply, val_main_v6_apply]; exact at3_of _ _ _ _ _ rfl (back_div 64 2048 _ _ (z 0).isLt (z 1).isLt) (back_mod 2048 _ _ (z 1).isLt)

/-- The first layer's result, from any array holding the rows after its attention. -/
theorem val_hid0 (x : S2x48x2048.Idx → Elt Ideal .f32) (hx : ∀ y : S48x2048.Idx, val_main_v40 (F := Ideal) x0 a wo so y = at3 x 0 (y 0).val (y 1).val) (y : S48x2048.Idx) :
    val_main_v140 (F := Ideal) x0 a nn wo so wg sg wd sd y = out x nn wg sg wd sd 0 (y 0).val (y 1).val := by
  rw [layer_zero]
  refine hLayer_at x nn wg sg wd sd 0 _ _ _ _ _ _ hx ?_ ?_ ?_ ?_ ?_ _ <;> intro z
  · rw [val_main_v42_apply, val_main_v41_apply]; exact at2_of _ _ _ _ rfl (Nat.mod_eq_of_lt (show (z 0).val < 2048 from (z 0).isLt))
  · rw [val_main_v58_apply, val_main_v57_apply]; exact at3_of _ _ _ _ _ rfl (back_div 1024 11264 _ _ (z 0).isLt (z 1).isLt) (back_mod 11264 _ _ (z 1).isLt)
  · rw [val_main_v60_apply, val_main_v59_apply]; exact at3_of _ _ _ _ _ rfl (back_div 64 11264 _ _ (z 0).isLt (z 1).isLt) (back_mod 11264 _ _ (z 1).isLt)
  · rw [val_main_v105_apply, val_main_v104_apply]; exact at3_of _ _ _ _ _ rfl (back_div 2816 2048 _ _ (z 0).isLt (z 1).isLt) (back_mod 2048 _ _ (z 1).isLt)
  · rw [val_main_v107_apply, val_main_v106_apply]; exact at3_of _ _ _ _ _ rfl (back_div 176 2048 _ _ (z 0).isLt (z 1).isLt) (back_mod 2048 _ _ (z 1).isLt)

theorem val_mid1 (y : S48x2048.Idx) : val_main_v179 (F := Ideal) x0 a nn wo so wg sg wd sd y = mid1 x0 a nn wo so wg sg wd sd (ix3 (1 : Fin 2) (y 0) (y 1)) := by
  rw [mid_one]
  show val_main_v140 (F := Ideal) x0 a nn wo so wg sg wd sd y + linO (F := Ideal) _ _ _ y = out (mid0 x0 a wo so) nn wg sg wd sd 0 (y 0).val (y 1).val + proj a wo so 1 (y 0).val (y 1).val
  refine congrArg₂ (· + ·) (val_hid0 x0 a nn wo so wg sg wd sd (mid0 x0 a wo so) (fun z => (val_mid0 x0 a wo so z).trans (at3_of _ _ _ _ _ rfl rfl rfl)) y) (linO_proj a wo so 1 _ _ _ ?_ ?_ ?_ y)
  all_goals intro z
  · rw [val_main_v142_apply, val_main_v141_apply]; exact at3_of _ _ _ _ _ rfl (back_div 48 2048 _ _ (z 0).isLt (z 1).isLt) (back_mod 2048 _ _ (z 1).isLt)
  · rw [val_main_v144_apply, val_main_v143_apply]; exact at3_of _ _ _ _ _ rfl (back_div 1024 2048 _ _ (z 0).isLt (z 1).isLt) (back_mod 2048 _ _ (z 1).isLt)
  · rw [val_main_v146_apply, val_main_v145_apply]; exact at3_of _ _ _ _ _ rfl (back_div 64 2048 _ _ (z 0).isLt (z 1).isLt) (back_mod 2048 _ _ (z 1).isLt)

/-- THE REFERENCE'S SECOND RESULT over the extended reals. -/
theorem val_mid (y : S2x48x2048.Idx) : val_main_v285 (F := Ideal) x0 a nn wo so wg sg wd sd y = mid x0 a nn wo so wg sg wd sd y := by
  unfold val_main_v285 mid
  rw [stack_at, val_main_v283_apply, val_main_v284_apply, val_mid0 x0 a wo so, val_mid1]
  rfl

/-- THE REFERENCE'S FIRST RESULT over the extended reals. -/
theorem val_at (y : S2x48x2048.Idx) : val_main_v282 (F := Ideal) x0 a nn wo so wg sg wd sd y = out (mid x0 a nn wo so wg sg wd sd) nn wg sg wd sd (y 0).val (y 1).val (y 2).val := by
  have h0 : (y 0).val < 2 := (y 0).isLt
  unfold val_main_v282
  rw [stack_at]
  by_cases h : (y 0).val = 0
  · rw [if_pos h, val_main_v280_apply, h]
    refine (val_hid0 x0 a nn wo so wg sg wd sd (mid x0 a nn wo so wg sg wd sd) (fun z => ?_) _).trans rfl
    exact (val_mid0 x0 a wo so z).trans ((if_pos rfl).symm.trans (at3_of (mid x0 a nn wo so wg sg wd sd) (ix3 (0 : Fin 2) (z 0) (z 1)) _ _ _ rfl rfl rfl))
  · rw [if_neg h, val_main_v281_apply, layer_one, show (y 0).val = 1 by omega]
    refine (hLayer_at (mid x0 a nn wo so wg sg wd sd) nn wg sg wd sd 1 _ _ _ _ _ _ ?_ ?_ ?_ ?_ ?_ ?_ _).trans rfl <;> intro z
    · exact (val_mid1 x0 a nn wo so wg sg wd sd z).trans ((if_neg (show ¬ (1 : ℕ) = 0 by decide)).symm.trans (at3_of (mid x0 a nn wo so wg sg wd sd) (ix3 (1 : Fin 2) (z 0) (z 1)) _ _ _ rfl rfl rfl))
    · rw [val_main_v181_apply, val_main_v180_apply]; exact at2_of _ _ _ _ rfl (Nat.mod_eq_of_lt (show (z 0).val < 2048 from (z 0).isLt))
    · rw [val_main_v197_apply, val_main_v196_apply]; exact at3_of _ _ _ _ _ rfl (back_div 1024 11264 _ _ (z 0).isLt (z 1).isLt) (back_mod 11264 _ _ (z 1).isLt)
    · rw [val_main_v199_apply, val_main_v198_apply]; exact at3_of _ _ _ _ _ rfl (back_div 64 11264 _ _ (z 0).isLt (z 1).isLt) (back_mod 11264 _ _ (z 1).isLt)
    · rw [val_main_v244_apply, val_main_v243_apply]; exact at3_of _ _ _ _ _ rfl (back_div 2816 2048 _ _ (z 0).isLt (z 1).isLt) (back_mod 2048 _ _ (z 1).isLt)
    · rw [val_main_v246_apply, val_main_v245_apply]; exact at3_of _ _ _ _ _ rfl (back_div 176 2048 _ _ (z 0).isLt (z 1).isLt) (back_mod 2048 _ _ (z 1).isLt)

end

/-- The reference's run over the extended reals: the result, the arguments unchanged, every counter at zero. -/
theorem run_all (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_v282)
        = (fun y : S2x48x2048.Idx => out (mid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
            (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (y 0).val (y 1).val (y 2).val)
      ∧ r.2.mem ((c.tc : Thread nD τ).loc main_v285)
        = mid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  refine (θ_run (defs (F := Ideal)) _ _).mono (fun r h => ⟨fun c => ⟨?_, ?_, (h c).2.2⟩, sem_eq_zero_of_no_sems rfl r.2⟩) (Cert.ReferenceIdeal.Value.run m ρ)
  · refine (h c).1.trans ((Cert.ReferenceIdeal.Read.val_main_v282_eq (launchContents m c)).trans ?_)
    funext y
    exact val_at _ _ _ _ _ _ _ _ _ y
  · refine (h c).2.1.trans ((Cert.ReferenceIdeal.Read.val_main_v285_eq (launchContents m c)).trans ?_)
    funext y
    exact val_mid _ _ _ _ _ _ _ _ _ y

end Cert.ReferenceIdeal.Hand
-- ==== Proof.lean ====
/-
  The proof of `Cert.Claim`.
-/
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KIFrame
public import proofs.«01_k».proof.Proof.Same
public import proofs.«01_k».proof.Proof.KIIdeal
public import proofs.«01_k».proof.Proof.RefIdeal

@[expose] public section

noncomputable section

namespace Cert.Proof

open Idealize.ShloMosaic Idealize.ShloMosaic.TcCoe Idealize.SL.Sem

theorem frame_kernel : Cert.quiescent_Kernel (hKernel := Cert.Kernel.Gen.facts) := fun m g _ => Cert.Same.run_kernel m g

theorem frame_kernelIdeal : Cert.quiescent_KernelIdeal (hKernelIdeal := Cert.KernelIdeal.Gen.facts) := fun m g _ =>
  (θ_run (Cert.KernelIdeal.defs (F := Ideal)) _ _).mono (fun _ h => ⟨fun c => (h.1 c).2.2, h.2⟩) (Cert.KernelIdeal.Hand.run_all m g)

theorem frame_referenceIdeal : Cert.quiescent_ReferenceIdeal (hReferenceIdeal := Cert.ReferenceIdeal.Gen.facts) := fun m g _ =>
  (θ_run (Cert.ReferenceIdeal.defs (F := Ideal)) _ _).mono (fun _ h => ⟨fun c => (h.1 c).2.2, h.2⟩) (Cert.ReferenceIdeal.Hand.run_all m g)

/-- Both programs end with the same results over the extended reals. -/
theorem equal_results : Cert.algebraic_KernelIdeal_ReferenceIdeal (hKernelIdeal := Cert.KernelIdeal.Gen.facts) (hReferenceIdeal := Cert.ReferenceIdeal.Gen.facts) := by
  intro m g m' g' _ hm
  refine ⟨fun c => Cert.KernelIdeal.Hand.outAll m c, fun c => Cert.KernelIdeal.Hand.outMid m c,
    (θ_run (Cert.KernelIdeal.defs (F := Ideal)) _ _).mono (fun _ h c => h.1 c) (Cert.KernelIdeal.Hand.run_all m g),
    (θ_run (Cert.ReferenceIdeal.defs (F := Ideal)) _ _).mono (fun r h c => ⟨(h.1 c).1.trans ?_, (h.1 c).2.1.trans ?_, (h.1 c).2.2⟩) (Cert.ReferenceIdeal.Hand.run_all m' g')⟩
  · obtain ⟨h0, h1, h2, h3, h4, h5, h6, h7, h8⟩ := hm c
    rw [h0, h1, h2, h3, h4, h5, h6, h7, h8]
    funext y
    exact (Cert.KernelIdeal.Hand.result_at _ _ _ _ _ _ _ _ _ y).symm
  · obtain ⟨h0, h1, h2, h3, h4, h5, h6, h7, h8⟩ := hm c
    rw [h0, h1, h2, h3, h4, h5, h6, h7, h8]
    exact (Cert.KernelIdeal.Hand.midAll_at _ _ _ _ _ _ _ _ _).symm

theorem claim : Cert.Claim :=
  ⟨Cert.Kernel.Gen.facts, Cert.KernelIdeal.Gen.facts, Cert.ReferenceIdeal.Gen.facts,
    frame_kernel, frame_kernelIdeal, frame_referenceIdeal, trivial, equal_results⟩

end Cert.Proof

end
